-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_entries_finite [hPre_entries_finite : Cert.Pre_entries_finite.Facts] (m : (ℓ : Loc Cert.KernelIdeal.nD Cert.KernelIdeal.τ Cert.KernelIdeal.sig) → Buf (Elt Ideal) ℓ) : Prop :=
  ∀ c : Dev Cert.KernelIdeal.nD,
    (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_entries_finite [hPre_entries_finite : Cert.Pre_entries_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpGate (m : (ℓ : Loc Cert.UpGate.nD Cert.UpGate.τ Cert.UpGate.sig) → Buf (Elt Bits) ℓ) : Prop :=
  True

def Pre_UpGateIdeal (m : (ℓ : Loc Cert.UpGateIdeal.nD Cert.UpGateIdeal.τ Cert.UpGateIdeal.sig) → Buf (Elt Ideal) ℓ) : Prop :=
  True

def Pre_UpGateRefIdeal (m : (ℓ : Loc Cert.UpGateRefIdeal.nD Cert.UpGateRefIdeal.τ Cert.UpGateRefIdeal.sig) → Buf (Elt Ideal) ℓ) : Prop :=
  True

def Pre_UpValue (m : (ℓ : Loc Cert.UpValue.nD Cert.UpValue.τ Cert.UpValue.sig) → Buf (Elt Bits) ℓ) : Prop :=
  True

def Pre_UpValueIdeal (m : (ℓ : Loc Cert.UpValueIdeal.nD Cert.UpValueIdeal.τ Cert.UpValueIdeal.sig) → Buf (Elt Ideal) ℓ) : Prop :=
  True

def Pre_UpValueRefIdeal (m : (ℓ : Loc Cert.UpValueRefIdeal.nD Cert.UpValueRefIdeal.τ Cert.UpValueRefIdeal.sig) → Buf (Elt Ideal) ℓ) : Prop :=
  True

def Pre_UpGateT (m : (ℓ : Loc Cert.UpGateT.nD Cert.UpGateT.τ Cert.UpGateT.sig) → Buf (Elt Bits) ℓ) : Prop :=
  True

def Pre_UpGateTIdeal (m : (ℓ : Loc Cert.UpGateTIdeal.nD Cert.UpGateTIdeal.τ Cert.UpGateTIdeal.sig) → Buf (Elt Ideal) ℓ) : Prop :=
  True

def Pre_UpGateTRefIdeal (m : (ℓ : Loc Cert.UpGateTRefIdeal.nD Cert.UpGateTRefIdeal.τ Cert.UpGateTRefIdeal.sig) → Buf (Elt Ideal) ℓ) : Prop :=
  True

def Pre_UpValueT (m : (ℓ : Loc Cert.UpValueT.nD Cert.UpValueT.τ Cert.UpValueT.sig) → Buf (Elt Bits) ℓ) : Prop :=
  True

def Pre_UpValueTIdeal (m : (ℓ : Loc Cert.UpValueTIdeal.nD Cert.UpValueTIdeal.τ Cert.UpValueTIdeal.sig) → Buf (Elt Ideal) ℓ) : Prop :=
  True

def Pre_UpValueTRefIdeal (m : (ℓ : Loc Cert.UpValueTRefIdeal.nD Cert.UpValueTRefIdeal.τ Cert.UpValueTRefIdeal.sig) → Buf (Elt Ideal) ℓ) : Prop :=
  True

def Pre_UpTn (m : (ℓ : Loc Cert.UpTn.nD Cert.UpTn.τ Cert.UpTn.sig) → Buf (Elt Bits) ℓ) : Prop :=
  True

def Pre_UpTnIdeal (m : (ℓ : Loc Cert.UpTnIdeal.nD Cert.UpTnIdeal.τ Cert.UpTnIdeal.sig) → Buf (Elt Ideal) ℓ) : Prop :=
  True

def Pre_UpTnRefIdeal (m : (ℓ : Loc Cert.UpTnRefIdeal.nD Cert.UpTnRefIdeal.τ Cert.UpTnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownT (m : (ℓ : Loc Cert.DownT.nD Cert.DownT.τ Cert.DownT.sig) → Buf (Elt Bits) ℓ) : Prop :=
  True

def Pre_DownTIdeal (m : (ℓ : Loc Cert.DownTIdeal.nD Cert.DownTIdeal.τ Cert.DownTIdeal.sig) → Buf (Elt Ideal) ℓ) : Prop :=
  True

def Pre_DownTRefIdeal (m : (ℓ : Loc Cert.DownTRefIdeal.nD Cert.DownTRefIdeal.τ Cert.DownTRefIdeal.sig) → Buf (Elt Ideal) ℓ) : Prop :=
  True

def Pre_DownTn (m : (ℓ : Loc Cert.DownTn.nD Cert.DownTn.τ Cert.DownTn.sig) → Buf (Elt Bits) ℓ) : Prop :=
  True

def Pre_DownTnIdeal (m : (ℓ : Loc Cert.DownTnIdeal.nD Cert.DownTnIdeal.τ Cert.DownTnIdeal.sig) → Buf (Elt Ideal) ℓ) : Prop :=
  True

def Pre_DownTnRefIdeal (m : (ℓ : Loc Cert.DownTnRefIdeal.nD Cert.DownTnRefIdeal.τ Cert.DownTnRefIdeal.sig) → Buf (Elt Ideal) ℓ) : Prop :=
  True

def Pre_MemQ (m : (ℓ : Loc Cert.MemQ.nD Cert.MemQ.τ Cert.MemQ.sig) → Buf (Elt Bits) ℓ) : Prop :=
  True

def Pre_MemQIdeal (m : (ℓ : Loc Cert.MemQIdeal.nD Cert.MemQIdeal.τ Cert.MemQIdeal.sig) → Buf (Elt Ideal) ℓ) : Prop :=
  True

def Pre_MemQRefIdeal (m : (ℓ : Loc Cert.MemQRefIdeal.nD Cert.MemQRefIdeal.τ Cert.MemQRefIdeal.sig) → Buf (Elt Ideal) ℓ) : Prop :=
  True

def Pre_MemO (m : (ℓ : Loc Cert.MemO.nD Cert.MemO.τ Cert.MemO.sig) → Buf (Elt Bits) ℓ) : Prop :=
  True

def Pre_MemOIdeal (m : (ℓ : Loc Cert.MemOIdeal.nD Cert.MemOIdeal.τ Cert.MemOIdeal.sig) → Buf (Elt Ideal) ℓ) : Prop :=
  True

def Pre_MemORefIdeal (m : (ℓ : Loc Cert.MemORefIdeal.nD Cert.MemORefIdeal.τ Cert.MemORefIdeal.sig) → Buf (Elt Ideal) ℓ) : Prop :=
  True

def Pre_MemT (m : (ℓ : Loc Cert.MemT.nD Cert.MemT.τ Cert.MemT.sig) → Buf (Elt Bits) ℓ) : Prop :=
  True

def Pre_MemTIdeal (m : (ℓ : Loc Cert.MemTIdeal.nD Cert.MemTIdeal.τ Cert.MemTIdeal.sig) → Buf (Elt Ideal) ℓ) : Prop :=
  True

def Pre_MemTRefIdeal (m : (ℓ : Loc Cert.MemTRefIdeal.nD Cert.MemTRefIdeal.τ Cert.MemTRefIdeal.sig) → Buf (Elt Ideal) ℓ) : Prop :=
  True

def Pre_MemTn (m : (ℓ : Loc Cert.MemTn.nD Cert.MemTn.τ Cert.MemTn.sig) → Buf (Elt Bits) ℓ) : Prop :=
  True

def Pre_MemTnIdeal (m : (ℓ : Loc Cert.MemTnIdeal.nD Cert.MemTnIdeal.τ Cert.MemTnIdeal.sig) → Buf (Elt Ideal) ℓ) : Prop :=
  True

def Pre_MemTnRefIdeal (m : (ℓ : Loc Cert.MemTnRefIdeal.nD Cert.MemTnRefIdeal.τ Cert.MemTnRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixInT (m : (ℓ : Loc Cert.MixInT.nD Cert.MixInT.τ Cert.MixInT.sig) → Buf (Elt Bits) ℓ) : Prop :=
  True

def Pre_MixInTIdeal (m : (ℓ : Loc Cert.MixInTIdeal.nD Cert.MixInTIdeal.τ Cert.MixInTIdeal.sig) → Buf (Elt Ideal) ℓ) : Prop :=
  True

def Pre_MixInTRefIdeal (m : (ℓ : Loc Cert.MixInTRefIdeal.nD Cert.MixInTRefIdeal.τ Cert.MixInTRefIdeal.sig) → Buf (Elt Ideal) ℓ) : Prop :=
  True

def Pre_MixInTn (m : (ℓ : Loc Cert.MixInTn.nD Cert.MixInTn.τ Cert.MixInTn.sig) → Buf (Elt Bits) ℓ) : Prop :=
  True

def Pre_MixInTnIdeal (m : (ℓ : Loc Cert.MixInTnIdeal.nD Cert.MixInTnIdeal.τ Cert.MixInTnIdeal.sig) → Buf (Elt Ideal) ℓ) : Prop :=
  True

def Pre_MixInTnRefIdeal (m : (ℓ : Loc Cert.MixInTnRefIdeal.nD Cert.MixInTnRefIdeal.τ Cert.MixInTnRefIdeal.sig) → Buf (Elt Ideal) ℓ) : Prop :=
  True

def Pre_OutU (m : (ℓ : Loc Cert.OutU.nD Cert.OutU.τ Cert.OutU.sig) → Buf (Elt Bits) ℓ) : Prop :=
  True

def Pre_OutUIdeal (m : (ℓ : Loc Cert.OutUIdeal.nD Cert.OutUIdeal.τ Cert.OutUIdeal.sig) → Buf (Elt Ideal) ℓ) : Prop :=
  True

def Pre_OutURefIdeal (m : (ℓ : Loc Cert.OutURefIdeal.nD Cert.OutURefIdeal.τ Cert.OutURefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutUT (m : (ℓ : Loc Cert.OutUT.nD Cert.OutUT.τ Cert.OutUT.sig) → Buf (Elt Bits) ℓ) : Prop :=
  True

def Pre_OutUTIdeal (m : (ℓ : Loc Cert.OutUTIdeal.nD Cert.OutUTIdeal.τ Cert.OutUTIdeal.sig) → Buf (Elt Ideal) ℓ) : Prop :=
  True

def Pre_OutUTRefIdeal (m : (ℓ : Loc Cert.OutUTRefIdeal.nD Cert.OutUTRefIdeal.τ Cert.OutUTRefIdeal.sig) → Buf (Elt Ideal) ℓ) : Prop :=
  True

def Pre_OutAT (m : (ℓ : Loc Cert.OutAT.nD Cert.OutAT.τ Cert.OutAT.sig) → Buf (Elt Bits) ℓ) : Prop :=
  True

def Pre_OutATIdeal (m : (ℓ : Loc Cert.OutATIdeal.nD Cert.OutATIdeal.τ Cert.OutATIdeal.sig) → Buf (Elt Ideal) ℓ) : Prop :=
  True

def Pre_OutATRefIdeal (m : (ℓ : Loc Cert.OutATRefIdeal.nD Cert.OutATRefIdeal.τ Cert.OutATRefIdeal.sig) → Buf (Elt Ideal) ℓ) : Prop :=
  True

def Pre_OutUTn (m : (ℓ : Loc Cert.OutUTn.nD Cert.OutUTn.τ Cert.OutUTn.sig) → Buf (Elt Bits) ℓ) : Prop :=
  True

def Pre_OutUTnIdeal (m : (ℓ : Loc Cert.OutUTnIdeal.nD Cert.OutUTnIdeal.τ Cert.OutUTnIdeal.sig) → Buf (Elt Ideal) ℓ) : Prop :=
  True

def Pre_OutUTnRefIdeal (m : (ℓ : Loc Cert.OutUTnRefIdeal.nD Cert.OutUTnRefIdeal.τ Cert.OutUTnRefIdeal.sig) → Buf (Elt Ideal) ℓ) : Prop :=
  True

def Pre_OutATn (m : (ℓ : Loc Cert.OutATn.nD Cert.OutATn.τ Cert.OutATn.sig) → Buf (Elt Bits) ℓ) : Prop :=
  True

def Pre_OutATnIdeal (m : (ℓ : Loc Cert.OutATnIdeal.nD Cert.OutATnIdeal.τ Cert.OutATnIdeal.sig) → Buf (Elt Ideal) ℓ) : Prop :=
  True

def Pre_OutATnRefIdeal (m : (ℓ : Loc Cert.OutATnRefIdeal.nD Cert.OutATnRefIdeal.τ Cert.OutATnRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_entries_finite [hKernelIdeal : Cert.KernelIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_entries_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_entries_finite [hReferenceIdeal : Cert.ReferenceIdeal.Facts] [hPre_entries_finite : Cert.Pre_entries_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_entries_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpGate [hUpGate : Cert.UpGate.Facts] : Prop :=
  ∀ (m : (ℓ : Loc Cert.UpGate.nD Cert.UpGate.τ Cert.UpGate.sig) → Buf (Elt Bits) ℓ) (g : Dev Cert.UpGate.nD → PrngReg), Pre_UpGate m →
    θ_run (Cert.UpGate.defs (F := Bits)) (onTc (τ := Cert.UpGate.τ) (Cert.UpGate.main (F := Bits))) ⟨m, fun _ => 0, g⟩ (fun r => (∀ c : Dev Cert.UpGate.nD,
      r.2.mem ((c.tc : Thread Cert.UpGate.nD Cert.UpGate.τ).loc Cert.UpGate.main_arg0) = m ((c.tc : Thread Cert.UpGate.nD Cert.UpGate.τ).loc Cert.UpGate.main_arg0)
      ∧ r.2.mem ((c.tc : Thread Cert.UpGate.nD Cert.UpGate.τ).loc Cert.UpGate.main_arg1) = m ((c.tc : Thread Cert.UpGate.nD Cert.UpGate.τ).loc Cert.UpGate.main_arg1))
      ∧ r.2.sem = fun _ => 0)

def quiescent_UpGateIdeal [hUpGateIdeal : Cert.UpGateIdeal.Facts] : Prop :=
  ∀ (m : (ℓ : Loc Cert.UpGateIdeal.nD Cert.UpGateIdeal.τ Cert.UpGateIdeal.sig) → Buf (Elt Ideal) ℓ) (g : Dev Cert.UpGateIdeal.nD → PrngReg), Pre_UpGateIdeal m →
    θ_run (Cert.UpGateIdeal.defs (F := Ideal)) (onTc (τ := Cert.UpGateIdeal.τ) (Cert.UpGateIdeal.main (F := Ideal))) ⟨m, fun _ => 0, g⟩ (fun r => (∀ c : Dev Cert.UpGateIdeal.nD,
      r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
      ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1))
      ∧ r.2.sem = fun _ => 0)

def quiescent_UpGateRefIdeal [hUpGateRefIdeal : Cert.UpGateRefIdeal.Facts] : Prop :=
  ∀ (m : (ℓ : Loc Cert.UpGateRefIdeal.nD Cert.UpGateRefIdeal.τ Cert.UpGateRefIdeal.sig) → Buf (Elt Ideal) ℓ) (g : Dev Cert.UpGateRefIdeal.nD → PrngReg), Pre_UpGateRefIdeal m →
    θ_run (Cert.UpGateRefIdeal.defs (F := Ideal)) (onTc (τ := Cert.UpGateRefIdeal.τ) (Cert.UpGateRefIdeal.main (F := Ideal))) ⟨m, fun _ => 0, g⟩ (fun r => (∀ c : Dev Cert.UpGateRefIdeal.nD,
      r.2.mem ((c.tc : Thread Cert.UpGateRefIdeal.nD Cert.UpGateRefIdeal.τ).loc Cert.UpGateRefIdeal.main_arg0) = m ((c.tc : Thread Cert.UpGateRefIdeal.nD Cert.UpGateRefIdeal.τ).loc Cert.UpGateRefIdeal.main_arg0)
      ∧ r.2.mem ((c.tc : Thread Cert.UpGateRefIdeal.nD Cert.UpGateRefIdeal.τ).loc Cert.UpGateRefIdeal.main_arg1) = m ((c.tc : Thread Cert.UpGateRefIdeal.nD Cert.UpGateRefIdeal.τ).loc Cert.UpGateRefIdeal.main_arg1))
      ∧ r.2.sem = fun _ => 0)

def quiescent_UpValue [hUpValue : Cert.UpValue.Facts] : Prop :=
  ∀ (m : (ℓ : Loc Cert.UpValue.nD Cert.UpValue.τ Cert.UpValue.sig) → Buf (Elt Bits) ℓ) (g : Dev Cert.UpValue.nD → PrngReg), Pre_UpValue m →
    θ_run (Cert.UpValue.defs (F := Bits)) (onTc (τ := Cert.UpValue.τ) (Cert.UpValue.main (F := Bits))) ⟨m, fun _ => 0, g⟩ (fun r => (∀ c : Dev Cert.UpValue.nD,
      r.2.mem ((c.tc : Thread Cert.UpValue.nD Cert.UpValue.τ).loc Cert.UpValue.main_arg0) = m ((c.tc : Thread Cert.UpValue.nD Cert.UpValue.τ).loc Cert.UpValue.main_arg0)
      ∧ r.2.mem ((c.tc : Thread Cert.UpValue.nD Cert.UpValue.τ).loc Cert.UpValue.main_arg1) = m ((c.tc : Thread Cert.UpValue.nD Cert.UpValue.τ).loc Cert.UpValue.main_arg1))
      ∧ r.2.sem = fun _ => 0)

def quiescent_UpValueIdeal [hUpValueIdeal : Cert.UpValueIdeal.Facts] : Prop :=
  ∀ (m : (ℓ : Loc Cert.UpValueIdeal.nD Cert.UpValueIdeal.τ Cert.UpValueIdeal.sig) → Buf (Elt Ideal) ℓ) (g : Dev Cert.UpValueIdeal.nD → PrngReg), Pre_UpValueIdeal m →
    θ_run (Cert.UpValueIdeal.defs (F := Ideal)) (onTc (τ := Cert.UpValueIdeal.τ) (Cert.UpValueIdeal.main (F := Ideal))) ⟨m, fun _ => 0, g⟩ (fun r => (∀ c : Dev Cert.UpValueIdeal.nD,
      r.2.mem ((c.tc : Thread Cert.UpValueIdeal.nD Cert.UpValueIdeal.τ).loc Cert.UpValueIdeal.main_arg0) = m ((c.tc : Thread Cert.UpValueIdeal.nD Cert.UpValueIdeal.τ).loc Cert.UpValueIdeal.main_arg0)
      ∧ r.2.mem ((c.tc : Thread Cert.UpValueIdeal.nD Cert.UpValueIdeal.τ).loc Cert.UpValueIdeal.main_arg1) = m ((c.tc : Thread Cert.UpValueIdeal.nD Cert.UpValueIdeal.τ).loc Cert.UpValueIdeal.main_arg1))
      ∧ r.2.sem = fun _ => 0)

def quiescent_UpValueRefIdeal [hUpValueRefIdeal : Cert.UpValueRefIdeal.Facts] : Prop :=
  ∀ (m : (ℓ : Loc Cert.UpValueRefIdeal.nD Cert.UpValueRefIdeal.τ Cert.UpValueRefIdeal.sig) → Buf (Elt Ideal) ℓ) (g : Dev Cert.UpValueRefIdeal.nD → PrngReg), Pre_UpValueRefIdeal m →
    θ_run (Cert.UpValueRefIdeal.defs (F := Ideal)) (onTc (τ := Cert.UpValueRefIdeal.τ) (Cert.UpValueRefIdeal.main (F := Ideal))) ⟨m, fun _ => 0, g⟩ (fun r => (∀ c : Dev Cert.UpValueRefIdeal.nD,
      r.2.mem ((c.tc : Thread Cert.UpValueRefIdeal.nD Cert.UpValueRefIdeal.τ).loc Cert.UpValueRefIdeal.main_arg0) = m ((c.tc : Thread Cert.UpValueRefIdeal.nD Cert.UpValueRefIdeal.τ).loc Cert.UpValueRefIdeal.main_arg0)
      ∧ r.2.mem ((c.tc : Thread Cert.UpValueRefIdeal.nD Cert.UpValueRefIdeal.τ).loc Cert.UpValueRefIdeal.main_arg1) = m ((c.tc : Thread Cert.UpValueRefIdeal.nD Cert.UpValueRefIdeal.τ).loc Cert.UpValueRefIdeal.main_arg1))
      ∧ r.2.sem = fun _ => 0)

def quiescent_UpGateT [hUpGateT : Cert.UpGateT.Facts] : Prop :=
  ∀ (m : (ℓ : Loc Cert.UpGateT.nD Cert.UpGateT.τ Cert.UpGateT.sig) → Buf (Elt Bits) ℓ) (g : Dev Cert.UpGateT.nD → PrngReg), Pre_UpGateT m →
    θ_run (Cert.UpGateT.defs (F := Bits)) (onTc (τ := Cert.UpGateT.τ) (Cert.UpGateT.main (F := Bits))) ⟨m, fun _ => 0, g⟩ (fun r => (∀ c : Dev Cert.UpGateT.nD,
      r.2.mem ((c.tc : Thread Cert.UpGateT.nD Cert.UpGateT.τ).loc Cert.UpGateT.main_arg0) = m ((c.tc : Thread Cert.UpGateT.nD Cert.UpGateT.τ).loc Cert.UpGateT.main_arg0)
      ∧ r.2.mem ((c.tc : Thread Cert.UpGateT.nD Cert.UpGateT.τ).loc Cert.UpGateT.main_arg1) = m ((c.tc : Thread Cert.UpGateT.nD Cert.UpGateT.τ).loc Cert.UpGateT.main_arg1))
      ∧ r.2.sem = fun _ => 0)

def quiescent_UpGateTIdeal [hUpGateTIdeal : Cert.UpGateTIdeal.Facts] : Prop :=
  ∀ (m : (ℓ : Loc Cert.UpGateTIdeal.nD Cert.UpGateTIdeal.τ Cert.UpGateTIdeal.sig) → Buf (Elt Ideal) ℓ) (g : Dev Cert.UpGateTIdeal.nD → PrngReg), Pre_UpGateTIdeal m →
    θ_run (Cert.UpGateTIdeal.defs (F := Ideal)) (onTc (τ := Cert.UpGateTIdeal.τ) (Cert.UpGateTIdeal.main (F := Ideal))) ⟨m, fun _ => 0, g⟩ (fun r => (∀ c : Dev Cert.UpGateTIdeal.nD,
      r.2.mem ((c.tc : Thread Cert.UpGateTIdeal.nD Cert.UpGateTIdeal.τ).loc Cert.UpGateTIdeal.main_arg0) = m ((c.tc : Thread Cert.UpGateTIdeal.nD Cert.UpGateTIdeal.τ).loc Cert.UpGateTIdeal.main_arg0)
      ∧ r.2.mem ((c.tc : Thread Cert.UpGateTIdeal.nD Cert.UpGateTIdeal.τ).loc Cert.UpGateTIdeal.main_arg1) = m ((c.tc : Thread Cert.UpGateTIdeal.nD Cert.UpGateTIdeal.τ).loc Cert.UpGateTIdeal.main_arg1))
      ∧ r.2.sem = fun _ => 0)

def quiescent_UpGateTRefIdeal [hUpGateTRefIdeal : Cert.UpGateTRefIdeal.Facts] : Prop :=
  ∀ (m : (ℓ : Loc Cert.UpGateTRefIdeal.nD Cert.UpGateTRefIdeal.τ Cert.UpGateTRefIdeal.sig) → Buf (Elt Ideal) ℓ) (g : Dev Cert.UpGateTRefIdeal.nD → PrngReg), Pre_UpGateTRefIdeal m →
    θ_run (Cert.UpGateTRefIdeal.defs (F := Ideal)) (onTc (τ := Cert.UpGateTRefIdeal.τ) (Cert.UpGateTRefIdeal.main (F := Ideal))) ⟨m, fun _ => 0, g⟩ (fun r => (∀ c : Dev Cert.UpGateTRefIdeal.nD,
      r.2.mem ((c.tc : Thread Cert.UpGateTRefIdeal.nD Cert.UpGateTRefIdeal.τ).loc Cert.UpGateTRefIdeal.main_arg0) = m ((c.tc : Thread Cert.UpGateTRefIdeal.nD Cert.UpGateTRefIdeal.τ).loc Cert.UpGateTRefIdeal.main_arg0)
      ∧ r.2.mem ((c.tc : Thread Cert.UpGateTRefIdeal.nD Cert.UpGateTRefIdeal.τ).loc Cert.UpGateTRefIdeal.main_arg1) = m ((c.tc : Thread Cert.UpGateTRefIdeal.nD Cert.UpGateTRefIdeal.τ).loc Cert.UpGateTRefIdeal.main_arg1))
      ∧ r.2.sem = fun _ => 0)

def quiescent_UpValueT [hUpValueT : Cert.UpValueT.Facts] : Prop :=
  ∀ (m : (ℓ : Loc Cert.UpValueT.nD Cert.UpValueT.τ Cert.UpValueT.sig) → Buf (Elt Bits) ℓ) (g : Dev Cert.UpValueT.nD → PrngReg), Pre_UpValueT m →
    θ_run (Cert.UpValueT.defs (F := Bits)) (onTc (τ := Cert.UpValueT.τ) (Cert.UpValueT.main (F := Bits))) ⟨m, fun _ => 0, g⟩ (fun r => (∀ c : Dev Cert.UpValueT.nD,
      r.2.mem ((c.tc : Thread Cert.UpValueT.nD Cert.UpValueT.τ).loc Cert.UpValueT.main_arg0) = m ((c.tc : Thread Cert.UpValueT.nD Cert.UpValueT.τ).loc Cert.UpValueT.main_arg0)
      ∧ r.2.mem ((c.tc : Thread Cert.UpValueT.nD Cert.UpValueT.τ).loc Cert.UpValueT.main_arg1) = m ((c.tc : Thread Cert.UpValueT.nD Cert.UpValueT.τ).loc Cert.UpValueT.main_arg1)
      ∧ r.2.mem ((c.tc : Thread Cert.UpValueT.nD Cert.UpValueT.τ).loc Cert.UpValueT.main_arg2) = m ((c.tc : Thread Cert.UpValueT.nD Cert.UpValueT.τ).loc Cert.UpValueT.main_arg2))
      ∧ r.2.sem = fun _ => 0)

def quiescent_UpValueTIdeal [hUpValueTIdeal : Cert.UpValueTIdeal.Facts] : Prop :=
  ∀ (m : (ℓ : Loc Cert.UpValueTIdeal.nD Cert.UpValueTIdeal.τ Cert.UpValueTIdeal.sig) → Buf (Elt Ideal) ℓ) (g : Dev Cert.UpValueTIdeal.nD → PrngReg), Pre_UpValueTIdeal m →
    θ_run (Cert.UpValueTIdeal.defs (F := Ideal)) (onTc (τ := Cert.UpValueTIdeal.τ) (Cert.UpValueTIdeal.main (F := Ideal))) ⟨m, fun _ => 0, g⟩ (fun r => (∀ c : Dev Cert.UpValueTIdeal.nD,
      r.2.mem ((c.tc : Thread Cert.UpValueTIdeal.nD Cert.UpValueTIdeal.τ).loc Cert.UpValueTIdeal.main_arg0) = m ((c.tc : Thread Cert.UpValueTIdeal.nD Cert.UpValueTIdeal.τ).loc Cert.UpValueTIdeal.main_arg0)
      ∧ r.2.mem ((c.tc : Thread Cert.UpValueTIdeal.nD Cert.UpValueTIdeal.τ).loc Cert.UpValueTIdeal.main_arg1) = m ((c.tc : Thread Cert.UpValueTIdeal.nD Cert.UpValueTIdeal.τ).loc Cert.UpValueTIdeal.main_arg1)
      ∧ r.2.mem ((c.tc : Thread Cert.UpValueTIdeal.nD Cert.UpValueTIdeal.τ).loc Cert.UpValueTIdeal.main_arg2) = m ((c.tc : Thread Cert.UpValueTIdeal.nD Cert.UpValueTIdeal.τ).loc Cert.UpValueTIdeal.main_arg2))
      ∧ r.2.sem = fun _ => 0)

def quiescent_UpValueTRefIdeal [hUpValueTRefIdeal : Cert.UpValueTRefIdeal.Facts] : Prop :=
  ∀ (m : (ℓ : Loc Cert.UpValueTRefIdeal.nD Cert.UpValueTRefIdeal.τ Cert.UpValueTRefIdeal.sig) → Buf (Elt Ideal) ℓ) (g : Dev Cert.UpValueTRefIdeal.nD → PrngReg), Pre_UpValueTRefIdeal m →
    θ_run (Cert.UpValueTRefIdeal.defs (F := Ideal)) (onTc (τ := Cert.UpValueTRefIdeal.τ) (Cert.UpValueTRefIdeal.main (F := Ideal))) ⟨m, fun _ => 0, g⟩ (fun r => (∀ c : Dev Cert.UpValueTRefIdeal.nD,
      r.2.mem ((c.tc : Thread Cert.UpValueTRefIdeal.nD Cert.UpValueTRefIdeal.τ).loc Cert.UpValueTRefIdeal.main_arg0) = m ((c.tc : Thread Cert.UpValueTRefIdeal.nD Cert.UpValueTRefIdeal.τ).loc Cert.UpValueTRefIdeal.main_arg0)
      ∧ r.2.mem ((c.tc : Thread Cert.UpValueTRefIdeal.nD Cert.UpValueTRefIdeal.τ).loc Cert.UpValueTRefIdeal.main_arg1) = m ((c.tc : Thread Cert.UpValueTRefIdeal.nD Cert.UpValueTRefIdeal.τ).loc Cert.UpValueTRefIdeal.main_arg1)
      ∧ r.2.mem ((c.tc : Thread Cert.UpValueTRefIdeal.nD Cert.UpValueTRefIdeal.τ).loc Cert.UpValueTRefIdeal.main_arg2) = m ((c.tc : Thread Cert.UpValueTRefIdeal.nD Cert.UpValueTRefIdeal.τ).loc Cert.UpValueTRefIdeal.main_arg2))
      ∧ r.2.sem = fun _ => 0)

def quiescent_UpTn [hUpTn : Cert.UpTn.Facts] : Prop :=
  ∀ (m : (ℓ : Loc Cert.UpTn.nD Cert.UpTn.τ Cert.UpTn.sig) → Buf (Elt Bits) ℓ) (g : Dev Cert.UpTn.nD → PrngReg), Pre_UpTn m →
    θ_run (Cert.UpTn.defs (F := Bits)) (onTc (τ := Cert.UpTn.τ) (Cert.UpTn.main (F := Bits))) ⟨m, fun _ => 0, g⟩ (fun r => (∀ c : Dev Cert.UpTn.nD,
      r.2.mem ((c.tc : Thread Cert.UpTn.nD Cert.UpTn.τ).loc Cert.UpTn.main_arg0) = m ((c.tc : Thread Cert.UpTn.nD Cert.UpTn.τ).loc Cert.UpTn.main_arg0)
      ∧ r.2.mem ((c.tc : Thread Cert.UpTn.nD Cert.UpTn.τ).loc Cert.UpTn.main_arg1) = m ((c.tc : Thread Cert.UpTn.nD Cert.UpTn.τ).loc Cert.UpTn.main_arg1))
      ∧ r.2.sem = fun _ => 0)

def quiescent_UpTnIdeal [hUpTnIdeal : Cert.UpTnIdeal.Facts] : Prop :=
  ∀ (m : (ℓ : Loc Cert.UpTnIdeal.nD Cert.UpTnIdeal.τ Cert.UpTnIdeal.sig) → Buf (Elt Ideal) ℓ) (g : Dev Cert.UpTnIdeal.nD → PrngReg), Pre_UpTnIdeal m →
    θ_run (Cert.UpTnIdeal.defs (F := Ideal)) (onTc (τ := Cert.UpTnIdeal.τ) (Cert.UpTnIdeal.main (F := Ideal))) ⟨m, fun _ => 0, g⟩ (fun r => (∀ c : Dev Cert.UpTnIdeal.nD,
      r.2.mem ((c.tc : Thread Cert.UpTnIdeal.nD Cert.UpTnIdeal.τ).loc Cert.UpTnIdeal.main_arg0) = m ((c.tc : Thread Cert.UpTnIdeal.nD Cert.UpTnIdeal.τ).loc Cert.UpTnIdeal.main_arg0)
      ∧ r.2.mem ((c.tc : Thread Cert.UpTnIdeal.nD Cert.UpTnIdeal.τ).loc Cert.UpTnIdeal.main_arg1) = m ((c.tc : Thread Cert.UpTnIdeal.nD Cert.UpTnIdeal.τ).loc Cert.UpTnIdeal.main_arg1))
      ∧ r.2.sem = fun _ => 0)

def quiescent_UpTnRefIdeal [hUpTnRefIdeal : Cert.UpTnRefIdeal.Facts] : Prop :=
  ∀ (m : (ℓ : Loc Cert.UpTnRefIdeal.nD Cert.UpTnRefIdeal.τ Cert.UpTnRefIdeal.sig) → Buf (Elt Ideal) ℓ) (g : Dev Cert.UpTnRefIdeal.nD → PrngReg), Pre_UpTnRefIdeal m →
    θ_run (Cert.UpTnRefIdeal.defs (F := Ideal)) (onTc (τ := Cert.UpTnRefIdeal.τ) (Cert.UpTnRefIdeal.main (F := Ideal))) ⟨m, fun _ => 0, g⟩ (fun r => (∀ c : Dev Cert.UpTnRefIdeal.nD,
      r.2.mem ((c.tc : Thread Cert.UpTnRefIdeal.nD Cert.UpTnRefIdeal.τ).loc Cert.UpTnRefIdeal.main_arg0) = m ((c.tc : Thread Cert.UpTnRefIdeal.nD Cert.UpTnRefIdeal.τ).loc Cert.UpTnRefIdeal.main_arg0)
      ∧ r.2.mem ((c.tc : Thread Cert.UpTnRefIdeal.nD Cert.UpTnRefIdeal.τ).loc Cert.UpTnRefIdeal.main_arg1) = m ((c.tc : Thread Cert.UpTnRefIdeal.nD Cert.UpTnRefIdeal.τ).loc Cert.UpTnRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownT [hDownT : Cert.DownT.Facts] : Prop :=
  ∀ (m : (ℓ : Loc Cert.DownT.nD Cert.DownT.τ Cert.DownT.sig) → Buf (Elt Bits) ℓ) (g : Dev Cert.DownT.nD → PrngReg), Pre_DownT m →
    θ_run (Cert.DownT.defs (F := Bits)) (onTc (τ := Cert.DownT.τ) (Cert.DownT.main (F := Bits))) ⟨m, fun _ => 0, g⟩ (fun r => (∀ c : Dev Cert.DownT.nD,
      r.2.mem ((c.tc : Thread Cert.DownT.nD Cert.DownT.τ).loc Cert.DownT.main_arg0) = m ((c.tc : Thread Cert.DownT.nD Cert.DownT.τ).loc Cert.DownT.main_arg0)
      ∧ r.2.mem ((c.tc : Thread Cert.DownT.nD Cert.DownT.τ).loc Cert.DownT.main_arg1) = m ((c.tc : Thread Cert.DownT.nD Cert.DownT.τ).loc Cert.DownT.main_arg1))
      ∧ r.2.sem = fun _ => 0)

def quiescent_DownTIdeal [hDownTIdeal : Cert.DownTIdeal.Facts] : Prop :=
  ∀ (m : (ℓ : Loc Cert.DownTIdeal.nD Cert.DownTIdeal.τ Cert.DownTIdeal.sig) → Buf (Elt Ideal) ℓ) (g : Dev Cert.DownTIdeal.nD → PrngReg), Pre_DownTIdeal m →
    θ_run (Cert.DownTIdeal.defs (F := Ideal)) (onTc (τ := Cert.DownTIdeal.τ) (Cert.DownTIdeal.main (F := Ideal))) ⟨m, fun _ => 0, g⟩ (fun r => (∀ c : Dev Cert.DownTIdeal.nD,
      r.2.mem ((c.tc : Thread Cert.DownTIdeal.nD Cert.DownTIdeal.τ).loc Cert.DownTIdeal.main_arg0) = m ((c.tc : Thread Cert.DownTIdeal.nD Cert.DownTIdeal.τ).loc Cert.DownTIdeal.main_arg0)
      ∧ r.2.mem ((c.tc : Thread Cert.DownTIdeal.nD Cert.DownTIdeal.τ).loc Cert.DownTIdeal.main_arg1) = m ((c.tc : Thread Cert.DownTIdeal.nD Cert.DownTIdeal.τ).loc Cert.DownTIdeal.main_arg1))
      ∧ r.2.sem = fun _ => 0)

def quiescent_DownTRefIdeal [hDownTRefIdeal : Cert.DownTRefIdeal.Facts] : Prop :=
  ∀ (m : (ℓ : Loc Cert.DownTRefIdeal.nD Cert.DownTRefIdeal.τ Cert.DownTRefIdeal.sig) → Buf (Elt Ideal) ℓ) (g : Dev Cert.DownTRefIdeal.nD → PrngReg), Pre_DownTRefIdeal m →
    θ_run (Cert.DownTRefIdeal.defs (F := Ideal)) (onTc (τ := Cert.DownTRefIdeal.τ) (Cert.DownTRefIdeal.main (F := Ideal))) ⟨m, fun _ => 0, g⟩ (fun r => (∀ c : Dev Cert.DownTRefIdeal.nD,
      r.2.mem ((c.tc : Thread Cert.DownTRefIdeal.nD Cert.DownTRefIdeal.τ).loc Cert.DownTRefIdeal.main_arg0) = m ((c.tc : Thread Cert.DownTRefIdeal.nD Cert.DownTRefIdeal.τ).loc Cert.DownTRefIdeal.main_arg0)
      ∧ r.2.mem ((c.tc : Thread Cert.DownTRefIdeal.nD Cert.DownTRefIdeal.τ).loc Cert.DownTRefIdeal.main_arg1) = m ((c.tc : Thread Cert.DownTRefIdeal.nD Cert.DownTRefIdeal.τ).loc Cert.DownTRefIdeal.main_arg1))
      ∧ r.2.sem = fun _ => 0)

def quiescent_DownTn [hDownTn : Cert.DownTn.Facts] : Prop :=
  ∀ (m : (ℓ : Loc Cert.DownTn.nD Cert.DownTn.τ Cert.DownTn.sig) → Buf (Elt Bits) ℓ) (g : Dev Cert.DownTn.nD → PrngReg), Pre_DownTn m →
    θ_run (Cert.DownTn.defs (F := Bits)) (onTc (τ := Cert.DownTn.τ) (Cert.DownTn.main (F := Bits))) ⟨m, fun _ => 0, g⟩ (fun r => (∀ c : Dev Cert.DownTn.nD,
      r.2.mem ((c.tc : Thread Cert.DownTn.nD Cert.DownTn.τ).loc Cert.DownTn.main_arg0) = m ((c.tc : Thread Cert.DownTn.nD Cert.DownTn.τ).loc Cert.DownTn.main_arg0)
      ∧ r.2.mem ((c.tc : Thread Cert.DownTn.nD Cert.DownTn.τ).loc Cert.DownTn.main_arg1) = m ((c.tc : Thread Cert.DownTn.nD Cert.DownTn.τ).loc Cert.DownTn.main_arg1))
      ∧ r.2.sem = fun _ => 0)

def quiescent_DownTnIdeal [hDownTnIdeal : Cert.DownTnIdeal.Facts] : Prop :=
  ∀ (m : (ℓ : Loc Cert.DownTnIdeal.nD Cert.DownTnIdeal.τ Cert.DownTnIdeal.sig) → Buf (Elt Ideal) ℓ) (g : Dev Cert.DownTnIdeal.nD → PrngReg), Pre_DownTnIdeal m →
    θ_run (Cert.DownTnIdeal.defs (F := Ideal)) (onTc (τ := Cert.DownTnIdeal.τ) (Cert.DownTnIdeal.main (F := Ideal))) ⟨m, fun _ => 0, g⟩ (fun r => (∀ c : Dev Cert.DownTnIdeal.nD,
      r.2.mem ((c.tc : Thread Cert.DownTnIdeal.nD Cert.DownTnIdeal.τ).loc Cert.DownTnIdeal.main_arg0) = m ((c.tc : Thread Cert.DownTnIdeal.nD Cert.DownTnIdeal.τ).loc Cert.DownTnIdeal.main_arg0)
      ∧ r.2.mem ((c.tc : Thread Cert.DownTnIdeal.nD Cert.DownTnIdeal.τ).loc Cert.DownTnIdeal.main_arg1) = m ((c.tc : Thread Cert.DownTnIdeal.nD Cert.DownTnIdeal.τ).loc Cert.DownTnIdeal.main_arg1))
      ∧ r.2.sem = fun _ => 0)

def quiescent_DownTnRefIdeal [hDownTnRefIdeal : Cert.DownTnRefIdeal.Facts] : Prop :=
  ∀ (m : (ℓ : Loc Cert.DownTnRefIdeal.nD Cert.DownTnRefIdeal.τ Cert.DownTnRefIdeal.sig) → Buf (Elt Ideal) ℓ) (g : Dev Cert.DownTnRefIdeal.nD → PrngReg), Pre_DownTnRefIdeal m →
    θ_run (Cert.DownTnRefIdeal.defs (F := Ideal)) (onTc (τ := Cert.DownTnRefIdeal.τ) (Cert.DownTnRefIdeal.main (F := Ideal))) ⟨m, fun _ => 0, g⟩ (fun r => (∀ c : Dev Cert.DownTnRefIdeal.nD,
      r.2.mem ((c.tc : Thread Cert.DownTnRefIdeal.nD Cert.DownTnRefIdeal.τ).loc Cert.DownTnRefIdeal.main_arg0) = m ((c.tc : Thread Cert.DownTnRefIdeal.nD Cert.DownTnRefIdeal.τ).loc Cert.DownTnRefIdeal.main_arg0)
      ∧ r.2.mem ((c.tc : Thread Cert.DownTnRefIdeal.nD Cert.DownTnRefIdeal.τ).loc Cert.DownTnRefIdeal.main_arg1) = m ((c.tc : Thread Cert.DownTnRefIdeal.nD Cert.DownTnRefIdeal.τ).loc Cert.DownTnRefIdeal.main_arg1))
      ∧ r.2.sem = fun _ => 0)

def quiescent_MemQ [hMemQ : Cert.MemQ.Facts] : Prop :=
  ∀ (m : (ℓ : Loc Cert.MemQ.nD Cert.MemQ.τ Cert.MemQ.sig) → Buf (Elt Bits) ℓ) (g : Dev Cert.MemQ.nD → PrngReg), Pre_MemQ m →
    θ_run (Cert.MemQ.defs (F := Bits)) (onTc (τ := Cert.MemQ.τ) (Cert.MemQ.main (F := Bits))) ⟨m, fun _ => 0, g⟩ (fun r => (∀ c : Dev Cert.MemQ.nD,
      r.2.mem ((c.tc : Thread Cert.MemQ.nD Cert.MemQ.τ).loc Cert.MemQ.main_arg0) = m ((c.tc : Thread Cert.MemQ.nD Cert.MemQ.τ).loc Cert.MemQ.main_arg0)
      ∧ r.2.mem ((c.tc : Thread Cert.MemQ.nD Cert.MemQ.τ).loc Cert.MemQ.main_arg1) = m ((c.tc : Thread Cert.MemQ.nD Cert.MemQ.τ).loc Cert.MemQ.main_arg1))
      ∧ r.2.sem = fun _ => 0)

def quiescent_MemQIdeal [hMemQIdeal : Cert.MemQIdeal.Facts] : Prop :=
  ∀ (m : (ℓ : Loc Cert.MemQIdeal.nD Cert.MemQIdeal.τ Cert.MemQIdeal.sig) → Buf (Elt Ideal) ℓ) (g : Dev Cert.MemQIdeal.nD → PrngReg), Pre_MemQIdeal m →
    θ_run (Cert.MemQIdeal.defs (F := Ideal)) (onTc (τ := Cert.MemQIdeal.τ) (Cert.MemQIdeal.main (F := Ideal))) ⟨m, fun _ => 0, g⟩ (fun r => (∀ c : Dev Cert.MemQIdeal.nD,
      r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
      ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ r.2.sem = fun _ => 0)

def quiescent_MemQRefIdeal [hMemQRefIdeal : Cert.MemQRefIdeal.Facts] : Prop :=
  ∀ (m : (ℓ : Loc Cert.MemQRefIdeal.nD Cert.MemQRefIdeal.τ Cert.MemQRefIdeal.sig) → Buf (Elt Ideal) ℓ) (g : Dev Cert.MemQRefIdeal.nD → PrngReg), Pre_MemQRefIdeal m →
    θ_run (Cert.MemQRefIdeal.defs (F := Ideal)) (onTc (τ := Cert.MemQRefIdeal.τ) (Cert.MemQRefIdeal.main (F := Ideal))) ⟨m, fun _ => 0, g⟩ (fun r => (∀ c : Dev Cert.MemQRefIdeal.nD,
      r.2.mem ((c.tc : Thread Cert.MemQRefIdeal.nD Cert.MemQRefIdeal.τ).loc Cert.MemQRefIdeal.main_arg0) = m ((c.tc : Thread Cert.MemQRefIdeal.nD Cert.MemQRefIdeal.τ).loc Cert.MemQRefIdeal.main_arg0)
      ∧ r.2.mem ((c.tc : Thread Cert.MemQRefIdeal.nD Cert.MemQRefIdeal.τ).loc Cert.MemQRefIdeal.main_arg1) = m ((c.tc : Thread Cert.MemQRefIdeal.nD Cert.MemQRefIdeal.τ).loc Cert.MemQRefIdeal.main_arg1))
      ∧ r.2.sem = fun _ => 0)

def quiescent_MemO [hMemO : Cert.MemO.Facts] : Prop :=
  ∀ (m : (ℓ : Loc Cert.MemO.nD Cert.MemO.τ Cert.MemO.sig) → Buf (Elt Bits) ℓ) (g : Dev Cert.MemO.nD → PrngReg), Pre_MemO m →
    θ_run (Cert.MemO.defs (F := Bits)) (onTc (τ := Cert.MemO.τ) (Cert.MemO.main (F := Bits))) ⟨m, fun _ => 0, g⟩ (fun r => (∀ c : Dev Cert.MemO.nD,
      r.2.mem ((c.tc : Thread Cert.MemO.nD Cert.MemO.τ).loc Cert.MemO.main_arg0) = m ((c.tc : Thread Cert.MemO.nD Cert.MemO.τ).loc Cert.MemO.main_arg0)
      ∧ r.2.mem ((c.tc : Thread Cert.MemO.nD Cert.MemO.τ).loc Cert.MemO.main_arg1) = m ((c.tc : Thread Cert.MemO.nD Cert.MemO.τ).loc Cert.MemO.main_arg1)
      ∧ r.2.mem ((c.tc : Thread Cert.MemO.nD Cert.MemO.τ).loc Cert.MemO.main_arg2) = m ((c.tc : Thread Cert.MemO.nD Cert.MemO.τ).loc Cert.MemO.main_arg2))
      ∧ r.2.sem = fun _ => 0)

def quiescent_MemOIdeal [hMemOIdeal : Cert.MemOIdeal.Facts] : Prop :=
  ∀ (m : (ℓ : Loc Cert.MemOIdeal.nD Cert.MemOIdeal.τ Cert.MemOIdeal.sig) → Buf (Elt Ideal) ℓ) (g : Dev Cert.MemOIdeal.nD → PrngReg), Pre_MemOIdeal m →
    θ_run (Cert.MemOIdeal.defs (F := Ideal)) (onTc (τ := Cert.MemOIdeal.τ) (Cert.MemOIdeal.main (F := Ideal))) ⟨m, fun _ => 0, g⟩ (fun r => (∀ c : Dev Cert.MemOIdeal.nD,
      r.2.mem ((c.tc : Thread Cert.MemOIdeal.nD Cert.MemOIdeal.τ).loc Cert.MemOIdeal.main_arg0) = m ((c.tc : Thread Cert.MemOIdeal.nD Cert.MemOIdeal.τ).loc Cert.MemOIdeal.main_arg0)
      ∧ r.2.mem ((c.tc : Thread Cert.MemOIdeal.nD Cert.MemOIdeal.τ).loc Cert.MemOIdeal.main_arg1) = m ((c.tc : Thread Cert.MemOIdeal.nD Cert.MemOIdeal.τ).loc Cert.MemOIdeal.main_arg1)
      ∧ r.2.mem ((c.tc : Thread Cert.MemOIdeal.nD Cert.MemOIdeal.τ).loc Cert.MemOIdeal.main_arg2) = m ((c.tc : Thread Cert.MemOIdeal.nD Cert.MemOIdeal.τ).loc Cert.MemOIdeal.main_arg2))
      ∧ r.2.sem = fun _ => 0)

def quiescent_MemORefIdeal [hMemORefIdeal : Cert.MemORefIdeal.Facts] : Prop :=
  ∀ (m : (ℓ : Loc Cert.MemORefIdeal.nD Cert.MemORefIdeal.τ Cert.MemORefIdeal.sig) → Buf (Elt Ideal) ℓ) (g : Dev Cert.MemORefIdeal.nD → PrngReg), Pre_MemORefIdeal m →
    θ_run (Cert.MemORefIdeal.defs (F := Ideal)) (onTc (τ := Cert.MemORefIdeal.τ) (Cert.MemORefIdeal.main (F := Ideal))) ⟨m, fun _ => 0, g⟩ (fun r => (∀ c : Dev Cert.MemORefIdeal.nD,
      r.2.mem ((c.tc : Thread Cert.MemORefIdeal.nD Cert.MemORefIdeal.τ).loc Cert.MemORefIdeal.main_arg0) = m ((c.tc : Thread Cert.MemORefIdeal.nD Cert.MemORefIdeal.τ).loc Cert.MemORefIdeal.main_arg0)
      ∧ r.2.mem ((c.tc : Thread Cert.MemORefIdeal.nD Cert.MemORefIdeal.τ).loc Cert.MemORefIdeal.main_arg1) = m ((c.tc : Thread Cert.MemORefIdeal.nD Cert.MemORefIdeal.τ).loc Cert.MemORefIdeal.main_arg1)
      ∧ r.2.mem ((c.tc : Thread Cert.MemORefIdeal.nD Cert.MemORefIdeal.τ).loc Cert.MemORefIdeal.main_arg2) = m ((c.tc : Thread Cert.MemORefIdeal.nD Cert.MemORefIdeal.τ).loc Cert.MemORefIdeal.main_arg2))
      ∧ r.2.sem = fun _ => 0)

def quiescent_MemT [hMemT : Cert.MemT.Facts] : Prop :=
  ∀ (m : (ℓ : Loc Cert.MemT.nD Cert.MemT.τ Cert.MemT.sig) → Buf (Elt Bits) ℓ) (g : Dev Cert.MemT.nD → PrngReg), Pre_MemT m →
    θ_run (Cert.MemT.defs (F := Bits)) (onTc (τ := Cert.MemT.τ) (Cert.MemT.main (F := Bits))) ⟨m, fun _ => 0, g⟩ (fun r => (∀ c : Dev Cert.MemT.nD,
      r.2.mem ((c.tc : Thread Cert.MemT.nD Cert.MemT.τ).loc Cert.MemT.main_arg0) = m ((c.tc : Thread Cert.MemT.nD Cert.MemT.τ).loc Cert.MemT.main_arg0)
      ∧ r.2.mem ((c.tc : Thread Cert.MemT.nD Cert.MemT.τ).loc Cert.MemT.main_arg1) = m ((c.tc : Thread Cert.MemT.nD Cert.MemT.τ).loc Cert.MemT.main_arg1))
      ∧ r.2.sem = fun _ => 0)

def quiescent_MemTIdeal [hMemTIdeal : Cert.MemTIdeal.Facts] : Prop :=
  ∀ (m : (ℓ : Loc Cert.MemTIdeal.nD Cert.MemTIdeal.τ Cert.MemTIdeal.sig) → Buf (Elt Ideal) ℓ) (g : Dev Cert.MemTIdeal.nD → PrngReg), Pre_MemTIdeal m →
    θ_run (Cert.MemTIdeal.defs (F := Ideal)) (onTc (τ := Cert.MemTIdeal.τ) (Cert.MemTIdeal.main (F := Ideal))) ⟨m, fun _ => 0, g⟩ (fun r => (∀ c : Dev Cert.MemTIdeal.nD,
      r.2.mem ((c.tc : Thread Cert.MemTIdeal.nD Cert.MemTIdeal.τ).loc Cert.MemTIdeal.main_arg0) = m ((c.tc : Thread Cert.MemTIdeal.nD Cert.MemTIdeal.τ).loc Cert.MemTIdeal.main_arg0)
      ∧ r.2.mem ((c.tc : Thread Cert.MemTIdeal.nD Cert.MemTIdeal.τ).loc Cert.MemTIdeal.main_arg1) = m ((c.tc : Thread Cert.MemTIdeal.nD Cert.MemTIdeal.τ).loc Cert.MemTIdeal.main_arg1))
      ∧ r.2.sem = fun _ => 0)

def quiescent_MemTRefIdeal [hMemTRefIdeal : Cert.MemTRefIdeal.Facts] : Prop :=
  ∀ (m : (ℓ : Loc Cert.MemTRefIdeal.nD Cert.MemTRefIdeal.τ Cert.MemTRefIdeal.sig) → Buf (Elt Ideal) ℓ) (g : Dev Cert.MemTRefIdeal.nD → PrngReg), Pre_MemTRefIdeal m →
    θ_run (Cert.MemTRefIdeal.defs (F := Ideal)) (onTc (τ := Cert.MemTRefIdeal.τ) (Cert.MemTRefIdeal.main (F := Ideal))) ⟨m, fun _ => 0, g⟩ (fun r => (∀ c : Dev Cert.MemTRefIdeal.nD,
      r.2.mem ((c.tc : Thread Cert.MemTRefIdeal.nD Cert.MemTRefIdeal.τ).loc Cert.MemTRefIdeal.main_arg0) = m ((c.tc : Thread Cert.MemTRefIdeal.nD Cert.MemTRefIdeal.τ).loc Cert.MemTRefIdeal.main_arg0)
      ∧ r.2.mem ((c.tc : Thread Cert.MemTRefIdeal.nD Cert.MemTRefIdeal.τ).loc Cert.MemTRefIdeal.main_arg1) = m ((c.tc : Thread Cert.MemTRefIdeal.nD Cert.MemTRefIdeal.τ).loc Cert.MemTRefIdeal.main_arg1))
      ∧ r.2.sem = fun _ => 0)

def quiescent_MemTn [hMemTn : Cert.MemTn.Facts] : Prop :=
  ∀ (m : (ℓ : Loc Cert.MemTn.nD Cert.MemTn.τ Cert.MemTn.sig) → Buf (Elt Bits) ℓ) (g : Dev Cert.MemTn.nD → PrngReg), Pre_MemTn m →
    θ_run (Cert.MemTn.defs (F := Bits)) (onTc (τ := Cert.MemTn.τ) (Cert.MemTn.main (F := Bits))) ⟨m, fun _ => 0, g⟩ (fun r => (∀ c : Dev Cert.MemTn.nD,
      r.2.mem ((c.tc : Thread Cert.MemTn.nD Cert.MemTn.τ).loc Cert.MemTn.main_arg0) = m ((c.tc : Thread Cert.MemTn.nD Cert.MemTn.τ).loc Cert.MemTn.main_arg0)
      ∧ r.2.mem ((c.tc : Thread Cert.MemTn.nD Cert.MemTn.τ).loc Cert.MemTn.main_arg1) = m ((c.tc : Thread Cert.MemTn.nD Cert.MemTn.τ).loc Cert.MemTn.main_arg1))
      ∧ r.2.sem = fun _ => 0)

def quiescent_MemTnIdeal [hMemTnIdeal : Cert.MemTnIdeal.Facts] : Prop :=
  ∀ (m : (ℓ : Loc Cert.MemTnIdeal.nD Cert.MemTnIdeal.τ Cert.MemTnIdeal.sig) → Buf (Elt Ideal) ℓ) (g : Dev Cert.MemTnIdeal.nD → PrngReg), Pre_MemTnIdeal m →
    θ_run (Cert.MemTnIdeal.defs (F := Ideal)) (onTc (τ := Cert.MemTnIdeal.τ) (Cert.MemTnIdeal.main (F := Ideal))) ⟨m, fun _ => 0, g⟩ (fun r => (∀ c : Dev Cert.MemTnIdeal.nD,
      r.2.mem ((c.tc : Thread Cert.MemTnIdeal.nD Cert.MemTnIdeal.τ).loc Cert.MemTnIdeal.main_arg0) = m ((c.tc : Thread Cert.MemTnIdeal.nD Cert.MemTnIdeal.τ).loc Cert.MemTnIdeal.main_arg0)
      ∧ r.2.mem ((c.tc : Thread Cert.MemTnIdeal.nD Cert.MemTnIdeal.τ).loc Cert.MemTnIdeal.main_arg1) = m ((c.tc : Thread Cert.MemTnIdeal.nD Cert.MemTnIdeal.τ).loc Cert.MemTnIdeal.main_arg1))
      ∧ r.2.sem = fun _ => 0)

def quiescent_MemTnRefIdeal [hMemTnRefIdeal : Cert.MemTnRefIdeal.Facts] : Prop :=
  ∀ (m : (ℓ : Loc Cert.MemTnRefIdeal.nD Cert.MemTnRefIdeal.τ Cert.MemTnRefIdeal.sig) → Buf (Elt Ideal) ℓ) (g : Dev Cert.MemTnRefIdeal.nD → PrngReg), Pre_MemTnRefIdeal m →
    θ_run (Cert.MemTnRefIdeal.defs (F := Ideal)) (onTc (τ := Cert.MemTnRefIdeal.τ) (Cert.MemTnRefIdeal.main (F := Ideal))) ⟨m, fun _ => 0, g⟩ (fun r => (∀ c : Dev Cert.MemTnRefIdeal.nD,
      r.2.mem ((c.tc : Thread Cert.MemTnRefIdeal.nD Cert.MemTnRefIdeal.τ).loc Cert.MemTnRefIdeal.main_arg0) = m ((c.tc : Thread Cert.MemTnRefIdeal.nD Cert.MemTnRefIdeal.τ).loc Cert.MemTnRefIdeal.main_arg0)
      ∧ r.2.mem ((c.tc : Thread Cert.MemTnRefIdeal.nD Cert.MemTnRefIdeal.τ).loc Cert.MemTnRefIdeal.main_arg1) = m ((c.tc : Thread Cert.MemTnRefIdeal.nD Cert.MemTnRefIdeal.τ).loc Cert.MemTnRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixInT [hMixInT : Cert.MixInT.Facts] : Prop :=
  ∀ (m : (ℓ : Loc Cert.MixInT.nD Cert.MixInT.τ Cert.MixInT.sig) → Buf (Elt Bits) ℓ) (g : Dev Cert.MixInT.nD → PrngReg), Pre_MixInT m →
    θ_run (Cert.MixInT.defs (F := Bits)) (onTc (τ := Cert.MixInT.τ) (Cert.MixInT.main (F := Bits))) ⟨m, fun _ => 0, g⟩ (fun r => (∀ c : Dev Cert.MixInT.nD,
      r.2.mem ((c.tc : Thread Cert.MixInT.nD Cert.MixInT.τ).loc Cert.MixInT.main_arg0) = m ((c.tc : Thread Cert.MixInT.nD Cert.MixInT.τ).loc Cert.MixInT.main_arg0)
      ∧ r.2.mem ((c.tc : Thread Cert.MixInT.nD Cert.MixInT.τ).loc Cert.MixInT.main_arg1) = m ((c.tc : Thread Cert.MixInT.nD Cert.MixInT.τ).loc Cert.MixInT.main_arg1))
      ∧ r.2.sem = fun _ => 0)

def quiescent_MixInTIdeal [hMixInTIdeal : Cert.MixInTIdeal.Facts] : Prop :=
  ∀ (m : (ℓ : Loc Cert.MixInTIdeal.nD Cert.MixInTIdeal.τ Cert.MixInTIdeal.sig) → Buf (Elt Ideal) ℓ) (g : Dev Cert.MixInTIdeal.nD → PrngReg), Pre_MixInTIdeal m →
    θ_run (Cert.MixInTIdeal.defs (F := Ideal)) (onTc (τ := Cert.MixInTIdeal.τ) (Cert.MixInTIdeal.main (F := Ideal))) ⟨m, fun _ => 0, g⟩ (fun r => (∀ c : Dev Cert.MixInTIdeal.nD,
      r.2.mem ((c.tc : Thread Cert.MixInTIdeal.nD Cert.MixInTIdeal.τ).loc Cert.MixInTIdeal.main_arg0) = m ((c.tc : Thread Cert.MixInTIdeal.nD Cert.MixInTIdeal.τ).loc Cert.MixInTIdeal.main_arg0)
      ∧ r.2.mem ((c.tc : Thread Cert.MixInTIdeal.nD Cert.MixInTIdeal.τ).loc Cert.MixInTIdeal.main_arg1) = m ((c.tc : Thread Cert.MixInTIdeal.nD Cert.MixInTIdeal.τ).loc Cert.MixInTIdeal.main_arg1))
      ∧ r.2.sem = fun _ => 0)

def quiescent_MixInTRefIdeal [hMixInTRefIdeal : Cert.MixInTRefIdeal.Facts] : Prop :=
  ∀ (m : (ℓ : Loc Cert.MixInTRefIdeal.nD Cert.MixInTRefIdeal.τ Cert.MixInTRefIdeal.sig) → Buf (Elt Ideal) ℓ) (g : Dev Cert.MixInTRefIdeal.nD → PrngReg), Pre_MixInTRefIdeal m →
    θ_run (Cert.MixInTRefIdeal.defs (F := Ideal)) (onTc (τ := Cert.MixInTRefIdeal.τ) (Cert.MixInTRefIdeal.main (F := Ideal))) ⟨m, fun _ => 0, g⟩ (fun r => (∀ c : Dev Cert.MixInTRefIdeal.nD,
      r.2.mem ((c.tc : Thread Cert.MixInTRefIdeal.nD Cert.MixInTRefIdeal.τ).loc Cert.MixInTRefIdeal.main_arg0) = m ((c.tc : Thread Cert.MixInTRefIdeal.nD Cert.MixInTRefIdeal.τ).loc Cert.MixInTRefIdeal.main_arg0)
      ∧ r.2.mem ((c.tc : Thread Cert.MixInTRefIdeal.nD Cert.MixInTRefIdeal.τ).loc Cert.MixInTRefIdeal.main_arg1) = m ((c.tc : Thread Cert.MixInTRefIdeal.nD Cert.MixInTRefIdeal.τ).loc Cert.MixInTRefIdeal.main_arg1))
      ∧ r.2.sem = fun _ => 0)

def quiescent_MixInTn [hMixInTn : Cert.MixInTn.Facts] : Prop :=
  ∀ (m : (ℓ : Loc Cert.MixInTn.nD Cert.MixInTn.τ Cert.MixInTn.sig) → Buf (Elt Bits) ℓ) (g : Dev Cert.MixInTn.nD → PrngReg), Pre_MixInTn m →
    θ_run (Cert.MixInTn.defs (F := Bits)) (onTc (τ := Cert.MixInTn.τ) (Cert.MixInTn.main (F := Bits))) ⟨m, fun _ => 0, g⟩ (fun r => (∀ c : Dev Cert.MixInTn.nD,
      r.2.mem ((c.tc : Thread Cert.MixInTn.nD Cert.MixInTn.τ).loc Cert.MixInTn.main_arg0) = m ((c.tc : Thread Cert.MixInTn.nD Cert.MixInTn.τ).loc Cert.MixInTn.main_arg0)
      ∧ r.2.mem ((c.tc : Thread Cert.MixInTn.nD Cert.MixInTn.τ).loc Cert.MixInTn.main_arg1) = m ((c.tc : Thread Cert.MixInTn.nD Cert.MixInTn.τ).loc Cert.MixInTn.main_arg1))
      ∧ r.2.sem = fun _ => 0)

def quiescent_MixInTnIdeal [hMixInTnIdeal : Cert.MixInTnIdeal.Facts] : Prop :=
  ∀ (m : (ℓ : Loc Cert.MixInTnIdeal.nD Cert.MixInTnIdeal.τ Cert.MixInTnIdeal.sig) → Buf (Elt Ideal) ℓ) (g : Dev Cert.MixInTnIdeal.nD → PrngReg), Pre_MixInTnIdeal m →
    θ_run (Cert.MixInTnIdeal.defs (F := Ideal)) (onTc (τ := Cert.MixInTnIdeal.τ) (Cert.MixInTnIdeal.main (F := Ideal))) ⟨m, fun _ => 0, g⟩ (fun r => (∀ c : Dev Cert.MixInTnIdeal.nD,
      r.2.mem ((c.tc : Thread Cert.MixInTnIdeal.nD Cert.MixInTnIdeal.τ).loc Cert.MixInTnIdeal.main_arg0) = m ((c.tc : Thread Cert.MixInTnIdeal.nD Cert.MixInTnIdeal.τ).loc Cert.MixInTnIdeal.main_arg0)
      ∧ r.2.mem ((c.tc : Thread Cert.MixInTnIdeal.nD Cert.MixInTnIdeal.τ).loc Cert.MixInTnIdeal.main_arg1) = m ((c.tc : Thread Cert.MixInTnIdeal.nD Cert.MixInTnIdeal.τ).loc Cert.MixInTnIdeal.main_arg1))
      ∧ r.2.sem = fun _ => 0)

def quiescent_MixInTnRefIdeal [hMixInTnRefIdeal : Cert.MixInTnRefIdeal.Facts] : Prop :=
  ∀ (m : (ℓ : Loc Cert.MixInTnRefIdeal.nD Cert.MixInTnRefIdeal.τ Cert.MixInTnRefIdeal.sig) → Buf (Elt Ideal) ℓ) (g : Dev Cert.MixInTnRefIdeal.nD → PrngReg), Pre_MixInTnRefIdeal m →
    θ_run (Cert.MixInTnRefIdeal.defs (F := Ideal)) (onTc (τ := Cert.MixInTnRefIdeal.τ) (Cert.MixInTnRefIdeal.main (F := Ideal))) ⟨m, fun _ => 0, g⟩ (fun r => (∀ c : Dev Cert.MixInTnRefIdeal.nD,
      r.2.mem ((c.tc : Thread Cert.MixInTnRefIdeal.nD Cert.MixInTnRefIdeal.τ).loc Cert.MixInTnRefIdeal.main_arg0) = m ((c.tc : Thread Cert.MixInTnRefIdeal.nD Cert.MixInTnRefIdeal.τ).loc Cert.MixInTnRefIdeal.main_arg0)
      ∧ r.2.mem ((c.tc : Thread Cert.MixInTnRefIdeal.nD Cert.MixInTnRefIdeal.τ).loc Cert.MixInTnRefIdeal.main_arg1) = m ((c.tc : Thread Cert.MixInTnRefIdeal.nD Cert.MixInTnRefIdeal.τ).loc Cert.MixInTnRefIdeal.main_arg1))
      ∧ r.2.sem = fun _ => 0)

def quiescent_OutU [hOutU : Cert.OutU.Facts] : Prop :=
  ∀ (m : (ℓ : Loc Cert.OutU.nD Cert.OutU.τ Cert.OutU.sig) → Buf (Elt Bits) ℓ) (g : Dev Cert.OutU.nD → PrngReg), Pre_OutU m →
    θ_run (Cert.OutU.defs (F := Bits)) (onTc (τ := Cert.OutU.τ) (Cert.OutU.main (F := Bits))) ⟨m, fun _ => 0, g⟩ (fun r => (∀ c : Dev Cert.OutU.nD,
      r.2.mem ((c.tc : Thread Cert.OutU.nD Cert.OutU.τ).loc Cert.OutU.main_arg0) = m ((c.tc : Thread Cert.OutU.nD Cert.OutU.τ).loc Cert.OutU.main_arg0)
      ∧ r.2.mem ((c.tc : Thread Cert.OutU.nD Cert.OutU.τ).loc Cert.OutU.main_arg1) = m ((c.tc : Thread Cert.OutU.nD Cert.OutU.τ).loc Cert.OutU.main_arg1)
      ∧ r.2.mem ((c.tc : Thread Cert.OutU.nD Cert.OutU.τ).loc Cert.OutU.main_arg2) = m ((c.tc : Thread Cert.OutU.nD Cert.OutU.τ).loc Cert.OutU.main_arg2))
      ∧ r.2.sem = fun _ => 0)

def quiescent_OutUIdeal [hOutUIdeal : Cert.OutUIdeal.Facts] : Prop :=
  ∀ (m : (ℓ : Loc Cert.OutUIdeal.nD Cert.OutUIdeal.τ Cert.OutUIdeal.sig) → Buf (Elt Ideal) ℓ) (g : Dev Cert.OutUIdeal.nD → PrngReg), Pre_OutUIdeal m →
    θ_run (Cert.OutUIdeal.defs (F := Ideal)) (onTc (τ := Cert.OutUIdeal.τ) (Cert.OutUIdeal.main (F := Ideal))) ⟨m, fun _ => 0, g⟩ (fun r => (∀ c : Dev Cert.OutUIdeal.nD,
      r.2.mem ((c.tc : Thread Cert.OutUIdeal.nD Cert.OutUIdeal.τ).loc Cert.OutUIdeal.main_arg0) = m ((c.tc : Thread Cert.OutUIdeal.nD Cert.OutUIdeal.τ).loc Cert.OutUIdeal.main_arg0)
      ∧ r.2.mem ((c.tc : Thread Cert.OutUIdeal.nD Cert.OutUIdeal.τ).loc Cert.OutUIdeal.main_arg1) = m ((c.tc : Thread Cert.OutUIdeal.nD Cert.OutUIdeal.τ).loc Cert.OutUIdeal.main_arg1)
      ∧ r.2.mem ((c.tc : Thread Cert.OutUIdeal.nD Cert.OutUIdeal.τ).loc Cert.OutUIdeal.main_arg2) = m ((c.tc : Thread Cert.OutUIdeal.nD Cert.OutUIdeal.τ).loc Cert.OutUIdeal.main_arg2))
      ∧ r.2.sem = fun _ => 0)

def quiescent_OutURefIdeal [hOutURefIdeal : Cert.OutURefIdeal.Facts] : Prop :=
  ∀ (m : (ℓ : Loc Cert.OutURefIdeal.nD Cert.OutURefIdeal.τ Cert.OutURefIdeal.sig) → Buf (Elt Ideal) ℓ) (g : Dev Cert.OutURefIdeal.nD → PrngReg), Pre_OutURefIdeal m →
    θ_run (Cert.OutURefIdeal.defs (F := Ideal)) (onTc (τ := Cert.OutURefIdeal.τ) (Cert.OutURefIdeal.main (F := Ideal))) ⟨m, fun _ => 0, g⟩ (fun r => (∀ c : Dev Cert.OutURefIdeal.nD,
      r.2.mem ((c.tc : Thread Cert.OutURefIdeal.nD Cert.OutURefIdeal.τ).loc Cert.OutURefIdeal.main_arg0) = m ((c.tc : Thread Cert.OutURefIdeal.nD Cert.OutURefIdeal.τ).loc Cert.OutURefIdeal.main_arg0)
      ∧ r.2.mem ((c.tc : Thread Cert.OutURefIdeal.nD Cert.OutURefIdeal.τ).loc Cert.OutURefIdeal.main_arg1) = m ((c.tc : Thread Cert.OutURefIdeal.nD Cert.OutURefIdeal.τ).loc Cert.OutURefIdeal.main_arg1)
      ∧ r.2.mem ((c.tc : Thread Cert.OutURefIdeal.nD Cert.OutURefIdeal.τ).loc Cert.OutURefIdeal.main_arg2) = m ((c.tc : Thread Cert.OutURefIdeal.nD Cert.OutURefIdeal.τ).loc Cert.OutURefIdeal.main_arg2))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2))
      ∧ r.2.sem = fun _ => 0)

def quiescent_OutUT [hOutUT : Cert.OutUT.Facts] : Prop :=
  ∀ (m : (ℓ : Loc Cert.OutUT.nD Cert.OutUT.τ Cert.OutUT.sig) → Buf (Elt Bits) ℓ) (g : Dev Cert.OutUT.nD → PrngReg), Pre_OutUT m →
    θ_run (Cert.OutUT.defs (F := Bits)) (onTc (τ := Cert.OutUT.τ) (Cert.OutUT.main (F := Bits))) ⟨m, fun _ => 0, g⟩ (fun r => (∀ c : Dev Cert.OutUT.nD,
      r.2.mem ((c.tc : Thread Cert.OutUT.nD Cert.OutUT.τ).loc Cert.OutUT.main_arg0) = m ((c.tc : Thread Cert.OutUT.nD Cert.OutUT.τ).loc Cert.OutUT.main_arg0)
      ∧ r.2.mem ((c.tc : Thread Cert.OutUT.nD Cert.OutUT.τ).loc Cert.OutUT.main_arg1) = m ((c.tc : Thread Cert.OutUT.nD Cert.OutUT.τ).loc Cert.OutUT.main_arg1))
      ∧ r.2.sem = fun _ => 0)

def quiescent_OutUTIdeal [hOutUTIdeal : Cert.OutUTIdeal.Facts] : Prop :=
  ∀ (m : (ℓ : Loc Cert.OutUTIdeal.nD Cert.OutUTIdeal.τ Cert.OutUTIdeal.sig) → Buf (Elt Ideal) ℓ) (g : Dev Cert.OutUTIdeal.nD → PrngReg), Pre_OutUTIdeal m →
    θ_run (Cert.OutUTIdeal.defs (F := Ideal)) (onTc (τ := Cert.OutUTIdeal.τ) (Cert.OutUTIdeal.main (F := Ideal))) ⟨m, fun _ => 0, g⟩ (fun r => (∀ c : Dev Cert.OutUTIdeal.nD,
      r.2.mem ((c.tc : Thread Cert.OutUTIdeal.nD Cert.OutUTIdeal.τ).loc Cert.OutUTIdeal.main_arg0) = m ((c.tc : Thread Cert.OutUTIdeal.nD Cert.OutUTIdeal.τ).loc Cert.OutUTIdeal.main_arg0)
      ∧ r.2.mem ((c.tc : Thread Cert.OutUTIdeal.nD Cert.OutUTIdeal.τ).loc Cert.OutUTIdeal.main_arg1) = m ((c.tc : Thread Cert.OutUTIdeal.nD Cert.OutUTIdeal.τ).loc Cert.OutUTIdeal.main_arg1))
      ∧ r.2.sem = fun _ => 0)

def quiescent_OutUTRefIdeal [hOutUTRefIdeal : Cert.OutUTRefIdeal.Facts] : Prop :=
  ∀ (m : (ℓ : Loc Cert.OutUTRefIdeal.nD Cert.OutUTRefIdeal.τ Cert.OutUTRefIdeal.sig) → Buf (Elt Ideal) ℓ) (g : Dev Cert.OutUTRefIdeal.nD → PrngReg), Pre_OutUTRefIdeal m →
    θ_run (Cert.OutUTRefIdeal.defs (F := Ideal)) (onTc (τ := Cert.OutUTRefIdeal.τ) (Cert.OutUTRefIdeal.main (F := Ideal))) ⟨m, fun _ => 0, g⟩ (fun r => (∀ c : Dev Cert.OutUTRefIdeal.nD,
      r.2.mem ((c.tc : Thread Cert.OutUTRefIdeal.nD Cert.OutUTRefIdeal.τ).loc Cert.OutUTRefIdeal.main_arg0) = m ((c.tc : Thread Cert.OutUTRefIdeal.nD Cert.OutUTRefIdeal.τ).loc Cert.OutUTRefIdeal.main_arg0)
      ∧ r.2.mem ((c.tc : Thread Cert.OutUTRefIdeal.nD Cert.OutUTRefIdeal.τ).loc Cert.OutUTRefIdeal.main_arg1) = m ((c.tc : Thread Cert.OutUTRefIdeal.nD Cert.OutUTRefIdeal.τ).loc Cert.OutUTRefIdeal.main_arg1))
      ∧ r.2.sem = fun _ => 0)

def quiescent_OutAT [hOutAT : Cert.OutAT.Facts] : Prop :=
  ∀ (m : (ℓ : Loc Cert.OutAT.nD Cert.OutAT.τ Cert.OutAT.sig) → Buf (Elt Bits) ℓ) (g : Dev Cert.OutAT.nD → PrngReg), Pre_OutAT m →
    θ_run (Cert.OutAT.defs (F := Bits)) (onTc (τ := Cert.OutAT.τ) (Cert.OutAT.main (F := Bits))) ⟨m, fun _ => 0, g⟩ (fun r => (∀ c : Dev Cert.OutAT.nD,
      r.2.mem ((c.tc : Thread Cert.OutAT.nD Cert.OutAT.τ).loc Cert.OutAT.main_arg0) = m ((c.tc : Thread Cert.OutAT.nD Cert.OutAT.τ).loc Cert.OutAT.main_arg0)
      ∧ r.2.mem ((c.tc : Thread Cert.OutAT.nD Cert.OutAT.τ).loc Cert.OutAT.main_arg1) = m ((c.tc : Thread Cert.OutAT.nD Cert.OutAT.τ).loc Cert.OutAT.main_arg1))
      ∧ r.2.sem = fun _ => 0)

def quiescent_OutATIdeal [hOutATIdeal : Cert.OutATIdeal.Facts] : Prop :=
  ∀ (m : (ℓ : Loc Cert.OutATIdeal.nD Cert.OutATIdeal.τ Cert.OutATIdeal.sig) → Buf (Elt Ideal) ℓ) (g : Dev Cert.OutATIdeal.nD → PrngReg), Pre_OutATIdeal m →
    θ_run (Cert.OutATIdeal.defs (F := Ideal)) (onTc (τ := Cert.OutATIdeal.τ) (Cert.OutATIdeal.main (F := Ideal))) ⟨m, fun _ => 0, g⟩ (fun r => (∀ c : Dev Cert.OutATIdeal.nD,
      r.2.mem ((c.tc : Thread Cert.OutATIdeal.nD Cert.OutATIdeal.τ).loc Cert.OutATIdeal.main_arg0) = m ((c.tc : Thread Cert.OutATIdeal.nD Cert.OutATIdeal.τ).loc Cert.OutATIdeal.main_arg0)
      ∧ r.2.mem ((c.tc : Thread Cert.OutATIdeal.nD Cert.OutATIdeal.τ).loc Cert.OutATIdeal.main_arg1) = m ((c.tc : Thread Cert.OutATIdeal.nD Cert.OutATIdeal.τ).loc Cert.OutATIdeal.main_arg1))
      ∧ r.2.sem = fun _ => 0)

def quiescent_OutATRefIdeal [hOutATRefIdeal : Cert.OutATRefIdeal.Facts] : Prop :=
  ∀ (m : (ℓ : Loc Cert.OutATRefIdeal.nD Cert.OutATRefIdeal.τ Cert.OutATRefIdeal.sig) → Buf (Elt Ideal) ℓ) (g : Dev Cert.OutATRefIdeal.nD → PrngReg), Pre_OutATRefIdeal m →
    θ_run (Cert.OutATRefIdeal.defs (F := Ideal)) (onTc (τ := Cert.OutATRefIdeal.τ) (Cert.OutATRefIdeal.main (F := Ideal))) ⟨m, fun _ => 0, g⟩ (fun r => (∀ c : Dev Cert.OutATRefIdeal.nD,
      r.2.mem ((c.tc : Thread Cert.OutATRefIdeal.nD Cert.OutATRefIdeal.τ).loc Cert.OutATRefIdeal.main_arg0) = m ((c.tc : Thread Cert.OutATRefIdeal.nD Cert.OutATRefIdeal.τ).loc Cert.OutATRefIdeal.main_arg0)
      ∧ r.2.mem ((c.tc : Thread Cert.OutATRefIdeal.nD Cert.OutATRefIdeal.τ).loc Cert.OutATRefIdeal.main_arg1) = m ((c.tc : Thread Cert.OutATRefIdeal.nD Cert.OutATRefIdeal.τ).loc Cert.OutATRefIdeal.main_arg1))
      ∧ r.2.sem = fun _ => 0)

def quiescent_OutUTn [hOutUTn : Cert.OutUTn.Facts] : Prop :=
  ∀ (m : (ℓ : Loc Cert.OutUTn.nD Cert.OutUTn.τ Cert.OutUTn.sig) → Buf (Elt Bits) ℓ) (g : Dev Cert.OutUTn.nD → PrngReg), Pre_OutUTn m →
    θ_run (Cert.OutUTn.defs (F := Bits)) (onTc (τ := Cert.OutUTn.τ) (Cert.OutUTn.main (F := Bits))) ⟨m, fun _ => 0, g⟩ (fun r => (∀ c : Dev Cert.OutUTn.nD,
      r.2.mem ((c.tc : Thread Cert.OutUTn.nD Cert.OutUTn.τ).loc Cert.OutUTn.main_arg0) = m ((c.tc : Thread Cert.OutUTn.nD Cert.OutUTn.τ).loc Cert.OutUTn.main_arg0)
      ∧ r.2.mem ((c.tc : Thread Cert.OutUTn.nD Cert.OutUTn.τ).loc Cert.OutUTn.main_arg1) = m ((c.tc : Thread Cert.OutUTn.nD Cert.OutUTn.τ).loc Cert.OutUTn.main_arg1))
      ∧ r.2.sem = fun _ => 0)

def quiescent_OutUTnIdeal [hOutUTnIdeal : Cert.OutUTnIdeal.Facts] : Prop :=
  ∀ (m : (ℓ : Loc Cert.OutUTnIdeal.nD Cert.OutUTnIdeal.τ Cert.OutUTnIdeal.sig) → Buf (Elt Ideal) ℓ) (g : Dev Cert.OutUTnIdeal.nD → PrngReg), Pre_OutUTnIdeal m →
    θ_run (Cert.OutUTnIdeal.defs (F := Ideal)) (onTc (τ := Cert.OutUTnIdeal.τ) (Cert.OutUTnIdeal.main (F := Ideal))) ⟨m, fun _ => 0, g⟩ (fun r => (∀ c : Dev Cert.OutUTnIdeal.nD,
      r.2.mem ((c.tc : Thread Cert.OutUTnIdeal.nD Cert.OutUTnIdeal.τ).loc Cert.OutUTnIdeal.main_arg0) = m ((c.tc : Thread Cert.OutUTnIdeal.nD Cert.OutUTnIdeal.τ).loc Cert.OutUTnIdeal.main_arg0)
      ∧ r.2.mem ((c.tc : Thread Cert.OutUTnIdeal.nD Cert.OutUTnIdeal.τ).loc Cert.OutUTnIdeal.main_arg1) = m ((c.tc : Thread Cert.OutUTnIdeal.nD Cert.OutUTnIdeal.τ).loc Cert.OutUTnIdeal.main_arg1))
      ∧ r.2.sem = fun _ => 0)

def quiescent_OutUTnRefIdeal [hOutUTnRefIdeal : Cert.OutUTnRefIdeal.Facts] : Prop :=
  ∀ (m : (ℓ : Loc Cert.OutUTnRefIdeal.nD Cert.OutUTnRefIdeal.τ Cert.OutUTnRefIdeal.sig) → Buf (Elt Ideal) ℓ) (g : Dev Cert.OutUTnRefIdeal.nD → PrngReg), Pre_OutUTnRefIdeal m →
    θ_run (Cert.OutUTnRefIdeal.defs (F := Ideal)) (onTc (τ := Cert.OutUTnRefIdeal.τ) (Cert.OutUTnRefIdeal.main (F := Ideal))) ⟨m, fun _ => 0, g⟩ (fun r => (∀ c : Dev Cert.OutUTnRefIdeal.nD,
      r.2.mem ((c.tc : Thread Cert.OutUTnRefIdeal.nD Cert.OutUTnRefIdeal.τ).loc Cert.OutUTnRefIdeal.main_arg0) = m ((c.tc : Thread Cert.OutUTnRefIdeal.nD Cert.OutUTnRefIdeal.τ).loc Cert.OutUTnRefIdeal.main_arg0)
      ∧ r.2.mem ((c.tc : Thread Cert.OutUTnRefIdeal.nD Cert.OutUTnRefIdeal.τ).loc Cert.OutUTnRefIdeal.main_arg1) = m ((c.tc : Thread Cert.OutUTnRefIdeal.nD Cert.OutUTnRefIdeal.τ).loc Cert.OutUTnRefIdeal.main_arg1))
      ∧ r.2.sem = fun _ => 0)

def quiescent_OutATn [hOutATn : Cert.OutATn.Facts] : Prop :=
  ∀ (m : (ℓ : Loc Cert.OutATn.nD Cert.OutATn.τ Cert.OutATn.sig) → Buf (Elt Bits) ℓ) (g : Dev Cert.OutATn.nD → PrngReg), Pre_OutATn m →
    θ_run (Cert.OutATn.defs (F := Bits)) (onTc (τ := Cert.OutATn.τ) (Cert.OutATn.main (F := Bits))) ⟨m, fun _ => 0, g⟩ (fun r => (∀ c : Dev Cert.OutATn.nD,
      r.2.mem ((c.tc : Thread Cert.OutATn.nD Cert.OutATn.τ).loc Cert.OutATn.main_arg0) = m ((c.tc : Thread Cert.OutATn.nD Cert.OutATn.τ).loc Cert.OutATn.main_arg0)
      ∧ r.2.mem ((c.tc : Thread Cert.OutATn.nD Cert.OutATn.τ).loc Cert.OutATn.main_arg1) = m ((c.tc : Thread Cert.OutATn.nD Cert.OutATn.τ).loc Cert.OutATn.main_arg1))
      ∧ r.2.sem = fun _ => 0)

def quiescent_OutATnIdeal [hOutATnIdeal : Cert.OutATnIdeal.Facts] : Prop :=
  ∀ (m : (ℓ : Loc Cert.OutATnIdeal.nD Cert.OutATnIdeal.τ Cert.OutATnIdeal.sig) → Buf (Elt Ideal) ℓ) (g : Dev Cert.OutATnIdeal.nD → PrngReg), Pre_OutATnIdeal m →
    θ_run (Cert.OutATnIdeal.defs (F := Ideal)) (onTc (τ := Cert.OutATnIdeal.τ) (Cert.OutATnIdeal.main (F := Ideal))) ⟨m, fun _ => 0, g⟩ (fun r => (∀ c : Dev Cert.OutATnIdeal.nD,
      r.2.mem ((c.tc : Thread Cert.OutATnIdeal.nD Cert.OutATnIdeal.τ).loc Cert.OutATnIdeal.main_arg0) = m ((c.tc : Thread Cert.OutATnIdeal.nD Cert.OutATnIdeal.τ).loc Cert.OutATnIdeal.main_arg0)
      ∧ r.2.mem ((c.tc : Thread Cert.OutATnIdeal.nD Cert.OutATnIdeal.τ).loc Cert.OutATnIdeal.main_arg1) = m ((c.tc : Thread Cert.OutATnIdeal.nD Cert.OutATnIdeal.τ).loc Cert.OutATnIdeal.main_arg1))
      ∧ r.2.sem = fun _ => 0)

def quiescent_OutATnRefIdeal [hOutATnRefIdeal : Cert.OutATnRefIdeal.Facts] : Prop :=
  ∀ (m : (ℓ : Loc Cert.OutATnRefIdeal.nD Cert.OutATnRefIdeal.τ Cert.OutATnRefIdeal.sig) → Buf (Elt Ideal) ℓ) (g : Dev Cert.OutATnRefIdeal.nD → PrngReg), Pre_OutATnRefIdeal m →
    θ_run (Cert.OutATnRefIdeal.defs (F := Ideal)) (onTc (τ := Cert.OutATnRefIdeal.τ) (Cert.OutATnRefIdeal.main (F := Ideal))) ⟨m, fun _ => 0, g⟩ (fun r => (∀ c : Dev Cert.OutATnRefIdeal.nD,
      r.2.mem ((c.tc : Thread Cert.OutATnRefIdeal.nD Cert.OutATnRefIdeal.τ).loc Cert.OutATnRefIdeal.main_arg0) = m ((c.tc : Thread Cert.OutATnRefIdeal.nD Cert.OutATnRefIdeal.τ).loc Cert.OutATnRefIdeal.main_arg0)
      ∧ r.2.mem ((c.tc : Thread Cert.OutATnRefIdeal.nD Cert.OutATnRefIdeal.τ).loc Cert.OutATnRefIdeal.main_arg1) = m ((c.tc : Thread Cert.OutATnRefIdeal.nD Cert.OutATnRefIdeal.τ).loc Cert.OutATnRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_entries_finite [hKernelIdeal : Cert.KernelIdeal.Facts] [hReferenceIdeal : Cert.ReferenceIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_entries_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v15_0)) (v3 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v15_0) = v2 c
          ∧ r.2.mem ((c.tc : Thread Cert.KernelIdeal.nD Cert.KernelIdeal.τ).loc Cert.KernelIdeal.main_v15_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpGate_UpGateIdeal : Prop :=
  True

def algebraic_UpGateIdeal_UpGateRefIdeal [hUpGateIdeal : Cert.UpGateIdeal.Facts] [hUpGateRefIdeal : Cert.UpGateRefIdeal.Facts] : Prop :=
  ∀ (m : (ℓ : Loc Cert.UpGateIdeal.nD Cert.UpGateIdeal.τ Cert.UpGateIdeal.sig) → Buf (Elt Ideal) ℓ) (g : Dev Cert.UpGateIdeal.nD → PrngReg)
    (m' : (ℓ : Loc Cert.UpGateRefIdeal.nD Cert.UpGateRefIdeal.τ Cert.UpGateRefIdeal.sig) → Buf (Elt Ideal) ℓ) (g' : Dev Cert.UpGateRefIdeal.nD → PrngReg), Pre_UpGateIdeal m →
    (∀ c : Dev Cert.UpGateIdeal.nD,
      m' ((c.tc : Thread Cert.UpGateRefIdeal.nD Cert.UpGateRefIdeal.τ).loc Cert.UpGateRefIdeal.main_arg0) = m ((c.tc : Thread Cert.UpGateIdeal.nD Cert.UpGateIdeal.τ).loc Cert.UpGateIdeal.main_arg0)
      ∧ m' ((c.tc : Thread Cert.UpGateRefIdeal.nD Cert.UpGateRefIdeal.τ).loc Cert.UpGateRefIdeal.main_arg1) = m ((c.tc : Thread Cert.UpGateIdeal.nD Cert.UpGateIdeal.τ).loc Cert.UpGateIdeal.main_arg1)) →
    ∃ (v0 : (c : Dev Cert.UpGateIdeal.nD) → Buf (Elt Ideal) ((c.tc : Thread Cert.UpGateIdeal.nD Cert.UpGateIdeal.τ).loc Cert.UpGateIdeal.main_v5)),
      θ_run (Cert.UpGateIdeal.defs (F := Ideal)) (onTc (τ := Cert.UpGateIdeal.τ) (Cert.UpGateIdeal.main (F := Ideal))) ⟨m, fun _ => 0, g⟩ (fun r => ∀ c : Dev Cert.UpGateIdeal.nD,
          r.2.mem ((c.tc : Thread Cert.UpGateIdeal.nD Cert.UpGateIdeal.τ).loc Cert.UpGateIdeal.main_v5) = v0 c
          ∧ r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
          ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1))
      ∧ θ_run (Cert.UpGateRefIdeal.defs (F := Ideal)) (onTc (τ := Cert.UpGateRefIdeal.τ) (Cert.UpGateRefIdeal.main (F := Ideal))) ⟨m', fun _ => 0, g'⟩ (fun r => ∀ c : Dev Cert.UpGateRefIdeal.nD,
          r.2.mem ((c.tc : Thread Cert.UpGateRefIdeal.nD Cert.UpGateRefIdeal.τ).loc Cert.UpGateRefIdeal.main_v4) = v0 c
          ∧ r.2.mem ((c.tc : Thread Cert.UpGateRefIdeal.nD Cert.UpGateRefIdeal.τ).loc Cert.UpGateRefIdeal.main_arg0) = m' ((c.tc : Thread Cert.UpGateRefIdeal.nD Cert.UpGateRefIdeal.τ).loc Cert.UpGateRefIdeal.main_arg0)
          ∧ r.2.mem ((c.tc : Thread Cert.UpGateRefIdeal.nD Cert.UpGateRefIdeal.τ).loc Cert.UpGateRefIdeal.main_arg1) = m' ((c.tc : Thread Cert.UpGateRefIdeal.nD Cert.UpGateRefIdeal.τ).loc Cert.UpGateRefIdeal.main_arg1))

def preserves_UpValue_UpValueIdeal : Prop :=
  True

def algebraic_UpValueIdeal_UpValueRefIdeal [hUpValueIdeal : Cert.UpValueIdeal.Facts] [hUpValueRefIdeal : Cert.UpValueRefIdeal.Facts] : Prop :=
  ∀ (m : (ℓ : Loc Cert.UpValueIdeal.nD Cert.UpValueIdeal.τ Cert.UpValueIdeal.sig) → Buf (Elt Ideal) ℓ) (g : Dev Cert.UpValueIdeal.nD → PrngReg)
    (m' : (ℓ : Loc Cert.UpValueRefIdeal.nD Cert.UpValueRefIdeal.τ Cert.UpValueRefIdeal.sig) → Buf (Elt Ideal) ℓ) (g' : Dev Cert.UpValueRefIdeal.nD → PrngReg), Pre_UpValueIdeal m →
    (∀ c : Dev Cert.UpValueIdeal.nD,
      m' ((c.tc : Thread Cert.UpValueRefIdeal.nD Cert.UpValueRefIdeal.τ).loc Cert.UpValueRefIdeal.main_arg0) = m ((c.tc : Thread Cert.UpValueIdeal.nD Cert.UpValueIdeal.τ).loc Cert.UpValueIdeal.main_arg0)
      ∧ m' ((c.tc : Thread Cert.UpValueRefIdeal.nD Cert.UpValueRefIdeal.τ).loc Cert.UpValueRefIdeal.main_arg1) = m ((c.tc : Thread Cert.UpValueIdeal.nD Cert.UpValueIdeal.τ).loc Cert.UpValueIdeal.main_arg1)) →
    ∃ (v0 : (c : Dev Cert.UpValueIdeal.nD) → Buf (Elt Ideal) ((c.tc : Thread Cert.UpValueIdeal.nD Cert.UpValueIdeal.τ).loc Cert.UpValueIdeal.main_v5)),
      θ_run (Cert.UpValueIdeal.defs (F := Ideal)) (onTc (τ := Cert.UpValueIdeal.τ) (Cert.UpValueIdeal.main (F := Ideal))) ⟨m, fun _ => 0, g⟩ (fun r => ∀ c : Dev Cert.UpValueIdeal.nD,
          r.2.mem ((c.tc : Thread Cert.UpValueIdeal.nD Cert.UpValueIdeal.τ).loc Cert.UpValueIdeal.main_v5) = v0 c
          ∧ r.2.mem ((c.tc : Thread Cert.UpValueIdeal.nD Cert.UpValueIdeal.τ).loc Cert.UpValueIdeal.main_arg0) = m ((c.tc : Thread Cert.UpValueIdeal.nD Cert.UpValueIdeal.τ).loc Cert.UpValueIdeal.main_arg0)
          ∧ r.2.mem ((c.tc : Thread Cert.UpValueIdeal.nD Cert.UpValueIdeal.τ).loc Cert.UpValueIdeal.main_arg1) = m ((c.tc : Thread Cert.UpValueIdeal.nD Cert.UpValueIdeal.τ).loc Cert.UpValueIdeal.main_arg1))
      ∧ θ_run (Cert.UpValueRefIdeal.defs (F := Ideal)) (onTc (τ := Cert.UpValueRefIdeal.τ) (Cert.UpValueRefIdeal.main (F := Ideal))) ⟨m', fun _ => 0, g'⟩ (fun r => ∀ c : Dev Cert.UpValueRefIdeal.nD,
          r.2.mem ((c.tc : Thread Cert.UpValueRefIdeal.nD Cert.UpValueRefIdeal.τ).loc Cert.UpValueRefIdeal.main_v4) = v0 c
          ∧ r.2.mem ((c.tc : Thread Cert.UpValueRefIdeal.nD Cert.UpValueRefIdeal.τ).loc Cert.UpValueRefIdeal.main_arg0) = m' ((c.tc : Thread Cert.UpValueRefIdeal.nD Cert.UpValueRefIdeal.τ).loc Cert.UpValueRefIdeal.main_arg0)
          ∧ r.2.mem ((c.tc : Thread Cert.UpValueRefIdeal.nD Cert.UpValueRefIdeal.τ).loc Cert.UpValueRefIdeal.main_arg1) = m' ((c.tc : Thread Cert.UpValueRefIdeal.nD Cert.UpValueRefIdeal.τ).loc Cert.UpValueRefIdeal.main_arg1))

def preserves_UpGateT_UpGateTIdeal : Prop :=
  True

def algebraic_UpGateTIdeal_UpGateTRefIdeal [hUpGateTIdeal : Cert.UpGateTIdeal.Facts] [hUpGateTRefIdeal : Cert.UpGateTRefIdeal.Facts] : Prop :=
  ∀ (m : (ℓ : Loc Cert.UpGateTIdeal.nD Cert.UpGateTIdeal.τ Cert.UpGateTIdeal.sig) → Buf (Elt Ideal) ℓ) (g : Dev Cert.UpGateTIdeal.nD → PrngReg)
    (m' : (ℓ : Loc Cert.UpGateTRefIdeal.nD Cert.UpGateTRefIdeal.τ Cert.UpGateTRefIdeal.sig) → Buf (Elt Ideal) ℓ) (g' : Dev Cert.UpGateTRefIdeal.nD → PrngReg), Pre_UpGateTIdeal m →
    (∀ c : Dev Cert.UpGateTIdeal.nD,
      m' ((c.tc : Thread Cert.UpGateTRefIdeal.nD Cert.UpGateTRefIdeal.τ).loc Cert.UpGateTRefIdeal.main_arg0) = m ((c.tc : Thread Cert.UpGateTIdeal.nD Cert.UpGateTIdeal.τ).loc Cert.UpGateTIdeal.main_arg0)
      ∧ m' ((c.tc : Thread Cert.UpGateTRefIdeal.nD Cert.UpGateTRefIdeal.τ).loc Cert.UpGateTRefIdeal.main_arg1) = m ((c.tc : Thread Cert.UpGateTIdeal.nD Cert.UpGateTIdeal.τ).loc Cert.UpGateTIdeal.main_arg1)) →
    ∃ (v0 : (c : Dev Cert.UpGateTIdeal.nD) → Buf (Elt Ideal) ((c.tc : Thread Cert.UpGateTIdeal.nD Cert.UpGateTIdeal.τ).loc Cert.UpGateTIdeal.main_v7)),
      θ_run (Cert.UpGateTIdeal.defs (F := Ideal)) (onTc (τ := Cert.UpGateTIdeal.τ) (Cert.UpGateTIdeal.main (F := Ideal))) ⟨m, fun _ => 0, g⟩ (fun r => ∀ c : Dev Cert.UpGateTIdeal.nD,
          r.2.mem ((c.tc : Thread Cert.UpGateTIdeal.nD Cert.UpGateTIdeal.τ).loc Cert.UpGateTIdeal.main_v7) = v0 c
          ∧ r.2.mem ((c.tc : Thread Cert.UpGateTIdeal.nD Cert.UpGateTIdeal.τ).loc Cert.UpGateTIdeal.main_arg0) = m ((c.tc : Thread Cert.UpGateTIdeal.nD Cert.UpGateTIdeal.τ).loc Cert.UpGateTIdeal.main_arg0)
          ∧ r.2.mem ((c.tc : Thread Cert.UpGateTIdeal.nD Cert.UpGateTIdeal.τ).loc Cert.UpGateTIdeal.main_arg1) = m ((c.tc : Thread Cert.UpGateTIdeal.nD Cert.UpGateTIdeal.τ).loc Cert.UpGateTIdeal.main_arg1))
      ∧ θ_run (Cert.UpGateTRefIdeal.defs (F := Ideal)) (onTc (τ := Cert.UpGateTRefIdeal.τ) (Cert.UpGateTRefIdeal.main (F := Ideal))) ⟨m', fun _ => 0, g'⟩ (fun r => ∀ c : Dev Cert.UpGateTRefIdeal.nD,
          r.2.mem ((c.tc : Thread Cert.UpGateTRefIdeal.nD Cert.UpGateTRefIdeal.τ).loc Cert.UpGateTRefIdeal.main_v4) = v0 c
          ∧ r.2.mem ((c.tc : Thread Cert.UpGateTRefIdeal.nD Cert.UpGateTRefIdeal.τ).loc Cert.UpGateTRefIdeal.main_arg0) = m' ((c.tc : Thread Cert.UpGateTRefIdeal.nD Cert.UpGateTRefIdeal.τ).loc Cert.UpGateTRefIdeal.main_arg0)
          ∧ r.2.mem ((c.tc : Thread Cert.UpGateTRefIdeal.nD Cert.UpGateTRefIdeal.τ).loc Cert.UpGateTRefIdeal.main_arg1) = m' ((c.tc : Thread Cert.UpGateTRefIdeal.nD Cert.UpGateTRefIdeal.τ).loc Cert.UpGateTRefIdeal.main_arg1))

def preserves_UpValueT_UpValueTIdeal : Prop :=
  True

def algebraic_UpValueTIdeal_UpValueTRefIdeal [hUpValueTIdeal : Cert.UpValueTIdeal.Facts] [hUpValueTRefIdeal : Cert.UpValueTRefIdeal.Facts] : Prop :=
  ∀ (m : (ℓ : Loc Cert.UpValueTIdeal.nD Cert.UpValueTIdeal.τ Cert.UpValueTIdeal.sig) → Buf (Elt Ideal) ℓ) (g : Dev Cert.UpValueTIdeal.nD → PrngReg)
    (m' : (ℓ : Loc Cert.UpValueTRefIdeal.nD Cert.UpValueTRefIdeal.τ Cert.UpValueTRefIdeal.sig) → Buf (Elt Ideal) ℓ) (g' : Dev Cert.UpValueTRefIdeal.nD → PrngReg), Pre_UpValueTIdeal m →
    (∀ c : Dev Cert.UpValueTIdeal.nD,
      m' ((c.tc : Thread Cert.UpValueTRefIdeal.nD Cert.UpValueTRefIdeal.τ).loc Cert.UpValueTRefIdeal.main_arg0) = m ((c.tc : Thread Cert.UpValueTIdeal.nD Cert.UpValueTIdeal.τ).loc Cert.UpValueTIdeal.main_arg0)
      ∧ m' ((c.tc : Thread Cert.UpValueTRefIdeal.nD Cert.UpValueTRefIdeal.τ).loc Cert.UpValueTRefIdeal.main_arg1) = m ((c.tc : Thread Cert.UpValueTIdeal.nD Cert.UpValueTIdeal.τ).loc Cert.UpValueTIdeal.main_arg1)
      ∧ m' ((c.tc : Thread Cert.UpValueTRefIdeal.nD Cert.UpValueTRefIdeal.τ).loc Cert.UpValueTRefIdeal.main_arg2) = m ((c.tc : Thread Cert.UpValueTIdeal.nD Cert.UpValueTIdeal.τ).loc Cert.UpValueTIdeal.main_arg2)) →
    ∃ (v0 : (c : Dev Cert.UpValueTIdeal.nD) → Buf (Elt Ideal) ((c.tc : Thread Cert.UpValueTIdeal.nD Cert.UpValueTIdeal.τ).loc Cert.UpValueTIdeal.main_v7)),
      θ_run (Cert.UpValueTIdeal.defs (F := Ideal)) (onTc (τ := Cert.UpValueTIdeal.τ) (Cert.UpValueTIdeal.main (F := Ideal))) ⟨m, fun _ => 0, g⟩ (fun r => ∀ c : Dev Cert.UpValueTIdeal.nD,
          r.2.mem ((c.tc : Thread Cert.UpValueTIdeal.nD Cert.UpValueTIdeal.τ).loc Cert.UpValueTIdeal.main_v7) = v0 c
          ∧ r.2.mem ((c.tc : Thread Cert.UpValueTIdeal.nD Cert.UpValueTIdeal.τ).loc Cert.UpValueTIdeal.main_arg0) = m ((c.tc : Thread Cert.UpValueTIdeal.nD Cert.UpValueTIdeal.τ).loc Cert.UpValueTIdeal.main_arg0)
          ∧ r.2.mem ((c.tc : Thread Cert.UpValueTIdeal.nD Cert.UpValueTIdeal.τ).loc Cert.UpValueTIdeal.main_arg1) = m ((c.tc : Thread Cert.UpValueTIdeal.nD Cert.UpValueTIdeal.τ).loc Cert.UpValueTIdeal.main_arg1)
          ∧ r.2.mem ((c.tc : Thread Cert.UpValueTIdeal.nD Cert.UpValueTIdeal.τ).loc Cert.UpValueTIdeal.main_arg2) = m ((c.tc : Thread Cert.UpValueTIdeal.nD Cert.UpValueTIdeal.τ).loc Cert.UpValueTIdeal.main_arg2))
      ∧ θ_run (Cert.UpValueTRefIdeal.defs (F := Ideal)) (onTc (τ := Cert.UpValueTRefIdeal.τ) (Cert.UpValueTRefIdeal.main (F := Ideal))) ⟨m', fun _ => 0, g'⟩ (fun r => ∀ c : Dev Cert.UpValueTRefIdeal.nD,
          r.2.mem ((c.tc : Thread Cert.UpValueTRefIdeal.nD Cert.UpValueTRefIdeal.τ).loc Cert.UpValueTRefIdeal.main_v5) = v0 c
          ∧ r.2.mem ((c.tc : Thread Cert.UpValueTRefIdeal.nD Cert.UpValueTRefIdeal.τ).loc Cert.UpValueTRefIdeal.main_arg0) = m' ((c.tc : Thread Cert.UpValueTRefIdeal.nD Cert.UpValueTRefIdeal.τ).loc Cert.UpValueTRefIdeal.main_arg0)
          ∧ r.2.mem ((c.tc : Thread Cert.UpValueTRefIdeal.nD Cert.UpValueTRefIdeal.τ).loc Cert.UpValueTRefIdeal.main_arg1) = m' ((c.tc : Thread Cert.UpValueTRefIdeal.nD Cert.UpValueTRefIdeal.τ).loc Cert.UpValueTRefIdeal.main_arg1)
          ∧ r.2.mem ((c.tc : Thread Cert.UpValueTRefIdeal.nD Cert.UpValueTRefIdeal.τ).loc Cert.UpValueTRefIdeal.main_arg2) = m' ((c.tc : Thread Cert.UpValueTRefIdeal.nD Cert.UpValueTRefIdeal.τ).loc Cert.UpValueTRefIdeal.main_arg2))

def preserves_UpTn_UpTnIdeal : Prop :=
  True

def algebraic_UpTnIdeal_UpTnRefIdeal [hUpTnIdeal : Cert.UpTnIdeal.Facts] [hUpTnRefIdeal : Cert.UpTnRefIdeal.Facts] : Prop :=
  ∀ (m : (ℓ : Loc Cert.UpTnIdeal.nD Cert.UpTnIdeal.τ Cert.UpTnIdeal.sig) → Buf (Elt Ideal) ℓ) (g : Dev Cert.UpTnIdeal.nD → PrngReg)
    (m' : (ℓ : Loc Cert.UpTnRefIdeal.nD Cert.UpTnRefIdeal.τ Cert.UpTnRefIdeal.sig) → Buf (Elt Ideal) ℓ) (g' : Dev Cert.UpTnRefIdeal.nD → PrngReg), Pre_UpTnIdeal m →
    (∀ c : Dev Cert.UpTnIdeal.nD,
      m' ((c.tc : Thread Cert.UpTnRefIdeal.nD Cert.UpTnRefIdeal.τ).loc Cert.UpTnRefIdeal.main_arg0) = m ((c.tc : Thread Cert.UpTnIdeal.nD Cert.UpTnIdeal.τ).loc Cert.UpTnIdeal.main_arg0)
      ∧ m' ((c.tc : Thread Cert.UpTnRefIdeal.nD Cert.UpTnRefIdeal.τ).loc Cert.UpTnRefIdeal.main_arg1) = m ((c.tc : Thread Cert.UpTnIdeal.nD Cert.UpTnIdeal.τ).loc Cert.UpTnIdeal.main_arg1)) →
    ∃ (v0 : (c : Dev Cert.UpTnIdeal.nD) → Buf (Elt Ideal) ((c.tc : Thread Cert.UpTnIdeal.nD Cert.UpTnIdeal.τ).loc Cert.UpTnIdeal.main_v4)),
      θ_run (Cert.UpTnIdeal.defs (F := Ideal)) (onTc (τ := Cert.UpTnIdeal.τ) (Cert.UpTnIdeal.main (F := Ideal))) ⟨m, fun _ => 0, g⟩ (fun r => ∀ c : Dev Cert.UpTnIdeal.nD,
          r.2.mem ((c.tc : Thread Cert.UpTnIdeal.nD Cert.UpTnIdeal.τ).loc Cert.UpTnIdeal.main_v4) = v0 c
          ∧ r.2.mem ((c.tc : Thread Cert.UpTnIdeal.nD Cert.UpTnIdeal.τ).loc Cert.UpTnIdeal.main_arg0) = m ((c.tc : Thread Cert.UpTnIdeal.nD Cert.UpTnIdeal.τ).loc Cert.UpTnIdeal.main_arg0)
          ∧ r.2.mem ((c.tc : Thread Cert.UpTnIdeal.nD Cert.UpTnIdeal.τ).loc Cert.UpTnIdeal.main_arg1) = m ((c.tc : Thread Cert.UpTnIdeal.nD Cert.UpTnIdeal.τ).loc Cert.UpTnIdeal.main_arg1))
      ∧ θ_run (Cert.UpTnRefIdeal.defs (F := Ideal)) (onTc (τ := Cert.UpTnRefIdeal.τ) (Cert.UpTnRefIdeal.main (F := Ideal))) ⟨m', fun _ => 0, g'⟩ (fun r => ∀ c : Dev Cert.UpTnRefIdeal.nD,
          r.2.mem ((c.tc : Thread Cert.UpTnRefIdeal.nD Cert.UpTnRefIdeal.τ).loc Cert.UpTnRefIdeal.main_v6) = v0 c
          ∧ r.2.mem ((c.tc : Thread Cert.UpTnRefIdeal.nD Cert.UpTnRefIdeal.τ).loc Cert.UpTnRefIdeal.main_arg0) = m' ((c.tc : Thread Cert.UpTnRefIdeal.nD Cert.UpTnRefIdeal.τ).loc Cert.UpTnRefIdeal.main_arg0)
          ∧ r.2.mem ((c.tc : Thread Cert.UpTnRefIdeal.nD Cert.UpTnRefIdeal.τ).loc Cert.UpTnRefIdeal.main_arg1) = m' ((c.tc : Thread Cert.UpTnRefIdeal.nD Cert.UpTnRefIdeal.τ).loc Cert.UpTnRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v8)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v8) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DownT_DownTIdeal : Prop :=
  True

def algebraic_DownTIdeal_DownTRefIdeal [hDownTIdeal : Cert.DownTIdeal.Facts] [hDownTRefIdeal : Cert.DownTRefIdeal.Facts] : Prop :=
  ∀ (m : (ℓ : Loc Cert.DownTIdeal.nD Cert.DownTIdeal.τ Cert.DownTIdeal.sig) → Buf (Elt Ideal) ℓ) (g : Dev Cert.DownTIdeal.nD → PrngReg)
    (m' : (ℓ : Loc Cert.DownTRefIdeal.nD Cert.DownTRefIdeal.τ Cert.DownTRefIdeal.sig) → Buf (Elt Ideal) ℓ) (g' : Dev Cert.DownTRefIdeal.nD → PrngReg), Pre_DownTIdeal m →
    (∀ c : Dev Cert.DownTIdeal.nD,
      m' ((c.tc : Thread Cert.DownTRefIdeal.nD Cert.DownTRefIdeal.τ).loc Cert.DownTRefIdeal.main_arg0) = m ((c.tc : Thread Cert.DownTIdeal.nD Cert.DownTIdeal.τ).loc Cert.DownTIdeal.main_arg0)
      ∧ m' ((c.tc : Thread Cert.DownTRefIdeal.nD Cert.DownTRefIdeal.τ).loc Cert.DownTRefIdeal.main_arg1) = m ((c.tc : Thread Cert.DownTIdeal.nD Cert.DownTIdeal.τ).loc Cert.DownTIdeal.main_arg1)) →
    ∃ (v0 : (c : Dev Cert.DownTIdeal.nD) → Buf (Elt Ideal) ((c.tc : Thread Cert.DownTIdeal.nD Cert.DownTIdeal.τ).loc Cert.DownTIdeal.main_v4)),
      θ_run (Cert.DownTIdeal.defs (F := Ideal)) (onTc (τ := Cert.DownTIdeal.τ) (Cert.DownTIdeal.main (F := Ideal))) ⟨m, fun _ => 0, g⟩ (fun r => ∀ c : Dev Cert.DownTIdeal.nD,
          r.2.mem ((c.tc : Thread Cert.DownTIdeal.nD Cert.DownTIdeal.τ).loc Cert.DownTIdeal.main_v4) = v0 c
          ∧ r.2.mem ((c.tc : Thread Cert.DownTIdeal.nD Cert.DownTIdeal.τ).loc Cert.DownTIdeal.main_arg0) = m ((c.tc : Thread Cert.DownTIdeal.nD Cert.DownTIdeal.τ).loc Cert.DownTIdeal.main_arg0)
          ∧ r.2.mem ((c.tc : Thread Cert.DownTIdeal.nD Cert.DownTIdeal.τ).loc Cert.DownTIdeal.main_arg1) = m ((c.tc : Thread Cert.DownTIdeal.nD Cert.DownTIdeal.τ).loc Cert.DownTIdeal.main_arg1))
      ∧ θ_run (Cert.DownTRefIdeal.defs (F := Ideal)) (onTc (τ := Cert.DownTRefIdeal.τ) (Cert.DownTRefIdeal.main (F := Ideal))) ⟨m', fun _ => 0, g'⟩ (fun r => ∀ c : Dev Cert.DownTRefIdeal.nD,
          r.2.mem ((c.tc : Thread Cert.DownTRefIdeal.nD Cert.DownTRefIdeal.τ).loc Cert.DownTRefIdeal.main_v5) = v0 c
          ∧ r.2.mem ((c.tc : Thread Cert.DownTRefIdeal.nD Cert.DownTRefIdeal.τ).loc Cert.DownTRefIdeal.main_arg0) = m' ((c.tc : Thread Cert.DownTRefIdeal.nD Cert.DownTRefIdeal.τ).loc Cert.DownTRefIdeal.main_arg0)
          ∧ r.2.mem ((c.tc : Thread Cert.DownTRefIdeal.nD Cert.DownTRefIdeal.τ).loc Cert.DownTRefIdeal.main_arg1) = m' ((c.tc : Thread Cert.DownTRefIdeal.nD Cert.DownTRefIdeal.τ).loc Cert.DownTRefIdeal.main_arg1))

def preserves_DownTn_DownTnIdeal : Prop :=
  True

def algebraic_DownTnIdeal_DownTnRefIdeal [hDownTnIdeal : Cert.DownTnIdeal.Facts] [hDownTnRefIdeal : Cert.DownTnRefIdeal.Facts] : Prop :=
  ∀ (m : (ℓ : Loc Cert.DownTnIdeal.nD Cert.DownTnIdeal.τ Cert.DownTnIdeal.sig) → Buf (Elt Ideal) ℓ) (g : Dev Cert.DownTnIdeal.nD → PrngReg)
    (m' : (ℓ : Loc Cert.DownTnRefIdeal.nD Cert.DownTnRefIdeal.τ Cert.DownTnRefIdeal.sig) → Buf (Elt Ideal) ℓ) (g' : Dev Cert.DownTnRefIdeal.nD → PrngReg), Pre_DownTnIdeal m →
    (∀ c : Dev Cert.DownTnIdeal.nD,
      m' ((c.tc : Thread Cert.DownTnRefIdeal.nD Cert.DownTnRefIdeal.τ).loc Cert.DownTnRefIdeal.main_arg0) = m ((c.tc : Thread Cert.DownTnIdeal.nD Cert.DownTnIdeal.τ).loc Cert.DownTnIdeal.main_arg0)
      ∧ m' ((c.tc : Thread Cert.DownTnRefIdeal.nD Cert.DownTnRefIdeal.τ).loc Cert.DownTnRefIdeal.main_arg1) = m ((c.tc : Thread Cert.DownTnIdeal.nD Cert.DownTnIdeal.τ).loc Cert.DownTnIdeal.main_arg1)) →
    ∃ (v0 : (c : Dev Cert.DownTnIdeal.nD) → Buf (Elt Ideal) ((c.tc : Thread Cert.DownTnIdeal.nD Cert.DownTnIdeal.τ).loc Cert.DownTnIdeal.main_v4)),
      θ_run (Cert.DownTnIdeal.defs (F := Ideal)) (onTc (τ := Cert.DownTnIdeal.τ) (Cert.DownTnIdeal.main (F := Ideal))) ⟨m, fun _ => 0, g⟩ (fun r => ∀ c : Dev Cert.DownTnIdeal.nD,
          r.2.mem ((c.tc : Thread Cert.DownTnIdeal.nD Cert.DownTnIdeal.τ).loc Cert.DownTnIdeal.main_v4) = v0 c
          ∧ r.2.mem ((c.tc : Thread Cert.DownTnIdeal.nD Cert.DownTnIdeal.τ).loc Cert.DownTnIdeal.main_arg0) = m ((c.tc : Thread Cert.DownTnIdeal.nD Cert.DownTnIdeal.τ).loc Cert.DownTnIdeal.main_arg0)
          ∧ r.2.mem ((c.tc : Thread Cert.DownTnIdeal.nD Cert.DownTnIdeal.τ).loc Cert.DownTnIdeal.main_arg1) = m ((c.tc : Thread Cert.DownTnIdeal.nD Cert.DownTnIdeal.τ).loc Cert.DownTnIdeal.main_arg1))
      ∧ θ_run (Cert.DownTnRefIdeal.defs (F := Ideal)) (onTc (τ := Cert.DownTnRefIdeal.τ) (Cert.DownTnRefIdeal.main (F := Ideal))) ⟨m', fun _ => 0, g'⟩ (fun r => ∀ c : Dev Cert.DownTnRefIdeal.nD,
          r.2.mem ((c.tc : Thread Cert.DownTnRefIdeal.nD Cert.DownTnRefIdeal.τ).loc Cert.DownTnRefIdeal.main_v6) = v0 c
          ∧ r.2.mem ((c.tc : Thread Cert.DownTnRefIdeal.nD Cert.DownTnRefIdeal.τ).loc Cert.DownTnRefIdeal.main_arg0) = m' ((c.tc : Thread Cert.DownTnRefIdeal.nD Cert.DownTnRefIdeal.τ).loc Cert.DownTnRefIdeal.main_arg0)
          ∧ r.2.mem ((c.tc : Thread Cert.DownTnRefIdeal.nD Cert.DownTnRefIdeal.τ).loc Cert.DownTnRefIdeal.main_arg1) = m' ((c.tc : Thread Cert.DownTnRefIdeal.nD Cert.DownTnRefIdeal.τ).loc Cert.DownTnRefIdeal.main_arg1))

def preserves_MemQ_MemQIdeal : Prop :=
  True

def algebraic_MemQIdeal_MemQRefIdeal [hMemQIdeal : Cert.MemQIdeal.Facts] [hMemQRefIdeal : Cert.MemQRefIdeal.Facts] : Prop :=
  ∀ (m : (ℓ : Loc Cert.MemQIdeal.nD Cert.MemQIdeal.τ Cert.MemQIdeal.sig) → Buf (Elt Ideal) ℓ) (g : Dev Cert.MemQIdeal.nD → PrngReg)
    (m' : (ℓ : Loc Cert.MemQRefIdeal.nD Cert.MemQRefIdeal.τ Cert.MemQRefIdeal.sig) → Buf (Elt Ideal) ℓ) (g' : Dev Cert.MemQRefIdeal.nD → PrngReg), Pre_MemQIdeal m →
    (∀ c : Dev Cert.MemQIdeal.nD,
      m' ((c.tc : Thread Cert.MemQRefIdeal.nD Cert.MemQRefIdeal.τ).loc Cert.MemQRefIdeal.main_arg0) = m ((c.tc : Thread Cert.MemQIdeal.nD Cert.MemQIdeal.τ).loc Cert.MemQIdeal.main_arg0)
      ∧ m' ((c.tc : Thread Cert.MemQRefIdeal.nD Cert.MemQRefIdeal.τ).loc Cert.MemQRefIdeal.main_arg1) = m ((c.tc : Thread Cert.MemQIdeal.nD Cert.MemQIdeal.τ).loc Cert.MemQIdeal.main_arg1)) →
    ∃ (v0 : (c : Dev Cert.MemQIdeal.nD) → Buf (Elt Ideal) ((c.tc : Thread Cert.MemQIdeal.nD Cert.MemQIdeal.τ).loc Cert.MemQIdeal.main_v2)),
      θ_run (Cert.MemQIdeal.defs (F := Ideal)) (onTc (τ := Cert.MemQIdeal.τ) (Cert.MemQIdeal.main (F := Ideal))) ⟨m, fun _ => 0, g⟩ (fun r => ∀ c : Dev Cert.MemQIdeal.nD,
          r.2.mem ((c.tc : Thread Cert.MemQIdeal.nD Cert.MemQIdeal.τ).loc Cert.MemQIdeal.main_v2) = v0 c
          ∧ r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
          ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ θ_run (Cert.MemQRefIdeal.defs (F := Ideal)) (onTc (τ := Cert.MemQRefIdeal.τ) (Cert.MemQRefIdeal.main (F := Ideal))) ⟨m', fun _ => 0, g'⟩ (fun r => ∀ c : Dev Cert.MemQRefIdeal.nD,
          r.2.mem ((c.tc : Thread Cert.MemQRefIdeal.nD Cert.MemQRefIdeal.τ).loc Cert.MemQRefIdeal.main_v0) = v0 c
          ∧ r.2.mem ((c.tc : Thread Cert.MemQRefIdeal.nD Cert.MemQRefIdeal.τ).loc Cert.MemQRefIdeal.main_arg0) = m' ((c.tc : Thread Cert.MemQRefIdeal.nD Cert.MemQRefIdeal.τ).loc Cert.MemQRefIdeal.main_arg0)
          ∧ r.2.mem ((c.tc : Thread Cert.MemQRefIdeal.nD Cert.MemQRefIdeal.τ).loc Cert.MemQRefIdeal.main_arg1) = m' ((c.tc : Thread Cert.MemQRefIdeal.nD Cert.MemQRefIdeal.τ).loc Cert.MemQRefIdeal.main_arg1))

def preserves_MemO_MemOIdeal : Prop :=
  True

def algebraic_MemOIdeal_MemORefIdeal [hMemOIdeal : Cert.MemOIdeal.Facts] [hMemORefIdeal : Cert.MemORefIdeal.Facts] : Prop :=
  ∀ (m : (ℓ : Loc Cert.MemOIdeal.nD Cert.MemOIdeal.τ Cert.MemOIdeal.sig) → Buf (Elt Ideal) ℓ) (g : Dev Cert.MemOIdeal.nD → PrngReg)
    (m' : (ℓ : Loc Cert.MemORefIdeal.nD Cert.MemORefIdeal.τ Cert.MemORefIdeal.sig) → Buf (Elt Ideal) ℓ) (g' : Dev Cert.MemORefIdeal.nD → PrngReg), Pre_MemOIdeal m →
    (∀ c : Dev Cert.MemOIdeal.nD,
      m' ((c.tc : Thread Cert.MemORefIdeal.nD Cert.MemORefIdeal.τ).loc Cert.MemORefIdeal.main_arg0) = m ((c.tc : Thread Cert.MemOIdeal.nD Cert.MemOIdeal.τ).loc Cert.MemOIdeal.main_arg0)
      ∧ m' ((c.tc : Thread Cert.MemORefIdeal.nD Cert.MemORefIdeal.τ).loc Cert.MemORefIdeal.main_arg1) = m ((c.tc : Thread Cert.MemOIdeal.nD Cert.MemOIdeal.τ).loc Cert.MemOIdeal.main_arg1)
      ∧ m' ((c.tc : Thread Cert.MemORefIdeal.nD Cert.MemORefIdeal.τ).loc Cert.MemORefIdeal.main_arg2) = m ((c.tc : Thread Cert.MemOIdeal.nD Cert.MemOIdeal.τ).loc Cert.MemOIdeal.main_arg2)) →
    ∃ (v0 : (c : Dev Cert.MemOIdeal.nD) → Buf (Elt Ideal) ((c.tc : Thread Cert.MemOIdeal.nD Cert.MemOIdeal.τ).loc Cert.MemOIdeal.main_v2)),
      θ_run (Cert.MemOIdeal.defs (F := Ideal)) (onTc (τ := Cert.MemOIdeal.τ) (Cert.MemOIdeal.main (F := Ideal))) ⟨m, fun _ => 0, g⟩ (fun r => ∀ c : Dev Cert.MemOIdeal.nD,
          r.2.mem ((c.tc : Thread Cert.MemOIdeal.nD Cert.MemOIdeal.τ).loc Cert.MemOIdeal.main_v2) = v0 c
          ∧ r.2.mem ((c.tc : Thread Cert.MemOIdeal.nD Cert.MemOIdeal.τ).loc Cert.MemOIdeal.main_arg0) = m ((c.tc : Thread Cert.MemOIdeal.nD Cert.MemOIdeal.τ).loc Cert.MemOIdeal.main_arg0)
          ∧ r.2.mem ((c.tc : Thread Cert.MemOIdeal.nD Cert.MemOIdeal.τ).loc Cert.MemOIdeal.main_arg1) = m ((c.tc : Thread Cert.MemOIdeal.nD Cert.MemOIdeal.τ).loc Cert.MemOIdeal.main_arg1)
          ∧ r.2.mem ((c.tc : Thread Cert.MemOIdeal.nD Cert.MemOIdeal.τ).loc Cert.MemOIdeal.main_arg2) = m ((c.tc : Thread Cert.MemOIdeal.nD Cert.MemOIdeal.τ).loc Cert.MemOIdeal.main_arg2))
      ∧ θ_run (Cert.MemORefIdeal.defs (F := Ideal)) (onTc (τ := Cert.MemORefIdeal.τ) (Cert.MemORefIdeal.main (F := Ideal))) ⟨m', fun _ => 0, g'⟩ (fun r => ∀ c : Dev Cert.MemORefIdeal.nD,
          r.2.mem ((c.tc : Thread Cert.MemORefIdeal.nD Cert.MemORefIdeal.τ).loc Cert.MemORefIdeal.main_v1) = v0 c
          ∧ r.2.mem ((c.tc : Thread Cert.MemORefIdeal.nD Cert.MemORefIdeal.τ).loc Cert.MemORefIdeal.main_arg0) = m' ((c.tc : Thread Cert.MemORefIdeal.nD Cert.MemORefIdeal.τ).loc Cert.MemORefIdeal.main_arg0)
          ∧ r.2.mem ((c.tc : Thread Cert.MemORefIdeal.nD Cert.MemORefIdeal.τ).loc Cert.MemORefIdeal.main_arg1) = m' ((c.tc : Thread Cert.MemORefIdeal.nD Cert.MemORefIdeal.τ).loc Cert.MemORefIdeal.main_arg1)
          ∧ r.2.mem ((c.tc : Thread Cert.MemORefIdeal.nD Cert.MemORefIdeal.τ).loc Cert.MemORefIdeal.main_arg2) = m' ((c.tc : Thread Cert.MemORefIdeal.nD Cert.MemORefIdeal.τ).loc Cert.MemORefIdeal.main_arg2))

def preserves_MemT_MemTIdeal : Prop :=
  True

def algebraic_MemTIdeal_MemTRefIdeal [hMemTIdeal : Cert.MemTIdeal.Facts] [hMemTRefIdeal : Cert.MemTRefIdeal.Facts] : Prop :=
  ∀ (m : (ℓ : Loc Cert.MemTIdeal.nD Cert.MemTIdeal.τ Cert.MemTIdeal.sig) → Buf (Elt Ideal) ℓ) (g : Dev Cert.MemTIdeal.nD → PrngReg)
    (m' : (ℓ : Loc Cert.MemTRefIdeal.nD Cert.MemTRefIdeal.τ Cert.MemTRefIdeal.sig) → Buf (Elt Ideal) ℓ) (g' : Dev Cert.MemTRefIdeal.nD → PrngReg), Pre_MemTIdeal m →
    (∀ c : Dev Cert.MemTIdeal.nD,
      m' ((c.tc : Thread Cert.MemTRefIdeal.nD Cert.MemTRefIdeal.τ).loc Cert.MemTRefIdeal.main_arg0) = m ((c.tc : Thread Cert.MemTIdeal.nD Cert.MemTIdeal.τ).loc Cert.MemTIdeal.main_arg0)
      ∧ m' ((c.tc : Thread Cert.MemTRefIdeal.nD Cert.MemTRefIdeal.τ).loc Cert.MemTRefIdeal.main_arg1) = m ((c.tc : Thread Cert.MemTIdeal.nD Cert.MemTIdeal.τ).loc Cert.MemTIdeal.main_arg1)) →
    ∃ (v0 : (c : Dev Cert.MemTIdeal.nD) → Buf (Elt Ideal) ((c.tc : Thread Cert.MemTIdeal.nD Cert.MemTIdeal.τ).loc Cert.MemTIdeal.main_v1)),
      θ_run (Cert.MemTIdeal.defs (F := Ideal)) (onTc (τ := Cert.MemTIdeal.τ) (Cert.MemTIdeal.main (F := Ideal))) ⟨m, fun _ => 0, g⟩ (fun r => ∀ c : Dev Cert.MemTIdeal.nD,
          r.2.mem ((c.tc : Thread Cert.MemTIdeal.nD Cert.MemTIdeal.τ).loc Cert.MemTIdeal.main_v1) = v0 c
          ∧ r.2.mem ((c.tc : Thread Cert.MemTIdeal.nD Cert.MemTIdeal.τ).loc Cert.MemTIdeal.main_arg0) = m ((c.tc : Thread Cert.MemTIdeal.nD Cert.MemTIdeal.τ).loc Cert.MemTIdeal.main_arg0)
          ∧ r.2.mem ((c.tc : Thread Cert.MemTIdeal.nD Cert.MemTIdeal.τ).loc Cert.MemTIdeal.main_arg1) = m ((c.tc : Thread Cert.MemTIdeal.nD Cert.MemTIdeal.τ).loc Cert.MemTIdeal.main_arg1))
      ∧ θ_run (Cert.MemTRefIdeal.defs (F := Ideal)) (onTc (τ := Cert.MemTRefIdeal.τ) (Cert.MemTRefIdeal.main (F := Ideal))) ⟨m', fun _ => 0, g'⟩ (fun r => ∀ c : Dev Cert.MemTRefIdeal.nD,
          r.2.mem ((c.tc : Thread Cert.MemTRefIdeal.nD Cert.MemTRefIdeal.τ).loc Cert.MemTRefIdeal.main_v2) = v0 c
          ∧ r.2.mem ((c.tc : Thread Cert.MemTRefIdeal.nD Cert.MemTRefIdeal.τ).loc Cert.MemTRefIdeal.main_arg0) = m' ((c.tc : Thread Cert.MemTRefIdeal.nD Cert.MemTRefIdeal.τ).loc Cert.MemTRefIdeal.main_arg0)
          ∧ r.2.mem ((c.tc : Thread Cert.MemTRefIdeal.nD Cert.MemTRefIdeal.τ).loc Cert.MemTRefIdeal.main_arg1) = m' ((c.tc : Thread Cert.MemTRefIdeal.nD Cert.MemTRefIdeal.τ).loc Cert.MemTRefIdeal.main_arg1))

def preserves_MemTn_MemTnIdeal : Prop :=
  True

def algebraic_MemTnIdeal_MemTnRefIdeal [hMemTnIdeal : Cert.MemTnIdeal.Facts] [hMemTnRefIdeal : Cert.MemTnRefIdeal.Facts] : Prop :=
  ∀ (m : (ℓ : Loc Cert.MemTnIdeal.nD Cert.MemTnIdeal.τ Cert.MemTnIdeal.sig) → Buf (Elt Ideal) ℓ) (g : Dev Cert.MemTnIdeal.nD → PrngReg)
    (m' : (ℓ : Loc Cert.MemTnRefIdeal.nD Cert.MemTnRefIdeal.τ Cert.MemTnRefIdeal.sig) → Buf (Elt Ideal) ℓ) (g' : Dev Cert.MemTnRefIdeal.nD → PrngReg), Pre_MemTnIdeal m →
    (∀ c : Dev Cert.MemTnIdeal.nD,
      m' ((c.tc : Thread Cert.MemTnRefIdeal.nD Cert.MemTnRefIdeal.τ).loc Cert.MemTnRefIdeal.main_arg0) = m ((c.tc : Thread Cert.MemTnIdeal.nD Cert.MemTnIdeal.τ).loc Cert.MemTnIdeal.main_arg0)
      ∧ m' ((c.tc : Thread Cert.MemTnRefIdeal.nD Cert.MemTnRefIdeal.τ).loc Cert.MemTnRefIdeal.main_arg1) = m ((c.tc : Thread Cert.MemTnIdeal.nD Cert.MemTnIdeal.τ).loc Cert.MemTnIdeal.main_arg1)) →
    ∃ (v0 : (c : Dev Cert.MemTnIdeal.nD) → Buf (Elt Ideal) ((c.tc : Thread Cert.MemTnIdeal.nD Cert.MemTnIdeal.τ).loc Cert.MemTnIdeal.main_v1)),
      θ_run (Cert.MemTnIdeal.defs (F := Ideal)) (onTc (τ := Cert.MemTnIdeal.τ) (Cert.MemTnIdeal.main (F := Ideal))) ⟨m, fun _ => 0, g⟩ (fun r => ∀ c : Dev Cert.MemTnIdeal.nD,
          r.2.mem ((c.tc : Thread Cert.MemTnIdeal.nD Cert.MemTnIdeal.τ).loc Cert.MemTnIdeal.main_v1) = v0 c
          ∧ r.2.mem ((c.tc : Thread Cert.MemTnIdeal.nD Cert.MemTnIdeal.τ).loc Cert.MemTnIdeal.main_arg0) = m ((c.tc : Thread Cert.MemTnIdeal.nD Cert.MemTnIdeal.τ).loc Cert.MemTnIdeal.main_arg0)
          ∧ r.2.mem ((c.tc : Thread Cert.MemTnIdeal.nD Cert.MemTnIdeal.τ).loc Cert.MemTnIdeal.main_arg1) = m ((c.tc : Thread Cert.MemTnIdeal.nD Cert.MemTnIdeal.τ).loc Cert.MemTnIdeal.main_arg1))
      ∧ θ_run (Cert.MemTnRefIdeal.defs (F := Ideal)) (onTc (τ := Cert.MemTnRefIdeal.τ) (Cert.MemTnRefIdeal.main (F := Ideal))) ⟨m', fun _ => 0, g'⟩ (fun r => ∀ c : Dev Cert.MemTnRefIdeal.nD,
          r.2.mem ((c.tc : Thread Cert.MemTnRefIdeal.nD Cert.MemTnRefIdeal.τ).loc Cert.MemTnRefIdeal.main_v3) = v0 c
          ∧ r.2.mem ((c.tc : Thread Cert.MemTnRefIdeal.nD Cert.MemTnRefIdeal.τ).loc Cert.MemTnRefIdeal.main_arg0) = m' ((c.tc : Thread Cert.MemTnRefIdeal.nD Cert.MemTnRefIdeal.τ).loc Cert.MemTnRefIdeal.main_arg0)
          ∧ r.2.mem ((c.tc : Thread Cert.MemTnRefIdeal.nD Cert.MemTnRefIdeal.τ).loc Cert.MemTnRefIdeal.main_arg1) = m' ((c.tc : Thread Cert.MemTnRefIdeal.nD Cert.MemTnRefIdeal.τ).loc Cert.MemTnRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v7)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v7) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v5) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixInT_MixInTIdeal : Prop :=
  True

def algebraic_MixInTIdeal_MixInTRefIdeal [hMixInTIdeal : Cert.MixInTIdeal.Facts] [hMixInTRefIdeal : Cert.MixInTRefIdeal.Facts] : Prop :=
  ∀ (m : (ℓ : Loc Cert.MixInTIdeal.nD Cert.MixInTIdeal.τ Cert.MixInTIdeal.sig) → Buf (Elt Ideal) ℓ) (g : Dev Cert.MixInTIdeal.nD → PrngReg)
    (m' : (ℓ : Loc Cert.MixInTRefIdeal.nD Cert.MixInTRefIdeal.τ Cert.MixInTRefIdeal.sig) → Buf (Elt Ideal) ℓ) (g' : Dev Cert.MixInTRefIdeal.nD → PrngReg), Pre_MixInTIdeal m →
    (∀ c : Dev Cert.MixInTIdeal.nD,
      m' ((c.tc : Thread Cert.MixInTRefIdeal.nD Cert.MixInTRefIdeal.τ).loc Cert.MixInTRefIdeal.main_arg0) = m ((c.tc : Thread Cert.MixInTIdeal.nD Cert.MixInTIdeal.τ).loc Cert.MixInTIdeal.main_arg0)
      ∧ m' ((c.tc : Thread Cert.MixInTRefIdeal.nD Cert.MixInTRefIdeal.τ).loc Cert.MixInTRefIdeal.main_arg1) = m ((c.tc : Thread Cert.MixInTIdeal.nD Cert.MixInTIdeal.τ).loc Cert.MixInTIdeal.main_arg1)) →
    ∃ (v0 : (c : Dev Cert.MixInTIdeal.nD) → Buf (Elt Ideal) ((c.tc : Thread Cert.MixInTIdeal.nD Cert.MixInTIdeal.τ).loc Cert.MixInTIdeal.main_v11)),
      θ_run (Cert.MixInTIdeal.defs (F := Ideal)) (onTc (τ := Cert.MixInTIdeal.τ) (Cert.MixInTIdeal.main (F := Ideal))) ⟨m, fun _ => 0, g⟩ (fun r => ∀ c : Dev Cert.MixInTIdeal.nD,
          r.2.mem ((c.tc : Thread Cert.MixInTIdeal.nD Cert.MixInTIdeal.τ).loc Cert.MixInTIdeal.main_v11) = v0 c
          ∧ r.2.mem ((c.tc : Thread Cert.MixInTIdeal.nD Cert.MixInTIdeal.τ).loc Cert.MixInTIdeal.main_arg0) = m ((c.tc : Thread Cert.MixInTIdeal.nD Cert.MixInTIdeal.τ).loc Cert.MixInTIdeal.main_arg0)
          ∧ r.2.mem ((c.tc : Thread Cert.MixInTIdeal.nD Cert.MixInTIdeal.τ).loc Cert.MixInTIdeal.main_arg1) = m ((c.tc : Thread Cert.MixInTIdeal.nD Cert.MixInTIdeal.τ).loc Cert.MixInTIdeal.main_arg1))
      ∧ θ_run (Cert.MixInTRefIdeal.defs (F := Ideal)) (onTc (τ := Cert.MixInTRefIdeal.τ) (Cert.MixInTRefIdeal.main (F := Ideal))) ⟨m', fun _ => 0, g'⟩ (fun r => ∀ c : Dev Cert.MixInTRefIdeal.nD,
          r.2.mem ((c.tc : Thread Cert.MixInTRefIdeal.nD Cert.MixInTRefIdeal.τ).loc Cert.MixInTRefIdeal.main_v2) = v0 c
          ∧ r.2.mem ((c.tc : Thread Cert.MixInTRefIdeal.nD Cert.MixInTRefIdeal.τ).loc Cert.MixInTRefIdeal.main_arg0) = m' ((c.tc : Thread Cert.MixInTRefIdeal.nD Cert.MixInTRefIdeal.τ).loc Cert.MixInTRefIdeal.main_arg0)
          ∧ r.2.mem ((c.tc : Thread Cert.MixInTRefIdeal.nD Cert.MixInTRefIdeal.τ).loc Cert.MixInTRefIdeal.main_arg1) = m' ((c.tc : Thread Cert.MixInTRefIdeal.nD Cert.MixInTRefIdeal.τ).loc Cert.MixInTRefIdeal.main_arg1))

def preserves_MixInTn_MixInTnIdeal : Prop :=
  True

def algebraic_MixInTnIdeal_MixInTnRefIdeal [hMixInTnIdeal : Cert.MixInTnIdeal.Facts] [hMixInTnRefIdeal : Cert.MixInTnRefIdeal.Facts] : Prop :=
  ∀ (m : (ℓ : Loc Cert.MixInTnIdeal.nD Cert.MixInTnIdeal.τ Cert.MixInTnIdeal.sig) → Buf (Elt Ideal) ℓ) (g : Dev Cert.MixInTnIdeal.nD → PrngReg)
    (m' : (ℓ : Loc Cert.MixInTnRefIdeal.nD Cert.MixInTnRefIdeal.τ Cert.MixInTnRefIdeal.sig) → Buf (Elt Ideal) ℓ) (g' : Dev Cert.MixInTnRefIdeal.nD → PrngReg), Pre_MixInTnIdeal m →
    (∀ c : Dev Cert.MixInTnIdeal.nD,
      m' ((c.tc : Thread Cert.MixInTnRefIdeal.nD Cert.MixInTnRefIdeal.τ).loc Cert.MixInTnRefIdeal.main_arg0) = m ((c.tc : Thread Cert.MixInTnIdeal.nD Cert.MixInTnIdeal.τ).loc Cert.MixInTnIdeal.main_arg0)
      ∧ m' ((c.tc : Thread Cert.MixInTnRefIdeal.nD Cert.MixInTnRefIdeal.τ).loc Cert.MixInTnRefIdeal.main_arg1) = m ((c.tc : Thread Cert.MixInTnIdeal.nD Cert.MixInTnIdeal.τ).loc Cert.MixInTnIdeal.main_arg1)) →
    ∃ (v0 : (c : Dev Cert.MixInTnIdeal.nD) → Buf (Elt Ideal) ((c.tc : Thread Cert.MixInTnIdeal.nD Cert.MixInTnIdeal.τ).loc Cert.MixInTnIdeal.main_v6)),
      θ_run (Cert.MixInTnIdeal.defs (F := Ideal)) (onTc (τ := Cert.MixInTnIdeal.τ) (Cert.MixInTnIdeal.main (F := Ideal))) ⟨m, fun _ => 0, g⟩ (fun r => ∀ c : Dev Cert.MixInTnIdeal.nD,
          r.2.mem ((c.tc : Thread Cert.MixInTnIdeal.nD Cert.MixInTnIdeal.τ).loc Cert.MixInTnIdeal.main_v6) = v0 c
          ∧ r.2.mem ((c.tc : Thread Cert.MixInTnIdeal.nD Cert.MixInTnIdeal.τ).loc Cert.MixInTnIdeal.main_arg0) = m ((c.tc : Thread Cert.MixInTnIdeal.nD Cert.MixInTnIdeal.τ).loc Cert.MixInTnIdeal.main_arg0)
          ∧ r.2.mem ((c.tc : Thread Cert.MixInTnIdeal.nD Cert.MixInTnIdeal.τ).loc Cert.MixInTnIdeal.main_arg1) = m ((c.tc : Thread Cert.MixInTnIdeal.nD Cert.MixInTnIdeal.τ).loc Cert.MixInTnIdeal.main_arg1))
      ∧ θ_run (Cert.MixInTnRefIdeal.defs (F := Ideal)) (onTc (τ := Cert.MixInTnRefIdeal.τ) (Cert.MixInTnRefIdeal.main (F := Ideal))) ⟨m', fun _ => 0, g'⟩ (fun r => ∀ c : Dev Cert.MixInTnRefIdeal.nD,
          r.2.mem ((c.tc : Thread Cert.MixInTnRefIdeal.nD Cert.MixInTnRefIdeal.τ).loc Cert.MixInTnRefIdeal.main_v8) = v0 c
          ∧ r.2.mem ((c.tc : Thread Cert.MixInTnRefIdeal.nD Cert.MixInTnRefIdeal.τ).loc Cert.MixInTnRefIdeal.main_arg0) = m' ((c.tc : Thread Cert.MixInTnRefIdeal.nD Cert.MixInTnRefIdeal.τ).loc Cert.MixInTnRefIdeal.main_arg0)
          ∧ r.2.mem ((c.tc : Thread Cert.MixInTnRefIdeal.nD Cert.MixInTnRefIdeal.τ).loc Cert.MixInTnRefIdeal.main_arg1) = m' ((c.tc : Thread Cert.MixInTnRefIdeal.nD Cert.MixInTnRefIdeal.τ).loc Cert.MixInTnRefIdeal.main_arg1))

def preserves_OutU_OutUIdeal : Prop :=
  True

def algebraic_OutUIdeal_OutURefIdeal [hOutUIdeal : Cert.OutUIdeal.Facts] [hOutURefIdeal : Cert.OutURefIdeal.Facts] : Prop :=
  ∀ (m : (ℓ : Loc Cert.OutUIdeal.nD Cert.OutUIdeal.τ Cert.OutUIdeal.sig) → Buf (Elt Ideal) ℓ) (g : Dev Cert.OutUIdeal.nD → PrngReg)
    (m' : (ℓ : Loc Cert.OutURefIdeal.nD Cert.OutURefIdeal.τ Cert.OutURefIdeal.sig) → Buf (Elt Ideal) ℓ) (g' : Dev Cert.OutURefIdeal.nD → PrngReg), Pre_OutUIdeal m →
    (∀ c : Dev Cert.OutUIdeal.nD,
      m' ((c.tc : Thread Cert.OutURefIdeal.nD Cert.OutURefIdeal.τ).loc Cert.OutURefIdeal.main_arg0) = m ((c.tc : Thread Cert.OutUIdeal.nD Cert.OutUIdeal.τ).loc Cert.OutUIdeal.main_arg0)
      ∧ m' ((c.tc : Thread Cert.OutURefIdeal.nD Cert.OutURefIdeal.τ).loc Cert.OutURefIdeal.main_arg1) = m ((c.tc : Thread Cert.OutUIdeal.nD Cert.OutUIdeal.τ).loc Cert.OutUIdeal.main_arg1)
      ∧ m' ((c.tc : Thread Cert.OutURefIdeal.nD Cert.OutURefIdeal.τ).loc Cert.OutURefIdeal.main_arg2) = m ((c.tc : Thread Cert.OutUIdeal.nD Cert.OutUIdeal.τ).loc Cert.OutUIdeal.main_arg2)) →
    ∃ (v0 : (c : Dev Cert.OutUIdeal.nD) → Buf (Elt Ideal) ((c.tc : Thread Cert.OutUIdeal.nD Cert.OutUIdeal.τ).loc Cert.OutUIdeal.main_v3)),
      θ_run (Cert.OutUIdeal.defs (F := Ideal)) (onTc (τ := Cert.OutUIdeal.τ) (Cert.OutUIdeal.main (F := Ideal))) ⟨m, fun _ => 0, g⟩ (fun r => ∀ c : Dev Cert.OutUIdeal.nD,
          r.2.mem ((c.tc : Thread Cert.OutUIdeal.nD Cert.OutUIdeal.τ).loc Cert.OutUIdeal.main_v3) = v0 c
          ∧ r.2.mem ((c.tc : Thread Cert.OutUIdeal.nD Cert.OutUIdeal.τ).loc Cert.OutUIdeal.main_arg0) = m ((c.tc : Thread Cert.OutUIdeal.nD Cert.OutUIdeal.τ).loc Cert.OutUIdeal.main_arg0)
          ∧ r.2.mem ((c.tc : Thread Cert.OutUIdeal.nD Cert.OutUIdeal.τ).loc Cert.OutUIdeal.main_arg1) = m ((c.tc : Thread Cert.OutUIdeal.nD Cert.OutUIdeal.τ).loc Cert.OutUIdeal.main_arg1)
          ∧ r.2.mem ((c.tc : Thread Cert.OutUIdeal.nD Cert.OutUIdeal.τ).loc Cert.OutUIdeal.main_arg2) = m ((c.tc : Thread Cert.OutUIdeal.nD Cert.OutUIdeal.τ).loc Cert.OutUIdeal.main_arg2))
      ∧ θ_run (Cert.OutURefIdeal.defs (F := Ideal)) (onTc (τ := Cert.OutURefIdeal.τ) (Cert.OutURefIdeal.main (F := Ideal))) ⟨m', fun _ => 0, g'⟩ (fun r => ∀ c : Dev Cert.OutURefIdeal.nD,
          r.2.mem ((c.tc : Thread Cert.OutURefIdeal.nD Cert.OutURefIdeal.τ).loc Cert.OutURefIdeal.main_v2) = v0 c
          ∧ r.2.mem ((c.tc : Thread Cert.OutURefIdeal.nD Cert.OutURefIdeal.τ).loc Cert.OutURefIdeal.main_arg0) = m' ((c.tc : Thread Cert.OutURefIdeal.nD Cert.OutURefIdeal.τ).loc Cert.OutURefIdeal.main_arg0)
          ∧ r.2.mem ((c.tc : Thread Cert.OutURefIdeal.nD Cert.OutURefIdeal.τ).loc Cert.OutURefIdeal.main_arg1) = m' ((c.tc : Thread Cert.OutURefIdeal.nD Cert.OutURefIdeal.τ).loc Cert.OutURefIdeal.main_arg1)
          ∧ r.2.mem ((c.tc : Thread Cert.OutURefIdeal.nD Cert.OutURefIdeal.τ).loc Cert.OutURefIdeal.main_arg2) = m' ((c.tc : Thread Cert.OutURefIdeal.nD Cert.OutURefIdeal.τ).loc Cert.OutURefIdeal.main_arg2))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)) →
    ∃ (v0 : (c : Dev Cert.OutAIdeal.nD) → Buf (Elt Ideal) ((c.tc : Thread Cert.OutAIdeal.nD Cert.OutAIdeal.τ).loc Cert.OutAIdeal.main_v7)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v7) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v3) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2))

def preserves_OutUT_OutUTIdeal : Prop :=
  True

def algebraic_OutUTIdeal_OutUTRefIdeal [hOutUTIdeal : Cert.OutUTIdeal.Facts] [hOutUTRefIdeal : Cert.OutUTRefIdeal.Facts] : Prop :=
  ∀ (m : (ℓ : Loc Cert.OutUTIdeal.nD Cert.OutUTIdeal.τ Cert.OutUTIdeal.sig) → Buf (Elt Ideal) ℓ) (g : Dev Cert.OutUTIdeal.nD → PrngReg)
    (m' : (ℓ : Loc Cert.OutUTRefIdeal.nD Cert.OutUTRefIdeal.τ Cert.OutUTRefIdeal.sig) → Buf (Elt Ideal) ℓ) (g' : Dev Cert.OutUTRefIdeal.nD → PrngReg), Pre_OutUTIdeal m →
    (∀ c : Dev Cert.OutUTIdeal.nD,
      m' ((c.tc : Thread Cert.OutUTRefIdeal.nD Cert.OutUTRefIdeal.τ).loc Cert.OutUTRefIdeal.main_arg0) = m ((c.tc : Thread Cert.OutUTIdeal.nD Cert.OutUTIdeal.τ).loc Cert.OutUTIdeal.main_arg0)
      ∧ m' ((c.tc : Thread Cert.OutUTRefIdeal.nD Cert.OutUTRefIdeal.τ).loc Cert.OutUTRefIdeal.main_arg1) = m ((c.tc : Thread Cert.OutUTIdeal.nD Cert.OutUTIdeal.τ).loc Cert.OutUTIdeal.main_arg1)) →
    ∃ (v0 : (c : Dev Cert.OutUTIdeal.nD) → Buf (Elt Ideal) ((c.tc : Thread Cert.OutUTIdeal.nD Cert.OutUTIdeal.τ).loc Cert.OutUTIdeal.main_v2)),
      θ_run (Cert.OutUTIdeal.defs (F := Ideal)) (onTc (τ := Cert.OutUTIdeal.τ) (Cert.OutUTIdeal.main (F := Ideal))) ⟨m, fun _ => 0, g⟩ (fun r => ∀ c : Dev Cert.OutUTIdeal.nD,
          r.2.mem ((c.tc : Thread Cert.OutUTIdeal.nD Cert.OutUTIdeal.τ).loc Cert.OutUTIdeal.main_v2) = v0 c
          ∧ r.2.mem ((c.tc : Thread Cert.OutUTIdeal.nD Cert.OutUTIdeal.τ).loc Cert.OutUTIdeal.main_arg0) = m ((c.tc : Thread Cert.OutUTIdeal.nD Cert.OutUTIdeal.τ).loc Cert.OutUTIdeal.main_arg0)
          ∧ r.2.mem ((c.tc : Thread Cert.OutUTIdeal.nD Cert.OutUTIdeal.τ).loc Cert.OutUTIdeal.main_arg1) = m ((c.tc : Thread Cert.OutUTIdeal.nD Cert.OutUTIdeal.τ).loc Cert.OutUTIdeal.main_arg1))
      ∧ θ_run (Cert.OutUTRefIdeal.defs (F := Ideal)) (onTc (τ := Cert.OutUTRefIdeal.τ) (Cert.OutUTRefIdeal.main (F := Ideal))) ⟨m', fun _ => 0, g'⟩ (fun r => ∀ c : Dev Cert.OutUTRefIdeal.nD,
          r.2.mem ((c.tc : Thread Cert.OutUTRefIdeal.nD Cert.OutUTRefIdeal.τ).loc Cert.OutUTRefIdeal.main_v3) = v0 c
          ∧ r.2.mem ((c.tc : Thread Cert.OutUTRefIdeal.nD Cert.OutUTRefIdeal.τ).loc Cert.OutUTRefIdeal.main_arg0) = m' ((c.tc : Thread Cert.OutUTRefIdeal.nD Cert.OutUTRefIdeal.τ).loc Cert.OutUTRefIdeal.main_arg0)
          ∧ r.2.mem ((c.tc : Thread Cert.OutUTRefIdeal.nD Cert.OutUTRefIdeal.τ).loc Cert.OutUTRefIdeal.main_arg1) = m' ((c.tc : Thread Cert.OutUTRefIdeal.nD Cert.OutUTRefIdeal.τ).loc Cert.OutUTRefIdeal.main_arg1))

def preserves_OutAT_OutATIdeal : Prop :=
  True

def algebraic_OutATIdeal_OutATRefIdeal [hOutATIdeal : Cert.OutATIdeal.Facts] [hOutATRefIdeal : Cert.OutATRefIdeal.Facts] : Prop :=
  ∀ (m : (ℓ : Loc Cert.OutATIdeal.nD Cert.OutATIdeal.τ Cert.OutATIdeal.sig) → Buf (Elt Ideal) ℓ) (g : Dev Cert.OutATIdeal.nD → PrngReg)
    (m' : (ℓ : Loc Cert.OutATRefIdeal.nD Cert.OutATRefIdeal.τ Cert.OutATRefIdeal.sig) → Buf (Elt Ideal) ℓ) (g' : Dev Cert.OutATRefIdeal.nD → PrngReg), Pre_OutATIdeal m →
    (∀ c : Dev Cert.OutATIdeal.nD,
      m' ((c.tc : Thread Cert.OutATRefIdeal.nD Cert.OutATRefIdeal.τ).loc Cert.OutATRefIdeal.main_arg0) = m ((c.tc : Thread Cert.OutATIdeal.nD Cert.OutATIdeal.τ).loc Cert.OutATIdeal.main_arg0)
      ∧ m' ((c.tc : Thread Cert.OutATRefIdeal.nD Cert.OutATRefIdeal.τ).loc Cert.OutATRefIdeal.main_arg1) = m ((c.tc : Thread Cert.OutATIdeal.nD Cert.OutATIdeal.τ).loc Cert.OutATIdeal.main_arg1)) →
    ∃ (v0 : (c : Dev Cert.OutATIdeal.nD) → Buf (Elt Ideal) ((c.tc : Thread Cert.OutATIdeal.nD Cert.OutATIdeal.τ).loc Cert.OutATIdeal.main_v5)),
      θ_run (Cert.OutATIdeal.defs (F := Ideal)) (onTc (τ := Cert.OutATIdeal.τ) (Cert.OutATIdeal.main (F := Ideal))) ⟨m, fun _ => 0, g⟩ (fun r => ∀ c : Dev Cert.OutATIdeal.nD,
          r.2.mem ((c.tc : Thread Cert.OutATIdeal.nD Cert.OutATIdeal.τ).loc Cert.OutATIdeal.main_v5) = v0 c
          ∧ r.2.mem ((c.tc : Thread Cert.OutATIdeal.nD Cert.OutATIdeal.τ).loc Cert.OutATIdeal.main_arg0) = m ((c.tc : Thread Cert.OutATIdeal.nD Cert.OutATIdeal.τ).loc Cert.OutATIdeal.main_arg0)
          ∧ r.2.mem ((c.tc : Thread Cert.OutATIdeal.nD Cert.OutATIdeal.τ).loc Cert.OutATIdeal.main_arg1) = m ((c.tc : Thread Cert.OutATIdeal.nD Cert.OutATIdeal.τ).loc Cert.OutATIdeal.main_arg1))
      ∧ θ_run (Cert.OutATRefIdeal.defs (F := Ideal)) (onTc (τ := Cert.OutATRefIdeal.τ) (Cert.OutATRefIdeal.main (F := Ideal))) ⟨m', fun _ => 0, g'⟩ (fun r => ∀ c : Dev Cert.OutATRefIdeal.nD,
          r.2.mem ((c.tc : Thread Cert.OutATRefIdeal.nD Cert.OutATRefIdeal.τ).loc Cert.OutATRefIdeal.main_v7) = v0 c
          ∧ r.2.mem ((c.tc : Thread Cert.OutATRefIdeal.nD Cert.OutATRefIdeal.τ).loc Cert.OutATRefIdeal.main_arg0) = m' ((c.tc : Thread Cert.OutATRefIdeal.nD Cert.OutATRefIdeal.τ).loc Cert.OutATRefIdeal.main_arg0)
          ∧ r.2.mem ((c.tc : Thread Cert.OutATRefIdeal.nD Cert.OutATRefIdeal.τ).loc Cert.OutATRefIdeal.main_arg1) = m' ((c.tc : Thread Cert.OutATRefIdeal.nD Cert.OutATRefIdeal.τ).loc Cert.OutATRefIdeal.main_arg1))

def preserves_OutUTn_OutUTnIdeal : Prop :=
  True

def algebraic_OutUTnIdeal_OutUTnRefIdeal [hOutUTnIdeal : Cert.OutUTnIdeal.Facts] [hOutUTnRefIdeal : Cert.OutUTnRefIdeal.Facts] : Prop :=
  ∀ (m : (ℓ : Loc Cert.OutUTnIdeal.nD Cert.OutUTnIdeal.τ Cert.OutUTnIdeal.sig) → Buf (Elt Ideal) ℓ) (g : Dev Cert.OutUTnIdeal.nD → PrngReg)
    (m' : (ℓ : Loc Cert.OutUTnRefIdeal.nD Cert.OutUTnRefIdeal.τ Cert.OutUTnRefIdeal.sig) → Buf (Elt Ideal) ℓ) (g' : Dev Cert.OutUTnRefIdeal.nD → PrngReg), Pre_OutUTnIdeal m →
    (∀ c : Dev Cert.OutUTnIdeal.nD,
      m' ((c.tc : Thread Cert.OutUTnRefIdeal.nD Cert.OutUTnRefIdeal.τ).loc Cert.OutUTnRefIdeal.main_arg0) = m ((c.tc : Thread Cert.OutUTnIdeal.nD Cert.OutUTnIdeal.τ).loc Cert.OutUTnIdeal.main_arg0)
      ∧ m' ((c.tc : Thread Cert.OutUTnRefIdeal.nD Cert.OutUTnRefIdeal.τ).loc Cert.OutUTnRefIdeal.main_arg1) = m ((c.tc : Thread Cert.OutUTnIdeal.nD Cert.OutUTnIdeal.τ).loc Cert.OutUTnIdeal.main_arg1)) →
    ∃ (v0 : (c : Dev Cert.OutUTnIdeal.nD) → Buf (Elt Ideal) ((c.tc : Thread Cert.OutUTnIdeal.nD Cert.OutUTnIdeal.τ).loc Cert.OutUTnIdeal.main_v1)),
      θ_run (Cert.OutUTnIdeal.defs (F := Ideal)) (onTc (τ := Cert.OutUTnIdeal.τ) (Cert.OutUTnIdeal.main (F := Ideal))) ⟨m, fun _ => 0, g⟩ (fun r => ∀ c : Dev Cert.OutUTnIdeal.nD,
          r.2.mem ((c.tc : Thread Cert.OutUTnIdeal.nD Cert.OutUTnIdeal.τ).loc Cert.OutUTnIdeal.main_v1) = v0 c
          ∧ r.2.mem ((c.tc : Thread Cert.OutUTnIdeal.nD Cert.OutUTnIdeal.τ).loc Cert.OutUTnIdeal.main_arg0) = m ((c.tc : Thread Cert.OutUTnIdeal.nD Cert.OutUTnIdeal.τ).loc Cert.OutUTnIdeal.main_arg0)
          ∧ r.2.mem ((c.tc : Thread Cert.OutUTnIdeal.nD Cert.OutUTnIdeal.τ).loc Cert.OutUTnIdeal.main_arg1) = m ((c.tc : Thread Cert.OutUTnIdeal.nD Cert.OutUTnIdeal.τ).loc Cert.OutUTnIdeal.main_arg1))
      ∧ θ_run (Cert.OutUTnRefIdeal.defs (F := Ideal)) (onTc (τ := Cert.OutUTnRefIdeal.τ) (Cert.OutUTnRefIdeal.main (F := Ideal))) ⟨m', fun _ => 0, g'⟩ (fun r => ∀ c : Dev Cert.OutUTnRefIdeal.nD,
          r.2.mem ((c.tc : Thread Cert.OutUTnRefIdeal.nD Cert.OutUTnRefIdeal.τ).loc Cert.OutUTnRefIdeal.main_v3) = v0 c
          ∧ r.2.mem ((c.tc : Thread Cert.OutUTnRefIdeal.nD Cert.OutUTnRefIdeal.τ).loc Cert.OutUTnRefIdeal.main_arg0) = m' ((c.tc : Thread Cert.OutUTnRefIdeal.nD Cert.OutUTnRefIdeal.τ).loc Cert.OutUTnRefIdeal.main_arg0)
          ∧ r.2.mem ((c.tc : Thread Cert.OutUTnRefIdeal.nD Cert.OutUTnRefIdeal.τ).loc Cert.OutUTnRefIdeal.main_arg1) = m' ((c.tc : Thread Cert.OutUTnRefIdeal.nD Cert.OutUTnRefIdeal.τ).loc Cert.OutUTnRefIdeal.main_arg1))

def preserves_OutATn_OutATnIdeal : Prop :=
  True

def algebraic_OutATnIdeal_OutATnRefIdeal [hOutATnIdeal : Cert.OutATnIdeal.Facts] [hOutATnRefIdeal : Cert.OutATnRefIdeal.Facts] : Prop :=
  ∀ (m : (ℓ : Loc Cert.OutATnIdeal.nD Cert.OutATnIdeal.τ Cert.OutATnIdeal.sig) → Buf (Elt Ideal) ℓ) (g : Dev Cert.OutATnIdeal.nD → PrngReg)
    (m' : (ℓ : Loc Cert.OutATnRefIdeal.nD Cert.OutATnRefIdeal.τ Cert.OutATnRefIdeal.sig) → Buf (Elt Ideal) ℓ) (g' : Dev Cert.OutATnRefIdeal.nD → PrngReg), Pre_OutATnIdeal m →
    (∀ c : Dev Cert.OutATnIdeal.nD,
      m' ((c.tc : Thread Cert.OutATnRefIdeal.nD Cert.OutATnRefIdeal.τ).loc Cert.OutATnRefIdeal.main_arg0) = m ((c.tc : Thread Cert.OutATnIdeal.nD Cert.OutATnIdeal.τ).loc Cert.OutATnIdeal.main_arg0)
      ∧ m' ((c.tc : Thread Cert.OutATnRefIdeal.nD Cert.OutATnRefIdeal.τ).loc Cert.OutATnRefIdeal.main_arg1) = m ((c.tc : Thread Cert.OutATnIdeal.nD Cert.OutATnIdeal.τ).loc Cert.OutATnIdeal.main_arg1)) →
    ∃ (v0 : (c : Dev Cert.OutATnIdeal.nD) → Buf (Elt Ideal) ((c.tc : Thread Cert.OutATnIdeal.nD Cert.OutATnIdeal.τ).loc Cert.OutATnIdeal.main_v2)),
      θ_run (Cert.OutATnIdeal.defs (F := Ideal)) (onTc (τ := Cert.OutATnIdeal.τ) (Cert.OutATnIdeal.main (F := Ideal))) ⟨m, fun _ => 0, g⟩ (fun r => ∀ c : Dev Cert.OutATnIdeal.nD,
          r.2.mem ((c.tc : Thread Cert.OutATnIdeal.nD Cert.OutATnIdeal.τ).loc Cert.OutATnIdeal.main_v2) = v0 c
          ∧ r.2.mem ((c.tc : Thread Cert.OutATnIdeal.nD Cert.OutATnIdeal.τ).loc Cert.OutATnIdeal.main_arg0) = m ((c.tc : Thread Cert.OutATnIdeal.nD Cert.OutATnIdeal.τ).loc Cert.OutATnIdeal.main_arg0)
          ∧ r.2.mem ((c.tc : Thread Cert.OutATnIdeal.nD Cert.OutATnIdeal.τ).loc Cert.OutATnIdeal.main_arg1) = m ((c.tc : Thread Cert.OutATnIdeal.nD Cert.OutATnIdeal.τ).loc Cert.OutATnIdeal.main_arg1))
      ∧ θ_run (Cert.OutATnRefIdeal.defs (F := Ideal)) (onTc (τ := Cert.OutATnRefIdeal.τ) (Cert.OutATnRefIdeal.main (F := Ideal))) ⟨m', fun _ => 0, g'⟩ (fun r => ∀ c : Dev Cert.OutATnRefIdeal.nD,
          r.2.mem ((c.tc : Thread Cert.OutATnRefIdeal.nD Cert.OutATnRefIdeal.τ).loc Cert.OutATnRefIdeal.main_v7) = v0 c
          ∧ r.2.mem ((c.tc : Thread Cert.OutATnRefIdeal.nD Cert.OutATnRefIdeal.τ).loc Cert.OutATnRefIdeal.main_arg0) = m' ((c.tc : Thread Cert.OutATnRefIdeal.nD Cert.OutATnRefIdeal.τ).loc Cert.OutATnRefIdeal.main_arg0)
          ∧ r.2.mem ((c.tc : Thread Cert.OutATnRefIdeal.nD Cert.OutATnRefIdeal.τ).loc Cert.OutATnRefIdeal.main_arg1) = m' ((c.tc : Thread Cert.OutATnRefIdeal.nD Cert.OutATnRefIdeal.τ).loc Cert.OutATnRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hKernel : Cert.Kernel.Facts) (hKernelIdeal : Cert.KernelIdeal.Facts) (hReferenceIdeal : Cert.ReferenceIdeal.Facts) (hUpGate : Cert.UpGate.Facts) (hUpGateIdeal : Cert.UpGateIdeal.Facts) (hUpGateRefIdeal : Cert.UpGateRefIdeal.Facts) (hUpValue : Cert.UpValue.Facts) (hUpValueIdeal : Cert.UpValueIdeal.Facts) (hUpValueRefIdeal : Cert.UpValueRefIdeal.Facts) (hUpGateT : Cert.UpGateT.Facts) (hUpGateTIdeal : Cert.UpGateTIdeal.Facts) (hUpGateTRefIdeal : Cert.UpGateTRefIdeal.Facts) (hUpValueT : Cert.UpValueT.Facts) (hUpValueTIdeal : Cert.UpValueTIdeal.Facts) (hUpValueTRefIdeal : Cert.UpValueTRefIdeal.Facts) (hUpTn : Cert.UpTn.Facts) (hUpTnIdeal : Cert.UpTnIdeal.Facts) (hUpTnRefIdeal : Cert.UpTnRefIdeal.Facts) (hDown : Cert.Down.Facts) (hDownIdeal : Cert.DownIdeal.Facts) (hDownRefIdeal : Cert.DownRefIdeal.Facts) (hDownT : Cert.DownT.Facts) (hDownTIdeal : Cert.DownTIdeal.Facts) (hDownTRefIdeal : Cert.DownTRefIdeal.Facts) (hDownTn : Cert.DownTn.Facts) (hDownTnIdeal : Cert.DownTnIdeal.Facts) (hDownTnRefIdeal : Cert.DownTnRefIdeal.Facts) (hMemQ : Cert.MemQ.Facts) (hMemQIdeal : Cert.MemQIdeal.Facts) (hMemQRefIdeal : Cert.MemQRefIdeal.Facts) (hMemO : Cert.MemO.Facts) (hMemOIdeal : Cert.MemOIdeal.Facts) (hMemORefIdeal : Cert.MemORefIdeal.Facts) (hMemT : Cert.MemT.Facts) (hMemTIdeal : Cert.MemTIdeal.Facts) (hMemTRefIdeal : Cert.MemTRefIdeal.Facts) (hMemTn : Cert.MemTn.Facts) (hMemTnIdeal : Cert.MemTnIdeal.Facts) (hMemTnRefIdeal : Cert.MemTnRefIdeal.Facts) (hMixIn : Cert.MixIn.Facts) (hMixInIdeal : Cert.MixInIdeal.Facts) (hMixInRefIdeal : Cert.MixInRefIdeal.Facts) (hMixInT : Cert.MixInT.Facts) (hMixInTIdeal : Cert.MixInTIdeal.Facts) (hMixInTRefIdeal : Cert.MixInTRefIdeal.Facts) (hMixInTn : Cert.MixInTn.Facts) (hMixInTnIdeal : Cert.MixInTnIdeal.Facts) (hMixInTnRefIdeal : Cert.MixInTnRefIdeal.Facts) (hOutU : Cert.OutU.Facts) (hOutUIdeal : Cert.OutUIdeal.Facts) (hOutURefIdeal : Cert.OutURefIdeal.Facts) (hOutA : Cert.OutA.Facts) (hOutAIdeal : Cert.OutAIdeal.Facts) (hOutARefIdeal : Cert.OutARefIdeal.Facts) (hOutUT : Cert.OutUT.Facts) (hOutUTIdeal : Cert.OutUTIdeal.Facts) (hOutUTRefIdeal : Cert.OutUTRefIdeal.Facts) (hOutAT : Cert.OutAT.Facts) (hOutATIdeal : Cert.OutATIdeal.Facts) (hOutATRefIdeal : Cert.OutATRefIdeal.Facts) (hOutUTn : Cert.OutUTn.Facts) (hOutUTnIdeal : Cert.OutUTnIdeal.Facts) (hOutUTnRefIdeal : Cert.OutUTnRefIdeal.Facts) (hOutATn : Cert.OutATn.Facts) (hOutATnIdeal : Cert.OutATnIdeal.Facts) (hOutATnRefIdeal : Cert.OutATnRefIdeal.Facts) (hRmsBwd : Cert.RmsBwd.Facts) (hRmsBwdIdeal : Cert.RmsBwdIdeal.Facts) (hRmsBwdRefIdeal : Cert.RmsBwdRefIdeal.Facts) (hRms : Cert.Rms.Facts) (hRmsIdeal : Cert.RmsIdeal.Facts) (hRmsRefIdeal : Cert.RmsRefIdeal.Facts) (hLoss : Cert.Loss.Facts) (hLossIdeal : Cert.LossIdeal.Facts) (hLossRefIdeal : Cert.LossRefIdeal.Facts) (hPre_entries_finite : Cert.Pre_entries_finite.Facts),
    quiescent_Kernel (hKernel := hKernel)
    ∧ quiescent_KernelIdeal (hKernelIdeal := hKernelIdeal)
    ∧ quiescent_KernelIdeal_pre_entries_finite (hKernelIdeal := hKernelIdeal) (hPre_entries_finite := hPre_entries_finite)
    ∧ quiescent_ReferenceIdeal (hReferenceIdeal := hReferenceIdeal)
    ∧ quiescent_ReferenceIdeal_pre_entries_finite (hReferenceIdeal := hReferenceIdeal) (hPre_entries_finite := hPre_entries_finite)
    ∧ quiescent_UpGate (hUpGate := hUpGate)
    ∧ quiescent_UpGateIdeal (hUpGateIdeal := hUpGateIdeal)
    ∧ quiescent_UpGateRefIdeal (hUpGateRefIdeal := hUpGateRefIdeal)
    ∧ quiescent_UpValue (hUpValue := hUpValue)
    ∧ quiescent_UpValueIdeal (hUpValueIdeal := hUpValueIdeal)
    ∧ quiescent_UpValueRefIdeal (hUpValueRefIdeal := hUpValueRefIdeal)
    ∧ quiescent_UpGateT (hUpGateT := hUpGateT)
    ∧ quiescent_UpGateTIdeal (hUpGateTIdeal := hUpGateTIdeal)
    ∧ quiescent_UpGateTRefIdeal (hUpGateTRefIdeal := hUpGateTRefIdeal)
    ∧ quiescent_UpValueT (hUpValueT := hUpValueT)
    ∧ quiescent_UpValueTIdeal (hUpValueTIdeal := hUpValueTIdeal)
    ∧ quiescent_UpValueTRefIdeal (hUpValueTRefIdeal := hUpValueTRefIdeal)
    ∧ quiescent_UpTn (hUpTn := hUpTn)
    ∧ quiescent_UpTnIdeal (hUpTnIdeal := hUpTnIdeal)
    ∧ quiescent_UpTnRefIdeal (hUpTnRefIdeal := hUpTnRefIdeal)
    ∧ quiescent_Down (hDown := hDown)
    ∧ quiescent_DownIdeal (hDownIdeal := hDownIdeal)
    ∧ quiescent_DownRefIdeal (hDownRefIdeal := hDownRefIdeal)
    ∧ quiescent_DownT (hDownT := hDownT)
    ∧ quiescent_DownTIdeal (hDownTIdeal := hDownTIdeal)
    ∧ quiescent_DownTRefIdeal (hDownTRefIdeal := hDownTRefIdeal)
    ∧ quiescent_DownTn (hDownTn := hDownTn)
    ∧ quiescent_DownTnIdeal (hDownTnIdeal := hDownTnIdeal)
    ∧ quiescent_DownTnRefIdeal (hDownTnRefIdeal := hDownTnRefIdeal)
    ∧ quiescent_MemQ (hMemQ := hMemQ)
    ∧ quiescent_MemQIdeal (hMemQIdeal := hMemQIdeal)
    ∧ quiescent_MemQRefIdeal (hMemQRefIdeal := hMemQRefIdeal)
    ∧ quiescent_MemO (hMemO := hMemO)
    ∧ quiescent_MemOIdeal (hMemOIdeal := hMemOIdeal)
    ∧ quiescent_MemORefIdeal (hMemORefIdeal := hMemORefIdeal)
    ∧ quiescent_MemT (hMemT := hMemT)
    ∧ quiescent_MemTIdeal (hMemTIdeal := hMemTIdeal)
    ∧ quiescent_MemTRefIdeal (hMemTRefIdeal := hMemTRefIdeal)
    ∧ quiescent_MemTn (hMemTn := hMemTn)
    ∧ quiescent_MemTnIdeal (hMemTnIdeal := hMemTnIdeal)
    ∧ quiescent_MemTnRefIdeal (hMemTnRefIdeal := hMemTnRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixInT (hMixInT := hMixInT)
    ∧ quiescent_MixInTIdeal (hMixInTIdeal := hMixInTIdeal)
    ∧ quiescent_MixInTRefIdeal (hMixInTRefIdeal := hMixInTRefIdeal)
    ∧ quiescent_MixInTn (hMixInTn := hMixInTn)
    ∧ quiescent_MixInTnIdeal (hMixInTnIdeal := hMixInTnIdeal)
    ∧ quiescent_MixInTnRefIdeal (hMixInTnRefIdeal := hMixInTnRefIdeal)
    ∧ quiescent_OutU (hOutU := hOutU)
    ∧ quiescent_OutUIdeal (hOutUIdeal := hOutUIdeal)
    ∧ quiescent_OutURefIdeal (hOutURefIdeal := hOutURefIdeal)
    ∧ quiescent_OutA (hOutA := hOutA)
    ∧ quiescent_OutAIdeal (hOutAIdeal := hOutAIdeal)
    ∧ quiescent_OutARefIdeal (hOutARefIdeal := hOutARefIdeal)
    ∧ quiescent_OutUT (hOutUT := hOutUT)
    ∧ quiescent_OutUTIdeal (hOutUTIdeal := hOutUTIdeal)
    ∧ quiescent_OutUTRefIdeal (hOutUTRefIdeal := hOutUTRefIdeal)
    ∧ quiescent_OutAT (hOutAT := hOutAT)
    ∧ quiescent_OutATIdeal (hOutATIdeal := hOutATIdeal)
    ∧ quiescent_OutATRefIdeal (hOutATRefIdeal := hOutATRefIdeal)
    ∧ quiescent_OutUTn (hOutUTn := hOutUTn)
    ∧ quiescent_OutUTnIdeal (hOutUTnIdeal := hOutUTnIdeal)
    ∧ quiescent_OutUTnRefIdeal (hOutUTnRefIdeal := hOutUTnRefIdeal)
    ∧ quiescent_OutATn (hOutATn := hOutATn)
    ∧ quiescent_OutATnIdeal (hOutATnIdeal := hOutATnIdeal)
    ∧ quiescent_OutATnRefIdeal (hOutATnRefIdeal := hOutATnRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_Rms (hRms := hRms)
    ∧ quiescent_RmsIdeal (hRmsIdeal := hRmsIdeal)
    ∧ quiescent_RmsRefIdeal (hRmsRefIdeal := hRmsRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_entries_finite (hKernelIdeal := hKernelIdeal) (hReferenceIdeal := hReferenceIdeal) (hPre_entries_finite := hPre_entries_finite)
    ∧ preserves_UpGate_UpGateIdeal
    ∧ algebraic_UpGateIdeal_UpGateRefIdeal (hUpGateIdeal := hUpGateIdeal) (hUpGateRefIdeal := hUpGateRefIdeal)
    ∧ preserves_UpValue_UpValueIdeal
    ∧ algebraic_UpValueIdeal_UpValueRefIdeal (hUpValueIdeal := hUpValueIdeal) (hUpValueRefIdeal := hUpValueRefIdeal)
    ∧ preserves_UpGateT_UpGateTIdeal
    ∧ algebraic_UpGateTIdeal_UpGateTRefIdeal (hUpGateTIdeal := hUpGateTIdeal) (hUpGateTRefIdeal := hUpGateTRefIdeal)
    ∧ preserves_UpValueT_UpValueTIdeal
    ∧ algebraic_UpValueTIdeal_UpValueTRefIdeal (hUpValueTIdeal := hUpValueTIdeal) (hUpValueTRefIdeal := hUpValueTRefIdeal)
    ∧ preserves_UpTn_UpTnIdeal
    ∧ algebraic_UpTnIdeal_UpTnRefIdeal (hUpTnIdeal := hUpTnIdeal) (hUpTnRefIdeal := hUpTnRefIdeal)
    ∧ preserves_Down_DownIdeal
    ∧ algebraic_DownIdeal_DownRefIdeal (hDownIdeal := hDownIdeal) (hDownRefIdeal := hDownRefIdeal)
    ∧ preserves_DownT_DownTIdeal
    ∧ algebraic_DownTIdeal_DownTRefIdeal (hDownTIdeal := hDownTIdeal) (hDownTRefIdeal := hDownTRefIdeal)
    ∧ preserves_DownTn_DownTnIdeal
    ∧ algebraic_DownTnIdeal_DownTnRefIdeal (hDownTnIdeal := hDownTnIdeal) (hDownTnRefIdeal := hDownTnRefIdeal)
    ∧ preserves_MemQ_MemQIdeal
    ∧ algebraic_MemQIdeal_MemQRefIdeal (hMemQIdeal := hMemQIdeal) (hMemQRefIdeal := hMemQRefIdeal)
    ∧ preserves_MemO_MemOIdeal
    ∧ algebraic_MemOIdeal_MemORefIdeal (hMemOIdeal := hMemOIdeal) (hMemORefIdeal := hMemORefIdeal)
    ∧ preserves_MemT_MemTIdeal
    ∧ algebraic_MemTIdeal_MemTRefIdeal (hMemTIdeal := hMemTIdeal) (hMemTRefIdeal := hMemTRefIdeal)
    ∧ preserves_MemTn_MemTnIdeal
    ∧ algebraic_MemTnIdeal_MemTnRefIdeal (hMemTnIdeal := hMemTnIdeal) (hMemTnRefIdeal := hMemTnRefIdeal)
    ∧ preserves_MixIn_MixInIdeal
    ∧ algebraic_MixInIdeal_MixInRefIdeal (hMixInIdeal := hMixInIdeal) (hMixInRefIdeal := hMixInRefIdeal)
    ∧ preserves_MixInT_MixInTIdeal
    ∧ algebraic_MixInTIdeal_MixInTRefIdeal (hMixInTIdeal := hMixInTIdeal) (hMixInTRefIdeal := hMixInTRefIdeal)
    ∧ preserves_MixInTn_MixInTnIdeal
    ∧ algebraic_MixInTnIdeal_MixInTnRefIdeal (hMixInTnIdeal := hMixInTnIdeal) (hMixInTnRefIdeal := hMixInTnRefIdeal)
    ∧ preserves_OutU_OutUIdeal
    ∧ algebraic_OutUIdeal_OutURefIdeal (hOutUIdeal := hOutUIdeal) (hOutURefIdeal := hOutURefIdeal)
    ∧ preserves_OutA_OutAIdeal
    ∧ algebraic_OutAIdeal_OutARefIdeal (hOutAIdeal := hOutAIdeal) (hOutARefIdeal := hOutARefIdeal)
    ∧ preserves_OutUT_OutUTIdeal
    ∧ algebraic_OutUTIdeal_OutUTRefIdeal (hOutUTIdeal := hOutUTIdeal) (hOutUTRefIdeal := hOutUTRefIdeal)
    ∧ preserves_OutAT_OutATIdeal
    ∧ algebraic_OutATIdeal_OutATRefIdeal (hOutATIdeal := hOutATIdeal) (hOutATRefIdeal := hOutATRefIdeal)
    ∧ preserves_OutUTn_OutUTnIdeal
    ∧ algebraic_OutUTnIdeal_OutUTnRefIdeal (hOutUTnIdeal := hOutUTnIdeal) (hOutUTnRefIdeal := hOutUTnRefIdeal)
    ∧ preserves_OutATn_OutATnIdeal
    ∧ algebraic_OutATnIdeal_OutATnRefIdeal (hOutATnIdeal := hOutATnIdeal) (hOutATnRefIdeal := hOutATnRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_Rms_RmsIdeal
    ∧ algebraic_RmsIdeal_RmsRefIdeal (hRmsIdeal := hRmsIdeal) (hRmsRefIdeal := hRmsRefIdeal)
    ∧ preserves_Loss_LossIdeal
    ∧ algebraic_LossIdeal_LossRefIdeal (hLossIdeal := hLossIdeal) (hLossRefIdeal := hLossRefIdeal)
-- ==== Pre_entries_finite.lean ====
abbrev S8192x8x96 : Shape := ⟨3, ![8192, 8, 96]⟩
abbrev S8192x8x64 : Shape := ⟨3, ![8192, 8, 64]⟩
abbrev S8192x8x320 : Shape := ⟨3, ![8192, 8, 320]⟩
abbrev S_ : Shape := ⟨0, ![]⟩

class Facts : Prop where
  concatenates_S8192x8x96_S8192x8x96_S8192x8x64_S8192x8x64_S8192x8x320_d2 : Shape.Concatenates [S8192x8x96, S8192x8x96, S8192x8x64, S8192x8x64] S8192x8x320 2
  bcast_S_S8192x8x320 : S_.BroadcastsInDim S8192x8x320 (![] : Fin 0 → Fin S8192x8x320.rank)

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S8192x8x320 1 :=
  let main_v0 : FVec F S8192x8x320 .f32 := concatenate S8192x8x320 2 [⟨S8192x8x96, main_arg0⟩, ⟨S8192x8x96, main_arg1⟩, ⟨S8192x8x64, main_arg2⟩, ⟨S8192x8x64, main_arg3⟩] concatenates_S8192x8x96_S8192x8x96_S8192x8x64_S8192x8x64_S8192x8x320_d2
  let main_v1 : FVec F S8192x8x320 .f32 := Host.absf main_v0
  let main_cst : FVec F S_ .f32 := constant S_ .f32 0x7F800000#32
  let main_v2 : FVec F S8192x8x320 .f32 := broadcastInDim S8192x8x320 ![] bcast_S_S8192x8x320 main_cst
  let main_v3 : IVec S8192x8x320 1 := cmpf .olt main_v1 main_v2
  main_v3
-- ==== Kernel.lean ====
abbrev S8192x8x96 : Shape := ⟨3, ![8192, 8, 96]⟩
abbrev S8192x8x64 : Shape := ⟨3, ![8192, 8, 64]⟩
abbrev S_ : Shape := ⟨0, ![]⟩
abbrev S8192x8x128 : Shape := ⟨3, ![8192, 8, 128]⟩
abbrev S8192x1024 : Shape := ⟨2, ![8192, 1024]⟩
abbrev S8x16x1x512 : Shape := ⟨4, ![8, 16, 1, 512]⟩
abbrev S512x256 : Shape := ⟨2, ![512, 256]⟩
abbrev S8192x256 : Shape := ⟨2, ![8192, 256]⟩
abbrev S2x1x1x512 : Shape := ⟨4, ![2, 1, 1, 512]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S128x512 : Shape := ⟨2, ![128, 512]⟩
abbrev S1x512 : Shape := ⟨2, ![1, 512]⟩
abbrev S1x1x1x512 : Shape := ⟨4, ![1, 1, 1, 512]⟩
abbrev S2x16x1x512 : Shape := ⟨4, ![2, 16, 1, 512]⟩

abbrev nBuf : Space → Nat
  | .hbm => 33
  | .vmem => 44
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S8192x8x96, .bf16⟩
  | .hbm, ⟨8, _⟩ => ⟨S_, .i32⟩
  | .hbm, ⟨9, _⟩ => ⟨S_, .bf16⟩
  | .hbm, ⟨10, _⟩ => ⟨S8192x8x128, .bf16⟩
  | .hbm, ⟨11, _⟩ => ⟨S8192x1024, .bf16⟩
  | .hbm, ⟨12, _⟩ => ⟨S8192x8x96, .bf16⟩
  | .hbm, ⟨13, _⟩ => ⟨S_, .i32⟩
  | .hbm, ⟨14, _⟩ => ⟨S_, .bf16⟩
  | .hbm, ⟨15, _⟩ => ⟨S8192x8x128, .bf16⟩
  | .hbm, ⟨16, _⟩ => ⟨S8192x1024, .bf16⟩
  | .hbm, ⟨17, _⟩ => ⟨S8192x8x64, .bf16⟩
  | .hbm, ⟨18, _⟩ => ⟨S_, .i32⟩
  | .hbm, ⟨19, _⟩ => ⟨S_, .bf16⟩
  | .hbm, ⟨20, _⟩ => ⟨S8192x8x128, .bf16⟩
  | .hbm, ⟨21, _⟩ => ⟨S8192x1024, .bf16⟩
  | .hbm, ⟨22, _⟩ => ⟨S_, .i32⟩
  | .hbm, ⟨23, _⟩ => ⟨S_, .f32⟩
  | .hbm, ⟨24, _⟩ => ⟨S8192x8x128, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8x16x1x512, .f32⟩
  | .hbm, ⟨29, _⟩ => ⟨S8192x1024, .f32⟩
  | .hbm, ⟨30, _⟩ => ⟨S8x16x1x512, .f32⟩
  | .hbm, ⟨31, _⟩ => ⟨S8192x1024, .f32⟩
  | .hbm, ⟨32, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S2x1x1x512, .f32⟩
  | .local _ .vmem, ⟨11, _⟩ => ⟨S2x1x1x512, .f32⟩
  | .local _ .vmem, ⟨12, _⟩ => ⟨S512x256, .bf16⟩
  | .local _ .vmem, ⟨13, _⟩ => ⟨S512x256, .bf16⟩
  | .local _ .vmem, ⟨14, _⟩ => ⟨S8192x256, .bf16⟩
  | .local _ .vmem, ⟨15, _⟩ => ⟨S8192x256, .bf16⟩
  | .local _ .vmem, ⟨16, _⟩ => ⟨S8192x256, .bf16⟩
  | .local _ .vmem, ⟨17, _⟩ => ⟨S8192x256, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S2x1x1x512, .f32⟩
  | .local _ .vmem, ⟨27, _⟩ => ⟨S2x1x1x512, .f32⟩
  | .local _ .vmem, ⟨28, _⟩ => ⟨S8192x256, .bf16⟩
  | .local _ .vmem, ⟨29, _⟩ => ⟨S8192x256, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S8192x256, .f32⟩
  | .local _ .vmem, ⟨35, _⟩ => ⟨S8192x256, .f32⟩
  | .local _ .vmem, ⟨36, _⟩ => ⟨S2x16x1x512, .f32⟩
  | .local _ .vmem, ⟨37, _⟩ => ⟨S2x16x1x512, .f32⟩
  | .local _ .vmem, ⟨38, _⟩ => ⟨S2x16x1x512, .f32⟩
  | .local _ .vmem, ⟨39, _⟩ => ⟨S2x16x1x512, .f32⟩
  | .local _ .vmem, ⟨40, _⟩ => ⟨S512x256, .f32⟩
  | .local _ .vmem, ⟨41, _⟩ => ⟨S512x256, .f32⟩
  | .local _ .vmem, ⟨42, _⟩ => ⟨S512x256, .f32⟩
  | .local _ .vmem, ⟨43, _⟩ => ⟨S512x256, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v14_0 : Ref sig .tc := ⟨.hbm, 29, rfl⟩
abbrev main_v14_1 : Ref sig .tc := ⟨.hbm, 30, rfl⟩
abbrev main_v15_0 : Ref sig .tc := ⟨.hbm, 31, rfl⟩
abbrev main_v15_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc2_sem7_0 : DmaSem sig := 42
abbrev cc2_sem7_1 : DmaSem sig := 43

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_7 : BitVec 32 := 1#32
  ⟨c0_i32, v14, c1_i32_7⟩
def k0_mult1 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c512_i32_65 : BitVec 32 := 512#32
  let v203 : BitVec 32 := Scalar.muli arg8 c512_i32_65
  v203
def k0_off1 (i : grid0.Coords) (k0_t1 : Fin (k0_t1_loop i).trips) : Fin 2 → Nat :=
  let c0_i32 : BitVec 32 := 0#32
  let c1_i32_7 : BitVec 32 := 1#32
  let arg8 : BitVec 32 := Scf.iv c0_i32 c1_i32_7 k0_t1
  let c512_i32_65 : BitVec 32 := 512#32
  let v203 : BitVec 32 := Scalar.muli arg8 c512_i32_65
  let v204 : BitVec 32 := v203
  let v205 : Index := Scalar.indexCast v204
  let c0_66 : Index := 0#32
  ![v205.toNat, 0]
def k0_off2 (i : grid0.Coords) (k0_t1 : Fin (k0_t1_loop i).trips) : Fin 2 → Nat :=
  let c0_i32 : BitVec 32 := 0#32
  let c1_i32_7 : BitVec 32 := 1#32
  let arg8 : BitVec 32 := Scf.iv c0_i32 c1_i32_7 k0_t1
  let c512_i32_65 : BitVec 32 := 512#32
  let v203 : BitVec 32 := Scalar.muli arg8 c512_i32_65
  let v204 : BitVec 32 := v203
  let v229 : Index := Scalar.indexCast v204
  let c128_72 : Index := 128#32
  ![v229.toNat, 128]
@[reducible] def k0_t2_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_8 : BitVec 32 := 1#32
  ⟨v14, v11, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg8 : BitVec 32 := Scf.iv v14 c1_i32_8 k0_t2
  let c512_i32_65 : BitVec 32 := 512#32
  let v203 : BitVec 32 := Scalar.muli arg8 c512_i32_65
  v203
def k0_off3 (i : grid0.Coords) (k0_t2 : Fin (k0_t2_loop i).trips) : Fin 2 → Nat :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg8 : BitVec 32 := Scf.iv v14 c1_i32_8 k0_t2
  let c512_i32_65 : BitVec 32 := 512#32
  let v203 : BitVec 32 := Scalar.muli arg8 c512_i32_65
  let v204 : BitVec 32 := v203
  let v205 : Index := Scalar.indexCast v204
  let c0_66 : Index := 0#32
  ![v205.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg8 : BitVec 32 := Scf.iv v14 c1_i32_8 k0_t2
  let c512_i32_65 : BitVec 32 := 512#32
  let v203 : BitVec 32 := Scalar.muli arg8 c512_i32_65
  let v204 : BitVec 32 := v203
  let v229 : Index := Scalar.indexCast v204
  let c128_72 : Index := 128#32
  ![v229.toNat, 128]
def k0_mult3 (i : grid0.Coords) : BitVec 32 :=
  let arg1 : BitVec 32 := BitVec.ofNat 32 (i 1).val
  let c512_i32 : BitVec 32 := 512#32
  let v17 : BitVec 32 := Scalar.muli arg1 c512_i32
  v17
def k0_off5 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v19 : Index := Scalar.indexCast v18
  let c0_9 : Index := 0#32
  ![v19.toNat, 0]
def k0_off6 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v96 : Index := Scalar.indexCast v18
  let c128_29 : Index := 128#32
  ![v96.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

@[reducible] def k1_t1_loop (i : grid1.Coords) : Scf.Loop 32 :=
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_17 : BitVec 32 := 1#32
  ⟨c0_i32, v32, c1_i32_17⟩
def k1_mult1 (i : grid1.Coords) (k1_t1 : Fin (k1_t1_loop i).trips) : BitVec 32 :=
  let c0_i32 : BitVec 32 := 0#32
  let c1_i32_17 : BitVec 32 := 1#32
  let arg10 : BitVec 32 := Scf.iv c0_i32 c1_i32_17 k1_t1
  let c512_i32_69 : BitVec 32 := 512#32
  let v193 : BitVec 32 := Scalar.muli arg10 c512_i32_69
  v193
def k1_off1 (i : grid1.Coords) (k1_t1 : Fin (k1_t1_loop i).trips) : Fin 2 → Nat :=
  let c0_i32 : BitVec 32 := 0#32
  let c1_i32_17 : BitVec 32 := 1#32
  let arg10 : BitVec 32 := Scf.iv c0_i32 c1_i32_17 k1_t1
  let c512_i32_69 : BitVec 32 := 512#32
  let v193 : BitVec 32 := Scalar.muli arg10 c512_i32_69
  let v194 : BitVec 32 := v193
  let v195 : Index := Scalar.indexCast v194
  let c0_70 : Index := 0#32
  ![v195.toNat, 0]
def k1_off2 (i : grid1.Coords) (k1_t1 : Fin (k1_t1_loop i).trips) : Fin 2 → Nat :=
  let c0_i32 : BitVec 32 := 0#32
  let c1_i32_17 : BitVec 32 := 1#32
  let arg10 : BitVec 32 := Scf.iv c0_i32 c1_i32_17 k1_t1
  let c512_i32_69 : BitVec 32 := 512#32
  let v193 : BitVec 32 := Scalar.muli arg10 c512_i32_69
  let v194 : BitVec 32 := v193
  let v212 : Index := Scalar.indexCast v194
  let c128_75 : Index := 128#32
  ![v212.toNat, 128]
@[reducible] def k1_t2_loop (i : grid1.Coords) : Scf.Loop 32 :=
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let v29 : BitVec 32 := Scalar.addi c0_i32 v28
  let c1_i32_18 : BitVec 32 := 1#32
  ⟨v32, v29, c1_i32_18⟩
def k1_mult2 (i : grid1.Coords) (k1_t2 : Fin (k1_t2_loop i).trips) : BitVec 32 :=
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_18 : BitVec 32 := 1#32
  let arg10 : BitVec 32 := Scf.iv v32 c1_i32_18 k1_t2
  let c512_i32_69 : BitVec 32 := 512#32
  let v193 : BitVec 32 := Scalar.muli arg10 c512_i32_69
  v193
def k1_off3 (i : grid1.Coords) (k1_t2 : Fin (k1_t2_loop i).trips) : Fin 2 → Nat :=
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_18 : BitVec 32 := 1#32
  let arg10 : BitVec 32 := Scf.iv v32 c1_i32_18 k1_t2
  let c512_i32_69 : BitVec 32 := 512#32
  let v193 : BitVec 32 := Scalar.muli arg10 c512_i32_69
  let v194 : BitVec 32 := v193
  let v195 : Index := Scalar.indexCast v194
  let c0_70 : Index := 0#32
  ![v195.toNat, 0]
def k1_off4 (i : grid1.Coords) (k1_t2 : Fin (k1_t2_loop i).trips) : Fin 2 → Nat :=
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_18 : BitVec 32 := 1#32
  let arg10 : BitVec 32 := Scf.iv v32 c1_i32_18 k1_t2
  let c512_i32_69 : BitVec 32 := 512#32
  let v193 : BitVec 32 := Scalar.muli arg10 c512_i32_69
  let v194 : BitVec 32 := v193
  let v212 : Index := Scalar.indexCast v194
  let c128_75 : Index := 128#32
  ![v212.toNat, 128]
def k1_mult3 (i : grid1.Coords) : BitVec 32 :=
  let arg1 : BitVec 32 := BitVec.ofNat 32 (i 1).val
  let c512_i32 : BitVec 32 := 512#32
  let v35 : BitVec 32 := Scalar.muli arg1 c512_i32
  v35
def k1_off5 (i : grid1.Coords) : Fin 2 → Nat :=
  let arg1 : BitVec 32 := BitVec.ofNat 32 (i 1).val
  let c512_i32 : BitVec 32 := 512#32
  let v35 : BitVec 32 := Scalar.muli arg1 c512_i32
  let v36 : BitVec 32 := v35
  let v37 : Index := Scalar.indexCast v36
  let c0_19 : Index := 0#32
  ![v37.toNat, 0]
def k1_off6 (i : grid1.Coords) : Fin 2 → Nat :=
  let arg1 : BitVec 32 := BitVec.ofNat 32 (i 1).val
  let c512_i32 : BitVec 32 := 512#32
  let v35 : BitVec 32 := Scalar.muli arg1 c512_i32
  let v36 : BitVec 32 := v35
  let v107 : Index := Scalar.indexCast v36
  let c128_38 : Index := 128#32
  ![v107.toNat, 128]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x1x1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![4, 16], ![false, false]⟩

def k2_mult1 (i : grid2.Coords) : BitVec 32 :=
  let arg1 : BitVec 32 := BitVec.ofNat 32 (i 1).val
  let c512_i32 : BitVec 32 := 512#32
  let v9 : BitVec 32 := Scalar.muli arg1 c512_i32
  v9
def k2_off1 (i : grid2.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_6 : Index := 0#32
  ![v11.toNat, 0]
def k2_off2 (i : grid2.Coords) : Fin 4 → Nat :=
  let c0_21 : Index := 0#32
  let arg1 : BitVec 32 := BitVec.ofNat 32 (i 1).val
  let v72 : Index := Scalar.indexCast arg1
  let c0_22 : Index := 0#32
  let c0_23 : Index := 0#32
  ![0, v72.toNat, 0, 0]
def k2_off3 (i : grid2.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v91 : Index := Scalar.indexCast v10
  let c128_30 : Index := 128#32
  ![v91.toNat, 128]
def k2_off4 (i : grid2.Coords) : Fin 4 → Nat :=
  let c1 : Index := 1#32
  let arg1 : BitVec 32 := BitVec.ofNat 32 (i 1).val
  let v152 : Index := Scalar.indexCast arg1
  let c0_48 : Index := 0#32
  let c0_49 : Index := 0#32
  ![1, v152.toNat, 0, 0]
@[reducible] def k2_t1_loop (i : grid2.Coords) : Scf.Loop 32 :=
  let arg1 : BitVec 32 := BitVec.ofNat 32 (i 1).val
  let c1_i32_56 : BitVec 32 := 1#32
  let v171 : BitVec 32 := Scalar.addi arg1 c1_i32_56
  let c16_i32 : BitVec 32 := 16#32
  let v172 : BitVec 32 := Scalar.subi c16_i32 v171
  let c1_i32_57 : BitVec 32 := 1#32
  let v174 : BitVec 32 := Scalar.divsi v172 c1_i32_57
  let v175 : BitVec 32 := Scalar.muli v174 c1_i32_57
  let v176 : BitVec 32 := Scalar.addi v171 v175
  let c1_i32_58 : BitVec 32 := 1#32
  ⟨v171, v176, c1_i32_58⟩
def k2_mult2 (i : grid2.Coords) (k2_t1 : Fin (k2_t1_loop i).trips) : BitVec 32 :=
  let arg1 : BitVec 32 := BitVec.ofNat 32 (i 1).val
  let c1_i32_56 : BitVec 32 := 1#32
  let v171 : BitVec 32 := Scalar.addi arg1 c1_i32_56
  let c1_i32_58 : BitVec 32 := 1#32
  let arg10 : BitVec 32 := Scf.iv v171 c1_i32_58 k2_t1
  let c512_i32_68 : BitVec 32 := 512#32
  let v183 : BitVec 32 := Scalar.muli arg10 c512_i32_68
  v183
def k2_off5 (i : grid2.Coords) (k2_t1 : Fin (k2_t1_loop i).trips) : Fin 2 → Nat :=
  let arg1 : BitVec 32 := BitVec.ofNat 32 (i 1).val
  let c1_i32_56 : BitVec 32 := 1#32
  let v171 : BitVec 32 := Scalar.addi arg1 c1_i32_56
  let c1_i32_58 : BitVec 32 := 1#32
  let arg10 : BitVec 32 := Scf.iv v171 c1_i32_58 k2_t1
  let c512_i32_68 : BitVec 32 := 512#32
  let v183 : BitVec 32 := Scalar.muli arg10 c512_i32_68
  let v184 : BitVec 32 := v183
  let v185 : Index := Scalar.indexCast v184
  let c0_69 : Index := 0#32
  ![v185.toNat, 0]
def k2_off6 (i : grid2.Coords) (k2_t1 : Fin (k2_t1_loop i).trips) : Fin 4 → Nat :=
  let c0_72 : Index := 0#32
  let arg1 : BitVec 32 := BitVec.ofNat 32 (i 1).val
  let c1_i32_56 : BitVec 32 := 1#32
  let v171 : BitVec 32 := Scalar.addi arg1 c1_i32_56
  let c1_i32_58 : BitVec 32 := 1#32
  let arg10 : BitVec 32 := Scf.iv v171 c1_i32_58 k2_t1
  let v193 : Index := Scalar.indexCast arg10
  let c0_73 : Index := 0#32
  let c0_74 : Index := 0#32
  ![0, v193.toNat, 0, 0]
def k2_off7 (i : grid2.Coords) (k2_t1 : Fin (k2_t1_loop i).trips) : Fin 2 → Nat :=
  let arg1 : BitVec 32 := BitVec.ofNat 32 (i 1).val
  let c1_i32_56 : BitVec 32 := 1#32
  let v171 : BitVec 32 := Scalar.addi arg1 c1_i32_56
  let c1_i32_58 : BitVec 32 := 1#32
  let arg10 : BitVec 32 := Scf.iv v171 c1_i32_58 k2_t1
  let c512_i32_68 : BitVec 32 := 512#32
  let v183 : BitVec 32 := Scalar.muli arg10 c512_i32_68
  let v184 : BitVec 32 := v183
  let v212 : Index := Scalar.indexCast v184
  let c128_81 : Index := 128#32
  ![v212.toNat, 128]
def k2_off8 (i : grid2.Coords) (k2_t1 : Fin (k2_t1_loop i).trips) : Fin 4 → Nat :=
  let c1_84 : Index := 1#32
  let arg1 : BitVec 32 := BitVec.ofNat 32 (i 1).val
  let c1_i32_56 : BitVec 32 := 1#32
  let v171 : BitVec 32 := Scalar.addi arg1 c1_i32_56
  let c1_i32_58 : BitVec 32 := 1#32
  let arg10 : BitVec 32 := Scf.iv v171 c1_i32_58 k2_t1
  let v220 : Index := Scalar.indexCast arg10
  let c0_85 : Index := 0#32
  let c0_86 : Index := 0#32
  ![1, v220.toNat, 0, 0]
@[reducible] def k2_t2_loop (i : grid2.Coords) : Scf.Loop 32 :=
  let arg1 : BitVec 32 := BitVec.ofNat 32 (i 1).val
  let c1_i32_56 : BitVec 32 := 1#32
  let v171 : BitVec 32 := Scalar.addi arg1 c1_i32_56
  let c16_i32 : BitVec 32 := 16#32
  let v172 : BitVec 32 := Scalar.subi c16_i32 v171
  let c1_i32_57 : BitVec 32 := 1#32
  let v174 : BitVec 32 := Scalar.divsi v172 c1_i32_57
  let v175 : BitVec 32 := Scalar.muli v174 c1_i32_57
  let v176 : BitVec 32 := Scalar.addi v171 v175
  let v173 : BitVec 32 := Scalar.addi v171 v172
  let c1_i32_59 : BitVec 32 := 1#32
  ⟨v176, v173, c1_i32_59⟩
def k2_mult3 (i : grid2.Coords) (k2_t2 : Fin (k2_t2_loop i).trips) : BitVec 32 :=
  let arg1 : BitVec 32 := BitVec.ofNat 32 (i 1).val
  let c1_i32_56 : BitVec 32 := 1#32
  let v171 : BitVec 32 := Scalar.addi arg1 c1_i32_56
  let c16_i32 : BitVec 32 := 16#32
  let v172 : BitVec 32 := Scalar.subi c16_i32 v171
  let c1_i32_57 : BitVec 32 := 1#32
  let v174 : BitVec 32 := Scalar.divsi v172 c1_i32_57
  let v175 : BitVec 32 := Scalar.muli v174 c1_i32_57
  let v176 : BitVec 32 := Scalar.addi v171 v175
  let c1_i32_59 : BitVec 32 := 1#32
  let arg10 : BitVec 32 := Scf.iv v176 c1_i32_59 k2_t2
  let c512_i32_68 : BitVec 32 := 512#32
  let v183 : BitVec 32 := Scalar.muli arg10 c512_i32_68
  v183
def k2_off9 (i : grid2.Coords) (k2_t2 : Fin (k2_t2_loop i).trips) : Fin 2 → Nat :=
  let arg1 : BitVec 32 := BitVec.ofNat 32 (i 1).val
  let c1_i32_56 : BitVec 32 := 1#32
  let v171 : BitVec 32 := Scalar.addi arg1 c1_i32_56
  let c16_i32 : BitVec 32 := 16#32
  let v172 : BitVec 32 := Scalar.subi c16_i32 v171
  let c1_i32_57 : BitVec 32 := 1#32
  let v174 : BitVec 32 := Scalar.divsi v172 c1_i32_57
  let v175 : BitVec 32 := Scalar.muli v174 c1_i32_57
  let v176 : BitVec 32 := Scalar.addi v171 v175
  let c1_i32_59 : BitVec 32 := 1#32
  let arg10 : BitVec 32 := Scf.iv v176 c1_i32_59 k2_t2
  let c512_i32_68 : BitVec 32 := 512#32
  let v183 : BitVec 32 := Scalar.muli arg10 c512_i32_68
  let v184 : BitVec 32 := v183
  let v185 : Index := Scalar.indexCast v184
  let c0_69 : Index := 0#32
  ![v185.toNat, 0]
def k2_off10 (i : grid2.Coords) (k2_t2 : Fin (k2_t2_loop i).trips) : Fin 4 → Nat :=
  let c0_72 : Index := 0#32
  let arg1 : BitVec 32 := BitVec.ofNat 32 (i 1).val
  let c1_i32_56 : BitVec 32 := 1#32
  let v171 : BitVec 32 := Scalar.addi arg1 c1_i32_56
  let c16_i32 : BitVec 32 := 16#32
  let v172 : BitVec 32 := Scalar.subi c16_i32 v171
  let c1_i32_57 : BitVec 32 := 1#32
  let v174 : BitVec 32 := Scalar.divsi v172 c1_i32_57
  let v175 : BitVec 32 := Scalar.muli v174 c1_i32_57
  let v176 : BitVec 32 := Scalar.addi v171 v175
  let c1_i32_59 : BitVec 32 := 1#32
  let arg10 : BitVec 32 := Scf.iv v176 c1_i32_59 k2_t2
  let v193 : Index := Scalar.indexCast arg10
  let c0_73 : Index := 0#32
  let c0_74 : Index := 0#32
  ![0, v193.toNat, 0, 0]
def k2_off11 (i : grid2.Coords) (k2_t2 : Fin (k2_t2_loop i).trips) : Fin 2 → Nat :=
  let arg1 : BitVec 32 := BitVec.ofNat 32 (i 1).val
  let c1_i32_56 : BitVec 32 := 1#32
  let v171 : BitVec 32 := Scalar.addi arg1 c1_i32_56
  let c16_i32 : BitVec 32 := 16#32
  let v172 : BitVec 32 := Scalar.subi c16_i32 v171
  let c1_i32_57 : BitVec 32 := 1#32
  let v174 : BitVec 32 := Scalar.divsi v172 c1_i32_57
  let v175 : BitVec 32 := Scalar.muli v174 c1_i32_57
  let v176 : BitVec 32 := Scalar.addi v171 v175
  let c1_i32_59 : BitVec 32 := 1#32
  let arg10 : BitVec 32 := Scf.iv v176 c1_i32_59 k2_t2
  let c512_i32_68 : BitVec 32 := 512#32
  let v183 : BitVec 32 := Scalar.muli arg10 c512_i32_68
  let v184 : BitVec 32 := v183
  let v212 : Index := Scalar.indexCast v184
  let c128_81 : Index := 128#32
  ![v212.toNat, 128]
def k2_off12 (i : grid2.Coords) (k2_t2 : Fin (k2_t2_loop i).trips) : Fin 4 → Nat :=
  let c1_84 : Index := 1#32
  let arg1 : BitVec 32 := BitVec.ofNat 32 (i 1).val
  let c1_i32_56 : BitVec 32 := 1#32
  let v171 : BitVec 32 := Scalar.addi arg1 c1_i32_56
  let c16_i32 : BitVec 32 := 16#32
  let v172 : BitVec 32 := Scalar.subi c16_i32 v171
  let c1_i32_57 : BitVec 32 := 1#32
  let v174 : BitVec 32 := Scalar.divsi v172 c1_i32_57
  let v175 : BitVec 32 := Scalar.muli v174 c1_i32_57
  let v176 : BitVec 32 := Scalar.addi v171 v175
  let c1_i32_59 : BitVec 32 := 1#32
  let arg10 : BitVec 32 := Scf.iv v176 c1_i32_59 k2_t2
  let v220 : Index := Scalar.indexCast arg10
  let c0_85 : Index := 0#32
  let c0_86 : Index := 0#32
  ![1, v220.toNat, 0, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S8192x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8192x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2x16x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2x16x1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== KernelIdeal.lean ====
variable {F : FTy → Type} [FloatOps F] [Named F]
def κ : String → Option EReal := fun
  | "neg" => some ⊥
  | _ => none
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x64x8192, .f32⟩
  | .hbm, ⟨47, _⟩ => ⟨S8192x8x64, .f32⟩
  | .hbm, ⟨48, _⟩ => ⟨S8x64x8192, .f32⟩
  | .hbm, ⟨49, _⟩ => ⟨S8x8192x8192, .f32⟩
  | .hbm, ⟨50, _⟩ => ⟨S8x64x8192, .f32⟩
  | .hbm, ⟨51, _⟩ => ⟨S8192x8x64, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192x8192, .f32⟩
  | .hbm, ⟨71, _⟩ => ⟨S8x8192x8192, .f32⟩
  | .hbm, ⟨72, _⟩ => ⟨S8x8192x96, .f32⟩
  | .hbm, ⟨73, _⟩ => ⟨S8192x8x96, .f32⟩
  | .hbm, ⟨74, _⟩ => ⟨S8x8192x96, .f32⟩
  | .hbm, ⟨75, _⟩ => ⟨S8192x8x96, .f32⟩
  | .hbm, ⟨76, _⟩ => ⟨S_, .i32⟩
  | .hbm, ⟨77, _⟩ => ⟨S_, .f32⟩
  | .hbm, ⟨78, _⟩ => ⟨S8192x8x128, .f32⟩
  | .hbm, ⟨79, _⟩ => ⟨S8192x1024, .f32⟩
  | .hbm, ⟨80, _⟩ => ⟨S_, .f32⟩
  | .hbm, ⟨81, _⟩ => ⟨S8192x8x96, .f32⟩
  | .hbm, ⟨82, _⟩ => ⟨S8192x8x96, .f32⟩
  | .hbm, ⟨83, _⟩ => ⟨S_, .i32⟩
  | .hbm, ⟨84, _⟩ => ⟨S_, .f32⟩
  | .hbm, ⟨85, _⟩ => ⟨S8192x8x128, .f32⟩
  | .hbm, ⟨86, _⟩ => ⟨S8192x1024, .f32⟩
  | .hbm, ⟨87, _⟩ => ⟨S_, .i32⟩
  | .hbm, ⟨88, _⟩ => ⟨S_, .f32⟩
  | .hbm, ⟨89, _⟩ => ⟨S8192x8x128, .f32⟩
  | .hbm, ⟨90, _⟩ => ⟨S8192x1024, .f32⟩
  | .hbm, ⟨91, _⟩ => ⟨S_, .i32⟩
  | .hbm, ⟨92, _⟩ => ⟨S_, .f32⟩
  | .hbm, ⟨93, _⟩ => ⟨S8192x8x128, .f32⟩
  | .hbm, ⟨94, _⟩ => ⟨S8192x1024, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call1_cst : Ref sig .tc := ⟨.hbm, 66, rfl⟩
abbrev main_call1_v0 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_call2_v0 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_call3_v0 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_call4_v0 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_call5_v0 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== UpGate.lean ====
abbrev S8192x1024 : Shape := ⟨2, ![8192, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S_ : Shape := ⟨0, ![]⟩
abbrev S8x1024x768 : Shape := ⟨3, ![8, 1024, 768]⟩
abbrev S8192x3072 : Shape := ⟨2, ![8192, 3072]⟩
abbrev S512x1024 : Shape := ⟨2, ![512, 1024]⟩
abbrev S1x1024x768 : Shape := ⟨3, ![1, 1024, 768]⟩
abbrev S512x768 : Shape := ⟨2, ![512, 768]⟩
abbrev S1024x768 : Shape := ⟨2, ![1024, 768]⟩

abbrev nBuf : Space → Nat
  | .hbm => 10
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S1024x8x704, .bf16⟩
  | .hbm, ⟨5, _⟩ => ⟨S8x1024x704, .bf16⟩
  | .hbm, ⟨6, _⟩ => ⟨S_, .i32⟩
  | .hbm, ⟨7, _⟩ => ⟨S_, .bf16⟩
  | .hbm, ⟨8, _⟩ => ⟨S8x1024x768, .bf16⟩
  | .hbm, ⟨9, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x768, .f32⟩
  | .local _ .vmem, ⟨5, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGateRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x4x704, .f32⟩
  | .hbm, ⟨5, _⟩ => ⟨S_, .i32⟩
  | .hbm, ⟨6, _⟩ => ⟨S_, .f32⟩
  | .hbm, ⟨7, _⟩ => ⟨S8192x4x768, .f32⟩
  | .hbm, ⟨8, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UpValue.lean ====
abbrev S8192x1024 : Shape := ⟨2, ![8192, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S_ : Shape := ⟨0, ![]⟩
abbrev S8x1024x768 : Shape := ⟨3, ![8, 1024, 768]⟩
abbrev S8192x3072 : Shape := ⟨2, ![8192, 3072]⟩
abbrev S512x1024 : Shape := ⟨2, ![512, 1024]⟩
abbrev S1x1024x768 : Shape := ⟨3, ![1, 1024, 768]⟩
abbrev S512x768 : Shape := ⟨2, ![512, 768]⟩
abbrev S1024x768 : Shape := ⟨2, ![1024, 768]⟩

abbrev nBuf : Space → Nat
  | .hbm => 10
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S1024x8x704, .bf16⟩
  | .hbm, ⟨5, _⟩ => ⟨S8x1024x704, .bf16⟩
  | .hbm, ⟨6, _⟩ => ⟨S_, .i32⟩
  | .hbm, ⟨7, _⟩ => ⟨S_, .bf16⟩
  | .hbm, ⟨8, _⟩ => ⟨S8x1024x768, .bf16⟩
  | .hbm, ⟨9, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x768, .f32⟩
  | .local _ .vmem, ⟨5, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpValueRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x4x704, .f32⟩
  | .hbm, ⟨5, _⟩ => ⟨S_, .i32⟩
  | .hbm, ⟨6, _⟩ => ⟨S_, .f32⟩
  | .hbm, ⟨7, _⟩ => ⟨S8192x4x768, .f32⟩
  | .hbm, ⟨8, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UpGateT.lean ====
abbrev S1024x5632 : Shape := ⟨2, ![1024, 5632]⟩
abbrev S8192x2816 : Shape := ⟨2, ![8192, 2816]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S1024x8x704 : Shape := ⟨3, ![1024, 8, 704]⟩
abbrev S8x1024x704 : Shape := ⟨3, ![8, 1024, 704]⟩
abbrev S8x1024x768 : Shape := ⟨3, ![8, 1024, 768]⟩
abbrev S8192x1024 : Shape := ⟨2, ![8192, 1024]⟩
abbrev S512x768 : Shape := ⟨2, ![512, 768]⟩
abbrev S1x1024x768 : Shape := ⟨3, ![1, 1024, 768]⟩
abbrev S512x1024 : Shape := ⟨2, ![512, 1024]⟩
abbrev S1024x768 : Shape := ⟨2, ![1024, 768]⟩

abbrev nBuf : Space → Nat
  | .hbm => 14
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x4x704, .f32⟩
  | .hbm, ⟨3, _⟩ => ⟨S_, .i32⟩
  | .hbm, ⟨4, _⟩ => ⟨S_, .f32⟩
  | .hbm, ⟨5, _⟩ => ⟨S8192x4x768, .f32⟩
  | .hbm, ⟨6, _⟩ => ⟨S8192x3072, .f32⟩
  | .hbm, ⟨7, _⟩ => ⟨S1024x5632, .bf16⟩
  | .hbm, ⟨8, _⟩ => ⟨S1024x8x704, .bf16⟩
  | .hbm, ⟨9, _⟩ => ⟨S8x1024x704, .bf16⟩
  | .hbm, ⟨10, _⟩ => ⟨S_, .i32⟩
  | .hbm, ⟨11, _⟩ => ⟨S_, .bf16⟩
  | .hbm, ⟨12, _⟩ => ⟨S8x1024x768, .bf16⟩
  | .hbm, ⟨13, _⟩ => ⟨S8192x1024, .f32⟩
  | .local _ .vmem, ⟨0, _⟩ => ⟨S512x768, .f32⟩
  | .local _ .vmem, ⟨1, _⟩ => ⟨S512x768, .f32⟩
  | .local _ .vmem, ⟨2, _⟩ => ⟨S1x1024x768, .bf16⟩
  | .local _ .vmem, ⟨3, _⟩ => ⟨S1x1024x768, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGateTRefIdeal.lean ====
abbrev S1024x5632 : Shape := ⟨2, ![1024, 5632]⟩
abbrev S8192x2816 : Shape := ⟨2, ![8192, 2816]⟩
abbrev S_ : Shape := ⟨0, ![]⟩
abbrev S8192x1024 : Shape := ⟨2, ![8192, 1024]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x2816, .f32⟩
  | .hbm, ⟨6, _⟩ => ⟨S_, .f32⟩
  | .hbm, ⟨7, _⟩ => ⟨S8192x5632, .f32⟩
  | .hbm, ⟨8, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UpValueT.lean ====
abbrev S1024x5632 : Shape := ⟨2, ![1024, 5632]⟩
abbrev S8192x2816 : Shape := ⟨2, ![8192, 2816]⟩
abbrev S8192x1024 : Shape := ⟨2, ![8192, 1024]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S1024x8x704 : Shape := ⟨3, ![1024, 8, 704]⟩
abbrev S8x1024x704 : Shape := ⟨3, ![8, 1024, 704]⟩
abbrev S8x1024x768 : Shape := ⟨3, ![8, 1024, 768]⟩
abbrev S512x768 : Shape := ⟨2, ![512, 768]⟩
abbrev S1x1024x768 : Shape := ⟨3, ![1, 1024, 768]⟩
abbrev S512x1024 : Shape := ⟨2, ![512, 1024]⟩
abbrev S1024x768 : Shape := ⟨2, ![1024, 768]⟩

abbrev nBuf : Space → Nat
  | .hbm => 15
  | .vmem => 9
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x1024, .f32⟩
  | .hbm, ⟨3, _⟩ => ⟨S8192x4x704, .f32⟩
  | .hbm, ⟨4, _⟩ => ⟨S_, .i32⟩
  | .hbm, ⟨5, _⟩ => ⟨S_, .f32⟩
  | .hbm, ⟨6, _⟩ => ⟨S8192x4x768, .f32⟩
  | .hbm, ⟨7, _⟩ => ⟨S8192x3072, .f32⟩
  | .hbm, ⟨8, _⟩ => ⟨S1024x5632, .bf16⟩
  | .hbm, ⟨9, _⟩ => ⟨S1024x8x704, .bf16⟩
  | .hbm, ⟨10, _⟩ => ⟨S8x1024x704, .bf16⟩
  | .hbm, ⟨11, _⟩ => ⟨S_, .i32⟩
  | .hbm, ⟨12, _⟩ => ⟨S_, .bf16⟩
  | .hbm, ⟨13, _⟩ => ⟨S8x1024x768, .bf16⟩
  | .hbm, ⟨14, _⟩ => ⟨S8192x1024, .f32⟩
  | .local _ .vmem, ⟨0, _⟩ => ⟨S512x768, .f32⟩
  | .local _ .vmem, ⟨1, _⟩ => ⟨S512x768, .f32⟩
  | .local _ .vmem, ⟨2, _⟩ => ⟨S1x1024x768, .bf16⟩
  | .local _ .vmem, ⟨3, _⟩ => ⟨S1x1024x768, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpValueTRefIdeal.lean ====
abbrev S1024x5632 : Shape := ⟨2, ![1024, 5632]⟩
abbrev S8192x2816 : Shape := ⟨2, ![8192, 2816]⟩
abbrev S8192x1024 : Shape := ⟨2, ![8192, 1024]⟩
abbrev S_ : Shape := ⟨0, ![]⟩
abbrev S8192x5632 : Shape := ⟨2, ![8192, 5632]⟩

abbrev nBuf : Space → Nat
  | .hbm => 11
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S_, .f32⟩
  | .hbm, ⟨8, _⟩ => ⟨S8192x5632, .f32⟩
  | .hbm, ⟨9, _⟩ => ⟨S8192x1024, .f32⟩
  | .hbm, ⟨10, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== UpTn.lean ====
abbrev S8192x1024 : Shape := ⟨2, ![8192, 1024]⟩
abbrev S8192x2816 : Shape := ⟨2, ![8192, 2816]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S4x1024x768 : Shape := ⟨3, ![4, 1024, 768]⟩
abbrev S512x1024 : Shape := ⟨2, ![512, 1024]⟩
abbrev S512x768 : Shape := ⟨2, ![512, 768]⟩
abbrev S1x1024x768 : Shape := ⟨3, ![1, 1024, 768]⟩
abbrev S1024x512 : Shape := ⟨2, ![1024, 512]⟩
abbrev S1024x768 : Shape := ⟨2, ![1024, 768]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x4x704, .f32⟩
  | .hbm, ⟨4, _⟩ => ⟨S_, .i32⟩
  | .hbm, ⟨5, _⟩ => ⟨S_, .f32⟩
  | .hbm, ⟨6, _⟩ => ⟨S8192x4x768, .f32⟩
  | .hbm, ⟨7, _⟩ => ⟨S8192x3072, .f32⟩
  | .hbm, ⟨8, _⟩ => ⟨S4x1024x768, .f32⟩
  | .local _ .vmem, ⟨0, _⟩ => ⟨S512x1024, .bf16⟩
  | .local _ .vmem, ⟨1, _⟩ => ⟨S512x1024, .bf16⟩
  | .local _ .vmem, ⟨2, _⟩ => ⟨S512x768, .f32⟩
  | .local _ .vmem, ⟨3, _⟩ => ⟨S512x768, .f32⟩
  | .local _ .vmem, ⟨4, _⟩ => ⟨S1x1024x768, .f32⟩
  | .local _ .vmem, ⟨5, _⟩ => ⟨S1x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k0_cond2 (i : grid0.Coords) : BitVec 1 :=
  let arg2 : BitVec 32 := BitVec.ofNat 32 (i 2).val
  let c0_i32_4 : BitVec 32 := 0#32
  let v10 : BitVec 1 := Scalar.cmpi .sgt arg2 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpTnRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x4x704, .f32⟩
  | .hbm, ⟨8, _⟩ => ⟨S4x1024x704, .f32⟩
  | .hbm, ⟨9, _⟩ => ⟨S_, .i32⟩
  | .hbm, ⟨10, _⟩ => ⟨S_, .f32⟩
  | .hbm, ⟨11, _⟩ => ⟨S4x1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S4x704x1024 : Shape := ⟨3, ![4, 704, 1024]⟩
abbrev S4x768x1024 : Shape := ⟨3, ![4, 768, 1024]⟩
abbrev S3072x1024 : Shape := ⟨2, ![3072, 1024]⟩
abbrev S512x1024 : Shape := ⟨2, ![512, 1024]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x4x704, .f32⟩
  | .hbm, ⟨4, _⟩ => ⟨S_, .i32⟩
  | .hbm, ⟨5, _⟩ => ⟨S_, .f32⟩
  | .hbm, ⟨6, _⟩ => ⟨S8192x4x768, .f32⟩
  | .hbm, ⟨7, _⟩ => ⟨S8192x3072, .f32⟩
  | .hbm, ⟨8, _⟩ => ⟨S8192x3072, .bf16⟩
  | .hbm, ⟨9, _⟩ => ⟨S2816x1024, .bf16⟩
  | .hbm, ⟨10, _⟩ => ⟨S4x704x1024, .bf16⟩
  | .hbm, ⟨11, _⟩ => ⟨S_, .i32⟩
  | .hbm, ⟨12, _⟩ => ⟨S_, .bf16⟩
  | .hbm, ⟨13, _⟩ => ⟨S4x768x1024, .bf16⟩
  | .hbm, ⟨14, _⟩ => ⟨S3072x1024, .bf16⟩
  | .hbm, ⟨15, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownT.lean ====
abbrev S2816x1024 : Shape := ⟨2, ![2816, 1024]⟩
abbrev S8192x1024 : Shape := ⟨2, ![8192, 1024]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S8192x3072 : Shape := ⟨2, ![8192, 3072]⟩
abbrev S512x1024 : Shape := ⟨2, ![512, 1024]⟩
abbrev S1536x1024 : Shape := ⟨2, ![1536, 1024]⟩
abbrev S512x1536 : Shape := ⟨2, ![512, 1536]⟩

abbrev nBuf : Space → Nat
  | .hbm => 9
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S2816x1024, .bf16⟩
  | .hbm, ⟨3, _⟩ => ⟨S4x704x1024, .bf16⟩
  | .hbm, ⟨4, _⟩ => ⟨S_, .i32⟩
  | .hbm, ⟨5, _⟩ => ⟨S_, .bf16⟩
  | .hbm, ⟨6, _⟩ => ⟨S4x768x1024, .bf16⟩
  | .hbm, ⟨7, _⟩ => ⟨S3072x1024, .bf16⟩
  | .hbm, ⟨8, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S1536x1024, .bf16⟩
  | .local _ .vmem, ⟨3, _⟩ => ⟨S1536x1024, .bf16⟩
  | .local _ .vmem, ⟨4, _⟩ => ⟨S512x1536, .f32⟩
  | .local _ .vmem, ⟨5, _⟩ => ⟨S512x1536, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownTRefIdeal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩
abbrev S8192x4x704 : Shape := ⟨3, ![8192, 4, 704]⟩
abbrev S8192x4x768 : Shape := ⟨3, ![8192, 4, 768]⟩
abbrev S8192x3072 : Shape := ⟨2, ![8192, 3072]⟩

abbrev nBuf : Space → Nat
  | .hbm => 11
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x4x704, .f32⟩
  | .hbm, ⟨7, _⟩ => ⟨S_, .i32⟩
  | .hbm, ⟨8, _⟩ => ⟨S_, .f32⟩
  | .hbm, ⟨9, _⟩ => ⟨S8192x4x768, .f32⟩
  | .hbm, ⟨10, _⟩ => ⟨S8192x3072, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== DownTn.lean ====
abbrev S8192x2816 : Shape := ⟨2, ![8192, 2816]⟩
abbrev S8192x1024 : Shape := ⟨2, ![8192, 1024]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S3072x1024 : Shape := ⟨2, ![3072, 1024]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S_, .i32⟩
  | .hbm, ⟨4, _⟩ => ⟨S_, .f32⟩
  | .hbm, ⟨5, _⟩ => ⟨S8192x4x768, .f32⟩
  | .hbm, ⟨6, _⟩ => ⟨S8192x3072, .f32⟩
  | .hbm, ⟨7, _⟩ => ⟨S8192x3072, .bf16⟩
  | .hbm, ⟨8, _⟩ => ⟨S3072x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownTnRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩
abbrev S4x768x1024 : Shape := ⟨3, ![4, 768, 1024]⟩
abbrev S3072x1024 : Shape := ⟨2, ![3072, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S_, .i32⟩
  | .hbm, ⟨9, _⟩ => ⟨S_, .f32⟩
  | .hbm, ⟨10, _⟩ => ⟨S4x768x1024, .f32⟩
  | .hbm, ⟨11, _⟩ => ⟨S3072x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== MemQ.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemQRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MemO.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MemORefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MemT.lean ====
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemTRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemTn.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemTnRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixIn.lean ====
abbrev S8192x1024 : Shape := ⟨2, ![8192, 1024]⟩
abbrev S1024x1440 : Shape := ⟨2, ![1024, 1440]⟩
abbrev S1024x1408 : Shape := ⟨2, ![1024, 1408]⟩
abbrev S_ : Shape := ⟨0, ![]⟩
abbrev S1024x64 : Shape := ⟨2, ![1024, 64]⟩
abbrev S1024x32 : Shape := ⟨2, ![1024, 32]⟩
abbrev S1024x1536 : Shape := ⟨2, ![1024, 1536]⟩
abbrev S8192x1536 : Shape := ⟨2, ![8192, 1536]⟩
abbrev S512x1024 : Shape := ⟨2, ![512, 1024]⟩
abbrev S512x1536 : Shape := ⟨2, ![512, 1536]⟩

abbrev nBuf : Space → Nat
  | .hbm => 12
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1440, .f32⟩
  | .hbm, ⟨2, _⟩ => ⟨S8192x1024, .bf16⟩
  | .hbm, ⟨3, _⟩ => ⟨S1024x1440, .bf16⟩
  | .hbm, ⟨4, _⟩ => ⟨S1024x1408, .bf16⟩
  | .hbm, ⟨5, _⟩ => ⟨S_, .bf16⟩
  | .hbm, ⟨6, _⟩ => ⟨S1024x64, .bf16⟩
  | .hbm, ⟨7, _⟩ => ⟨S1024x32, .bf16⟩
  | .hbm, ⟨8, _⟩ => ⟨S_, .bf16⟩
  | .hbm, ⟨9, _⟩ => ⟨S1024x32, .bf16⟩
  | .hbm, ⟨10, _⟩ => ⟨S1024x1536, .bf16⟩
  | .hbm, ⟨11, _⟩ => ⟨S8192x1536, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .f32⟩
  | .local _ .vmem, ⟨4, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S8192x1024 : Shape := ⟨2, ![8192, 1024]⟩
abbrev S1024x1440 : Shape := ⟨2, ![1024, 1440]⟩
abbrev S8192x1440 : Shape := ⟨2, ![8192, 1440]⟩
abbrev S8192x1408 : Shape := ⟨2, ![8192, 1408]⟩
abbrev S8192x32 : Shape := ⟨2, ![8192, 32]⟩
abbrev S_ : Shape := ⟨0, ![]⟩
abbrev S8192x1472 : Shape := ⟨2, ![8192, 1472]⟩
abbrev S8192x64 : Shape := ⟨2, ![8192, 64]⟩
abbrev S8192x1536 : Shape := ⟨2, ![8192, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1440, .f32⟩
  | .hbm, ⟨2, _⟩ => ⟨S8192x1440, .f32⟩
  | .hbm, ⟨3, _⟩ => ⟨S8192x1408, .f32⟩
  | .hbm, ⟨4, _⟩ => ⟨S8192x32, .f32⟩
  | .hbm, ⟨5, _⟩ => ⟨S_, .i32⟩
  | .hbm, ⟨6, _⟩ => ⟨S_, .f32⟩
  | .hbm, ⟨7, _⟩ => ⟨S8192x1472, .f32⟩
  | .hbm, ⟨8, _⟩ => ⟨S_, .i32⟩
  | .hbm, ⟨9, _⟩ => ⟨S_, .f32⟩
  | .hbm, ⟨10, _⟩ => ⟨S8192x64, .f32⟩
  | .hbm, ⟨11, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== MixInT.lean ====
abbrev S1024x1440 : Shape := ⟨2, ![1024, 1440]⟩
abbrev S8192x1440 : Shape := ⟨2, ![8192, 1440]⟩
abbrev S8192x1408 : Shape := ⟨2, ![8192, 1408]⟩
abbrev S_ : Shape := ⟨0, ![]⟩
abbrev S8192x64 : Shape := ⟨2, ![8192, 64]⟩
abbrev S8192x32 : Shape := ⟨2, ![8192, 32]⟩
abbrev S8192x1536 : Shape := ⟨2, ![8192, 1536]⟩
abbrev S1024x1408 : Shape := ⟨2, ![1024, 1408]⟩
abbrev S1024x64 : Shape := ⟨2, ![1024, 64]⟩
abbrev S1024x32 : Shape := ⟨2, ![1024, 32]⟩
abbrev S1024x1536 : Shape := ⟨2, ![1024, 1536]⟩
abbrev S8192x1024 : Shape := ⟨2, ![8192, 1024]⟩
abbrev S512x768 : Shape := ⟨2, ![512, 768]⟩
abbrev S1024x768 : Shape := ⟨2, ![1024, 768]⟩
abbrev S512x1024 : Shape := ⟨2, ![512, 1024]⟩

abbrev nBuf : Space → Nat
  | .hbm => 18
  | .vmem => 7
  | .smem => 0
  | _ => 0

abbrev bufTy : (tb : Table) → Fin (tcTables nBuf tb) → BufTy
  | .hbm, ⟨0, _⟩ => ⟨S1024x1440, .f32⟩
  | .hbm, ⟨1, _⟩ => ⟨S8192x1440, .f32⟩
  | .hbm, ⟨2, _⟩ => ⟨S8192x1408, .f32⟩
  | .hbm, ⟨3, _⟩ => ⟨S_, .f32⟩
  | .hbm, ⟨4, _⟩ => ⟨S8192x64, .f32⟩
  | .hbm, ⟨5, _⟩ => ⟨S8192x32, .f32⟩
  | .hbm, ⟨6, _⟩ => ⟨S_, .f32⟩
  | .hbm, ⟨7, _⟩ => ⟨S8192x32, .f32⟩
  | .hbm, ⟨8, _⟩ => ⟨S8192x1536, .f32⟩
  | .hbm, ⟨9, _⟩ => ⟨S1024x1440, .bf16⟩
  | .hbm, ⟨10, _⟩ => ⟨S1024x1408, .bf16⟩
  | .hbm, ⟨11, _⟩ => ⟨S_, .bf16⟩
  | .hbm, ⟨12, _⟩ => ⟨S1024x64, .bf16⟩
  | .hbm, ⟨13, _⟩ => ⟨S1024x32, .bf16⟩
  | .hbm, ⟨14, _⟩ => ⟨S_, .bf16⟩
  | .hbm, ⟨15, _⟩ => ⟨S1024x32, .bf16⟩
  | .hbm, ⟨16, _⟩ => ⟨S1024x1536, .bf16⟩
  | .hbm, ⟨17, _⟩ => ⟨S8192x1024, .f32⟩
  | .local _ .vmem, ⟨0, _⟩ => ⟨S512x768, .f32⟩
  | .local _ .vmem, ⟨1, _⟩ => ⟨S512x768, .f32⟩
  | .local _ .vmem, ⟨2, _⟩ => ⟨S1024x768, .bf16⟩
  | .local _ .vmem, ⟨3, _⟩ => ⟨S1024x768, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInTRefIdeal.lean ====
abbrev S1024x1440 : Shape := ⟨2, ![1024, 1440]⟩
abbrev S8192x1440 : Shape := ⟨2, ![8192, 1440]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1440, .f32⟩
  | .hbm, ⟨1, _⟩ => ⟨S8192x1440, .f32⟩
  | .hbm, ⟨2, _⟩ => ⟨S_, .f32⟩
  | .hbm, ⟨3, _⟩ => ⟨S8192x1024, .f32⟩
  | .hbm, ⟨4, _⟩ => ⟨S8192x1440, .f32⟩
  | .hbm, ⟨5, _⟩ => ⟨S8192x1024, .f32⟩
  | _, _ => ⟨S1024x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixInTn.lean ====
abbrev S8192x1024 : Shape := ⟨2, ![8192, 1024]⟩
abbrev S8192x1440 : Shape := ⟨2, ![8192, 1440]⟩
abbrev S8192x1408 : Shape := ⟨2, ![8192, 1408]⟩
abbrev S_ : Shape := ⟨0, ![]⟩
abbrev S8192x64 : Shape := ⟨2, ![8192, 64]⟩
abbrev S8192x32 : Shape := ⟨2, ![8192, 32]⟩
abbrev S8192x1536 : Shape := ⟨2, ![8192, 1536]⟩
abbrev S1024x1536 : Shape := ⟨2, ![1024, 1536]⟩
abbrev S512x1024 : Shape := ⟨2, ![512, 1024]⟩
abbrev S512x1536 : Shape := ⟨2, ![512, 1536]⟩
abbrev S1024x512 : Shape := ⟨2, ![1024, 512]⟩

abbrev nBuf : Space → Nat
  | .hbm => 11
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1440, .f32⟩
  | .hbm, ⟨2, _⟩ => ⟨S8192x1024, .bf16⟩
  | .hbm, ⟨3, _⟩ => ⟨S8192x1408, .f32⟩
  | .hbm, ⟨4, _⟩ => ⟨S_, .f32⟩
  | .hbm, ⟨5, _⟩ => ⟨S8192x64, .f32⟩
  | .hbm, ⟨6, _⟩ => ⟨S8192x32, .f32⟩
  | .hbm, ⟨7, _⟩ => ⟨S_, .f32⟩
  | .hbm, ⟨8, _⟩ => ⟨S8192x32, .f32⟩
  | .hbm, ⟨9, _⟩ => ⟨S8192x1536, .f32⟩
  | .hbm, ⟨10, _⟩ => ⟨S1024x1536, .f32⟩
  | .local _ .vmem, ⟨0, _⟩ => ⟨S512x1024, .bf16⟩
  | .local _ .vmem, ⟨1, _⟩ => ⟨S512x1024, .bf16⟩
  | .local _ .vmem, ⟨2, _⟩ => ⟨S512x1536, .f32⟩
  | .local _ .vmem, ⟨3, _⟩ => ⟨S512x1536, .f32⟩
  | .local _ .vmem, ⟨4, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k0_cond2 (i : grid0.Coords) : BitVec 1 :=
  let arg2 : BitVec 32 := BitVec.ofNat 32 (i 2).val
  let c0_i32_4 : BitVec 32 := 0#32
  let v10 : BitVec 1 := Scalar.cmpi .sgt arg2 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixInTnRefIdeal.lean ====
abbrev S8192x1024 : Shape := ⟨2, ![8192, 1024]⟩
abbrev S8192x1440 : Shape := ⟨2, ![8192, 1440]⟩
abbrev S_ : Shape := ⟨0, ![]⟩
abbrev S1024x1440 : Shape := ⟨2, ![1024, 1440]⟩
abbrev S1440x1024 : Shape := ⟨2, ![1440, 1024]⟩
abbrev S1024x1408 : Shape := ⟨2, ![1024, 1408]⟩
abbrev S1024x32 : Shape := ⟨2, ![1024, 32]⟩
abbrev S1024x1472 : Shape := ⟨2, ![1024, 1472]⟩
abbrev S1024x64 : Shape := ⟨2, ![1024, 64]⟩
abbrev S1024x1536 : Shape := ⟨2, ![1024, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1440, .f32⟩
  | .hbm, ⟨2, _⟩ => ⟨S_, .f32⟩
  | .hbm, ⟨3, _⟩ => ⟨S1024x1440, .f32⟩
  | .hbm, ⟨4, _⟩ => ⟨S8192x1440, .f32⟩
  | .hbm, ⟨5, _⟩ => ⟨S1440x1024, .f32⟩
  | .hbm, ⟨6, _⟩ => ⟨S1024x1440, .f32⟩
  | .hbm, ⟨7, _⟩ => ⟨S1024x1408, .f32⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x1472, .f32⟩
  | .hbm, ⟨12, _⟩ => ⟨S_, .i32⟩
  | .hbm, ⟨13, _⟩ => ⟨S_, .f32⟩
  | .hbm, ⟨14, _⟩ => ⟨S1024x64, .f32⟩
  | .hbm, ⟨15, _⟩ => ⟨S1024x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== OutU.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1024x1024, .f32⟩
  | .hbm, ⟨2, _⟩ => ⟨S8192x1024, .f32⟩
  | .hbm, ⟨3, _⟩ => ⟨S8192x512, .bf16⟩
  | .hbm, ⟨4, _⟩ => ⟨S1024x1024, .bf16⟩
  | .hbm, ⟨5, _⟩ => ⟨S512x1024, .bf16⟩
  | .hbm, ⟨6, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutURefIdeal.lean ====
abbrev S8192x512 : Shape := ⟨2, ![8192, 512]⟩
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x1024, .f32⟩
  | .hbm, ⟨2, _⟩ => ⟨S8192x1024, .f32⟩
  | .hbm, ⟨3, _⟩ => ⟨S512x1024, .f32⟩
  | .hbm, ⟨4, _⟩ => ⟨S8192x1024, .f32⟩
  | .hbm, ⟨5, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutA.lean ====
abbrev S8192x8x64 : Shape := ⟨3, ![8192, 8, 64]⟩
abbrev S1024x1024 : Shape := ⟨2, ![1024, 1024]⟩
abbrev S8192x1024 : Shape := ⟨2, ![8192, 1024]⟩
abbrev S_ : Shape := ⟨0, ![]⟩
abbrev S8192x8x128 : Shape := ⟨3, ![8192, 8, 128]⟩
abbrev S512x1024 : Shape := ⟨2, ![512, 1024]⟩
abbrev S8x64x1024 : Shape := ⟨3, ![8, 64, 1024]⟩
abbrev S8x128x1024 : Shape := ⟨3, ![8, 128, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x8x64, .f32⟩
  | .hbm, ⟨1, _⟩ => ⟨S1024x1024, .f32⟩
  | .hbm, ⟨2, _⟩ => ⟨S8192x1024, .f32⟩
  | .hbm, ⟨3, _⟩ => ⟨S_, .i32⟩
  | .hbm, ⟨4, _⟩ => ⟨S_, .f32⟩
  | .hbm, ⟨5, _⟩ => ⟨S8192x8x128, .f32⟩
  | .hbm, ⟨6, _⟩ => ⟨S8192x1024, .f32⟩
  | .hbm, ⟨7, _⟩ => ⟨S1024x1024, .bf16⟩
  | .hbm, ⟨8, _⟩ => ⟨S512x1024, .bf16⟩
  | .hbm, ⟨9, _⟩ => ⟨S8x64x1024, .bf16⟩
  | .hbm, ⟨10, _⟩ => ⟨S_, .i32⟩
  | .hbm, ⟨11, _⟩ => ⟨S_, .bf16⟩
  | .hbm, ⟨12, _⟩ => ⟨S8x128x1024, .bf16⟩
  | .hbm, ⟨13, _⟩ => ⟨S1024x1024, .bf16⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutARefIdeal.lean ====
abbrev S8192x8x64 : Shape := ⟨3, ![8192, 8, 64]⟩
abbrev S1024x1024 : Shape := ⟨2, ![1024, 1024]⟩
abbrev S8192x1024 : Shape := ⟨2, ![8192, 1024]⟩
abbrev S8192x512 : Shape := ⟨2, ![8192, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S1024x1024, .f32⟩
  | .hbm, ⟨2, _⟩ => ⟨S8192x1024, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutUT.lean ====
abbrev S1024x1024 : Shape := ⟨2, ![1024, 1024]⟩
abbrev S8192x1024 : Shape := ⟨2, ![8192, 1024]⟩
abbrev S512x1024 : Shape := ⟨2, ![512, 1024]⟩
abbrev S8192x512 : Shape := ⟨2, ![8192, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S512x1024, .bf16⟩
  | .hbm, ⟨4, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutUTRefIdeal.lean ====
abbrev S1024x1024 : Shape := ⟨2, ![1024, 1024]⟩
abbrev S8192x1024 : Shape := ⟨2, ![8192, 1024]⟩
abbrev S_ : Shape := ⟨0, ![]⟩
abbrev S8192x512 : Shape := ⟨2, ![8192, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutAT.lean ====
abbrev S1024x1024 : Shape := ⟨2, ![1024, 1024]⟩
abbrev S8192x1024 : Shape := ⟨2, ![8192, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩

abbrev nBuf : Space → Nat
  | .hbm => 10
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S512x1024, .bf16⟩
  | .hbm, ⟨4, _⟩ => ⟨S8x64x1024, .bf16⟩
  | .hbm, ⟨5, _⟩ => ⟨S_, .i32⟩
  | .hbm, ⟨6, _⟩ => ⟨S_, .bf16⟩
  | .hbm, ⟨7, _⟩ => ⟨S8x128x1024, .bf16⟩
  | .hbm, ⟨8, _⟩ => ⟨S1024x1024, .bf16⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutATRefIdeal.lean ====
abbrev S1024x1024 : Shape := ⟨2, ![1024, 1024]⟩
abbrev S8192x1024 : Shape := ⟨2, ![8192, 1024]⟩
abbrev S_ : Shape := ⟨0, ![]⟩
abbrev S8192x8x64 : Shape := ⟨3, ![8192, 8, 64]⟩
abbrev S8192x512 : Shape := ⟨2, ![8192, 512]⟩
abbrev S512x1024 : Shape := ⟨2, ![512, 1024]⟩
abbrev S8192x8x128 : Shape := ⟨3, ![8192, 8, 128]⟩

abbrev nBuf : Space → Nat
  | .hbm => 13
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x8x64, .f32⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x512, .f32⟩
  | .hbm, ⟨8, _⟩ => ⟨S8192x8x64, .f32⟩
  | .hbm, ⟨9, _⟩ => ⟨S_, .i32⟩
  | .hbm, ⟨10, _⟩ => ⟨S_, .f32⟩
  | .hbm, ⟨11, _⟩ => ⟨S8192x8x128, .f32⟩
  | .hbm, ⟨12, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OutUTn.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutUTnRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutATn.lean ====
abbrev S8192x8x64 : Shape := ⟨3, ![8192, 8, 64]⟩
abbrev S8192x1024 : Shape := ⟨2, ![8192, 1024]⟩
abbrev S_ : Shape := ⟨0, ![]⟩
abbrev S8192x8x128 : Shape := ⟨3, ![8192, 8, 128]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S8192x8x64, .f32⟩
  | .hbm, ⟨1, _⟩ => ⟨S8192x1024, .f32⟩
  | .hbm, ⟨2, _⟩ => ⟨S_, .i32⟩
  | .hbm, ⟨3, _⟩ => ⟨S_, .f32⟩
  | .hbm, ⟨4, _⟩ => ⟨S8192x8x128, .f32⟩
  | .hbm, ⟨5, _⟩ => ⟨S8192x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_3 : BitVec 32 := 0#32
  let v9 : BitVec 1 := Scalar.cmpi .ne v8 c0_i32_3
  v9

def k0_cond2 (i : grid0.Coords) : BitVec 1 :=
  let arg2 : BitVec 32 := BitVec.ofNat 32 (i 2).val
  let c0_i32_4 : BitVec 32 := 0#32
  let v10 : BitVec 1 := Scalar.cmpi .sgt arg2 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutATnRefIdeal.lean ====
abbrev S8192x8x64 : Shape := ⟨3, ![8192, 8, 64]⟩
abbrev S8192x1024 : Shape := ⟨2, ![8192, 1024]⟩
abbrev S_ : Shape := ⟨0, ![]⟩
abbrev S512x1024 : Shape := ⟨2, ![512, 1024]⟩
abbrev S8192x512 : Shape := ⟨2, ![8192, 512]⟩
abbrev S1024x512 : Shape := ⟨2, ![1024, 512]⟩
abbrev S8x64x1024 : Shape := ⟨3, ![8, 64, 1024]⟩
abbrev S8x128x1024 : Shape := ⟨3, ![8, 128, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S8x64x1024, .f32⟩
  | .hbm, ⟨9, _⟩ => ⟨S_, .i32⟩
  | .hbm, ⟨10, _⟩ => ⟨S_, .f32⟩
  | .hbm, ⟨11, _⟩ => ⟨S8x128x1024, .f32⟩
  | .hbm, ⟨12, _⟩ => ⟨S1024x1024, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== RmsBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32_17 : BitVec 32 := 0#32
  let v43 : BitVec 1 := Scalar.cmpi .sgt arg0 c0_i32_17
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Rms.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32_7 : BitVec 32 := 0#32
  let v12 : BitVec 1 := Scalar.cmpi .sgt arg0 c0_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.RunKernelIdeal.Body0.lean ====
/- Call 0 of `KernelIdeal`, the forward pass: the triple of its body on any staging buffers, with the pieces it stores, and the
   obligation of its pipeline, at any contents `V` of the buffers when the call begins. The text follows the generated
   certificate of the program, with a larger budget for the last call. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev VO0_3 : View sig .tc .vmem S512x256 .f32 := (Memref.whole cc0_stg3_0 : Memref sig .tc .vmem S512x256 .f32).view

abbrev VO0_4 : View sig .tc .vmem S512x256 .f32 := (Memref.whole cc0_stg4_0 : Memref sig .tc .vmem S512x256 .f32).view

abbrev VO0_5 : View sig .tc .vmem S2x1x1x512 .f32 := (Memref.whole cc0_stg5_0 : Memref sig .tc .vmem S2x1x1x512 .f32).view

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x1x512 .f32 := win0_5.stage (cfg0.slots t 5)
abbrev hs0_5 (t : Fin cfg0.N) : (ms0_5 t).IsWhole := hstage0_5 ((cfg0.slots t 5).cast nbuf0_5)

set_option maxHeartbeats 8000000 in

noncomputable def kernelRun0_A (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S2x1x1x512 .f32) (harg7 : arg7.IsWhole)
    (x0 : Vec F S512x256 .bf16) (x1 : Vec F S8192x256 .bf16) (x2 : Vec F S8192x256 .bf16) :
    Σ' (L3 : List (View.Piece (Elt F) S512x256 .f32)), Σ' (L4 : List (View.Piece (Elt F) S512x256 .f32)), { L5 : List (View.Piece (Elt F) S2x1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_flash_fwd i arg2 harg2 arg3 harg3 arg4 harg4 arg5 harg5 arg6 harg6 arg7 harg7) K } := by
  refine ⟨?_, ?_, ?_, fun E K => ?run⟩
  case run =>
    simp only [cc0_flash_fwd_eq_skeleton]; unfold cc0_flash_fwd_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

theorem cover0_A_3 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S2x1x1x512 .f32) (harg7 : arg7.IsWhole)
    (x0 : Vec F S512x256 .bf16) (x1 : Vec F S8192x256 .bf16) (x2 : Vec F S8192x256 .bf16) (y : S512x256.Idx) :
    ∃ pc ∈ (kernelRun0_A c i arg2 harg2 arg3 harg3 arg4 harg4 arg5 harg5 arg6 harg6 arg7 harg7 x0 x1 x2).1, y ∈ pc.1.set :=
  View.cover_of_tiledL (kernelRun0_A c i arg2 harg2 arg3 harg3 arg4 harg4 arg5 harg5 arg6 harg6 arg7 harg7 x0 x1 x2).1 S512x128.size (by sl_kernel_rfl) y

def out0_A_3 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S2x1x1x512 .f32) (harg7 : arg7.IsWhole)
    (x0 : Vec F S512x256 .bf16) (x1 : Vec F S8192x256 .bf16) (x2 : Vec F S8192x256 .bf16) : Vec F S512x256 .f32 :=
  VO0_3.read (Elt F) (VO0_3.writes (Elt F) VO0_3.junk (kernelRun0_A c i arg2 harg2 arg3 harg3 arg4 harg4 arg5 harg5 arg6 harg6 arg7 harg7 x0 x1 x2).1)

theorem cover0_A_4 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S2x1x1x512 .f32) (harg7 : arg7.IsWhole)
    (x0 : Vec F S512x256 .bf16) (x1 : Vec F S8192x256 .bf16) (x2 : Vec F S8192x256 .bf16) (y : S512x256.Idx) :
    ∃ pc ∈ (kernelRun0_A c i arg2 harg2 arg3 harg3 arg4 harg4 arg5 harg5 arg6 harg6 arg7 harg7 x0 x1 x2).2.1, y ∈ pc.1.set :=
  View.cover_of_tiledL (kernelRun0_A c i arg2 harg2 arg3 harg3 arg4 harg4 arg5 harg5 arg6 harg6 arg7 harg7 x0 x1 x2).2.1 S512x128.size (by sl_kernel_rfl) y

def out0_A_4 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S2x1x1x512 .f32) (harg7 : arg7.IsWhole)
    (x0 : Vec F S512x256 .bf16) (x1 : Vec F S8192x256 .bf16) (x2 : Vec F S8192x256 .bf16) : Vec F S512x256 .f32 :=
  VO0_4.read (Elt F) (VO0_4.writes (Elt F) VO0_4.junk (kernelRun0_A c i arg2 harg2 arg3 harg3 arg4 harg4 arg5 harg5 arg6 harg6 arg7 harg7 x0 x1 x2).2.1)

theorem cover0_A_5 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S2x1x1x512 .f32) (harg7 : arg7.IsWhole)
    (x0 : Vec F S512x256 .bf16) (x1 : Vec F S8192x256 .bf16) (x2 : Vec F S8192x256 .bf16) (y : S2x1x1x512.Idx) :
    ∃ pc ∈ (kernelRun0_A c i arg2 harg2 arg3 harg3 arg4 harg4 arg5 harg5 arg6 harg6 arg7 harg7 x0 x1 x2).2.2.1, y ∈ pc.1.set :=
  View.cover_of_tiledL (kernelRun0_A c i arg2 harg2 arg3 harg3 arg4 harg4 arg5 harg5 arg6 harg6 arg7 harg7 x0 x1 x2).2.2.1 S1x1x1x512.size (by sl_kernel_rfl) y

def out0_A_5 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S2x1x1x512 .f32) (harg7 : arg7.IsWhole)
    (x0 : Vec F S512x256 .bf16) (x1 : Vec F S8192x256 .bf16) (x2 : Vec F S8192x256 .bf16) : Vec F S2x1x1x512 .f32 :=
  VO0_5.read (Elt F) (VO0_5.writes (Elt F) VO0_5.junk (kernelRun0_A c i arg2 harg2 arg3 harg3 arg4 harg4 arg5 harg5 arg6 harg6 arg7 harg7 x0 x1 x2).2.2.1)

def outsAt0 (c : Dev nD) (t : Fin cfg0.N) : Vec F S512x256 .f32 × Vec F S512x256 .f32 × Vec F S2x1x1x512 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2.1
    | ⟨5, _⟩ => (outsAt0 V c t).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2.1 := by dsimp only [dat0]
theorem after0_5 (c : Dev nD) (t : Fin cfg0.N) : (dat0 V c).after 5 t = (outsAt0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold outsAt0
  unfold out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk0 V c 0 t) (iblk0 V c 1 t) (iblk0 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.RunKernelIdeal.Body1.lean ====
/- Call 1 of `KernelIdeal`, the gradient of the queries: the triple of its body on any staging buffers, with the pieces it stores, and the
   obligation of its pipeline, at any contents `V` of the buffers when the call begins. The text follows the generated
   certificate of the program, with a larger budget for the last call. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev VO1_6 : View sig .tc .vmem S512x256 .f32 := (Memref.whole cc1_stg6_0 : Memref sig .tc .vmem S512x256 .f32).view

abbrev VO1_7 : View sig .tc .vmem S2x1x1x512 .f32 := (Memref.whole cc1_stg7_0 : Memref sig .tc .vmem S2x1x1x512 .f32).view

abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x1x1x512 .f32 := win1_7.stage (cfg1.slots t 7)
abbrev hs1_7 (t : Fin cfg1.N) : (ms1_7 t).IsWhole := hstage1_7 ((cfg1.slots t 7).cast nbuf1_7)

set_option maxHeartbeats 8000000 in

noncomputable def kernelRun1_A (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2x1x1x512 .f32) (harg9 : arg9.IsWhole)
    (x0 : Vec F S512x256 .bf16) (x1 : Vec F S8192x256 .bf16) (x2 : Vec F S8192x256 .bf16) (x3 : Vec F S512x256 .f32) (x4 : Vec F S512x256 .f32) (x5 : Vec F S512x256 .f32) :
    Σ' (L6 : List (View.Piece (Elt F) S512x256 .f32)), { L7 : List (View.Piece (Elt F) S2x1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_flash_bwd_dq i arg2 harg2 arg3 harg3 arg4 harg4 arg5 harg5 arg6 harg6 arg7 harg7 arg8 harg8 arg9 harg9) K } := by
  refine ⟨?_, ?_, fun E K => ?run⟩
  case run =>
    simp only [cc1_flash_bwd_dq_eq_skeleton]; unfold cc1_flash_bwd_dq_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover1_A_6 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2x1x1x512 .f32) (harg9 : arg9.IsWhole)
    (x0 : Vec F S512x256 .bf16) (x1 : Vec F S8192x256 .bf16) (x2 : Vec F S8192x256 .bf16) (x3 : Vec F S512x256 .f32) (x4 : Vec F S512x256 .f32) (x5 : Vec F S512x256 .f32) (y : S512x256.Idx) :
    ∃ pc ∈ (kernelRun1_A c i arg2 harg2 arg3 harg3 arg4 harg4 arg5 harg5 arg6 harg6 arg7 harg7 arg8 harg8 arg9 harg9 x0 x1 x2 x3 x4 x5).1, y ∈ pc.1.set :=
  View.cover_of_tiledL (kernelRun1_A c i arg2 harg2 arg3 harg3 arg4 harg4 arg5 harg5 arg6 harg6 arg7 harg7 arg8 harg8 arg9 harg9 x0 x1 x2 x3 x4 x5).1 S512x128.size (by sl_kernel_rfl) y

def out1_A_6 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2x1x1x512 .f32) (harg9 : arg9.IsWhole)
    (x0 : Vec F S512x256 .bf16) (x1 : Vec F S8192x256 .bf16) (x2 : Vec F S8192x256 .bf16) (x3 : Vec F S512x256 .f32) (x4 : Vec F S512x256 .f32) (x5 : Vec F S512x256 .f32) : Vec F S512x256 .f32 :=
  VO1_6.read (Elt F) (VO1_6.writes (Elt F) VO1_6.junk (kernelRun1_A c i arg2 harg2 arg3 harg3 arg4 harg4 arg5 harg5 arg6 harg6 arg7 harg7 arg8 harg8 arg9 harg9 x0 x1 x2 x3 x4 x5).1)

theorem cover1_A_7 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2x1x1x512 .f32) (harg9 : arg9.IsWhole)
    (x0 : Vec F S512x256 .bf16) (x1 : Vec F S8192x256 .bf16) (x2 : Vec F S8192x256 .bf16) (x3 : Vec F S512x256 .f32) (x4 : Vec F S512x256 .f32) (x5 : Vec F S512x256 .f32) (y : S2x1x1x512.Idx) :
    ∃ pc ∈ (kernelRun1_A c i arg2 harg2 arg3 harg3 arg4 harg4 arg5 harg5 arg6 harg6 arg7 harg7 arg8 harg8 arg9 harg9 x0 x1 x2 x3 x4 x5).2.1, y ∈ pc.1.set :=
  View.cover_of_tiledL (kernelRun1_A c i arg2 harg2 arg3 harg3 arg4 harg4 arg5 harg5 arg6 harg6 arg7 harg7 arg8 harg8 arg9 harg9 x0 x1 x2 x3 x4 x5).2.1 S1x1x1x512.size (by sl_kernel_rfl) y

def out1_A_7 (c : Dev nD) (i : grid1.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S2x1x1x512 .f32) (harg9 : arg9.IsWhole)
    (x0 : Vec F S512x256 .bf16) (x1 : Vec F S8192x256 .bf16) (x2 : Vec F S8192x256 .bf16) (x3 : Vec F S512x256 .f32) (x4 : Vec F S512x256 .f32) (x5 : Vec F S512x256 .f32) : Vec F S2x1x1x512 .f32 :=
  VO1_7.read (Elt F) (VO1_7.writes (Elt F) VO1_7.junk (kernelRun1_A c i arg2 harg2 arg3 harg3 arg4 harg4 arg5 harg5 arg6 harg6 arg7 harg7 arg8 harg8 arg9 harg9 x0 x1 x2 x3 x4 x5).2.1)

def outsAt1 (c : Dev nD) (t : Fin cfg1.N) : Vec F S512x256 .f32 × Vec F S2x1x1x512 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_6 out1_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _)
  unfold owns; iexists _; isplitr
  swap; · iexact H7
  ipureintro; exact View.read_writes_of_cover _ _ _ _ _ (cover1_A_7 c _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.RunKernelIdeal.Body2.lean ====
/- Call 2 of `KernelIdeal`, the gradients of the keys and values: the triple of its body on any staging buffers, with the pieces it stores, and the
   obligation of its pipeline, at any contents `V` of the buffers when the call begins. The text follows the generated
   certificate of the program, with a larger budget for the last call. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev VO2_6 : View sig .tc .vmem S512x256 .f32 := (Memref.whole cc2_stg6_0 : Memref sig .tc .vmem S512x256 .f32).view

abbrev VO2_7 : View sig .tc .vmem S512x256 .f32 := (Memref.whole cc2_stg7_0 : Memref sig .tc .vmem S512x256 .f32).view

abbrev ms2_0 (t : Fin cfg2.N) : Memref sig .tc .vmem S8192x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2x16x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x16x1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x256 .f32 := win2_7.stage (cfg2.slots t 7)
abbrev hs2_7 (t : Fin cfg2.N) : (ms2_7 t).IsWhole := hstage2_7 ((cfg2.slots t 7).cast nbuf2_7)

set_option maxHeartbeats 8000000 in

noncomputable def kernelRun2_A (c : Dev nD) (i : grid2.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .f32) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S512x256 .f32) (harg8 : arg8.IsWhole) (arg9 : Memref sig .tc .vmem S512x256 .f32) (harg9 : arg9.IsWhole)
    (x0 : Vec F S8192x256 .bf16) (x1 : Vec F S512x256 .bf16) (x2 : Vec F S512x256 .bf16) (x3 : Vec F S8192x256 .f32) (x4 : Vec F S2x16x1x512 .f32) (x5 : Vec F S2x16x1x512 .f32) :
    Σ' (L6 : List (View.Piece (Elt F) S512x256 .f32)), { L7 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2_flash_bwd_dkv i arg2 harg2 arg3 harg3 arg4 harg4 arg5 harg5 arg6 harg6 arg7 harg7 arg8 harg8 arg9 harg9) K } := by
  refine ⟨?_, ?_, fun E K => ?run⟩
  case run =>
    simp only [cc2_flash_bwd_dkv_eq_skeleton]; unfold cc2_flash_bwd_dkv_skel
    simp only [k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover2_A_6 (c : Dev nD) (i : grid2.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .f32) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S512x256 .f32) (harg8 : arg8.IsWhole) (arg9 : Memref sig .tc .vmem S512x256 .f32) (harg9 : arg9.IsWhole)
    (x0 : Vec F S8192x256 .bf16) (x1 : Vec F S512x256 .bf16) (x2 : Vec F S512x256 .bf16) (x3 : Vec F S8192x256 .f32) (x4 : Vec F S2x16x1x512 .f32) (x5 : Vec F S2x16x1x512 .f32) (y : S512x256.Idx) :
    ∃ pc ∈ (kernelRun2_A c i arg2 harg2 arg3 harg3 arg4 harg4 arg5 harg5 arg6 harg6 arg7 harg7 arg8 harg8 arg9 harg9 x0 x1 x2 x3 x4 x5).1, y ∈ pc.1.set :=
  View.cover_of_tiledL (kernelRun2_A c i arg2 harg2 arg3 harg3 arg4 harg4 arg5 harg5 arg6 harg6 arg7 harg7 arg8 harg8 arg9 harg9 x0 x1 x2 x3 x4 x5).1 S512x128.size (by sl_kernel_rfl) y

def out2_A_6 (c : Dev nD) (i : grid2.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .f32) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S512x256 .f32) (harg8 : arg8.IsWhole) (arg9 : Memref sig .tc .vmem S512x256 .f32) (harg9 : arg9.IsWhole)
    (x0 : Vec F S8192x256 .bf16) (x1 : Vec F S512x256 .bf16) (x2 : Vec F S512x256 .bf16) (x3 : Vec F S8192x256 .f32) (x4 : Vec F S2x16x1x512 .f32) (x5 : Vec F S2x16x1x512 .f32) : Vec F S512x256 .f32 :=
  VO2_6.read (Elt F) (VO2_6.writes (Elt F) VO2_6.junk (kernelRun2_A c i arg2 harg2 arg3 harg3 arg4 harg4 arg5 harg5 arg6 harg6 arg7 harg7 arg8 harg8 arg9 harg9 x0 x1 x2 x3 x4 x5).1)

theorem cover2_A_7 (c : Dev nD) (i : grid2.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .f32) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S512x256 .f32) (harg8 : arg8.IsWhole) (arg9 : Memref sig .tc .vmem S512x256 .f32) (harg9 : arg9.IsWhole)
    (x0 : Vec F S8192x256 .bf16) (x1 : Vec F S512x256 .bf16) (x2 : Vec F S512x256 .bf16) (x3 : Vec F S8192x256 .f32) (x4 : Vec F S2x16x1x512 .f32) (x5 : Vec F S2x16x1x512 .f32) (y : S512x256.Idx) :
    ∃ pc ∈ (kernelRun2_A c i arg2 harg2 arg3 harg3 arg4 harg4 arg5 harg5 arg6 harg6 arg7 harg7 arg8 harg8 arg9 harg9 x0 x1 x2 x3 x4 x5).2.1, y ∈ pc.1.set :=
  View.cover_of_tiledL (kernelRun2_A c i arg2 harg2 arg3 harg3 arg4 harg4 arg5 harg5 arg6 harg6 arg7 harg7 arg8 harg8 arg9 harg9 x0 x1 x2 x3 x4 x5).2.1 S512x128.size (by sl_kernel_rfl) y

def out2_A_7 (c : Dev nD) (i : grid2.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .f32) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S512x256 .f32) (harg8 : arg8.IsWhole) (arg9 : Memref sig .tc .vmem S512x256 .f32) (harg9 : arg9.IsWhole)
    (x0 : Vec F S8192x256 .bf16) (x1 : Vec F S512x256 .bf16) (x2 : Vec F S512x256 .bf16) (x3 : Vec F S8192x256 .f32) (x4 : Vec F S2x16x1x512 .f32) (x5 : Vec F S2x16x1x512 .f32) : Vec F S512x256 .f32 :=
  VO2_7.read (Elt F) (VO2_7.writes (Elt F) VO2_7.junk (kernelRun2_A c i arg2 harg2 arg3 harg3 arg4 harg4 arg5 harg5 arg6 harg6 arg7 harg7 arg8 harg8 arg9 harg9 x0 x1 x2 x3 x4 x5).2.1)

def outsAt2 (c : Dev nD) (t : Fin cfg2.N) : Vec F S512x256 .f32 × Vec F S512x256 .f32 :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t).1
    | ⟨7, _⟩ => (outsAt2 V c t).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t).1 := by dsimp only [dat2]
theorem after2_7 (c : Dev nD) (t : Fin cfg2.N) : (dat2 V c).after 7 t = (outsAt2 V c t).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold outsAt2
  unfold out2_A_6 out2_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ (iblk2 V c 0 t) (iblk2 V c 1 t) (iblk2 V c 2 t) (iblk2 V c 3 t) (iblk2 V c 4 t) (iblk2 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover2_A_6 c _ _ _ _ _ _ _ _ _ _ _ _ _ _ _ _ _ _ _ _ _ _ _)
  unfold owns; iexists _; isplitr
  swap; · iexact H7
  ipureintro; exact View.read_writes_of_cover _ _ _ _ _ (cover2_A_7 c _ _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.RunKernelIdeal.Frame.lean ====
/- The run of `KernelIdeal`: three calls after a stretch of host operations. The contents of every buffer at each boundary,
   the calls as segments, and the frame of the whole program. The text follows the generated certificate. -/
module

public import proofs.«01_k».proof.Proof.RunKernelIdeal.Body0
public import proofs.«01_k».proof.Proof.RunKernelIdeal.Body1
public import proofs.«01_k».proof.Proof.RunKernelIdeal.Body2

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3]

theorem hostOps0_fresh : (hostOps0 : List (HloOp τ sig (Elt F))).Forall fun op => op.fresh = ∅ := by
  simp only [List.Forall]; repeat' constructor

abbrev hostOps0_W : List (Ref sig .tc) := [main_cst, main_v0, main_v1, main_v2, main_c]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor

abbrev hostOps0_1_W : List (Ref sig .tc) := [main_call0_v0, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl

theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor

abbrev hostOps0_2_W : List (Ref sig .tc) := [main_v4, main_v5, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl

theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor

abbrev hostOps0_3_W : List (Ref sig .tc) := [main_call1_v0, main_v6]
theorem hostOps0_3_writes : (hostOps0_3 : List (HloOp τ sig (Elt F))).Forall fun op => op.writes ⊆ (hostOps0_3_W.map (Proc.devRef (τ := τ) .tc)).toFinset :=
  StableHlo.forall_writes_sub_of_map rfl

theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor

abbrev hostOps0_4_W : List (Ref sig .tc) := [main_v7, main_v8, main_c_1]
theorem hostOps0_4_writes : (hostOps0_4 : List (HloOp τ sig (Elt F))).Forall fun op => op.writes ⊆ (hostOps0_4_W.map (Proc.devRef (τ := τ) .tc)).toFinset :=
  StableHlo.forall_writes_sub_of_map rfl

theorem hostOps0_4_args : ∀ a ∈ argRefs, a ∉ hostOps0_4_W := ListAll.forall_mem_of_all_decide (by decide +kernel)

theorem hostOps0_5_fresh : (hostOps0_5 : List (HloOp τ sig (Elt F))).Forall fun op => op.fresh = ∅ := by
  simp only [List.Forall]; repeat' constructor

abbrev hostOps0_5_W : List (Ref sig .tc) := [main_call2_v0, main_v9]
theorem hostOps0_5_writes : (hostOps0_5 : List (HloOp τ sig (Elt F))).Forall fun op => op.writes ⊆ (hostOps0_5_W.map (Proc.devRef (τ := τ) .tc)).toFinset :=
  StableHlo.forall_writes_sub_of_map rfl

theorem hostOps0_5_args : ∀ a ∈ argRefs, a ∉ hostOps0_5_W := ListAll.forall_mem_of_all_decide (by decide +kernel)

theorem hostOps0_6_fresh : (hostOps0_6 : List (HloOp τ sig (Elt F))).Forall fun op => op.fresh = ∅ := by
  simp only [List.Forall]; repeat' constructor

abbrev hostOps0_6_W : List (Ref sig .tc) := [main_v10, main_c_2]
theorem hostOps0_6_writes : (hostOps0_6 : List (HloOp τ sig (Elt F))).Forall fun op => op.writes ⊆ (hostOps0_6_W.map (Proc.devRef (τ := τ) .tc)).toFinset :=
  StableHlo.forall_writes_sub_of_map rfl

theorem hostOps0_6_args : ∀ a ∈ argRefs, a ∉ hostOps0_6_W := ListAll.forall_mem_of_all_decide (by decide +kernel)

theorem hostOps0_7_fresh : (hostOps0_7 : List (HloOp τ sig (Elt F))).Forall fun op => op.fresh = ∅ := by
  simp only [List.Forall]; repeat' constructor

abbrev hostOps0_7_W : List (Ref sig .tc) := [main_call3_v0, main_v11]
theorem hostOps0_7_writes : (hostOps0_7 : List (HloOp τ sig (Elt F))).Forall fun op => op.writes ⊆ (hostOps0_7_W.map (Proc.devRef (τ := τ) .tc)).toFinset :=
  StableHlo.forall_writes_sub_of_map rfl

theorem hostOps0_7_args : ∀ a ∈ argRefs, a ∉ hostOps0_7_W := ListAll.forall_mem_of_all_decide (by decide +kernel)

theorem hostOps0_8_fresh : (hostOps0_8 : List (HloOp τ sig (Elt F))).Forall fun op => op.fresh = ∅ := by
  simp only [List.Forall]; repeat' constructor

abbrev hostOps0_8_W : List (Ref sig .tc) := [main_v12]
theorem hostOps0_8_writes : (hostOps0_8 : List (HloOp τ sig (Elt F))).Forall fun op => op.writes ⊆ (hostOps0_8_W.map (Proc.devRef (τ := τ) .tc)).toFinset :=
  StableHlo.forall_writes_sub_of_map rfl

theorem hostOps0_8_args : ∀ a ∈ argRefs, a ∉ hostOps0_8_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev W2 : Dev nD → Valuation τ sig (Elt F) := fun c => StableHlo.after hostOps0_1 (W1 m ρ c)

theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)

abbrev W3 : Dev nD → Valuation τ sig (Elt F) := fun c => StableHlo.after hostOps0_2 (W2 m ρ c)

theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)

abbrev W4 : Dev nD → Valuation τ sig (Elt F) := fun c => StableHlo.after hostOps0_3 (W3 m ρ c)

theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)

abbrev W5 : Dev nD → Valuation τ sig (Elt F) := fun c => StableHlo.after hostOps0_4 (W4 m ρ c)

theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)

abbrev W6 : Dev nD → Valuation τ sig (Elt F) := fun c => StableHlo.after hostOps0_5 (W5 m ρ c)

theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)

abbrev W7 : Dev nD → Valuation τ sig (Elt F) := fun c => StableHlo.after hostOps0_6 (W6 m ρ c)

theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)

abbrev W8 : Dev nD → Valuation τ sig (Elt F) := fun c => StableHlo.after hostOps0_7 (W7 m ρ c)

theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)

abbrev W9 : Dev nD → Valuation τ sig (Elt F) := fun c => StableHlo.after hostOps0_8 (W8 m ρ c)

theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)

abbrev V9 : (c : Dev nD) → (b : Ref sig .tc) → Buf (Elt F) ((c : Thread nD τ).loc b) := fun c b => W9 m ρ c b

def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb

theorem W10_of (c : Dev nD) (r : Ref sig .tc) (h : ∀ w : Fin cfg0.W, Pipeline.arrRef spec0 w = r → (cfg0.win w).isOut = false) :
    W10 m ρ c (Proc.devRef .tc r) = W9 m ρ c (Proc.devRef .tc r) := by
  by_cases hw : ∃ w : Fin cfg0.W, Pipeline.arrRef spec0 w = r
  · obtain ⟨w, rfl⟩ := hw
    exact (W10_arr m ρ c w).trans (((dat0 (V9 m ρ) c).arrAt_in w (h w rfl) _).trans (A_eq0 (V9 m ρ) c w))
  · exact W10_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn0 a ha)).trans (W9_args m ρ c a ha)

abbrev V10 : (c : Dev nD) → (b : Ref sig .tc) → Buf (Elt F) ((c : Thread nD τ).loc b) := fun c b => W10 m ρ c b

theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

def W11 (c : Dev nD) : Valuation τ sig (Elt F) :=
  Pipeline.withArrays spec1 c (W10 m ρ c) fun w => (dat1 (V10 m ρ) c).arrAt w cfg1.N
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb

theorem W11_of (c : Dev nD) (r : Ref sig .tc) (h : ∀ w : Fin cfg1.W, Pipeline.arrRef spec1 w = r → (cfg1.win w).isOut = false) :
    W11 m ρ c (Proc.devRef .tc r) = W10 m ρ c (Proc.devRef .tc r) := by
  by_cases hw : ∃ w : Fin cfg1.W, Pipeline.arrRef spec1 w = r
  · obtain ⟨w, rfl⟩ := hw
    exact (W11_arr m ρ c w).trans (((dat1 (V10 m ρ) c).arrAt_in w (h w rfl) _).trans (A_eq1 (V10 m ρ) c w))
  · exact W11_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn1 a ha)).trans (W10_args m ρ c a ha)

abbrev V11 : (c : Dev nD) → (b : Ref sig .tc) → Buf (Elt F) ((c : Thread nD τ).loc b) := fun c b => W11 m ρ c b

theorem hF1 (c : Dev nD) (w : Fin cfg1.W) : (dat1 (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)

def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb

theorem W12_of (c : Dev nD) (r : Ref sig .tc) (h : ∀ w : Fin cfg2.W, Pipeline.arrRef spec2 w = r → (cfg2.win w).isOut = false) :
    W12 m ρ c (Proc.devRef .tc r) = W11 m ρ c (Proc.devRef .tc r) := by
  by_cases hw : ∃ w : Fin cfg2.W, Pipeline.arrRef spec2 w = r
  · obtain ⟨w, rfl⟩ := hw
    exact (W12_arr m ρ c w).trans (((dat2 (V11 m ρ) c).arrAt_in w (h w rfl) _).trans (A_eq2 (V11 m ρ) c w))
  · exact W12_of_ne m ρ c r fun w e => hw ⟨w, e⟩

theorem argsIn2 : ∀ a ∈ argRefs, ∀ w : Fin cfg2.W, Pipeline.arrRef spec2 w = a → (cfg2.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn2 a ha)).trans (W11_args m ρ c a ha)

abbrev V12 : (c : Dev nD) → (b : Ref sig .tc) → Buf (Elt F) ((c : Thread nD τ).loc b) := fun c b => W12 m ρ c b

theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)
theorem W12_main_arg3 (c : Dev nD) : W12 m ρ c (Proc.devRef .tc main_arg3) = m ((c : Thread nD τ).loc main_arg3) :=
  W12_args m ρ c main_arg3 (by decide)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V10 m ρ) c
  | ⟨2, _⟩ => fun c => dat2 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) (A_eq0 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) (A_eq1 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) (A_eq2 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ),
    .region (reg2 m ρ) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in

/-- The run returns, every semaphore at zero, with every buffer holding what the last boundary says. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c),
       (h.1 c _ (mem_uc main_arg3 (by decide))).trans (W12_main_arg3 m ρ c)⟩, h.2⟩) (ends m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Run

end
-- ==== Proof.Values.Finite.lean ====
/- What the precondition says: every entry of every argument is a real number. -/
module

public import proofs.«01_k».proof.Pre_entries_finite
public import Idealize.ShloMosaic.Lib.Pointwise

@[expose] public section

noncomputable section

namespace Cert.Finite

open Idealize.ShloMosaic Cert.Pre_entries_finite

/-- A number whose magnitude is below the largest word's value is real. -/
theorem real_of_lt {x : Idealize.ShloMosaic.Ideal .f32}
    (h : BitVec.ofBool (decide ((FloatOps.absf x : EReal) < Ideal.ofBits .f32 0x7F800000#32)) = 1#1) :
    x = ((EReal.toReal x : ℝ) : EReal) := by
  have htop : Ideal.ofBits .f32 0x7F800000#32 = ⊤ := by simp [Ideal.ofBits, Ideal.ieee]
  rw [htop] at h
  have hlt : max (x : EReal) (-(x : EReal)) < ⊤ := by
    by_contra hn
    rw [show (FloatOps.absf x : EReal) = max (x : EReal) (-(x : EReal)) from rfl, decide_eq_false hn] at h
    exact absurd h (by decide)
  rw [max_lt_iff] at hlt
  refine (EReal.coe_toReal hlt.1.ne fun hb => ?_).symm
  rw [hb] at hlt
  simp at hlt

variable [Facts] {q k : FVec Idealize.ShloMosaic.Ideal S8192x8x96 .f32} {v g : FVec Idealize.ShloMosaic.Ideal S8192x8x64 .f32}

section

variable (h : fn q k v g = fun _ => 1#1)

include h

theorem real_q (r : Fin 8192) (hd : Fin 8) (d : Fin 96) : q (ix3 r hd d) = ((EReal.toReal (q (ix3 r hd d)) : ℝ) : EReal) := by
  have e := congrFun h (ix3 r hd ⟨d.val, by omega⟩)
  pointwise [fn] at e
  exact real_of_lt e

theorem real_k (r : Fin 8192) (hd : Fin 8) (d : Fin 96) : k (ix3 r hd d) = ((EReal.toReal (k (ix3 r hd d)) : ℝ) : EReal) := by
  have e := congrFun h (ix3 r hd ⟨d.val + 96, by omega⟩)
  pointwise [fn] at e
  have n : d.val + 96 - 96 = d.val := by omega
  rw [dif_neg (by omega), dif_pos (by omega)] at e
  simp only [n] at e
  exact real_of_lt e

theorem real_v (r : Fin 8192) (hd : Fin 8) (d : Fin 64) : v (ix3 r hd d) = ((EReal.toReal (v (ix3 r hd d)) : ℝ) : EReal) := by
  have e := congrFun h (ix3 r hd ⟨d.val + 192, by omega⟩)
  pointwise [fn] at e
  have n : d.val + 192 - 96 - 96 = d.val := by omega
  rw [dif_neg (by omega), dif_neg (by omega), dif_pos (by omega)] at e
  simp only [n] at e
  exact real_of_lt e

theorem real_g (r : Fin 8192) (hd : Fin 8) (d : Fin 64) : g (ix3 r hd d) = ((EReal.toReal (g (ix3 r hd d)) : ℝ) : EReal) := by
  have e := congrFun h (ix3 r hd ⟨d.val + 256, by omega⟩)
  pointwise [fn] at e
  have n : d.val + 256 - 96 - 96 - 64 = d.val := by omega
  rw [dif_neg (by omega), dif_neg (by omega), dif_neg (by omega)] at e
  simp only [n] at e
  exact real_of_lt e

end

/-- An array's entries as a table of reals over all naturals, zero outside. -/
def table {n₁ n₂ n₃ : ℕ} (x : (⟨3, ![n₁, n₂, n₃]⟩ : Shape).Idx → EReal) (r h d : ℕ) : ℝ :=
  if e : r < n₁ ∧ h < n₂ ∧ d < n₃ then EReal.toReal (x (ix3 ⟨r, e.1⟩ ⟨h, e.2.1⟩ ⟨d, e.2.2⟩)) else 0

theorem table_at {n₁ n₂ n₃ : ℕ} (x : (⟨3, ![n₁, n₂, n₃]⟩ : Shape).Idx → EReal) (r : Fin n₁) (h : Fin n₂) (d : Fin n₃) :
    table x r.val h.val d.val = EReal.toReal (x (ix3 r h d)) :=
  dif_pos ⟨r.isLt, h.isLt, d.isLt⟩

end Cert.Finite

end
-- ==== Proof.Values.Wide.lean ====
/- How the program's arrays hold real numbers: the wide arrays, one row for each position and 128 columns for each head, and the
   arrays of one number for each head and position. -/
module

public import proofs.«01_k».proof.KernelIdeal
public import Idealize.ShloMosaic.PureOps.Ideal

@[expose] public section

namespace Cert.KernelIdeal.Values

/-- The wide array `x` holds the reals `Φ row column`. -/
def Wide (x : S8192x1024.Idx → EReal) (Φ : ℕ → ℕ → ℝ) : Prop := ∀ i, x i = ((Φ (i 0).val (i 1).val : ℝ) : EReal)

/-- The array `x` of blocks of 512 positions holds the reals `Φ head position`. -/
def Lines (x : S8x16x1x512.Idx → EReal) (Φ : ℕ → ℕ → ℝ) : Prop :=
  ∀ i, x i = ((Φ (i 0).val (512 * (i 1).val + (i 3).val) : ℝ) : EReal)

end Cert.KernelIdeal.Values
-- ==== Proof.Values.Attn.lean ====
/- The mathematics of one attention row, over the reals and the extended reals: what the arrays of the certificate hold
   in the end, and the rule by which a running softmax takes in one more block of keys. -/
module

public import Mathlib.Analysis.SpecialFunctions.Log.Basic
public import Idealize.ShloMosaic.PureOps.Ideal

@[expose] public section

noncomputable section

namespace Cert.Attn

open Idealize.ShloMosaic Finset

/-! ### The values, on arrays of reals indexed by natural numbers

    `Q r c`, `K t c`, `V t c`, `G r c` are the query, key, value and cotangent arrays laid out head by head: head `h` has the
    columns `128 * h` to `128 * h + 127`. -/

/-- The score of row `r` and key `t` in head `h`. -/
def S (Q K : ℕ → ℕ → ℝ) (h r t : ℕ) : ℝ := ∑ d ∈ range 128, Q r (128 * h + d) * K t (128 * h + d)

/-- The weight of a key before normalisation: a row sees the keys of its own chunk of 64 and of the chunks before. -/
def W (Q K : ℕ → ℕ → ℝ) (h r t : ℕ) : ℝ := if t / 64 ≤ r / 64 then Real.exp (S Q K h r t) else 0

/-- The sum of a row's weights. -/
def A (Q K : ℕ → ℕ → ℝ) (h r : ℕ) : ℝ := ∑ t ∈ range 8192, W Q K h r t

/-- The attention's output. -/
def O (Q K V : ℕ → ℕ → ℝ) (r c : ℕ) : ℝ := (∑ t ∈ range 8192, W Q K (c / 128) r t * V t c) / A Q K (c / 128) r

/-- The logarithm of a row's sum of weights. -/
def L (Q K : ℕ → ℕ → ℝ) (h r : ℕ) : ℝ := Real.log (A Q K h r)

/-- The cotangent of a row's output against the output itself. -/
def D (Q K V G : ℕ → ℕ → ℝ) (h r : ℕ) : ℝ := ∑ d ∈ range 128, G r (128 * h + d) * O Q K V r (128 * h + d)

/-- The attention probability. -/
def P (Q K : ℕ → ℕ → ℝ) (h r t : ℕ) : ℝ := W Q K h r t / A Q K h r

/-- The cotangent of a score. -/
def dS (Q K V G : ℕ → ℕ → ℝ) (h r t : ℕ) : ℝ := P Q K h r t * (S G V h r t - D Q K V G h r)

/-- The gradient of the queries. -/
def dQ (Q K V G : ℕ → ℕ → ℝ) (r c : ℕ) : ℝ := ∑ t ∈ range 8192, dS Q K V G (c / 128) r t * K t c

/-- The gradient of the keys. -/
def dK (Q K V G : ℕ → ℕ → ℝ) (t c : ℕ) : ℝ := ∑ r ∈ range 8192, dS Q K V G (c / 128) r t * Q r c

/-- The gradient of the values. -/
def dV (Q K G : ℕ → ℕ → ℝ) (t c : ℕ) : ℝ := ∑ r ∈ range 8192, P Q K (c / 128) r t * G r c

theorem W_nonneg (Q K : ℕ → ℕ → ℝ) (h r t : ℕ) : 0 ≤ W Q K h r t := by
  unfold W; split_ifs
  · exact (Real.exp_pos _).le
  · exact le_refl _

/-- Every row sees key 0, so its sum of weights is positive. -/
theorem sum_W_pos (Q K : ℕ → ℕ → ℝ) (h r n : ℕ) (hn : 0 < n) : 0 < ∑ t ∈ range n, W Q K h r t := by
  refine sum_pos' (fun t _ => W_nonneg Q K h r t) ⟨0, by simpa using hn, ?_⟩
  unfold W
  rw [if_pos (by omega)]
  exact Real.exp_pos _

theorem A_pos (Q K : ℕ → ℕ → ℝ) (h r : ℕ) : 0 < A Q K h r := sum_W_pos Q K h r 8192 (by norm_num)

/-- A weight against the row's logarithm is the probability. -/
theorem exp_sub_L (Q K : ℕ → ℕ → ℝ) (h r t : ℕ) (hv : t / 64 ≤ r / 64) :
    Real.exp (S Q K h r t - L Q K h r) = P Q K h r t := by
  unfold L P W
  rw [if_pos hv, Real.exp_sub, Real.exp_log (A_pos Q K h r)]

theorem P_hidden (Q K : ℕ → ℕ → ℝ) (h r t : ℕ) (hv : ¬ t / 64 ≤ r / 64) : P Q K h r t = 0 := by
  unfold P W
  rw [if_neg hv, zero_div]

/-- Keys from the end of a row's block of 512 on carry no weight. -/
theorem sum_W_stop (Q K : ℕ → ℕ → ℝ) (h r i : ℕ) (f : ℕ → ℝ) (hr : r < 512 * (i + 1)) (hi : i < 16) :
    ∑ t ∈ range (512 * (i + 1)), W Q K h r t * f t = ∑ t ∈ range 8192, W Q K h r t * f t := by
  refine sum_subset (fun t ht => ?_) (fun t _ ht => ?_)
  · simp only [mem_range] at *; omega
  · unfold W
    rw [if_neg, zero_mul]
    simp only [mem_range] at *; omega

/-! ### Sums over a block -/

/-- A sum of real numbers, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over the positions of a block, read as a sum over numbers. -/
theorem coe_sum_fin (n : ℕ) (f : ℕ → ℝ) : ∑ x : Fin n, ((f x.val : ℝ) : EReal) = ((∑ t ∈ range n, f t : ℝ) : EReal) := by
  rw [coe_sum, Finset.sum_range]

/-- The next block of 512 taken into a sum. -/
theorem sum_next (n : ℕ) (f : ℕ → ℝ) :
    ∑ t ∈ range (512 * (n + 1)), f t = ∑ t ∈ range (512 * n), f t + ∑ x ∈ range 512, f (512 * n + x) := by
  rw [show 512 * (n + 1) = 512 * n + 512 by ring, sum_range_add]

/-! ### The running softmax of one row -/

/-- The running maximum `m`, the running sum `l` and the running output `acc` of a row whose keys so far have the summed
    weight `a` and the summed weighted values `b`: before the first block nothing has been seen; afterwards `l` and
    `acc` are the sums scaled down by some real maximum. -/
def Row {ι : Type*} (m l : EReal) (acc : ι → EReal) (a : ℝ) (b : ι → ℝ) : Prop :=
  (m = ⊥ ∧ l = 0 ∧ (∀ d, acc d = 0) ∧ a = 0 ∧ ∀ d, b d = 0)
  ∨ ∃ M : ℝ, m = (M : EReal) ∧ l = ((Real.exp (-M) * a : ℝ) : EReal) ∧ ∀ d, acc d = ((Real.exp (-M) * b d : ℝ) : EReal)

theorem fold_max_real {ι : Type*} [Fintype ι] (s : ι → EReal) (hs : ∀ k, s k ≠ ⊤) (k₀ : ι) (hk : s k₀ ≠ ⊥) :
    ∃ M : ℝ, Finset.fold max ⊥ s univ = (M : EReal) := by
  classical
  have h1 : Finset.fold max ⊥ s univ ≠ ⊤ := by
    refine ne_of_lt ?_
    rw [Finset.fold_max_lt]
    exact ⟨bot_lt_top, fun k _ => lt_of_le_of_ne le_top (hs k)⟩
  have h2 : Finset.fold max ⊥ s univ ≠ ⊥ := by
    refine ne_of_gt ?_
    rw [Finset.lt_fold_max]
    exact Or.inr ⟨k₀, mem_univ _, lt_of_le_of_ne bot_le (Ne.symm hk)⟩
  exact ⟨_, (EReal.coe_toReal h1 h2).symm⟩

/-- One more block of keys: `s` are its scores (`⊥` at a hidden key), `w` its weights, `v` its values. -/
theorem Row.step {ι κ : Type*} [Fintype κ] {m l : EReal} {acc : ι → EReal} {a : ℝ} {b : ι → ℝ} (h : Row m l acc a b)
    (s : κ → EReal) (w : κ → ℝ) (hs : ∀ k, (s k = ⊥ ∧ w k = 0) ∨ ∃ x : ℝ, s k = (x : EReal) ∧ w k = Real.exp x)
    (k₀ : κ) (hk : s k₀ ≠ ⊥) (v : κ → ι → ℝ) :
    Row (max m (Finset.fold max ⊥ s univ))
      (Ideal.exp (m - max m (Finset.fold max ⊥ s univ)) * l + ∑ k, Ideal.exp (s k - max m (Finset.fold max ⊥ s univ)))
      (fun d => acc d * Ideal.exp (m - max m (Finset.fold max ⊥ s univ))
        + ∑ k, Ideal.exp (s k - max m (Finset.fold max ⊥ s univ)) * (v k d : EReal))
      (a + ∑ k, w k) (fun d => b d + ∑ k, w k * v k d) := by
  obtain ⟨M₁, h₁⟩ := fold_max_real s (fun k => by
    rcases hs k with ⟨e, -⟩ | ⟨x, e, -⟩ <;> rw [e]
    · exact bot_ne_top
    · exact EReal.coe_ne_top x) k₀ hk
  have hm : ∃ M' : ℝ, max m (Finset.fold max ⊥ s univ) = (M' : EReal) := by
    rw [h₁]
    rcases h with ⟨e, -⟩ | ⟨M, e, -⟩ <;> rw [e]
    · exact ⟨M₁, by simp⟩
    · exact ⟨max M M₁, (Monotone.map_max (fun _ _ hxy => EReal.coe_le_coe_iff.2 hxy)).symm⟩
  obtain ⟨M', hM'⟩ := hm
  rw [hM']
  have hp : ∀ k, Ideal.exp (s k - (M' : EReal)) = ((Real.exp (-M') * w k : ℝ) : EReal) := by
    intro k
    rcases hs k with ⟨e, ew⟩ | ⟨x, e, ew⟩ <;> rw [e, ew]
    · rw [show (⊥ : EReal) - (M' : EReal) = ⊥ from EReal.bot_sub _, Ideal.exp_bot, mul_zero, EReal.coe_zero]
    · rw [← EReal.coe_sub, Ideal.exp_coe, ← Real.exp_add]
      congr 2; ring
  simp only [hp, ← EReal.coe_mul, ← coe_sum]
  refine Or.inr ⟨M', rfl, ?_, fun d => ?_⟩
  · rcases h with ⟨e, el, -, ea, -⟩ | ⟨M, e, el, -⟩ <;> rw [e, el]
    · rw [mul_zero, zero_add, ea, zero_add, mul_sum]
    · rw [← EReal.coe_sub, Ideal.exp_coe, ← EReal.coe_mul, ← EReal.coe_add]
      congr 1
      rw [← mul_assoc, ← Real.exp_add, mul_add, mul_sum]
      congr 3; ring
  · dsimp only
    rcases h with ⟨e, -, eacc, -, eb⟩ | ⟨M, e, -, eacc⟩ <;> rw [e, eacc]
    · rw [zero_mul, zero_add, eb, zero_add, mul_sum]
      congr 1; exact sum_congr rfl fun k _ => by ring
    · rw [← EReal.coe_sub, Ideal.exp_coe, ← EReal.coe_mul, ← EReal.coe_add]
      congr 1
      rw [mul_right_comm, ← Real.exp_add, mul_add, mul_sum]
      congr 1
      · congr 2; ring
      · exact sum_congr rfl fun k _ => by ring

/-- The quotient of two reals. -/
theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

/-- After the last block the quotient is the softmax's weighted mean. -/
theorem Row.div {ι : Type*} {m l : EReal} {acc : ι → EReal} {a : ℝ} {b : ι → ℝ} (h : Row m l acc a b) (ha : 0 < a) (d : ι) :
    Ideal.div (acc d) l = ((b d / a : ℝ) : EReal) := by
  rcases h with ⟨-, -, -, e, -⟩ | ⟨M, -, el, eacc⟩
  · exact absurd e ha.ne'
  · have hE := (Real.exp_pos (-M)).ne'
    rw [el, eacc, div_coe _ _ (mul_ne_zero hE ha.ne'), mul_div_mul_left _ _ hE]

/-- After the last block the maximum and the logarithm of the sum make the logarithm of the summed weights. -/
theorem Row.log {ι : Type*} {m l : EReal} {acc : ι → EReal} {a : ℝ} {b : ι → ℝ} (h : Row m l acc a b) (ha : 0 < a) :
    m + Ideal.log l = ((Real.log a : ℝ) : EReal) := by
  rcases h with ⟨-, -, -, e, -⟩ | ⟨M, em, el, -⟩
  · exact absurd e ha.ne'
  · have hE := Real.exp_pos (-M)
    rw [em, el, Ideal.log_coe, if_neg (not_le.2 (mul_pos hE ha)), ← EReal.coe_add, Real.log_mul hE.ne' ha.ne', Real.log_exp]
    congr 1; ring

/-! ### The backward pass's terms -/

/-- The exponential of a masked score less its row's logarithm is the probability. -/
theorem exp_sub_L_coe (Q K : ℕ → ℕ → ℝ) (h r t : ℕ) :
    Ideal.exp ((if t / 64 ≤ r / 64 then ((S Q K h r t : ℝ) : EReal) else ⊥) - ((L Q K h r : ℝ) : EReal))
      = ((P Q K h r t : ℝ) : EReal) := by
  split_ifs with hv
  · rw [← EReal.coe_sub, Ideal.exp_coe, exp_sub_L Q K h r t hv]
  · rw [show (⊥ : EReal) - ((L Q K h r : ℝ) : EReal) = ⊥ from EReal.bot_sub _, Ideal.exp_bot, P_hidden Q K h r t hv,
      EReal.coe_zero]

/-- A score's cotangent, in the body's operations. -/
theorem dS_coe (Q K V G : ℕ → ℕ → ℝ) (h r t : ℕ) :
    Ideal.exp ((if t / 64 ≤ r / 64 then ((S Q K h r t : ℝ) : EReal) else ⊥) - ((L Q K h r : ℝ) : EReal))
      * (((S G V h r t : ℝ) : EReal) - ((D Q K V G h r : ℝ) : EReal)) = ((dS Q K V G h r t : ℝ) : EReal) := by
  rw [exp_sub_L_coe, ← EReal.coe_sub, ← EReal.coe_mul]
  rfl

theorem sum_dS_stop (Q K V G : ℕ → ℕ → ℝ) (h r i : ℕ) (f : ℕ → ℝ) (hr : r < 512 * (i + 1)) (hi : i < 16) :
    ∑ t ∈ range (512 * (i + 1)), dS Q K V G h r t * f t = ∑ t ∈ range 8192, dS Q K V G h r t * f t := by
  have key : ∀ t, dS Q K V G h r t * f t = W Q K h r t * ((S G V h r t - D Q K V G h r) / A Q K h r * f t) := by
    intro t
    unfold dS P
    ring
  simp only [key]
  exact sum_W_stop Q K h r i _ hr hi

/-- Rows before a key's block of 512 do not see the key. -/
theorem P_before (Q K : ℕ → ℕ → ℝ) (h r t j : ℕ) (hr : r < 512 * j) (ht : 512 * j ≤ t) : P Q K h r t = 0 :=
  P_hidden Q K h r t (by omega)

end Cert.Attn

end
-- ==== Proof.Values.Heads.lean ====
/- The scale of the scores, and how an array of heads is laid out with 128 columns for each head. -/
module

public import proofs.«01_k».proof.Proof.Values.Attn

@[expose] public section

noncomputable section

namespace Cert.Attn

open Idealize.ShloMosaic Finset

/-- The factor of the scores, 1/√96 as the programs round it. -/
def scale : ℝ := (Ideal.ofBits .f32 1037108716#32).toReal

/-- Head `c / 128` in the columns `128 * (c / 128) + d`: the first `n` hold `x`, the rest are zero. -/
def padded (n : ℕ) (x : ℕ → ℕ → ℕ → ℝ) (r c : ℕ) : ℝ := if c % 128 < n then x r (c / 128) (c % 128) else 0

theorem scale_word : Ideal.ofBits .f32 1037108716#32 = ((13698540 * (2 : ℝ) ^ (-27 : ℤ) : ℝ) : EReal) := by
  have h1 : ((1037108716#32 : BitVec 32).extractLsb' 23 8).toNat = 123 := by decide
  have h2 : ((1037108716#32 : BitVec 32).extractLsb' 0 23).toNat = 5309932 := by decide
  simp [Ideal.ofBits, Ideal.ieee, h1, h2]

theorem scale_bits : Ideal.ofBits .f32 1037108716#32 = ((scale : ℝ) : EReal) := by
  unfold scale
  rw [scale_word, EReal.toReal_coe]

theorem scale_pos : 0 < scale := by
  unfold scale
  rw [scale_word, EReal.toReal_coe]
  positivity

/-- The padding adds nothing to a head's products. -/
theorem S_padded (n : ℕ) (hn : n ≤ 128) (x y : ℕ → ℕ → ℕ → ℝ) (h r t : ℕ) :
    S (padded n x) (padded n y) h r t = ∑ d ∈ range n, x r h d * y t h d := by
  unfold S
  symm
  refine (sum_congr rfl fun d hd => ?_).trans (sum_subset (f := fun d => padded n x r (128 * h + d) * padded n y t (128 * h + d))
    (range_mono hn) fun d hd hd' => ?_)
  · have hd := mem_range.mp hd
    unfold padded
    rw [show (128 * h + d) % 128 = d by omega, show (128 * h + d) / 128 = h by omega, if_pos hd, if_pos hd]
  · have hd := mem_range.mp hd
    have hd' : ¬ d < n := fun e => hd' (mem_range.mpr e)
    unfold padded
    rw [show (128 * h + d) % 128 = d by omega, if_neg hd', zero_mul]

/-- The scores of scaled queries. -/
theorem S_scaled (x y : ℕ → ℕ → ℕ → ℝ) (h r t : ℕ) :
    S (padded 96 fun r h d => x r h d * scale) (padded 96 y) h r t = (∑ d ∈ range 96, x r h d * y t h d) * scale := by
  rw [S_padded 96 (by norm_num), sum_mul]
  exact sum_congr rfl fun d _ => by ring

/-- The cotangent against the output, summed over the keys instead of the columns. -/
theorem D_keys (Q K V G : ℕ → ℕ → ℝ) (h r : ℕ) :
    D Q K V G h r = ∑ t ∈ range 8192, S G V h r t * P Q K h r t := by
  unfold D O S P
  simp only [sum_mul]
  rw [sum_comm]
  refine sum_congr rfl fun d hd => ?_
  have hd := mem_range.mp hd
  rw [show (128 * h + d) / 128 = h by omega, sum_div, mul_sum]
  exact sum_congr rfl fun t _ => by ring

theorem coe_mul (a b : ℝ) : ((a * b : ℝ) : EReal) = (a : EReal) * (b : EReal) := EReal.coe_mul a b

end Cert.Attn

end
-- ==== Proof.Values.Host.lean ====
/- What the host prepares: the queries (scaled), the keys, the values and the incoming gradient as wide arrays, each head's
   columns followed by zeros up to 128. -/
module

public import proofs.«01_k».proof.Proof.RunKernelIdeal.Frame
public import proofs.«01_k».proof.Proof.Values.Wide
public import proofs.«01_k».proof.Proof.Values.Heads
public import Idealize.ShloMosaic.Lib.Pointwise
public import Idealize.ShloMosaic.Lib.Claim
public import Idealize.ShloMosaic.Lib.StableHlo.Run

@[expose] public section

set_option maxRecDepth 16384

noncomputable section

namespace Cert.KernelIdeal.Values

open Cert.KernelIdeal.Gen Cert.KernelIdeal.Run Cert.Attn
open Idealize.ShloMosaic Idealize.ShloMosaic.TcCoe Idealize.SL.Sem Idealize.ShloMosaic.Tactic

variable (m : (ℓ : Loc nD τ sig) → Buf (Elt Idealize.ShloMosaic.Ideal) ℓ) (ρ : Dev nD → PrngReg) (c : Dev nD)
  {x : ℕ → ℕ → ℕ → ℝ}

theorem zero_word : ∀ φ : FTy, (FloatOps.sitofp φ (0#32) : Idealize.ShloMosaic.Ideal φ) = ((0 : ℝ) : EReal) := by
  intro φ
  show (((0#32 : BitVec 32).toInt : ℝ) : EReal) = _
  simp

theorem times_scale {a : EReal} {b : ℝ} (h : a = (b : EReal)) : a * Ideal.ofBits .f32 1037108716#32 = ((b * scale : ℝ) : EReal) := by
  rw [h, scale_bits, coe_mul]

/-- The queries, scaled. -/
theorem host_q (hx : ∀ i : S8192x8x96.Idx, (m ((c : Thread nD τ).loc main_arg0) : S8192x8x96.Idx → EReal) i = ((x (i 0).val (i 1).val (i 2).val : ℝ) : EReal)) :
    Wide (V9 m ρ c main_v4) (padded 96 (fun r h d => x r h d * scale)) := by
  intro i
  show W9 m ρ c (Proc.devRef .tc main_v4) i = _
  rw [W9_of m ρ c main_v4 (by decide), W8_of m ρ c main_v4 (by decide), W7_of m ρ c main_v4 (by decide), W6_of m ρ c main_v4 (by decide), W5_of m ρ c main_v4 (by decide), W4_of m ρ c main_v4 (by decide)]
  unfold_abbrev_sides
  simp only [StableHlo.TRef.binary, StableHlo.TRef.nullary, StableHlo.TRef.ternary, StableHlo.TRef.unary]
  after_results_simp
  simp only [StableHlo.TRef.toBuf, StableHlo.TRef.ofBuf, cast_eq]
  have h1 : (i 1).val < 1024 := (i 1).isLt
  have h8 : (i 1).val / 128 < 8 := by omega
  pointwise
  unfold padded
  by_cases h : (i 1).val % 128 < 96
  · rw [dif_pos ⟨h8, h⟩, if_pos h]
    exact times_scale (hx _)
  · rw [dif_neg (fun e => h e.2), if_neg h]
    exact zero_word _

/-- The keys. -/
theorem host_k (hx : ∀ i : S8192x8x96.Idx, (m ((c : Thread nD τ).loc main_arg1) : S8192x8x96.Idx → EReal) i = ((x (i 0).val (i 1).val (i 2).val : ℝ) : EReal)) :
    Wide (V9 m ρ c main_v7) (padded 96 x) := by
  intro i
  show W9 m ρ c (Proc.devRef .tc main_v7) i = _
  rw [W9_of m ρ c main_v7 (by decide), W8_of m ρ c main_v7 (by decide), W7_of m ρ c main_v7 (by decide), W6_of m ρ c main_v7 (by decide)]
  unfold_abbrev_sides
  simp only [StableHlo.TRef.binary, StableHlo.TRef.nullary, StableHlo.TRef.ternary, StableHlo.TRef.unary]
  after_results_simp
  simp only [StableHlo.TRef.toBuf, StableHlo.TRef.ofBuf, cast_eq]
  have h1 : (i 1).val < 1024 := (i 1).isLt
  have h8 : (i 1).val / 128 < 8 := by omega
  pointwise
  unfold padded
  by_cases h : (i 1).val % 128 < 96
  · rw [dif_pos ⟨h8, h⟩, if_pos h]
    exact hx _
  · rw [dif_neg (fun e => h e.2), if_neg h]
    exact zero_word _

/-- The values. -/
theorem host_v (hx : ∀ i : S8192x8x64.Idx, (m ((c : Thread nD τ).loc main_arg2) : S8192x8x64.Idx → EReal) i = ((x (i 0).val (i 1).val (i 2).val : ℝ) : EReal)) :
    Wide (V9 m ρ c main_v10) (padded 64 x) := by
  intro i
  show W9 m ρ c (Proc.devRef .tc main_v10) i = _
  rw [W9_of m ρ c main_v10 (by decide), W8_of m ρ c main_v10 (by decide)]
  unfold_abbrev_sides
  simp only [StableHlo.TRef.binary, StableHlo.TRef.nullary, StableHlo.TRef.ternary, StableHlo.TRef.unary]
  after_results_simp
  simp only [StableHlo.TRef.toBuf, StableHlo.TRef.ofBuf, cast_eq]
  have h1 : (i 1).val < 1024 := (i 1).isLt
  have h8 : (i 1).val / 128 < 8 := by omega
  pointwise
  unfold padded
  by_cases h : (i 1).val % 128 < 64
  · rw [dif_pos ⟨h8, h⟩, if_pos h]
    exact hx _
  · rw [dif_neg (fun e => h e.2), if_neg h]
    exact zero_word _

/-- The incoming gradient. -/
theorem host_g (hx : ∀ i : S8192x8x64.Idx, (m ((c : Thread nD τ).loc main_arg3) : S8192x8x64.Idx → EReal) i = ((x (i 0).val (i 1).val (i 2).val : ℝ) : EReal)) :
    Wide (V9 m ρ c main_v12) (padded 64 x) := by
  intro i
  show W9 m ρ c (Proc.devRef .tc main_v12) i = _
  unfold_abbrev_sides
  simp only [StableHlo.TRef.binary, StableHlo.TRef.nullary, StableHlo.TRef.ternary, StableHlo.TRef.unary]
  after_results_simp
  simp only [StableHlo.TRef.toBuf, StableHlo.TRef.ofBuf, cast_eq]
  have h1 : (i 1).val < 1024 := (i 1).isLt
  have h8 : (i 1).val / 128 < 8 := by omega
  pointwise
  unfold padded
  by_cases h : (i 1).val % 128 < 64
  · rw [dif_pos ⟨h8, h⟩, if_pos h]
    exact hx _
  · rw [dif_neg (fun e => h e.2), if_neg h]
    exact zero_word _

end Cert.KernelIdeal.Values

end
-- ==== Proof.Values.Mask.lean ====
/- The mask of the diagonal block, as the three bodies print it: integer words of a position's number, a floor division by
   64 and a comparison; and the named constant it puts at a hidden key. -/
module

public import proofs.«01_k».proof.Proof.Gen.KernelIdeal.Skeleton
public import Idealize.ShloMosaic.Lib.Pointwise
public import proofs.«01_k».proof.Proof.Values.Attn

@[expose] public section

set_option maxRecDepth 16384

noncomputable section

namespace Cert.KernelIdeal.Values

open Cert.KernelIdeal.Gen Cert.Attn
open Idealize.ShloMosaic Idealize.ShloMosaic.TcCoe Idealize.SL.Sem Idealize.ShloMosaic.ValueIdx

/-- The floor division of a position's number by 64, in the printed operations. -/
abbrev floor64 (n : Nat) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem floor64_eq : ∀ x : Fin 512, floor64 x.val = BitVec.ofNat 32 (x.val / 64) := by decide +kernel

theorem sle_chunks : ∀ a b : Fin 8, (IntOp.cmpi CmpIPredicate.sle (BitVec.ofNat 32 a.val) (BitVec.ofNat 32 b.val) : BitVec 1)
    = if a.val ≤ b.val then 1#1 else 0#1 := by decide +kernel

/-- The masked score: the score itself where the key's chunk is not after the row's, `⊥` elsewhere. -/
theorem masked (x r : Fin 512) (a : EReal) :
    Scalar.select (IntOp.cmpi CmpIPredicate.sle (floor64 x.val) (floor64 r.val)) a
      (Named.named κ "neg" 4048155338#32 : Idealize.ShloMosaic.Ideal .f32) = if x.val / 64 ≤ r.val / 64 then a else ⊥ := by
  rw [floor64_eq, floor64_eq]
  have h := sle_chunks ⟨x.val / 64, by omega⟩ ⟨r.val / 64, by omega⟩
  rw [show (IntOp.cmpi CmpIPredicate.sle (BitVec.ofNat 32 (x.val / 64)) (BitVec.ofNat 32 (r.val / 64)) : BitVec 1) = _ from h]
  split_ifs with h1
  · rfl
  · rfl

end Cert.KernelIdeal.Values

end
-- ==== Proof.Values.Pay0.lean ====
/- The forward body's computed values, read at an index over the extended reals. -/
module

public import proofs.«01_k».proof.Proof.Values.Mask

@[expose] public section

set_option maxRecDepth 16384

noncomputable section

namespace Cert.KernelIdeal.Values

open Cert.KernelIdeal.Gen Cert.Attn
open Idealize.ShloMosaic Idealize.ShloMosaic.TcCoe Idealize.SL.Sem

abbrev V1 := FVec Idealize.ShloMosaic.Ideal S512x1 .f32
abbrev VS := FVec Idealize.ShloMosaic.Ideal S512x512 .f32
abbrev VA := FVec Idealize.ShloMosaic.Ideal S512x128 .f32
abbrev VB := FVec Idealize.ShloMosaic.Ideal S512x128 .bf16

/-! ### A whole block of keys, first head -/

theorem pay7_at (q k : VB) (r x : Fin 512) :
    k0_pay7 q k (ix2 r x) = ∑ d : Fin 128, q (ix2 r d) * k (ix2 x d) := by
  pointwise [k0_pay7]

theorem pay8_at (q k : VB) (m : V1) (r : Fin 512) :
    k0_pay8 q m k (ix2 r 0) = max (m (ix2 r 0)) (Finset.fold max (Ideal.ofBits .f32 4286578688#32)
      (fun x : Fin 512 => k0_pay7 q k (ix2 r x)) Finset.univ) := by
  unfold k0_pay8
  generalize k0_pay7 q k = S
  pointwise

theorem pay11_at (q k : VB) (m l : V1) (r : Fin 512) :
    k0_pay11 q m l k (ix2 r 0) = Ideal.exp (m (ix2 r 0) - k0_pay8 q m k (ix2 r 0)) * l (ix2 r 0)
      + ∑ x : Fin 512, Ideal.exp (k0_pay7 q k (ix2 r x) - k0_pay8 q m k (ix2 r 0)) := by
  unfold k0_pay11 k0_pay9 k0_pay10
  generalize k0_pay8 q m k = M
  generalize k0_pay7 q k = S
  pointwise

theorem pay12_at (q k v : VB) (m : V1) (a : VA) (r : Fin 512) (d : Fin 128) :
    k0_pay12 q m a k v (ix2 r d) = a (ix2 r d) * Ideal.exp (m (ix2 r 0) - k0_pay8 q m k (ix2 r 0))
      + ∑ x : Fin 512, Ideal.exp (k0_pay7 q k (ix2 r x) - k0_pay8 q m k (ix2 r 0)) * v (ix2 x d) := by
  unfold k0_pay12 k0_pay9 k0_pay10
  generalize k0_pay8 q m k = M
  generalize k0_pay7 q k = S
  pointwise

/-! ### A whole block of keys, second head -/

theorem pay14_at (q k : VB) (r x : Fin 512) :
    k0_pay14 q k (ix2 r x) = ∑ d : Fin 128, q (ix2 r d) * k (ix2 x d) := by
  pointwise [k0_pay14]

theorem pay15_at (q k : VB) (m : V1) (r : Fin 512) :
    k0_pay15 q m k (ix2 r 0) = max (m (ix2 r 0)) (Finset.fold max (Ideal.ofBits .f32 4286578688#32)
      (fun x : Fin 512 => k0_pay14 q k (ix2 r x)) Finset.univ) := by
  unfold k0_pay15
  generalize k0_pay14 q k = S
  pointwise

theorem pay18_at (q k : VB) (m l : V1) (r : Fin 512) :
    k0_pay18 q m l k (ix2 r 0) = Ideal.exp (m (ix2 r 0) - k0_pay15 q m k (ix2 r 0)) * l (ix2 r 0)
      + ∑ x : Fin 512, Ideal.exp (k0_pay14 q k (ix2 r x) - k0_pay15 q m k (ix2 r 0)) := by
  unfold k0_pay18 k0_pay16 k0_pay17
  generalize k0_pay15 q m k = M
  generalize k0_pay14 q k = S
  pointwise

theorem pay41_at (q k v : VB) (m : V1) (a : VA) (r : Fin 512) (d : Fin 128) :
    k0_pay41 (k0_pay13 v) (k0_pay17 q m k) (k0_pay19 q m a k) (ix2 r d)
      = a (ix2 r d) * Ideal.exp (m (ix2 r 0) - k0_pay15 q m k (ix2 r 0))
      + ∑ x : Fin 512, Ideal.exp (k0_pay14 q k (ix2 r x) - k0_pay15 q m k (ix2 r 0)) * v (ix2 x d) := by
  unfold k0_pay41 k0_pay13 k0_pay17 k0_pay19 k0_pay16
  generalize k0_pay15 q m k = M
  generalize k0_pay14 q k = S
  pointwise

/-! ### The diagonal block, first head -/

theorem pay44_at (q k : Vec Idealize.ShloMosaic.Ideal S512x128 .bf16) (r x : Fin 512) :
    k0_pay44 q k (ix2 r x) = ∑ d : Fin 128, q (ix2 r d) * k (ix2 x d) := by
  pointwise [k0_pay44, k0_pay33]

/-- The first head's masked scores. -/
abbrev scA (S : VS) : VS := k0_pay47 S (iota Kind.tc S512x512 32 [0] iota_S512x512_d0_w32) (64#32) k0_pay45 k0_pay46 0#32

theorem scA_at (S : VS) (r x : Fin 512) : scA S (ix2 r x) = if x.val / 64 ≤ r.val / 64 then S (ix2 r x) else ⊥ := by
  rw [← masked x r]
  pointwise [k0_pay47, k0_pay45, k0_pay46]

theorem pay48_at (m : V1) (S : VS) (r : Fin 512) :
    k0_pay48 m S (iota Kind.tc S512x512 32 [0] iota_S512x512_d0_w32) (64#32) k0_pay45 k0_pay46 0#32 (ix2 r 0)
      = max (m (ix2 r 0)) (Finset.fold max (Ideal.ofBits .f32 4286578688#32)
        (fun x : Fin 512 => scA S (ix2 r x)) Finset.univ) := by
  unfold scA k0_pay48
  generalize k0_pay47 (F := Idealize.ShloMosaic.Ideal) S _ _ _ _ _ = T
  pointwise

theorem pay51_at (m l M : V1) (T : VS) (r : Fin 512) :
    k0_pay51 l T M (exp (subf m M)) (ix2 r 0) = Ideal.exp (m (ix2 r 0) - M (ix2 r 0)) * l (ix2 r 0)
      + ∑ x : Fin 512, Ideal.exp (T (ix2 r x) - M (ix2 r 0)) := by
  pointwise [k0_pay51, k0_pay50]

theorem pay52_at (m M : V1) (a : VA) (v : VB) (T : VS) (r : Fin 512) (d : Fin 128) :
    k0_pay52 a (k0_pay43 v) T M (exp (subf m M)) (ix2 r d) = a (ix2 r d) * Ideal.exp (m (ix2 r 0) - M (ix2 r 0))
      + ∑ x : Fin 512, Ideal.exp (T (ix2 r x) - M (ix2 r 0)) * v (ix2 x d) := by
  pointwise [k0_pay52, k0_pay50, k0_pay43]

/-! ### The diagonal block, second head -/

theorem pay54_at (q k : VB) (r x : Fin 512) :
    k0_pay54 q k (ix2 r x) = ∑ d : Fin 128, q (ix2 r d) * k (ix2 x d) := by
  pointwise [k0_pay54]

/-- The second head's masked scores. -/
abbrev scB (S : VS) : VS := k0_pay57 S k0_pay55 (iota Kind.tc S512x512 32 [1] iota_S512x512_d1_w32) (64#32) k0_pay56

theorem scB_at (S : VS) (r x : Fin 512) : scB S (ix2 r x) = if x.val / 64 ≤ r.val / 64 then S (ix2 r x) else ⊥ := by
  rw [← masked x r]
  pointwise [k0_pay57, k0_pay55, k0_pay56]

/-- The second head's new maximum. -/
abbrev maxB (m : V1) (S : VS) : V1 :=
  k0_pay58 m S k0_pay55 (iota Kind.tc S512x512 32 [1] iota_S512x512_d1_w32) (64#32) k0_pay56

theorem maxB_at (m : V1) (S : VS) (r : Fin 512) :
    maxB m S (ix2 r 0) = max (m (ix2 r 0)) (Finset.fold max (Ideal.ofBits .f32 4286578688#32)
        (fun x : Fin 512 => scB S (ix2 r x)) Finset.univ) := by
  unfold maxB scB k0_pay58
  generalize k0_pay57 (F := Idealize.ShloMosaic.Ideal) S _ _ _ _ = T
  pointwise

theorem pay61_at (m l : V1) (S : VS) (r : Fin 512) :
    k0_pay61 m l S k0_pay55 (iota Kind.tc S512x512 32 [1] iota_S512x512_d1_w32) (64#32) k0_pay56 (ix2 r 0)
      = Ideal.exp (m (ix2 r 0) - maxB m S (ix2 r 0)) * l (ix2 r 0)
      + ∑ x : Fin 512, Ideal.exp (scB S (ix2 r x) - maxB m S (ix2 r 0)) := by
  unfold maxB scB k0_pay61 k0_pay59 k0_pay60
  generalize k0_pay58 (F := Idealize.ShloMosaic.Ideal) m S _ _ _ _ = M
  generalize k0_pay57 (F := Idealize.ShloMosaic.Ideal) S _ _ _ _ = T
  pointwise

theorem pay62_at (m : V1) (S : VS) (a : VA) (v : VB) (r : Fin 512) (d : Fin 128) :
    k0_pay62 m a (k0_pay53 v) S k0_pay55 (iota Kind.tc S512x512 32 [1] iota_S512x512_d1_w32) (64#32) k0_pay56 (ix2 r d)
      = a (ix2 r d) * Ideal.exp (m (ix2 r 0) - maxB m S (ix2 r 0))
      + ∑ x : Fin 512, Ideal.exp (scB S (ix2 r x) - maxB m S (ix2 r 0)) * v (ix2 x d) := by
  unfold maxB scB k0_pay62 k0_pay59 k0_pay60 k0_pay53
  generalize k0_pay58 (F := Idealize.ShloMosaic.Ideal) m S _ _ _ _ = M
  generalize k0_pay57 (F := Idealize.ShloMosaic.Ideal) S _ _ _ _ = T
  pointwise

/-! ### What is stored -/

theorem pay63_at (l : V1) (a : VA) (r : Fin 512) (d : Fin 128) :
    k0_pay63 l a (ix2 r d) = Ideal.div (a (ix2 r d)) (l (ix2 r 0)) := by pointwise [k0_pay63]

theorem pay3_at (l : V1) (a : VA) (r : Fin 512) (d : Fin 128) :
    k0_pay3 l a (ix2 r d) = Ideal.div (a (ix2 r d)) (l (ix2 r 0)) := by pointwise [k0_pay3]

theorem pay64_at (m l : V1) (r : Fin 512) :
    k0_pay64 m l (ix2 r 0) = m (ix2 r 0) + Ideal.log (l (ix2 r 0)) := by pointwise [k0_pay64]

theorem pay1_at (x : V1) (r : Fin 512) (d : Fin 128) : k0_pay1 x (ix2 r d) = x (ix2 r 0) := by pointwise [k0_pay1]

theorem pay2_at (x : V1) (j : S1x1x1x512.Idx) : k0_pay2 x j = x (ix2 (j 3) 0) := by
  idx_vars j
  pointwise [k0_pay2]

theorem pay5_at (m l : V1) (r : Fin 512) (d : Fin 128) :
    k0_pay5 m l (ix2 r d) = m (ix2 r 0) + Ideal.log (l (ix2 r 0)) := by pointwise [k0_pay5, k0_pay4]

theorem pay6_at (m l : V1) (j : S1x1x1x512.Idx) :
    k0_pay6 m l j = m (ix2 (j 3) 0) + Ideal.log (l (ix2 (j 3) 0)) := by
  idx_vars j
  pointwise [k0_pay6, k0_pay4]

theorem pay35_at (r : Fin 512) : (k0_pay35 : V1) (ix2 r 0) = ⊥ := by pointwise [k0_pay35]; rfl
theorem pay38_at (r : Fin 512) : (k0_pay38 : V1) (ix2 r 0) = ⊥ := by pointwise [k0_pay38]; rfl
theorem pay36_at (r : Fin 512) : (k0_pay36 : V1) (ix2 r 0) = 0 := by pointwise [k0_pay36]
theorem pay39_at (r : Fin 512) : (k0_pay39 : V1) (ix2 r 0) = 0 := by pointwise [k0_pay39]
theorem pay37_at (r : Fin 512) (d : Fin 128) : (k0_pay37 : VA) (ix2 r d) = 0 := by pointwise [k0_pay37]
theorem pay40_at (r : Fin 512) (d : Fin 128) : (k0_pay40 : VA) (ix2 r d) = 0 := by pointwise [k0_pay40]

theorem ofBits_bot : Ideal.ofBits .f32 4286578688#32 = ⊥ := by simp [Ideal.ofBits, Ideal.ieee]

end Cert.KernelIdeal.Values

end
-- ==== Proof.Values.Head.lean ====
/- One head of the forward body: the running softmax of a block of 512 rows, block of keys by block of keys. -/
module

public import proofs.«01_k».proof.Proof.Values.Pay0

@[expose] public section

set_option maxRecDepth 16384

noncomputable section

namespace Cert.KernelIdeal.Values

open Cert.KernelIdeal.Gen Cert.Attn
open Idealize.ShloMosaic Idealize.ShloMosaic.TcCoe Idealize.SL.Sem Finset

variable (Q K V : ℕ → ℕ → ℝ)

/-- The running maximum, sum and output of head `h` in row block `i`, after `n` blocks of keys. -/
def Head (i h n : ℕ) (m l : V1) (acc : VA) : Prop :=
  ∀ r : Fin 512, Row (m (ix2 r 0)) (l (ix2 r 0)) (fun d : Fin 128 => acc (ix2 r d))
    (∑ t ∈ range (512 * n), W Q K h (512 * i + r.val) t)
    (fun d => ∑ t ∈ range (512 * n), W Q K h (512 * i + r.val) t * V t (128 * h + d.val))

variable {Q K V}

theorem Head.zero {i h : ℕ} {m l : V1} {acc : VA} (hm : ∀ r : Fin 512, m (ix2 r 0) = ⊥) (hl : ∀ r : Fin 512, l (ix2 r 0) = 0)
    (ha : ∀ (r : Fin 512) (d : Fin 128), acc (ix2 r d) = 0) : Head Q K V i h 0 m l acc := by
  intro r
  left
  refine ⟨hm r, hl r, fun d => ha r d, by simp, fun d => by simp⟩

/-- The products of the head's 128 columns add up to the score. -/
theorem score {q k : VB} {h R T : ℕ}
    (hq : ∀ (r : Fin 512) (d : Fin 128), q (ix2 r d) = ((Q (R + r.val) (128 * h + d.val) : ℝ) : EReal))
    (hk : ∀ (x : Fin 512) (d : Fin 128), k (ix2 x d) = ((K (T + x.val) (128 * h + d.val) : ℝ) : EReal)) (r x : Fin 512) :
    (∑ d : Fin 128, q (ix2 r d) * k (ix2 x d) : EReal) = ((S Q K h (R + r.val) (T + x.val) : ℝ) : EReal) := by
  rw [show (∑ d : Fin 128, q (ix2 r d) * k (ix2 x d) : EReal)
      = ∑ d : Fin 128, ((Q (R + r.val) (128 * h + d.val) * K (T + x.val) (128 * h + d.val) : ℝ) : EReal) from
    sum_congr rfl fun d _ => by rw [hq, hk, EReal.coe_mul]]
  exact coe_sum_fin 128 (fun d => Q (R + r.val) (128 * h + d) * K (T + x.val) (128 * h + d))

/-- One more block of keys, given its scores. -/
theorem Head.step {i h n : ℕ} {m l : V1} {acc : VA} (h0 : Head Q K V i h n m l acc) (hn : n ≤ i) {T : VS} {v : VB}
    (hT : ∀ r x : Fin 512, T (ix2 r x) = if (512 * n + x.val) / 64 ≤ (512 * i + r.val) / 64
      then ((S Q K h (512 * i + r.val) (512 * n + x.val) : ℝ) : EReal) else ⊥)
    (hv : ∀ (x : Fin 512) (d : Fin 128), v (ix2 x d) = ((V (512 * n + x.val) (128 * h + d.val) : ℝ) : EReal))
    {m' l' : V1} {acc' : VA}
    (hm : ∀ r : Fin 512, m' (ix2 r 0) = max (m (ix2 r 0)) (Finset.fold max (Ideal.ofBits .f32 4286578688#32)
      (fun x : Fin 512 => T (ix2 r x)) Finset.univ))
    (hl : ∀ r : Fin 512, l' (ix2 r 0) = Ideal.exp (m (ix2 r 0) - m' (ix2 r 0)) * l (ix2 r 0)
      + ∑ x : Fin 512, Ideal.exp (T (ix2 r x) - m' (ix2 r 0)))
    (ha : ∀ (r : Fin 512) (d : Fin 128), acc' (ix2 r d) = acc (ix2 r d) * Ideal.exp (m (ix2 r 0) - m' (ix2 r 0))
      + ∑ x : Fin 512, Ideal.exp (T (ix2 r x) - m' (ix2 r 0)) * v (ix2 x d)) :
    Head Q K V i h (n + 1) m' l' acc' := by
  intro r
  have key := (h0 r).step (fun x : Fin 512 => T (ix2 r x)) (fun x : Fin 512 => W Q K h (512 * i + r.val) (512 * n + x.val))
    (fun x => by
      unfold W
      rw [hT]
      split_ifs
      · exact Or.inr ⟨_, rfl, rfl⟩
      · exact Or.inl ⟨rfl, rfl⟩)
    (0 : Fin 512) (by
      rw [hT, if_pos (by simp only [Fin.val_zero]; omega)]
      exact EReal.coe_ne_bot _)
    (fun (x : Fin 512) (d : Fin 128) => V (512 * n + x.val) (128 * h + d.val))
  have e := hm r
  rw [ofBits_bot] at e
  rw [← e] at key
  have h1 : (∑ t ∈ range (512 * (n + 1)), W Q K h (512 * i + r.val) t)
      = ∑ t ∈ range (512 * n), W Q K h (512 * i + r.val) t + ∑ x : Fin 512, W Q K h (512 * i + r.val) (512 * n + x.val) := by
    rw [sum_next, Finset.sum_range (fun x => W Q K h (512 * i + r.val) (512 * n + x))]
  have h2 : ∀ d : Fin 128, (∑ t ∈ range (512 * (n + 1)), W Q K h (512 * i + r.val) t * V t (128 * h + d.val))
      = ∑ t ∈ range (512 * n), W Q K h (512 * i + r.val) t * V t (128 * h + d.val)
        + ∑ x : Fin 512, W Q K h (512 * i + r.val) (512 * n + x.val) * V (512 * n + x.val) (128 * h + d.val) := by
    intro d
    rw [sum_next, Finset.sum_range (fun x => W Q K h (512 * i + r.val) (512 * n + x) * V (512 * n + x) (128 * h + d.val))]
  rw [hl, h1]
  simp only [h2, ha, hv]
  exact key

/-! ### The four steps of the body -/

theorem pay33_at (q : VB) (r : Fin 512) (d : Fin 128) : (k0_pay33 q : VB) (ix2 r d) = q (ix2 r d) := by pointwise [k0_pay33]

theorem pay34_at (q : VB) (r : Fin 512) (d : Fin 128) : (k0_pay34 q : VB) (ix2 r d) = q (ix2 r d) := by pointwise [k0_pay34]

theorem pay44_first (q k : VB) (r x : Fin 512) :
    (k0_pay44 (F := Idealize.ShloMosaic.Ideal) q k : VS) (ix2 r x) = ∑ d : Fin 128, (k0_pay33 q : VB) (ix2 r d) * k (ix2 x d) := by
  simp only [pay33_at]
  exact pay44_at q k r x

theorem Head.diag_first {i h : ℕ} {m l : V1} {acc : VA} {q0 k v : VB}
    (hq : ∀ (r : Fin 512) (d : Fin 128), (k0_pay33 q0 : VB) (ix2 r d) = ((Q (512 * i + r.val) (128 * h + d.val) : ℝ) : EReal))
    (h0 : Head Q K V i h i m l acc)
    (hk : ∀ (x : Fin 512) (d : Fin 128), k (ix2 x d) = ((K (512 * i + x.val) (128 * h + d.val) : ℝ) : EReal))
    (hv : ∀ (x : Fin 512) (d : Fin 128), v (ix2 x d) = ((V (512 * i + x.val) (128 * h + d.val) : ℝ) : EReal)) :
    Head Q K V i h (i + 1)
      (k0_pay48 m (k0_pay44 q0 k) (iota Kind.tc S512x512 32 [0] iota_S512x512_d0_w32) (64#32) k0_pay45 k0_pay46 0#32)
      (k0_pay51 l (scA (k0_pay44 q0 k))
        (k0_pay48 m (k0_pay44 q0 k) (iota Kind.tc S512x512 32 [0] iota_S512x512_d0_w32) (64#32) k0_pay45 k0_pay46 0#32)
        (k0_pay49 m (k0_pay44 q0 k) (iota Kind.tc S512x512 32 [0] iota_S512x512_d0_w32) (64#32) k0_pay45 k0_pay46 0#32))
      (k0_pay52 acc (k0_pay43 v) (scA (k0_pay44 q0 k))
        (k0_pay48 m (k0_pay44 q0 k) (iota Kind.tc S512x512 32 [0] iota_S512x512_d0_w32) (64#32) k0_pay45 k0_pay46 0#32)
        (k0_pay49 m (k0_pay44 q0 k) (iota Kind.tc S512x512 32 [0] iota_S512x512_d0_w32) (64#32) k0_pay45 k0_pay46 0#32)) :=
  h0.step le_rfl (T := scA (k0_pay44 q0 k)) (fun r x => by
      rw [scA_at, pay44_first, score hq hk]
      exact if_congr (by omega) rfl rfl) hv
    (fun r => pay48_at m _ r) (fun r => pay51_at m l _ _ r) (fun r d => pay52_at m _ acc v _ r d)

section Steps
variable {i h n : ℕ} {m l : V1} {acc : VA} {q k v : VB}
  (hq : ∀ (r : Fin 512) (d : Fin 128), q (ix2 r d) = ((Q (512 * i + r.val) (128 * h + d.val) : ℝ) : EReal))
include hq

theorem Head.whole_first (h0 : Head Q K V i h n m l acc) (hn : n < i)
    (hk : ∀ (x : Fin 512) (d : Fin 128), k (ix2 x d) = ((K (512 * n + x.val) (128 * h + d.val) : ℝ) : EReal))
    (hv : ∀ (x : Fin 512) (d : Fin 128), v (ix2 x d) = ((V (512 * n + x.val) (128 * h + d.val) : ℝ) : EReal)) :
    Head Q K V i h (n + 1) (k0_pay8 q m k) (k0_pay11 q m l k) (k0_pay12 q m acc k v) :=
  h0.step hn.le (T := k0_pay7 q k) (fun r x => by
      rw [pay7_at, score hq hk, if_pos (by omega)]) hv
    (fun r => pay8_at q k m r) (fun r => pay11_at q k m l r) (fun r d => pay12_at q k v m acc r d)

theorem Head.whole_second (h0 : Head Q K V i h n m l acc) (hn : n < i)
    (hk : ∀ (x : Fin 512) (d : Fin 128), k (ix2 x d) = ((K (512 * n + x.val) (128 * h + d.val) : ℝ) : EReal))
    (hv : ∀ (x : Fin 512) (d : Fin 128), v (ix2 x d) = ((V (512 * n + x.val) (128 * h + d.val) : ℝ) : EReal)) :
    Head Q K V i h (n + 1) (k0_pay15 q m k) (k0_pay18 q m l k) (k0_pay41 (k0_pay13 v) (k0_pay17 q m k) (k0_pay19 q m acc k)) :=
  h0.step hn.le (T := k0_pay14 q k) (fun r x => by
      rw [pay14_at, score hq hk, if_pos (by omega)]) hv
    (fun r => pay15_at q k m r) (fun r => pay18_at q k m l r) (fun r d => pay41_at q k v m acc r d)

theorem Head.diag_second (h0 : Head Q K V i h i m l acc)
    (hk : ∀ (x : Fin 512) (d : Fin 128), k (ix2 x d) = ((K (512 * i + x.val) (128 * h + d.val) : ℝ) : EReal))
    (hv : ∀ (x : Fin 512) (d : Fin 128), v (ix2 x d) = ((V (512 * i + x.val) (128 * h + d.val) : ℝ) : EReal)) :
    Head Q K V i h (i + 1) (maxB m (k0_pay54 q k))
      (k0_pay61 m l (k0_pay54 q k) k0_pay55 (iota Kind.tc S512x512 32 [1] iota_S512x512_d1_w32) (64#32) k0_pay56)
      (k0_pay62 m acc (k0_pay53 v) (k0_pay54 q k) k0_pay55 (iota Kind.tc S512x512 32 [1] iota_S512x512_d1_w32) (64#32) k0_pay56) :=
  h0.step le_rfl (T := scB (k0_pay54 q k)) (fun r x => by
      rw [scB_at, pay54_at, score hq hk]
      exact if_congr (by omega) rfl rfl) hv
    (fun r => maxB_at m _ r) (fun r => pay61_at m l _ r) (fun r d => pay62_at m _ acc v r d)

end Steps

/-! ### What the finished block holds -/

section Finish
variable {i h : ℕ} {m l : V1} {acc : VA} (h0 : Head Q K V i h (i + 1) m l acc) (hi : i < 16)
include h0 hi

theorem Head.out (r : Fin 512) (d : Fin 128) :
    Ideal.div (acc (ix2 r d)) (l (ix2 r 0)) = ((O Q K V (512 * i + r.val) (128 * h + d.val) : ℝ) : EReal) := by
  rw [(h0 r).div (sum_W_pos _ _ _ _ _ (by omega)) d]
  have hc : (128 * h + d.val) / 128 = h := by omega
  have hs := sum_W_stop Q K h (512 * i + r.val) i (fun _ => 1) (by omega) hi
  simp only [mul_one] at hs
  unfold O A
  rw [hc, sum_W_stop Q K h (512 * i + r.val) i (fun t => V t (128 * h + d.val)) (by omega) hi, hs]

theorem Head.lse (r : Fin 512) :
    m (ix2 r 0) + Ideal.log (l (ix2 r 0)) = ((L Q K h (512 * i + r.val) : ℝ) : EReal) := by
  rw [(h0 r).log (sum_W_pos _ _ _ _ _ (by omega))]
  have hs := sum_W_stop Q K h (512 * i + r.val) i (fun _ => 1) (by omega) hi
  simp only [mul_one] at hs
  unfold L A
  rw [hs]

end Finish

end Cert.KernelIdeal.Values

end
-- ==== Proof.Values.Loads.lean ====
/- Reading a window's block: what a load of 128 columns finds, and what a block stored in two halves holds. -/
module

public import proofs.«01_k».proof.Proof.RunKernelIdeal.Body0
public import Idealize.ShloMosaic.Lib.Pipeline.ValueKit.Tiles
public import Idealize.ShloMosaic.Lib.Pointwise

@[expose] public section

set_option maxRecDepth 16384

noncomputable section

namespace Cert.KernelIdeal.Values

open Cert.KernelIdeal.Gen Cert.KernelIdeal.Run
open Idealize.ShloMosaic Idealize.ShloMosaic.TcCoe Idealize.SL.Sem

/-- A load of 512 rows and 128 columns at row `a` and column `b` of a buffer whose elements are `f`. -/
theorem load {N : ℕ} {e : EltTy} (M : Memref sig .tc .vmem ⟨2, ![N, 256]⟩ e) (hM : M.IsWhole)
    (x : Vec Idealize.ShloMosaic.Ideal ⟨2, ![N, 256]⟩ e) (off : Fin 2 → ℕ) (inb) (a b : ℕ) (ho : off = ![a, b])
    (ha : a + 512 ≤ N) (hb : b + 128 ≤ 256) (r : Fin 512) (d : Fin 128) :
    View.readAt (Elt Idealize.ShloMosaic.Ideal) M.view (Rect.unit (s := ⟨2, ![N, 256]⟩) off S512x128.size inb).toLoadRect
      (hM.unread x) (ix2 r d) = x (ix2 ⟨a + r.val, by omega⟩ ⟨b + d.val, by omega⟩) := by
  subst ho
  show View.ld (M.view.read _ _) _ _ = _
  rw [hM.read_unread]
  refine View.ld_unit_apply_of _ _ _ _ _ _ fun c => ?_
  match c with
  | 0 => rfl
  | 1 => rfl

/-- A block stored as a left and a right half of 128 columns. -/
theorem halves {e : EltTy} {N : ℕ} (inb0) (inb1) (p q : (⟨2, ![N, 128]⟩ : Shape).Idx → Elt Idealize.ShloMosaic.Ideal e)
    (r : Fin N) (c : Fin 256) (v : Elt Idealize.ShloMosaic.Ideal e)
    (hp : ∀ d : Fin 128, c.val = d.val → p (ix2 r d) = v) (hq : ∀ d : Fin 128, c.val = 128 + d.val → q (ix2 r d) = v) :
    View.canon (Val := Elt Idealize.ShloMosaic.Ideal) (s := ⟨2, ![N, 256]⟩)
      [⟨Rect.unit ![0, 128] (⟨2, ![N, 128]⟩ : Shape).size inb1, q⟩, ⟨Rect.unit ![0, 0] (⟨2, ![N, 128]⟩ : Shape).size inb0, p⟩]
      (ix2 r c) = v := by
  have hc := c.isLt
  refine View.canon_eq_of_allAt _ _ _ ?_ (View.allAt_cons_unit _ _ _ _ _ (fun x hx => ?_)
    (View.allAt_cons_unit _ _ _ _ _ (fun x hx => ?_) (View.allAt_nil _ _)))
  · by_cases h : c.val < 128
    · refine ⟨_, List.mem_cons_of_mem _ List.mem_cons_self, (Rect.mem_set_unit (inb := inb0)).mpr fun a => ?_⟩
      match a with
      | 0 => exact ⟨Nat.zero_le _, by simp⟩
      | 1 => exact ⟨Nat.zero_le _, by simpa using h⟩
    · refine ⟨_, List.mem_cons_self, (Rect.mem_set_unit (inb := inb1)).mpr fun a => ?_⟩
      match a with
      | 0 => exact ⟨Nat.zero_le _, by simp⟩
      | 1 => exact ⟨by show 128 ≤ c.val; omega, by show c.val < 128 + 128; omega⟩
  · have h0 : r = x 0 := Fin.ext (by simpa using hx 0)
    have h1 : c.val = 128 + (x 1).val := hx 1
    have := hq (x 1) h1
    rw [h0] at this
    exact (congrArg q (ix2_eta x).symm).trans this
  · have h0 : r = x 0 := Fin.ext (by simpa using hx 0)
    have h1 : c.val = (x 1).val := by simpa using hx 1
    have := hp (x 1) h1
    rw [h0] at this
    exact (congrArg p (ix2_eta x).symm).trans this

/-- A block stored as two rows, one for each head. -/
theorem rows {e : EltTy} (inb0) (inb1) (p q : (⟨4, ![1, 1, 1, 512]⟩ : Shape).Idx → Elt Idealize.ShloMosaic.Ideal e)
    (h : Fin 2) (r : Fin 512) (v : Elt Idealize.ShloMosaic.Ideal e)
    (hp : h.val = 0 → p (ix4 0 0 0 r) = v) (hq : h.val = 1 → q (ix4 0 0 0 r) = v) :
    View.canon (Val := Elt Idealize.ShloMosaic.Ideal) (s := ⟨4, ![2, 1, 1, 512]⟩)
      [⟨Rect.unit ![1, 0, 0, 0] (⟨4, ![1, 1, 1, 512]⟩ : Shape).size inb1, q⟩,
        ⟨Rect.unit ![0, 0, 0, 0] (⟨4, ![1, 1, 1, 512]⟩ : Shape).size inb0, p⟩]
      (ix4 h 0 0 r) = v := by
  have hh := h.isLt
  have eta : ∀ x : (⟨4, ![1, 1, 1, 512]⟩ : Shape).Idx, r.val = (x 3).val → x = ix4 0 0 0 r := by
    intro x hx
    funext a
    match a with
    | 0 => exact Subsingleton.elim (α := Fin 1) _ _
    | 1 => exact Subsingleton.elim (α := Fin 1) _ _
    | 2 => exact Subsingleton.elim (α := Fin 1) _ _
    | 3 => exact Fin.ext hx.symm
  refine View.canon_eq_of_allAt _ _ _ ?_ (View.allAt_cons_unit _ _ _ _ _ (fun x hx => ?_)
    (View.allAt_cons_unit _ _ _ _ _ (fun x hx => ?_) (View.allAt_nil _ _)))
  · by_cases h0 : h.val = 0
    · refine ⟨_, List.mem_cons_of_mem _ List.mem_cons_self, (Rect.mem_set_unit (inb := inb0)).mpr fun a => ?_⟩
      match a with
      | 0 => exact ⟨Nat.zero_le _, by show h.val < 0 + 1; omega⟩
      | 1 => exact ⟨Nat.zero_le _, by simp⟩
      | 2 => exact ⟨Nat.zero_le _, by simp⟩
      | 3 => exact ⟨Nat.zero_le _, by simp⟩
    · refine ⟨_, List.mem_cons_self, (Rect.mem_set_unit (inb := inb1)).mpr fun a => ?_⟩
      match a with
      | 0 => exact ⟨by show 1 ≤ h.val; omega, by show h.val < 1 + 1; omega⟩
      | 1 => exact ⟨Nat.zero_le _, by simp⟩
      | 2 => exact ⟨Nat.zero_le _, by simp⟩
      | 3 => exact ⟨Nat.zero_le _, by simp⟩
  · have h0 : h.val = 1 + (x 0).val := hx 0
    have h1 : (x 0).val < 1 := (x 0).isLt
    rw [eta x (by simpa using hx 3)]
    exact hq (by omega)
  · have h0 : h.val = 0 + (x 0).val := hx 0
    have h1 : (x 0).val < 1 := (x 0).isLt
    rw [eta x (by simpa using hx 3)]
    exact hp (by omega)

/-- A load of the first or the second head's 128 columns of a block of 512 rows. -/
abbrev part {e : EltTy} (b : ℕ) (inb : ∀ a, (![0, b] : Fin 2 → ℕ) a + S512x128.size a ≤ S512x256.size a)
    (M : Memref sig .tc .vmem S512x256 e) (hM : M.IsWhole) (x : Vec Idealize.ShloMosaic.Ideal S512x256 e) :
    Vec Idealize.ShloMosaic.Ideal S512x128 e :=
  View.readAt (Elt Idealize.ShloMosaic.Ideal) M.view (Rect.unit (s := S512x256) ![0, b] S512x128.size inb).toLoadRect (hM.unread x)

theorem part_at {e : EltTy} (b : ℕ) (inb : ∀ a, (![0, b] : Fin 2 → ℕ) a + S512x128.size a ≤ S512x256.size a)
    (M : Memref sig .tc .vmem S512x256 e) (hM : M.IsWhole)
    (x : Vec Idealize.ShloMosaic.Ideal S512x256 e) (hb : b + 128 ≤ 256) (r : Fin 512) (d : Fin 128) :
    part b inb M hM x (ix2 r d) = x (ix2 r ⟨b + d.val, by omega⟩) := by
  unfold part
  rw [load M hM x ![0, b] inb 0 b rfl (by omega) hb]
  congr 2
  exact Fin.ext (Nat.zero_add _)

/-- The columns of head `2 * g + b / 128` in a block whose columns begin at `256 * g`. -/
theorem part_real {e : EltTy} {φ : ℕ → ℕ → ℝ} {R g : ℕ} (b : ℕ) (inb : ∀ a, (![0, b] : Fin 2 → ℕ) a + S512x128.size a ≤ S512x256.size a)
    (M : Memref sig .tc .vmem S512x256 e) (hM : M.IsWhole)
    {x : Vec Idealize.ShloMosaic.Ideal S512x256 e} (hb : b + 128 ≤ 256) (h : ℕ) (hh : 128 * h = 256 * g + b)
    (up : EReal → Elt Idealize.ShloMosaic.Ideal e)
    (hx : ∀ (r : Fin 512) (d : Fin 256), x (ix2 r d) = up ((φ (R + r.val) (256 * g + d.val) : ℝ) : EReal)) (r : Fin 512) (d : Fin 128) :
    part b inb M hM x (ix2 r d) = up ((φ (R + r.val) (128 * h + d.val) : ℝ) : EReal) := by
  rw [part_at b inb M hM x hb, hx]
  congr 3
  dsimp only
  omega

/-- A load of one block's 512 logarithms, or row sums, of one head. -/
theorem loadRow {e : EltTy} (M : Memref sig .tc .vmem S2x16x1x512 e) (hM : M.IsWhole)
    (x : Vec Idealize.ShloMosaic.Ideal S2x16x1x512 e) (off : Fin 4 → ℕ) (inb) (a b : ℕ) (ho : off = ![a, b, 0, 0])
    (ha : a < 2) (hb : b < 16) (r : Fin 512) :
    View.readAt (Elt Idealize.ShloMosaic.Ideal) M.view (Rect.unit (s := S2x16x1x512) off S1x1x1x512.size inb).toLoadRect
      (hM.unread x) (ix4 0 0 0 r) = x (ix4 ⟨a, ha⟩ ⟨b, hb⟩ 0 r) := by
  subst ho
  show View.ld (M.view.read _ _) _ _ = _
  rw [hM.read_unread]
  refine View.ld_unit_apply_of _ _ _ _ _ _ fun c => ?_
  match c with
  | 0 => rfl
  | 1 => rfl
  | 2 => rfl
  | 3 => exact (Nat.zero_add _).symm

end Cert.KernelIdeal.Values

end
-- ==== Proof.Values.Block0.lean ====
/- One grid point of the forward pass: the blocks of the output and of the logarithms it stores. -/
module

public import proofs.«01_k».proof.Proof.Values.Head
public import proofs.«01_k».proof.Proof.Values.Loads

@[expose] public section

set_option maxRecDepth 16384

noncomputable section

namespace Cert.KernelIdeal.Values

open Cert.KernelIdeal.Gen Cert.KernelIdeal.Run Cert.Attn
open Idealize.ShloMosaic Idealize.ShloMosaic.TcCoe Idealize.SL.Sem Finset

theorem k0_t1_trips : ∀ i : grid0.Coords, (k0_t1_loop i).trips = (i 1).val := by decide +kernel
theorem k0_t2_trips : ∀ i : grid0.Coords, (k0_t2_loop i).trips = 0 := by decide +kernel

section
variable {Q K V : ℕ → ℕ → ℝ} (c : Dev nD) (i : grid0.Coords)
  (arg2 : Memref sig .tc .vmem S512x256 .bf16) (harg2 : arg2.IsWhole) (arg3 : Memref sig .tc .vmem S8192x256 .bf16) (harg3 : arg3.IsWhole)
  (arg4 : Memref sig .tc .vmem S8192x256 .bf16) (harg4 : arg4.IsWhole) (arg5 : Memref sig .tc .vmem S512x256 .f32) (harg5 : arg5.IsWhole)
  (arg6 : Memref sig .tc .vmem S512x256 .f32) (harg6 : arg6.IsWhole) (arg7 : Memref sig .tc .vmem S2x1x1x512 .f32) (harg7 : arg7.IsWhole)
  {x0 : Vec Idealize.ShloMosaic.Ideal S512x256 .bf16} {x1 x2 : Vec Idealize.ShloMosaic.Ideal S8192x256 .bf16}
  (hq : ∀ (r : Fin 512) (d : Fin 256), x0 (ix2 r d) = ((Q (512 * (i 1).val + r.val) (256 * (i 0).val + d.val) : ℝ) : EReal))
  (hk : ∀ (r : Fin 8192) (d : Fin 256), x1 (ix2 r d) = ((K r.val (256 * (i 0).val + d.val) : ℝ) : EReal))
  (hv : ∀ (r : Fin 8192) (d : Fin 256), x2 (ix2 r d) = ((V r.val (256 * (i 0).val + d.val) : ℝ) : EReal))

/-- Both heads of a grid point after `n` blocks of keys. -/
def Heads (Q K V : ℕ → ℕ → ℝ) (i : grid0.Coords) (n : ℕ) (s : V1 × V1 × VA × V1 × V1 × VA) : Prop :=
  Head Q K V (i 1).val (2 * (i 0).val) n s.1 s.2.1 s.2.2.1
    ∧ Head Q K V (i 1).val (2 * (i 0).val + 1) n s.2.2.2.1 s.2.2.2.2.1 s.2.2.2.2.2

include hq in
/-- The first head's rows of queries. -/
theorem q0_first (r : Fin 512) (d : Fin 128) :
    (k0_pay33 (View.readAt (Elt Idealize.ShloMosaic.Ideal) arg2.view
        (Rect.unit (s := S512x256) ![0, 0] S512x128.size inb_S512x256_S512x128_0_0).toLoadRect (harg2.unread x0)) : VB) (ix2 r d)
      = ((Q (512 * (i 1).val + r.val) (128 * (2 * (i 0).val) + d.val) : ℝ) : EReal) := by
  rw [pay33_at, load _ _ _ _ _ 0 0 rfl (by omega) (by omega), hq]; congr 2 <;> dsimp only <;> omega

include hq in
/-- The second head's rows of queries. -/
theorem q0_second (r : Fin 512) (d : Fin 128) :
    (k0_pay34 (View.readAt (Elt Idealize.ShloMosaic.Ideal) arg2.view
        (Rect.unit (s := S512x256) ![0, 128] S512x128.size inb_S512x256_S512x128_0_128).toLoadRect (harg2.unread x0)) : VB) (ix2 r d)
      = ((Q (512 * (i 1).val + r.val) (128 * (2 * (i 0).val + 1) + d.val) : ℝ) : EReal) := by
  rw [pay34_at, load _ _ _ _ _ 0 128 rfl (by omega) (by omega), hq]; congr 2 <;> dsimp only <;> omega

/-- One trip of the loop over whole blocks, in the body's named values. -/
theorem trip0 (v0 v2 : Vec Idealize.ShloMosaic.Ideal S512x128 .bf16) (X3 X4) (k : Fin (k0_t1_loop i).trips) (s : V1 × V1 × VA × V1 × V1 × VA) :
    tripR_k0_t1 (F := Idealize.ShloMosaic.Ideal) Variants.none c none i arg2 harg2 arg3 harg3 arg4 harg4 arg5 harg5 arg6 harg6 arg7 harg7
      v0 v2 X3 X4 k s
    = let kA : VB := View.readAt (Elt Idealize.ShloMosaic.Ideal) arg3.view
        (Rect.unit (s := S8192x256) (k0_off1 i k) S512x128.size (k0_off1_inb i k)).toLoadRect X3
      let vA : VB := View.readAt (Elt Idealize.ShloMosaic.Ideal) arg4.view
        (Rect.unit (s := S8192x256) (k0_off1 i k) S512x128.size (k0_off1_inb i k)).toLoadRect X4
      let kB : VB := View.readAt (Elt Idealize.ShloMosaic.Ideal) arg3.view
        (Rect.unit (s := S8192x256) (k0_off2 i k) S512x128.size (k0_off2_inb i k)).toLoadRect X3
      let vB : VB := View.readAt (Elt Idealize.ShloMosaic.Ideal) arg4.view
        (Rect.unit (s := S8192x256) (k0_off2 i k) S512x128.size (k0_off2_inb i k)).toLoadRect X4
      (k0_pay8 (k0_pay33 v0) s.1 kA, k0_pay11 (k0_pay33 v0) s.1 s.2.1 kA, k0_pay12 (k0_pay33 v0) s.1 s.2.2.1 kA vA,
        k0_pay15 (k0_pay34 v2) s.2.2.2.1 kB, k0_pay18 (k0_pay34 v2) s.2.2.2.1 s.2.2.2.2.1 kB,
        k0_pay41 (k0_pay13 vB) (k0_pay17 (k0_pay34 v2) s.2.2.2.1 kB) (k0_pay19 (k0_pay34 v2) s.2.2.2.1 s.2.2.2.2.2 kB)) := by
  unfold tripR_k0_t1 trip_k0_t1
  dsimp only
  sl_unfold_run_names
  unfold k0_pay8 k0_pay11 k0_pay12 k0_pay15 k0_pay18 k0_pay17 k0_pay19 k0_pay13 k0_pay9 k0_pay10 k0_pay16 k0_pay8 k0_pay15 k0_pay7 k0_pay14
  rfl

include hq hk hv in
/-- The loop over the whole blocks of keys. -/
theorem loop0 (s0) (h0 : Heads Q K V i 0 s0) : ∀ n : ℕ, n ≤ (i 1).val → Heads Q K V i n
    (st_k0_t1 (F := Idealize.ShloMosaic.Ideal) Variants.none c none i arg2 harg2 arg3 harg3 arg4 harg4 arg5 harg5 arg6 harg6 arg7 harg7
      (View.readAt (Elt Idealize.ShloMosaic.Ideal) arg2.view
        (Rect.unit (s := S512x256) ![0, 0] S512x128.size inb_S512x256_S512x128_0_0).toLoadRect (harg2.unread x0))
      (View.readAt (Elt Idealize.ShloMosaic.Ideal) arg2.view
        (Rect.unit (s := S512x256) ![0, 128] S512x128.size inb_S512x256_S512x128_0_128).toLoadRect (harg2.unread x0))
      (harg3.unread x1) (harg4.unread x2) s0 n) := by
  intro n
  induction n with
  | zero => exact fun _ => h0
  | succ n ih =>
    intro hn
    have hi : (i 1).val < 16 := (i 1).isLt
    have hlt : n < (k0_t1_loop i).trips := by rw [k0_t1_trips]; omega
    have ih := ih (by omega)
    rw [show n + 1 = (⟨n, hlt⟩ : Fin (k0_t1_loop i).trips).val + 1 from rfl, st_k0_t1_succ]
    dsimp only
    generalize st_k0_t1 (F := Idealize.ShloMosaic.Ideal) Variants.none c none i arg2 harg2 arg3 harg3 arg4 harg4 arg5 harg5 arg6 harg6 arg7 harg7 _ _ _ _ _ n = s at ih ⊢
    rw [trip0]
    have e1 := k0_off1_eq i ⟨n, hlt⟩
    have e2 := k0_off2_eq i ⟨n, hlt⟩
    refine ⟨ih.1.whole_first (q0_first i arg2 harg2 hq) hn ?_ ?_, ih.2.whole_second (q0_second i arg2 harg2 hq) hn ?_ ?_⟩ <;> intro r d
    · rw [load _ _ _ _ _ _ _ e1 (by dsimp only; omega) (by omega), hk]; congr 2 <;> dsimp only <;> omega
    · rw [load _ _ _ _ _ _ _ e1 (by dsimp only; omega) (by omega), hv]; congr 2 <;> dsimp only <;> omega
    · rw [load _ _ _ _ _ _ _ e2 (by dsimp only; omega) (by omega), hk]; congr 2 <;> dsimp only <;> omega
    · rw [load _ _ _ _ _ _ _ e2 (by dsimp only; omega) (by omega), hv]; congr 2 <;> dsimp only <;> omega

/-- Before the first block nothing has been seen. -/
theorem start0 : Heads Q K V i 0 (k0_pay35, k0_pay36, k0_pay37, k0_pay38, k0_pay39, k0_pay40) :=
  ⟨Head.zero pay35_at pay36_at pay37_at, Head.zero pay38_at pay39_at pay40_at⟩

/-- The diagonal block of keys or values, first head. -/
theorem diag0_first {K : ℕ → ℕ → ℝ} {x1 : Vec Idealize.ShloMosaic.Ideal S8192x256 .bf16}
    (hk : ∀ (r : Fin 8192) (d : Fin 256), x1 (ix2 r d) = ((K r.val (256 * (i 0).val + d.val) : ℝ) : EReal)) (inb)
    (r : Fin 512) (d : Fin 128) :
    View.readAt (Elt Idealize.ShloMosaic.Ideal) arg3.view
        (Rect.unit (s := S8192x256) (k0_off5 i) S512x128.size inb).toLoadRect (harg3.unread x1) (ix2 r d)
      = ((K (512 * (i 1).val + r.val) (128 * (2 * (i 0).val) + d.val) : ℝ) : EReal) := by
  have hi : (i 1).val < 16 := (i 1).isLt
  rw [load _ _ _ _ _ _ _ (k0_off5_eq i) (by omega) (by omega), hk]; congr 2 <;> dsimp only <;> omega

/-- The diagonal block of keys or values, second head. -/
theorem diag0_second {K : ℕ → ℕ → ℝ} {x1 : Vec Idealize.ShloMosaic.Ideal S8192x256 .bf16}
    (hk : ∀ (r : Fin 8192) (d : Fin 256), x1 (ix2 r d) = ((K r.val (256 * (i 0).val + d.val) : ℝ) : EReal)) (inb)
    (r : Fin 512) (d : Fin 128) :
    View.readAt (Elt Idealize.ShloMosaic.Ideal) arg3.view
        (Rect.unit (s := S8192x256) (k0_off6 i) S512x128.size inb).toLoadRect (harg3.unread x1) (ix2 r d)
      = ((K (512 * (i 1).val + r.val) (128 * (2 * (i 0).val + 1) + d.val) : ℝ) : EReal) := by
  have hi : (i 1).val < 16 := (i 1).isLt
  rw [load _ _ _ _ _ _ _ (k0_off6_eq i) (by omega) (by omega), hk]; congr 2 <;> dsimp only <;> omega

include hq hk hv in
/-- The output's block. -/
theorem block0_3 (r : Fin 512) (d : Fin 256) :
    out0_A_3 c i arg2 harg2 arg3 harg3 arg4 harg4 arg5 harg5 arg6 harg6 arg7 harg7 x0 x1 x2 (ix2 r d)
      = ((O Q K V (512 * (i 1).val + r.val) (256 * (i 0).val + d.val) : ℝ) : EReal) := by
  unfold out0_A_3
  rw [View.read_writes_eq_canon _ _ _ (cover0_A_3 c i arg2 harg2 arg3 harg3 arg4 harg4 arg5 harg5 arg6 harg6 arg7 harg7 x0 x1 x2)]
  unfold kernelRun0_A
  dsimp only
  sl_unfold_run_names
  have hs := loop0 c i arg2 harg2 arg3 harg3 arg4 harg4 arg5 harg5 arg6 harg6 arg7 harg7 hq hk hv _ (start0 i) _ le_rfl
  have e2 : Scf.trips (k0_t2_loop i).lb (k0_t2_loop i).ub (k0_t2_loop i).st = 0 := k0_t2_trips i
  have e1 : Scf.trips (k0_t1_loop i).lb (k0_t1_loop i).ub (k0_t1_loop i).st = (i 1).val := k0_t1_trips i
  simp only [e1, e2, st_k0_t2_zero]
  generalize st_k0_t1 (F := Idealize.ShloMosaic.Ideal) Variants.none c none i arg2 harg2 arg3 harg3 arg4 harg4 arg5 harg5 arg6 harg6
    arg7 harg7 _ _ _ _ _ _ = s at hs ⊢
  have hi : (i 1).val < 16 := (i 1).isLt
  refine halves _ _ _ _ r d _ (fun d' hd => ?_) (fun d' hd => ?_)
  · refine (pay63_at _ _ r d').trans (((hs.1.diag_first (q0_first i arg2 harg2 hq) (diag0_first i arg3 harg3 hk (k0_off5_inb i))
      (diag0_first i arg4 harg4 hv (k0_off5_inb i))).out hi r d').trans ?_)
    congr 2; omega
  · refine (pay3_at _ _ r d').trans (((hs.2.diag_second (q0_second i arg2 harg2 hq) (diag0_second i arg3 harg3 hk (k0_off6_inb i))
      (diag0_second i arg4 harg4 hv (k0_off6_inb i))).out hi r d').trans ?_)
    congr 2; omega

include hq hk hv in
/-- The logarithms' block, each repeated over its head's 128 columns. -/
theorem block0_4 (r : Fin 512) (d : Fin 256) :
    out0_A_4 c i arg2 harg2 arg3 harg3 arg4 harg4 arg5 harg5 arg6 harg6 arg7 harg7 x0 x1 x2 (ix2 r d)
      = ((L Q K (2 * (i 0).val + d.val / 128) (512 * (i 1).val + r.val) : ℝ) : EReal) := by
  unfold out0_A_4
  rw [View.read_writes_eq_canon _ _ _ (cover0_A_4 c i arg2 harg2 arg3 harg3 arg4 harg4 arg5 harg5 arg6 harg6 arg7 harg7 x0 x1 x2)]
  unfold kernelRun0_A
  dsimp only
  sl_unfold_run_names
  have hs := loop0 c i arg2 harg2 arg3 harg3 arg4 harg4 arg5 harg5 arg6 harg6 arg7 harg7 hq hk hv _ (start0 i) _ le_rfl
  have e2 : Scf.trips (k0_t2_loop i).lb (k0_t2_loop i).ub (k0_t2_loop i).st = 0 := k0_t2_trips i
  have e1 : Scf.trips (k0_t1_loop i).lb (k0_t1_loop i).ub (k0_t1_loop i).st = (i 1).val := k0_t1_trips i
  simp only [e1, e2, st_k0_t2_zero]
  generalize st_k0_t1 (F := Idealize.ShloMosaic.Ideal) Variants.none c none i arg2 harg2 arg3 harg3 arg4 harg4 arg5 harg5 arg6 harg6
    arg7 harg7 _ _ _ _ _ _ = s at hs ⊢
  have hi : (i 1).val < 16 := (i 1).isLt
  refine halves _ _ _ _ r d _ (fun d' hd => ?_) (fun d' hd => ?_)
  · refine (pay1_at _ r d').trans ((pay64_at _ _ r).trans (((hs.1.diag_first (q0_first i arg2 harg2 hq)
      (diag0_first i arg3 harg3 hk (k0_off5_inb i)) (diag0_first i arg4 harg4 hv (k0_off5_inb i))).lse hi r).trans ?_))
    congr 2; omega
  · refine (pay5_at _ _ r d').trans (((hs.2.diag_second (q0_second i arg2 harg2 hq) (diag0_second i arg3 harg3 hk (k0_off6_inb i))
      (diag0_second i arg4 harg4 hv (k0_off6_inb i))).lse hi r).trans ?_)
    congr 2; omega

include hq hk hv in
/-- The logarithms' block once more, a row of 512 for each head. -/
theorem block0_5 (e : Fin 2) (r : Fin 512) :
    out0_A_5 c i arg2 harg2 arg3 harg3 arg4 harg4 arg5 harg5 arg6 harg6 arg7 harg7 x0 x1 x2 (ix4 e 0 0 r)
      = ((L Q K (2 * (i 0).val + e.val) (512 * (i 1).val + r.val) : ℝ) : EReal) := by
  unfold out0_A_5
  rw [View.read_writes_eq_canon _ _ _ (cover0_A_5 c i arg2 harg2 arg3 harg3 arg4 harg4 arg5 harg5 arg6 harg6 arg7 harg7 x0 x1 x2)]
  unfold kernelRun0_A
  dsimp only
  sl_unfold_run_names
  have hs := loop0 c i arg2 harg2 arg3 harg3 arg4 harg4 arg5 harg5 arg6 harg6 arg7 harg7 hq hk hv _ (start0 i) _ le_rfl
  have e2 : Scf.trips (k0_t2_loop i).lb (k0_t2_loop i).ub (k0_t2_loop i).st = 0 := k0_t2_trips i
  have e1 : Scf.trips (k0_t1_loop i).lb (k0_t1_loop i).ub (k0_t1_loop i).st = (i 1).val := k0_t1_trips i
  simp only [e1, e2, st_k0_t2_zero]
  generalize st_k0_t1 (F := Idealize.ShloMosaic.Ideal) Variants.none c none i arg2 harg2 arg3 harg3 arg4 harg4 arg5 harg5 arg6 harg6
    arg7 harg7 _ _ _ _ _ _ = s at hs ⊢
  have hi : (i 1).val < 16 := (i 1).isLt
  refine rows _ _ _ _ e r _ (fun he => ?_) (fun he => ?_)
  · refine (pay2_at _ (ix4 0 0 0 r)).trans ((pay64_at _ _ r).trans (((hs.1.diag_first (q0_first i arg2 harg2 hq)
      (diag0_first i arg3 harg3 hk (k0_off5_inb i)) (diag0_first i arg4 harg4 hv (k0_off5_inb i))).lse hi r).trans ?_))
    congr 2; omega
  · refine (pay6_at _ _ (ix4 0 0 0 r)).trans (((hs.2.diag_second (q0_second i arg2 harg2 hq) (diag0_second i arg3 harg3 hk (k0_off6_inb i))
      (diag0_second i arg4 harg4 hv (k0_off6_inb i))).lse hi r).trans ?_)
    congr 2; omega

end

end Cert.KernelIdeal.Values

end
-- ==== Proof.Values.Arrays0.lean ====
/- The arrays the first call leaves: the attention's output and its rows' logarithms. -/
module

public import proofs.«01_k».proof.Proof.Values.Block0
public import proofs.«01_k».proof.Proof.Values.Wide
public import Idealize.ShloMosaic.Lib.Pipeline.ValueKit.Geometry

@[expose] public section

set_option maxRecDepth 16384

noncomputable section

namespace Cert.KernelIdeal.Values

open Cert.KernelIdeal.Gen Cert.KernelIdeal.Run Cert.Attn
open Idealize.ShloMosaic Idealize.ShloMosaic.TcCoe Idealize.SL.Sem
open Idealize.ShloMosaic.Pipeline (Dat)

variable {Q K V G : ℕ → ℕ → ℝ} (U : (c : Dev nD) → (b : Ref sig .tc) → Buf (Elt Idealize.ShloMosaic.Ideal) ((c : Thread nD τ).loc b))
  (c : Dev nD)
theorem idx0_0 : ∀ t : Fin grid0.N, win0_0.index t 0 = (grid0.coords t 1).val ∧ win0_0.index t 1 = (grid0.coords t 0).val := by decide +kernel
theorem idx0_1 : ∀ t : Fin grid0.N, win0_1.index t 0 = 0 ∧ win0_1.index t 1 = (grid0.coords t 0).val := by decide +kernel
theorem idx0_2 : ∀ t : Fin grid0.N, win0_2.index t 0 = 0 ∧ win0_2.index t 1 = (grid0.coords t 0).val := by decide +kernel
theorem idx0_3 : ∀ t : Fin grid0.N, win0_3.index t 0 = (grid0.coords t 1).val ∧ win0_3.index t 1 = (grid0.coords t 0).val := by decide +kernel
theorem idx0_4 : ∀ t : Fin grid0.N, win0_4.index t 0 = (grid0.coords t 1).val ∧ win0_4.index t 1 = (grid0.coords t 0).val := by decide +kernel
theorem idx0_5 : ∀ t : Fin grid0.N, win0_5.index t 0 = (grid0.coords t 0).val ∧ win0_5.index t 1 = (grid0.coords t 1).val ∧ win0_5.index t 2 = 0 ∧ win0_5.index t 3 = 0 := by decide +kernel

theorem block_in0_0 {Φ : ℕ → ℕ → ℝ} (h : Wide (U c main_v4) Φ) (t : Fin cfg0.N) (r : Fin 512) (d : Fin 256) :
    iblk0 U c 0 t (ix2 r d) = ((Φ (512 * (grid0.coords t 1).val + r.val) (256 * (grid0.coords t 0).val + d.val) : ℝ) : EReal) := by
  obtain ⟨e0, e1⟩ := idx0_0 t
  unfold iblk0
  rw [View.read_apply]
  refine (h _).trans ?_
  congr 2
  · show win0_0.index t 0 * 512 + 1 * r.val = _
    omega
  · show win0_0.index t 1 * 256 + 1 * d.val = _
    omega

theorem block_in0_1 {Φ : ℕ → ℕ → ℝ} (h : Wide (U c main_v7) Φ) (t : Fin cfg0.N) (r : Fin 8192) (d : Fin 256) :
    iblk0 U c 1 t (ix2 r d) = ((Φ r.val (256 * (grid0.coords t 0).val + d.val) : ℝ) : EReal) := by
  obtain ⟨e0, e1⟩ := idx0_1 t
  unfold iblk0
  rw [View.read_apply]
  refine (h _).trans ?_
  congr 2
  · show win0_1.index t 0 * 8192 + 1 * r.val = _
    omega
  · show win0_1.index t 1 * 256 + 1 * d.val = _
    omega

theorem block_in0_2 {Φ : ℕ → ℕ → ℝ} (h : Wide (U c main_v10) Φ) (t : Fin cfg0.N) (r : Fin 8192) (d : Fin 256) :
    iblk0 U c 2 t (ix2 r d) = ((Φ r.val (256 * (grid0.coords t 0).val + d.val) : ℝ) : EReal) := by
  obtain ⟨e0, e1⟩ := idx0_2 t
  unfold iblk0
  rw [View.read_apply]
  refine (h _).trans ?_
  congr 2
  · show win0_2.index t 0 * 8192 + 1 * r.val = _
    omega
  · show win0_2.index t 1 * 256 + 1 * d.val = _
    omega

section
variable (hq : Wide (U c main_v4) Q) (hk : Wide (U c main_v7) K) (hv : Wide (U c main_v10) V)

include hq hk hv in
theorem array0_3 : Wide ((dat0 U c).arrAt 3 cfg0.N) (O Q K V) := by
  intro i
  refine Dat.arrAt_forall_of_covers (dat0 U c) 3 (fun i x => x = ((((O Q K V) (i 0).val (i 1).val) : ℝ) : EReal)) (by decide +kernel)
    (fun t _ y => ?_) i
  obtain ⟨e0, e1⟩ := idx0_3 t
  have h0 : (y 0).val < 512 := (y 0).isLt
  have h1 : (y 1).val < 256 := (y 1).isLt
  have hy : (cfg0.win 3).xinj (grid0.coords t) y = ix2 ⟨(y 0).val, h0⟩ ⟨(y 1).val, h1⟩ := by
    funext a
    match a with
    | 0 => rfl
    | 1 => rfl
  show (dat0 U c).after 3 t ((cfg0.win 3).xinj (grid0.coords t) y) = _
  rw [after0_3, hy]
  unfold outsAt0
  dsimp only
  refine (block0_3 c (grid0.coords t) (ms0_0 t) (hs0_0 t) (ms0_1 t) (hs0_1 t) (ms0_2 t) (hs0_2 t) (ms0_3 t) (hs0_3 t) (ms0_4 t) (hs0_4 t) (ms0_5 t) (hs0_5 t) (block_in0_0 U c hq t) (block_in0_1 U c hk t) (block_in0_2 U c hv t) ⟨(y 0).val, h0⟩ ⟨(y 1).val, h1⟩).trans ?_
  have g0 : ((((cfg0.win 3).blk t).view.emb y 0 : Fin _) : ℕ) = 512 * (grid0.coords t 1).val + (y 0).val := by
    show win0_3.index t 0 * 512 + 1 * (y 0).val = _
    omega
  have g1 : ((((cfg0.win 3).blk t).view.emb y 1 : Fin _) : ℕ) = 256 * (grid0.coords t 0).val + (y 1).val := by
    show win0_3.index t 1 * 256 + 1 * (y 1).val = _
    omega
  dsimp only
  rw [g0, g1]

include hq hk hv in
theorem array0_4 : Wide ((dat0 U c).arrAt 4 cfg0.N) (fun r c => L Q K (c / 128) r) := by
  intro i
  refine Dat.arrAt_forall_of_covers (dat0 U c) 4 (fun i x => x = ((((fun r c => L Q K (c / 128) r) (i 0).val (i 1).val) : ℝ) : EReal)) (by decide +kernel)
    (fun t _ y => ?_) i
  obtain ⟨e0, e1⟩ := idx0_4 t
  have h0 : (y 0).val < 512 := (y 0).isLt
  have h1 : (y 1).val < 256 := (y 1).isLt
  have hy : (cfg0.win 4).xinj (grid0.coords t) y = ix2 ⟨(y 0).val, h0⟩ ⟨(y 1).val, h1⟩ := by
    funext a
    match a with
    | 0 => rfl
    | 1 => rfl
  show (dat0 U c).after 4 t ((cfg0.win 4).xinj (grid0.coords t) y) = _
  rw [after0_4, hy]
  unfold outsAt0
  dsimp only
  refine (block0_4 c (grid0.coords t) (ms0_0 t) (hs0_0 t) (ms0_1 t) (hs0_1 t) (ms0_2 t) (hs0_2 t) (ms0_3 t) (hs0_3 t) (ms0_4 t) (hs0_4 t) (ms0_5 t) (hs0_5 t) (block_in0_0 U c hq t) (block_in0_1 U c hk t) (block_in0_2 U c hv t) ⟨(y 0).val, h0⟩ ⟨(y 1).val, h1⟩).trans ?_
  have g0 : ((((cfg0.win 4).blk t).view.emb y 0 : Fin _) : ℕ) = 512 * (grid0.coords t 1).val + (y 0).val := by
    show win0_4.index t 0 * 512 + 1 * (y 0).val = _
    omega
  have g1 : ((((cfg0.win 4).blk t).view.emb y 1 : Fin _) : ℕ) = 256 * (grid0.coords t 0).val + (y 1).val := by
    show win0_4.index t 1 * 256 + 1 * (y 1).val = _
    omega
  dsimp only
  rw [g0, g1]
  congr 2; omega

include hq hk hv in
theorem array0_5 : Lines ((dat0 U c).arrAt 5 cfg0.N) (L Q K) := by
  intro i
  refine Dat.arrAt_forall_of_covers (dat0 U c) 5 (fun i x => x = ((((L Q K) (i 0).val (512 * (i 1).val + (i 3).val)) : ℝ) : EReal))
    (by decide +kernel) (fun t _ y => ?_) i
  obtain ⟨e0, e1, e2, e3⟩ := idx0_5 t
  have h0 : (y 0).val < 2 := (y 0).isLt
  have h1 : (y 1).val < 1 := (y 1).isLt
  have h3 : (y 3).val < 512 := (y 3).isLt
  have hy : (cfg0.win 5).xinj (grid0.coords t) y = ix4 ⟨(y 0).val, h0⟩ 0 0 ⟨(y 3).val, h3⟩ := by
    funext a
    match a with
    | 0 => rfl
    | 1 => exact Subsingleton.elim (α := Fin 1) _ _
    | 2 => exact Subsingleton.elim (α := Fin 1) _ _
    | 3 => rfl
  show (dat0 U c).after 5 t ((cfg0.win 5).xinj (grid0.coords t) y) = _
  rw [after0_5, hy]
  unfold outsAt0
  dsimp only
  refine (block0_5 c (grid0.coords t) (ms0_0 t) (hs0_0 t) (ms0_1 t) (hs0_1 t) (ms0_2 t) (hs0_2 t) (ms0_3 t) (hs0_3 t) (ms0_4 t) (hs0_4 t) (ms0_5 t) (hs0_5 t) (block_in0_0 U c hq t) (block_in0_1 U c hk t) (block_in0_2 U c hv t) ⟨(y 0).val, h0⟩ ⟨(y 3).val, h3⟩).trans ?_
  have g0 : ((((cfg0.win 5).blk t).view.emb y 0 : Fin _) : ℕ) = 2 * (grid0.coords t 0).val + (y 0).val := by
    show win0_5.index t 0 * 2 + 1 * (y 0).val = _
    omega
  have g1 : ((((cfg0.win 5).blk t).view.emb y 1 : Fin _) : ℕ) = (grid0.coords t 1).val := by
    show win0_5.index t 1 * 1 + 1 * (y 1).val = _
    omega
  have g3 : ((((cfg0.win 5).blk t).view.emb y 3 : Fin _) : ℕ) = (y 3).val := by
    show win0_5.index t 3 * 512 + 1 * (y 3).val = _
    omega
  dsimp only
  rw [g0, g1, g3]

end

end Cert.KernelIdeal.Values

end
-- ==== Proof.Values.Pay1.lean ====
/- The body of the queries' gradient: its computed values at an index, and the running sum of a block of 512 rows. -/
module

public import proofs.«01_k».proof.Proof.Values.Head

@[expose] public section

set_option maxRecDepth 16384

noncomputable section

namespace Cert.KernelIdeal.Values

open Cert.KernelIdeal.Gen Cert.Attn
open Idealize.ShloMosaic Idealize.ShloMosaic.TcCoe Idealize.SL.Sem Finset

/-! ### The values read before the loop -/

theorem k1_pay5_at (q : VB) (r : Fin 512) (d : Fin 128) : (k1_pay5 q : VB) (ix2 r d) = q (ix2 r d) := by pointwise [k1_pay5]
theorem k1_pay10_at (q : VB) (r : Fin 512) (d : Fin 128) : (k1_pay10 q : VB) (ix2 r d) = q (ix2 r d) := by pointwise [k1_pay10]
theorem k1_pay6_at (g : VA) (r : Fin 512) (d : Fin 128) : (k1_pay6 g : VB) (ix2 r d) = g (ix2 r d) := by
  pointwise [k1_pay6, k1_pay4]
theorem k1_pay11_at (g : VA) (r : Fin 512) (d : Fin 128) : (k1_pay11 g : VB) (ix2 r d) = g (ix2 r d) := by
  pointwise [k1_pay11, k1_pay9]
theorem k1_pay8_at (l : VA) (r : Fin 512) : (k1_pay8 l : V1) (ix2 r 0) = l (ix2 r 0) := by pointwise [k1_pay8]
theorem k1_pay13_at (l : VA) (r : Fin 512) : (k1_pay13 l : V1) (ix2 r 0) = l (ix2 r 0) := by pointwise [k1_pay13]
theorem k1_pay7_at (g o : VA) (r : Fin 512) :
    (k1_pay7 g o : V1) (ix2 r 0) = ∑ d : Fin 128, g (ix2 r d) * o (ix2 r d) := by pointwise [k1_pay7, k1_pay4]
theorem k1_pay12_at (g o : VA) (r : Fin 512) :
    (k1_pay12 g o : V1) (ix2 r 0) = ∑ d : Fin 128, g (ix2 r d) * o (ix2 r d) := by pointwise [k1_pay12, k1_pay9]
theorem k1_pay20_at (q : VB) (r : Fin 512) (d : Fin 128) : (k1_pay20 q : VB) (ix2 r d) = q (ix2 r d) := by pointwise [k1_pay20]
theorem k1_pay21_at (q : VB) (r : Fin 512) (d : Fin 128) : (k1_pay21 q : VB) (ix2 r d) = q (ix2 r d) := by pointwise [k1_pay21]
theorem k1_pay27_at (q : VB) (r : Fin 512) (d : Fin 128) : (k1_pay27 q : VB) (ix2 r d) = q (ix2 r d) := by pointwise [k1_pay27]
theorem k1_pay28_at (q : VB) (r : Fin 512) (d : Fin 128) : (k1_pay28 q : VB) (ix2 r d) = q (ix2 r d) := by pointwise [k1_pay28]
theorem k1_pay14_at (r : Fin 512) (d : Fin 128) : (k1_pay14 : VA) (ix2 r d) = 0 := by pointwise [k1_pay14]
theorem k1_pay15_at (r : Fin 512) (d : Fin 128) : (k1_pay15 : VA) (ix2 r d) = 0 := by pointwise [k1_pay15]
theorem k1_pay2_at (x : V1) (j : S1x1x1x512.Idx) : k1_pay2 x j = x (ix2 (j 3) 0) := by
  idx_vars j
  pointwise [k1_pay2]
theorem k1_pay3_at (x : V1) (j : S1x1x1x512.Idx) : k1_pay3 x j = x (ix2 (j 3) 0) := by
  idx_vars j
  pointwise [k1_pay3]

/-! ### A whole block of keys -/

theorem k1_pay16_at (v0 v5 v10 acc : VA) (v2 k v : VB) (r : Fin 512) (d : Fin 128) :
    k1_pay16 v0 v2 v5 v10 acc k v (ix2 r d) = acc (ix2 r d)
      + ∑ x : Fin 512, Ideal.exp ((∑ e : Fin 128, (k1_pay5 v2 : VB) (ix2 r e) * k (ix2 x e)) - (k1_pay8 v10 : V1) (ix2 r 0))
        * ((∑ e : Fin 128, (k1_pay6 v0 : VB) (ix2 r e) * v (ix2 x e)) - (k1_pay7 v0 v5 : V1) (ix2 r 0)) * k (ix2 x d) := by
  unfold k1_pay16
  generalize k1_pay5 (F := Idealize.ShloMosaic.Ideal) v2 = q
  generalize k1_pay6 (F := Idealize.ShloMosaic.Ideal) v0 = g
  generalize k1_pay8 (F := Idealize.ShloMosaic.Ideal) v10 = l
  generalize k1_pay7 (F := Idealize.ShloMosaic.Ideal) v0 v5 = dl
  pointwise

theorem k1_pay17_at (v0 v5 v10 acc : VA) (v2 k v : VB) (r : Fin 512) (d : Fin 128) :
    k1_pay17 v0 v2 v5 v10 acc k v (ix2 r d) = acc (ix2 r d)
      + ∑ x : Fin 512, Ideal.exp ((∑ e : Fin 128, (k1_pay10 v2 : VB) (ix2 r e) * k (ix2 x e)) - (k1_pay13 v10 : V1) (ix2 r 0))
        * ((∑ e : Fin 128, (k1_pay11 v0 : VB) (ix2 r e) * v (ix2 x e)) - (k1_pay12 v0 v5 : V1) (ix2 r 0)) * k (ix2 x d) := by
  unfold k1_pay17
  generalize k1_pay10 (F := Idealize.ShloMosaic.Ideal) v2 = q
  generalize k1_pay11 (F := Idealize.ShloMosaic.Ideal) v0 = g
  generalize k1_pay13 (F := Idealize.ShloMosaic.Ideal) v10 = l
  generalize k1_pay12 (F := Idealize.ShloMosaic.Ideal) v0 v5 = dl
  pointwise

/-! ### The diagonal block -/

theorem k1_pay22_at (q k : VB) (r x : Fin 512) :
    (k1_pay22 q k : VS) (ix2 r x) = ∑ d : Fin 128, q (ix2 r d) * k (ix2 x d) := by pointwise [k1_pay22, k1_pay20]
theorem k1_pay29_at (q k : VB) (r x : Fin 512) :
    (k1_pay29 q k : VS) (ix2 r x) = ∑ d : Fin 128, q (ix2 r d) * k (ix2 x d) := by pointwise [k1_pay29, k1_pay27]

theorem k1_pay26_at (g k v : VB) (dl l : V1) (acc : VA) (S : VS) (r : Fin 512) (d : Fin 128) :
    k1_pay26 g dl l acc k v S k1_pay23 (iota Kind.tc S512x512 32 [1] iota_S512x512_d1_w32) (64#32) k1_pay24 k1_pay25 0#32 (ix2 r d)
      = acc (ix2 r d) + ∑ x : Fin 512, Ideal.exp ((if x.val / 64 ≤ r.val / 64 then S (ix2 r x) else ⊥) - l (ix2 r 0))
        * ((∑ e : Fin 128, g (ix2 r e) * v (ix2 x e)) - dl (ix2 r 0)) * k (ix2 x d) := by
  simp only [← masked]
  pointwise [k1_pay26, k1_pay23, k1_pay24, k1_pay25]

theorem k1_pay32_at (g k v : VB) (dl l : V1) (acc : VA) (S : VS) (r : Fin 512) (d : Fin 128) :
    k1_pay1 acc k (k1_pay32 g dl l v S (iota Kind.tc S512x512 32 [0] iota_S512x512_d0_w32) (64#32) k1_pay30 k1_pay31 1#32) (ix2 r d)
      = acc (ix2 r d) + ∑ x : Fin 512, Ideal.exp ((if x.val / 64 ≤ r.val / 64 then S (ix2 r x) else ⊥) - l (ix2 r 0))
        * ((∑ e : Fin 128, g (ix2 r e) * v (ix2 x e)) - dl (ix2 r 0)) * k (ix2 x d) := by
  rw [show (1#32 : BitVec 32) = Scalar.extui (Scalar.cmpi .sgt 64#32 0#32) from rfl]
  simp only [← masked]
  pointwise [k1_pay1, k1_pay32, k1_pay30, k1_pay31]

/-! ### The running sum -/

/-- The gradient of the queries of head `h` in row block `i`, summed over the first `n` blocks of keys. -/
def Dq (Q K V G : ℕ → ℕ → ℝ) (i h n : ℕ) (acc : VA) : Prop :=
  ∀ (r : Fin 512) (d : Fin 128), acc (ix2 r d)
    = ((∑ t ∈ range (512 * n), dS Q K V G h (512 * i + r.val) t * K t (128 * h + d.val) : ℝ) : EReal)

variable {Q K V G : ℕ → ℕ → ℝ}

theorem Dq.zero {i h : ℕ} {acc : VA} (ha : ∀ (r : Fin 512) (d : Fin 128), acc (ix2 r d) = 0) : Dq Q K V G i h 0 acc := by
  intro r d
  rw [ha]
  simp

theorem Dq.step {i h n : ℕ} {acc acc' : VA} (h0 : Dq Q K V G i h n acc) {T dp : Fin 512 → Fin 512 → EReal} {l dl : Fin 512 → EReal}
    {k : VB}
    (hT : ∀ r x : Fin 512, T r x = if (512 * n + x.val) / 64 ≤ (512 * i + r.val) / 64
      then ((S Q K h (512 * i + r.val) (512 * n + x.val) : ℝ) : EReal) else ⊥)
    (hl : ∀ r : Fin 512, l r = ((L Q K h (512 * i + r.val) : ℝ) : EReal))
    (hp : ∀ r x : Fin 512, dp r x = ((S G V h (512 * i + r.val) (512 * n + x.val) : ℝ) : EReal))
    (hd : ∀ r : Fin 512, dl r = ((D Q K V G h (512 * i + r.val) : ℝ) : EReal))
    (hk : ∀ (x : Fin 512) (d : Fin 128), k (ix2 x d) = ((K (512 * n + x.val) (128 * h + d.val) : ℝ) : EReal))
    (ha : ∀ (r : Fin 512) (d : Fin 128), acc' (ix2 r d) = acc (ix2 r d)
      + ∑ x : Fin 512, Ideal.exp (T r x - l r) * (dp r x - dl r) * k (ix2 x d)) :
    Dq Q K V G i h (n + 1) acc' := by
  intro r d
  rw [ha, h0, sum_next, EReal.coe_add,
    ← coe_sum_fin 512 (fun x => dS Q K V G h (512 * i + r.val) (512 * n + x) * K (512 * n + x) (128 * h + d.val))]
  congr 1
  refine sum_congr rfl fun x _ => ?_
  rw [hT, hl, hp, hd, hk, dS_coe, ← EReal.coe_mul]

theorem Dq.out {i h : ℕ} {acc : VA} (h0 : Dq Q K V G i h (i + 1) acc) (hi : i < 16) (r : Fin 512) (d : Fin 128) :
    acc (ix2 r d) = ((dQ Q K V G (512 * i + r.val) (128 * h + d.val) : ℝ) : EReal) := by
  have hc : (128 * h + d.val) / 128 = h := by omega
  rw [h0]
  unfold dQ
  rw [hc, sum_dS_stop Q K V G h (512 * i + r.val) i (fun t => K t (128 * h + d.val)) (by omega) hi]

/-- The cotangent's rows against the output's. -/
theorem delta {i h : ℕ} {g o : VA}
    (hg : ∀ (r : Fin 512) (d : Fin 128), g (ix2 r d) = ((G (512 * i + r.val) (128 * h + d.val) : ℝ) : EReal))
    (ho : ∀ (r : Fin 512) (d : Fin 128), o (ix2 r d) = ((O Q K V (512 * i + r.val) (128 * h + d.val) : ℝ) : EReal)) (r : Fin 512) :
    (∑ d : Fin 128, g (ix2 r d) * o (ix2 r d) : EReal) = ((D Q K V G h (512 * i + r.val) : ℝ) : EReal) := by
  unfold D
  rw [← coe_sum_fin 128 (fun d => G (512 * i + r.val) (128 * h + d) * O Q K V (512 * i + r.val) (128 * h + d))]
  refine sum_congr rfl fun d _ => ?_
  rw [hg, ho, ← EReal.coe_mul]

end Cert.KernelIdeal.Values

end
-- ==== Proof.Values.Block1.lean ====
/- One grid point of the queries' gradient: the blocks of the gradient and of the row sums it stores. -/
module

public import proofs.«01_k».proof.Proof.Values.Pay1
public import proofs.«01_k».proof.Proof.Values.Loads
public import proofs.«01_k».proof.Proof.RunKernelIdeal.Body1

@[expose] public section

set_option maxRecDepth 16384

noncomputable section

namespace Cert.KernelIdeal.Values

open Cert.KernelIdeal.Gen Cert.KernelIdeal.Run Cert.Attn
open Idealize.ShloMosaic Idealize.ShloMosaic.TcCoe Idealize.SL.Sem Finset

theorem k1_t1_trips : ∀ i : grid1.Coords, (k1_t1_loop i).trips = (i 1).val := by decide +kernel
theorem k1_t2_trips : ∀ i : grid1.Coords, (k1_t2_loop i).trips = 0 := by decide +kernel

section
variable {Q K V G : ℕ → ℕ → ℝ} (c : Dev nD) (i : grid1.Coords)
  (arg2 : Memref sig .tc .vmem S512x256 .bf16) (harg2 : arg2.IsWhole) (arg3 : Memref sig .tc .vmem S8192x256 .bf16) (harg3 : arg3.IsWhole)
  (arg4 : Memref sig .tc .vmem S8192x256 .bf16) (harg4 : arg4.IsWhole) (arg5 : Memref sig .tc .vmem S512x256 .f32) (harg5 : arg5.IsWhole)
  (arg6 : Memref sig .tc .vmem S512x256 .f32) (harg6 : arg6.IsWhole) (arg7 : Memref sig .tc .vmem S512x256 .f32) (harg7 : arg7.IsWhole)
  (arg8 : Memref sig .tc .vmem S512x256 .f32) (harg8 : arg8.IsWhole) (arg9 : Memref sig .tc .vmem S2x1x1x512 .f32) (harg9 : arg9.IsWhole)
  {x0 : Vec Idealize.ShloMosaic.Ideal S512x256 .bf16} {x1 x2 : Vec Idealize.ShloMosaic.Ideal S8192x256 .bf16}
  {x3 x4 x5 : Vec Idealize.ShloMosaic.Ideal S512x256 .f32}
  (hq : ∀ (r : Fin 512) (d : Fin 256), x0 (ix2 r d) = ((Q (512 * (i 1).val + r.val) (256 * (i 0).val + d.val) : ℝ) : EReal))
  (hk : ∀ (r : Fin 8192) (d : Fin 256), x1 (ix2 r d) = ((K r.val (256 * (i 0).val + d.val) : ℝ) : EReal))
  (hv : ∀ (r : Fin 8192) (d : Fin 256), x2 (ix2 r d) = ((V r.val (256 * (i 0).val + d.val) : ℝ) : EReal))
  (hg : ∀ (r : Fin 512) (d : Fin 256), x3 (ix2 r d) = ((G (512 * (i 1).val + r.val) (256 * (i 0).val + d.val) : ℝ) : EReal))
  (ho : ∀ (r : Fin 512) (d : Fin 256), x4 (ix2 r d) = ((O Q K V (512 * (i 1).val + r.val) (256 * (i 0).val + d.val) : ℝ) : EReal))
  (hl : ∀ (r : Fin 512) (d : Fin 256), x5 (ix2 r d) = ((L Q K (2 * (i 0).val + d.val / 128) (512 * (i 1).val + r.val) : ℝ) : EReal))

/-- Both heads of a grid point after `n` blocks of keys. -/
def Dqs (Q K V G : ℕ → ℕ → ℝ) (i : grid1.Coords) (n : ℕ) (s : VA × VA) : Prop :=
  Dq Q K V G (i 1).val (2 * (i 0).val) n s.1 ∧ Dq Q K V G (i 1).val (2 * (i 0).val + 1) n s.2

/-- What the body reads before its loop, for one head. -/
structure Before (Q K V G : ℕ → ℕ → ℝ) (i : grid1.Coords) (h : ℕ) (q g : VB) (l dl : V1) : Prop where
  q : ∀ (r : Fin 512) (d : Fin 128), q (ix2 r d) = ((Q (512 * (i 1).val + r.val) (128 * h + d.val) : ℝ) : EReal)
  g : ∀ (r : Fin 512) (d : Fin 128), g (ix2 r d) = ((G (512 * (i 1).val + r.val) (128 * h + d.val) : ℝ) : EReal)
  l : ∀ r : Fin 512, l (ix2 r 0) = ((L Q K h (512 * (i 1).val + r.val) : ℝ) : EReal)
  dl : ∀ r : Fin 512, dl (ix2 r 0) = ((D Q K V G h (512 * (i 1).val + r.val) : ℝ) : EReal)

include hq hg ho hl in
theorem before_first : Before Q K V G i (2 * (i 0).val)
    (k1_pay5 (part 0 inb_S512x256_S512x128_0_0 arg2 harg2 x0)) (k1_pay6 (part 0 inb_S512x256_S512x128_0_0 arg5 harg5 x3))
    (k1_pay8 (part 0 inb_S512x256_S512x128_0_0 arg7 harg7 x5))
    (k1_pay7 (part 0 inb_S512x256_S512x128_0_0 arg5 harg5 x3) (part 0 inb_S512x256_S512x128_0_0 arg6 harg6 x4)) where
  q r d := (k1_pay5_at _ r d).trans (part_real 0 _ arg2 harg2 (by omega) _ (by omega) id hq r d)
  g r d := (k1_pay6_at _ r d).trans (part_real 0 _ arg5 harg5 (by omega) _ (by omega) id hg r d)
  l r := (k1_pay8_at _ r).trans ((part_at 0 _ arg7 harg7 x5 (by omega) r 0).trans ((hl _ _).trans (by
    congr 2)))
  dl r := (k1_pay7_at _ _ r).trans (delta (part_real 0 _ arg5 harg5 (by omega) _ (by omega) id hg)
    (part_real 0 _ arg6 harg6 (by omega) _ (by omega) id ho) r)

include hq hg ho hl in
theorem before_second : Before Q K V G i (2 * (i 0).val + 1)
    (k1_pay10 (part 128 inb_S512x256_S512x128_0_128 arg2 harg2 x0)) (k1_pay11 (part 128 inb_S512x256_S512x128_0_128 arg5 harg5 x3))
    (k1_pay13 (part 128 inb_S512x256_S512x128_0_128 arg7 harg7 x5))
    (k1_pay12 (part 128 inb_S512x256_S512x128_0_128 arg5 harg5 x3) (part 128 inb_S512x256_S512x128_0_128 arg6 harg6 x4)) where
  q r d := (k1_pay10_at _ r d).trans (part_real 128 _ arg2 harg2 (by omega) _ (by omega) id hq r d)
  g r d := (k1_pay11_at _ r d).trans (part_real 128 _ arg5 harg5 (by omega) _ (by omega) id hg r d)
  l r := (k1_pay13_at _ r).trans ((part_at 128 _ arg7 harg7 x5 (by omega) r 0).trans ((hl _ _).trans (by
    congr 2)))
  dl r := (k1_pay12_at _ _ r).trans (delta (part_real 128 _ arg5 harg5 (by omega) _ (by omega) id hg)
    (part_real 128 _ arg6 harg6 (by omega) _ (by omega) id ho) r)

/-- One trip of the loop over whole blocks, in the body's named values. -/
theorem trip1 (v0 v5 v10 v13 v18 v23 : VA) (v2 v15 : VB) (X3 X4) (k : Fin (k1_t1_loop i).trips) (s : VA × VA) :
    tripR_k1_t1 (F := Idealize.ShloMosaic.Ideal) Variants.none c none i arg2 harg2 arg3 harg3 arg4 harg4 arg5 harg5 arg6 harg6 arg7 harg7
      arg8 harg8 arg9 harg9 v0 v2 v5 v10 v13 v15 v18 v23 X3 X4 k s
    = let kA : VB := View.readAt (Elt Idealize.ShloMosaic.Ideal) arg3.view
        (Rect.unit (s := S8192x256) (k1_off1 i k) S512x128.size (k1_off1_inb i k)).toLoadRect X3
      let vA : VB := View.readAt (Elt Idealize.ShloMosaic.Ideal) arg4.view
        (Rect.unit (s := S8192x256) (k1_off1 i k) S512x128.size (k1_off1_inb i k)).toLoadRect X4
      let kB : VB := View.readAt (Elt Idealize.ShloMosaic.Ideal) arg3.view
        (Rect.unit (s := S8192x256) (k1_off2 i k) S512x128.size (k1_off2_inb i k)).toLoadRect X3
      let vB : VB := View.readAt (Elt Idealize.ShloMosaic.Ideal) arg4.view
        (Rect.unit (s := S8192x256) (k1_off2 i k) S512x128.size (k1_off2_inb i k)).toLoadRect X4
      (k1_pay16 v0 v2 v5 v10 s.1 kA vA, k1_pay17 v13 v15 v18 v23 s.2 kB vB) := by
  unfold tripR_k1_t1 trip_k1_t1
  dsimp only

/-- The value of head `h`'s sum after one more whole block. -/
theorem Dq.whole {h n : ℕ} {q g k v : VB} {l dl : V1} (hb : Before Q K V G i h q g l dl) (hn : n < (i 1).val) {acc acc' : VA}
    (h0 : Dq Q K V G (i 1).val h n acc)
    (hk : ∀ (x : Fin 512) (d : Fin 128), k (ix2 x d) = ((K (512 * n + x.val) (128 * h + d.val) : ℝ) : EReal))
    (hv : ∀ (x : Fin 512) (d : Fin 128), v (ix2 x d) = ((V (512 * n + x.val) (128 * h + d.val) : ℝ) : EReal))
    (ha : ∀ (r : Fin 512) (d : Fin 128), acc' (ix2 r d) = acc (ix2 r d)
      + ∑ x : Fin 512, Ideal.exp ((∑ e : Fin 128, q (ix2 r e) * k (ix2 x e)) - l (ix2 r 0))
        * ((∑ e : Fin 128, g (ix2 r e) * v (ix2 x e)) - dl (ix2 r 0)) * k (ix2 x d)) :
    Dq Q K V G (i 1).val h (n + 1) acc' :=
  h0.step (T := fun r x => ∑ e : Fin 128, q (ix2 r e) * k (ix2 x e)) (dp := fun r x => ∑ e : Fin 128, g (ix2 r e) * v (ix2 x e))
    (l := fun r => l (ix2 r 0)) (dl := fun r => dl (ix2 r 0))
    (fun r x => by rw [if_pos (by omega)]; exact score hb.q hk r x) hb.l (fun r x => score hb.g hv r x) hb.dl hk ha

/-- The value of head `h`'s sum after the diagonal block. -/
theorem Dq.diag {h : ℕ} {q g k v : VB} {l dl : V1} (hb : Before Q K V G i h q g l dl) {acc acc' : VA} {T : VS}
    (h0 : Dq Q K V G (i 1).val h (i 1).val acc)
    (hk : ∀ (x : Fin 512) (d : Fin 128), k (ix2 x d) = ((K (512 * (i 1).val + x.val) (128 * h + d.val) : ℝ) : EReal))
    (hv : ∀ (x : Fin 512) (d : Fin 128), v (ix2 x d) = ((V (512 * (i 1).val + x.val) (128 * h + d.val) : ℝ) : EReal))
    (hT : ∀ r x : Fin 512, T (ix2 r x) = ∑ e : Fin 128, q (ix2 r e) * k (ix2 x e))
    (ha : ∀ (r : Fin 512) (d : Fin 128), acc' (ix2 r d) = acc (ix2 r d)
      + ∑ x : Fin 512, Ideal.exp ((if x.val / 64 ≤ r.val / 64 then T (ix2 r x) else ⊥) - l (ix2 r 0))
        * ((∑ e : Fin 128, g (ix2 r e) * v (ix2 x e)) - dl (ix2 r 0)) * k (ix2 x d)) :
    Dq Q K V G (i 1).val h ((i 1).val + 1) acc' :=
  h0.step (T := fun r x => if x.val / 64 ≤ r.val / 64 then T (ix2 r x) else ⊥)
    (dp := fun r x => ∑ e : Fin 128, g (ix2 r e) * v (ix2 x e))
    (l := fun r => l (ix2 r 0)) (dl := fun r => dl (ix2 r 0))
    (fun r x => by
      dsimp only
      rw [hT, score hb.q hk]
      exact if_congr (by omega) rfl rfl) hb.l (fun r x => score hb.g hv r x) hb.dl hk ha

include hq hk hv hg ho hl in
/-- The loop over the whole blocks of keys. -/
theorem loop1 (s0) (h0 : Dqs Q K V G i 0 s0) : ∀ n : ℕ, n ≤ (i 1).val → Dqs Q K V G i n
    (st_k1_t1 (F := Idealize.ShloMosaic.Ideal) Variants.none c none i arg2 harg2 arg3 harg3 arg4 harg4 arg5 harg5 arg6 harg6 arg7 harg7
      arg8 harg8 arg9 harg9
      (part 0 inb_S512x256_S512x128_0_0 arg5 harg5 x3) (part 0 inb_S512x256_S512x128_0_0 arg2 harg2 x0)
      (part 0 inb_S512x256_S512x128_0_0 arg6 harg6 x4) (part 0 inb_S512x256_S512x128_0_0 arg7 harg7 x5)
      (part 128 inb_S512x256_S512x128_0_128 arg5 harg5 x3) (part 128 inb_S512x256_S512x128_0_128 arg2 harg2 x0)
      (part 128 inb_S512x256_S512x128_0_128 arg6 harg6 x4) (part 128 inb_S512x256_S512x128_0_128 arg7 harg7 x5)
      (harg3.unread x1) (harg4.unread x2) s0 n) := by
  intro n
  induction n with
  | zero => exact fun _ => h0
  | succ n ih =>
    intro hn
    have hi : (i 1).val < 16 := (i 1).isLt
    have hlt : n < (k1_t1_loop i).trips := by rw [k1_t1_trips]; omega
    have ih := ih (by omega)
    rw [show n + 1 = (⟨n, hlt⟩ : Fin (k1_t1_loop i).trips).val + 1 from rfl, st_k1_t1_succ]
    dsimp only
    generalize st_k1_t1 (F := Idealize.ShloMosaic.Ideal) Variants.none c none i arg2 harg2 arg3 harg3 arg4 harg4 arg5 harg5 arg6 harg6
      arg7 harg7 arg8 harg8 arg9 harg9 _ _ _ _ _ _ _ _ _ _ _ n = s at ih ⊢
    rw [trip1]
    have e1 := k1_off1_eq i ⟨n, hlt⟩
    have e2 := k1_off2_eq i ⟨n, hlt⟩
    refine ⟨ih.1.whole i (before_first i arg2 harg2 arg5 harg5 arg6 harg6 arg7 harg7 hq hg ho hl) hn ?_ ?_ (k1_pay16_at _ _ _ _ _ _ _),
      ih.2.whole i (before_second i arg2 harg2 arg5 harg5 arg6 harg6 arg7 harg7 hq hg ho hl) hn ?_ ?_ (k1_pay17_at _ _ _ _ _ _ _)⟩ <;> intro r d
    · rw [load _ _ _ _ _ _ _ e1 (by dsimp only; omega) (by omega), hk]; congr 2 <;> dsimp only <;> omega
    · rw [load _ _ _ _ _ _ _ e1 (by dsimp only; omega) (by omega), hv]; congr 2 <;> dsimp only <;> omega
    · rw [load _ _ _ _ _ _ _ e2 (by dsimp only; omega) (by omega), hk]; congr 2 <;> dsimp only <;> omega
    · rw [load _ _ _ _ _ _ _ e2 (by dsimp only; omega) (by omega), hv]; congr 2 <;> dsimp only <;> omega

/-- Before the first block the sums are zero. -/
theorem start1 : Dqs Q K V G i 0 (k1_pay14, k1_pay15) := ⟨Dq.zero k1_pay14_at, Dq.zero k1_pay15_at⟩

/-- The diagonal block of keys or values, first head. -/
theorem diag1_first {K : ℕ → ℕ → ℝ} {x1 : Vec Idealize.ShloMosaic.Ideal S8192x256 .bf16}
    (hk : ∀ (r : Fin 8192) (d : Fin 256), x1 (ix2 r d) = ((K r.val (256 * (i 0).val + d.val) : ℝ) : EReal))
    (r : Fin 512) (d : Fin 128) :
    View.readAt (Elt Idealize.ShloMosaic.Ideal) arg3.view
        (Rect.unit (s := S8192x256) (k1_off5 i) S512x128.size (k1_off5_inb i)).toLoadRect (harg3.unread x1) (ix2 r d)
      = ((K (512 * (i 1).val + r.val) (128 * (2 * (i 0).val) + d.val) : ℝ) : EReal) := by
  have hi : (i 1).val < 16 := (i 1).isLt
  rw [load _ _ _ _ _ _ _ (k1_off5_eq i) (by omega) (by omega), hk]; congr 2 <;> dsimp only <;> omega

/-- The diagonal block of keys or values, second head. -/
theorem diag1_second {K : ℕ → ℕ → ℝ} {x1 : Vec Idealize.ShloMosaic.Ideal S8192x256 .bf16}
    (hk : ∀ (r : Fin 8192) (d : Fin 256), x1 (ix2 r d) = ((K r.val (256 * (i 0).val + d.val) : ℝ) : EReal))
    (r : Fin 512) (d : Fin 128) :
    View.readAt (Elt Idealize.ShloMosaic.Ideal) arg3.view
        (Rect.unit (s := S8192x256) (k1_off6 i) S512x128.size (k1_off6_inb i)).toLoadRect (harg3.unread x1) (ix2 r d)
      = ((K (512 * (i 1).val + r.val) (128 * (2 * (i 0).val + 1) + d.val) : ℝ) : EReal) := by
  have hi : (i 1).val < 16 := (i 1).isLt
  rw [load _ _ _ _ _ _ _ (k1_off6_eq i) (by omega) (by omega), hk]; congr 2 <;> dsimp only <;> omega

include hq hk hv hg ho hl in
/-- The gradient's block. -/
theorem block1_6 (r : Fin 512) (d : Fin 256) :
    out1_A_6 c i arg2 harg2 arg3 harg3 arg4 harg4 arg5 harg5 arg6 harg6 arg7 harg7 arg8 harg8 arg9 harg9 x0 x1 x2 x3 x4 x5 (ix2 r d)
      = ((dQ Q K V G (512 * (i 1).val + r.val) (256 * (i 0).val + d.val) : ℝ) : EReal) := by
  unfold out1_A_6
  rw [View.read_writes_eq_canon _ _ _ (cover1_A_6 c i arg2 harg2 arg3 harg3 arg4 harg4 arg5 harg5 arg6 harg6 arg7 harg7 arg8 harg8
    arg9 harg9 x0 x1 x2 x3 x4 x5)]
  unfold kernelRun1_A
  dsimp only
  sl_unfold_run_names
  have hs := loop1 c i arg2 harg2 arg3 harg3 arg4 harg4 arg5 harg5 arg6 harg6 arg7 harg7 arg8 harg8 arg9 harg9 hq hk hv hg ho hl _
    (start1 i) _ le_rfl
  have e2 : Scf.trips (k1_t2_loop i).lb (k1_t2_loop i).ub (k1_t2_loop i).st = 0 := k1_t2_trips i
  have e1 : Scf.trips (k1_t1_loop i).lb (k1_t1_loop i).ub (k1_t1_loop i).st = (i 1).val := k1_t1_trips i
  simp only [e1, e2, st_k1_t2_zero]
  generalize st_k1_t1 (F := Idealize.ShloMosaic.Ideal) Variants.none c none i arg2 harg2 arg3 harg3 arg4 harg4 arg5 harg5 arg6 harg6
    arg7 harg7 arg8 harg8 arg9 harg9 _ _ _ _ _ _ _ _ _ _ _ _ = s at hs ⊢
  have hi : (i 1).val < 16 := (i 1).isLt
  refine halves _ _ _ _ r d _ (fun d' hd => ?_) (fun d' hd => ?_)
  · refine ((hs.1.diag i (before_first i arg2 harg2 arg5 harg5 arg6 harg6 arg7 harg7 hq hg ho hl)
      (fun r d => (k1_pay20_at _ r d).trans (diag1_first i arg3 harg3 hk r d))
      (fun r d => (k1_pay21_at _ r d).trans (diag1_first i arg4 harg4 hv r d))
      (fun r x => (k1_pay22_at _ _ r x).trans (Finset.sum_congr rfl fun e _ => by rw [k1_pay20_at]))
      (k1_pay26_at _ _ _ _ _ _ _)).out hi r d').trans ?_
    congr 2; omega
  · refine ((hs.2.diag i (before_second i arg2 harg2 arg5 harg5 arg6 harg6 arg7 harg7 hq hg ho hl)
      (fun r d => (k1_pay27_at _ r d).trans (diag1_second i arg3 harg3 hk r d))
      (fun r d => (k1_pay28_at _ r d).trans (diag1_second i arg4 harg4 hv r d))
      (fun r x => (k1_pay29_at _ _ r x).trans (Finset.sum_congr rfl fun e _ => by rw [k1_pay27_at]))
      (k1_pay32_at _ _ _ _ _ _ _)).out hi r d').trans ?_
    congr 2; omega

include hq hg ho hl in
/-- The row sums' block, a row of 512 for each head. -/
theorem block1_7 (e : Fin 2) (r : Fin 512) :
    out1_A_7 c i arg2 harg2 arg3 harg3 arg4 harg4 arg5 harg5 arg6 harg6 arg7 harg7 arg8 harg8 arg9 harg9 x0 x1 x2 x3 x4 x5 (ix4 e 0 0 r)
      = ((D Q K V G (2 * (i 0).val + e.val) (512 * (i 1).val + r.val) : ℝ) : EReal) := by
  unfold out1_A_7
  rw [View.read_writes_eq_canon _ _ _ (cover1_A_7 c i arg2 harg2 arg3 harg3 arg4 harg4 arg5 harg5 arg6 harg6 arg7 harg7 arg8 harg8
    arg9 harg9 x0 x1 x2 x3 x4 x5)]
  unfold kernelRun1_A
  dsimp only
  sl_unfold_run_names
  refine rows _ _ _ _ e r _ (fun he => ?_) (fun he => ?_)
  · refine (k1_pay2_at _ (ix4 0 0 0 r)).trans (((before_first i arg2 harg2 arg5 harg5 arg6 harg6 arg7 harg7 hq hg ho hl).dl r).trans ?_)
    congr 2; omega
  · refine (k1_pay3_at _ (ix4 0 0 0 r)).trans (((before_second i arg2 harg2 arg5 harg5 arg6 harg6 arg7 harg7 hq hg ho hl).dl r).trans ?_)
    congr 2; omega

end

end Cert.KernelIdeal.Values

end
-- ==== Proof.Values.Arrays1.lean ====
/- The arrays the second call leaves: the queries' gradient and the row sums. -/
module

public import proofs.«01_k».proof.Proof.Values.Block1
public import proofs.«01_k».proof.Proof.Values.Wide
public import Idealize.ShloMosaic.Lib.Pipeline.ValueKit.Geometry

@[expose] public section

set_option maxRecDepth 16384

noncomputable section

namespace Cert.KernelIdeal.Values

open Cert.KernelIdeal.Gen Cert.KernelIdeal.Run Cert.Attn
open Idealize.ShloMosaic Idealize.ShloMosaic.TcCoe Idealize.SL.Sem
open Idealize.ShloMosaic.Pipeline (Dat)

variable {Q K V G : ℕ → ℕ → ℝ} (U : (c : Dev nD) → (b : Ref sig .tc) → Buf (Elt Idealize.ShloMosaic.Ideal) ((c : Thread nD τ).loc b))
  (c : Dev nD)
theorem idx1_0 : ∀ t : Fin grid1.N, win1_0.index t 0 = (grid1.coords t 1).val ∧ win1_0.index t 1 = (grid1.coords t 0).val := by decide +kernel
theorem idx1_1 : ∀ t : Fin grid1.N, win1_1.index t 0 = 0 ∧ win1_1.index t 1 = (grid1.coords t 0).val := by decide +kernel
theorem idx1_2 : ∀ t : Fin grid1.N, win1_2.index t 0 = 0 ∧ win1_2.index t 1 = (grid1.coords t 0).val := by decide +kernel
theorem idx1_3 : ∀ t : Fin grid1.N, win1_3.index t 0 = (grid1.coords t 1).val ∧ win1_3.index t 1 = (grid1.coords t 0).val := by decide +kernel
theorem idx1_4 : ∀ t : Fin grid1.N, win1_4.index t 0 = (grid1.coords t 1).val ∧ win1_4.index t 1 = (grid1.coords t 0).val := by decide +kernel
theorem idx1_5 : ∀ t : Fin grid1.N, win1_5.index t 0 = (grid1.coords t 1).val ∧ win1_5.index t 1 = (grid1.coords t 0).val := by decide +kernel
theorem idx1_6 : ∀ t : Fin grid1.N, win1_6.index t 0 = (grid1.coords t 1).val ∧ win1_6.index t 1 = (grid1.coords t 0).val := by decide +kernel
theorem idx1_7 : ∀ t : Fin grid1.N, win1_7.index t 0 = (grid1.coords t 0).val ∧ win1_7.index t 1 = (grid1.coords t 1).val ∧ win1_7.index t 2 = 0 ∧ win1_7.index t 3 = 0 := by decide +kernel

theorem block_in1_0 {Φ : ℕ → ℕ → ℝ} (h : Wide (U c main_v4) Φ) (t : Fin cfg1.N) (r : Fin 512) (d : Fin 256) :
    iblk1 U c 0 t (ix2 r d) = ((Φ (512 * (grid1.coords t 1).val + r.val) (256 * (grid1.coords t 0).val + d.val) : ℝ) : EReal) := by
  obtain ⟨e0, e1⟩ := idx1_0 t
  unfold iblk1
  rw [View.read_apply]
  refine (h _).trans ?_
  congr 2
  · show win1_0.index t 0 * 512 + 1 * r.val = _
    omega
  · show win1_0.index t 1 * 256 + 1 * d.val = _
    omega

theorem block_in1_1 {Φ : ℕ → ℕ → ℝ} (h : Wide (U c main_v7) Φ) (t : Fin cfg1.N) (r : Fin 8192) (d : Fin 256) :
    iblk1 U c 1 t (ix2 r d) = ((Φ r.val (256 * (grid1.coords t 0).val + d.val) : ℝ) : EReal) := by
  obtain ⟨e0, e1⟩ := idx1_1 t
  unfold iblk1
  rw [View.read_apply]
  refine (h _).trans ?_
  congr 2
  · show win1_1.index t 0 * 8192 + 1 * r.val = _
    omega
  · show win1_1.index t 1 * 256 + 1 * d.val = _
    omega

theorem block_in1_2 {Φ : ℕ → ℕ → ℝ} (h : Wide (U c main_v10) Φ) (t : Fin cfg1.N) (r : Fin 8192) (d : Fin 256) :
    iblk1 U c 2 t (ix2 r d) = ((Φ r.val (256 * (grid1.coords t 0).val + d.val) : ℝ) : EReal) := by
  obtain ⟨e0, e1⟩ := idx1_2 t
  unfold iblk1
  rw [View.read_apply]
  refine (h _).trans ?_
  congr 2
  · show win1_2.index t 0 * 8192 + 1 * r.val = _
    omega
  · show win1_2.index t 1 * 256 + 1 * d.val = _
    omega

theorem block_in1_3 {Φ : ℕ → ℕ → ℝ} (h : Wide (U c main_v12) Φ) (t : Fin cfg1.N) (r : Fin 512) (d : Fin 256) :
    iblk1 U c 3 t (ix2 r d) = ((Φ (512 * (grid1.coords t 1).val + r.val) (256 * (grid1.coords t 0).val + d.val) : ℝ) : EReal) := by
  obtain ⟨e0, e1⟩ := idx1_3 t
  unfold iblk1
  rw [View.read_apply]
  refine (h _).trans ?_
  congr 2
  · show win1_3.index t 0 * 512 + 1 * r.val = _
    omega
  · show win1_3.index t 1 * 256 + 1 * d.val = _
    omega

theorem block_in1_4 {Φ : ℕ → ℕ → ℝ} (h : Wide (U c main_v13_0) Φ) (t : Fin cfg1.N) (r : Fin 512) (d : Fin 256) :
    iblk1 U c 4 t (ix2 r d) = ((Φ (512 * (grid1.coords t 1).val + r.val) (256 * (grid1.coords t 0).val + d.val) : ℝ) : EReal) := by
  obtain ⟨e0, e1⟩ := idx1_4 t
  unfold iblk1
  rw [View.read_apply]
  refine (h _).trans ?_
  congr 2
  · show win1_4.index t 0 * 512 + 1 * r.val = _
    omega
  · show win1_4.index t 1 * 256 + 1 * d.val = _
    omega

theorem block_in1_5 {Φ : ℕ → ℕ → ℝ} (h : Wide (U c main_v13_1) Φ) (t : Fin cfg1.N) (r : Fin 512) (d : Fin 256) :
    iblk1 U c 5 t (ix2 r d) = ((Φ (512 * (grid1.coords t 1).val + r.val) (256 * (grid1.coords t 0).val + d.val) : ℝ) : EReal) := by
  obtain ⟨e0, e1⟩ := idx1_5 t
  unfold iblk1
  rw [View.read_apply]
  refine (h _).trans ?_
  congr 2
  · show win1_5.index t 0 * 512 + 1 * r.val = _
    omega
  · show win1_5.index t 1 * 256 + 1 * d.val = _
    omega

section
variable (hq : Wide (U c main_v4) Q) (hk : Wide (U c main_v7) K) (hv : Wide (U c main_v10) V) (hg : Wide (U c main_v12) G) (h4 : Wide (U c main_v13_0) (O Q K V)) (h5 : Wide (U c main_v13_1) (fun r c => L Q K (c / 128) r))

include hq hk hv hg h4 h5 in
theorem array1_6 : Wide ((dat1 U c).arrAt 6 cfg1.N) (dQ Q K V G) := by
  intro i
  refine Dat.arrAt_forall_of_covers (dat1 U c) 6 (fun i x => x = ((((dQ Q K V G) (i 0).val (i 1).val) : ℝ) : EReal)) (by decide +kernel)
    (fun t _ y => ?_) i
  obtain ⟨e0, e1⟩ := idx1_6 t
  have h0 : (y 0).val < 512 := (y 0).isLt
  have h1 : (y 1).val < 256 := (y 1).isLt
  have hy : (cfg1.win 6).xinj (grid1.coords t) y = ix2 ⟨(y 0).val, h0⟩ ⟨(y 1).val, h1⟩ := by
    funext a
    match a with
    | 0 => rfl
    | 1 => rfl
  show (dat1 U c).after 6 t ((cfg1.win 6).xinj (grid1.coords t) y) = _
  rw [after1_6, hy]
  unfold outsAt1
  dsimp only
  refine (block1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (block_in1_0 U c hq t) (block_in1_1 U c hk t) (block_in1_2 U c hv t) (block_in1_3 U c hg t) (block_in1_4 U c h4 t) (fun r d => (block_in1_5 U c h5 t r d).trans (by congr 2; omega)) ⟨(y 0).val, h0⟩ ⟨(y 1).val, h1⟩).trans ?_
  have g0 : ((((cfg1.win 6).blk t).view.emb y 0 : Fin _) : ℕ) = 512 * (grid1.coords t 1).val + (y 0).val := by
    show win1_6.index t 0 * 512 + 1 * (y 0).val = _
    omega
  have g1 : ((((cfg1.win 6).blk t).view.emb y 1 : Fin _) : ℕ) = 256 * (grid1.coords t 0).val + (y 1).val := by
    show win1_6.index t 1 * 256 + 1 * (y 1).val = _
    omega
  dsimp only
  rw [g0, g1]

include hq hg h4 h5 in
theorem array1_7 : Lines ((dat1 U c).arrAt 7 cfg1.N) (D Q K V G) := by
  intro i
  refine Dat.arrAt_forall_of_covers (dat1 U c) 7 (fun i x => x = ((((D Q K V G) (i 0).val (512 * (i 1).val + (i 3).val)) : ℝ) : EReal))
    (by decide +kernel) (fun t _ y => ?_) i
  obtain ⟨e0, e1, e2, e3⟩ := idx1_7 t
  have h0 : (y 0).val < 2 := (y 0).isLt
  have h1 : (y 1).val < 1 := (y 1).isLt
  have h3 : (y 3).val < 512 := (y 3).isLt
  have hy : (cfg1.win 7).xinj (grid1.coords t) y = ix4 ⟨(y 0).val, h0⟩ 0 0 ⟨(y 3).val, h3⟩ := by
    funext a
    match a with
    | 0 => rfl
    | 1 => exact Subsingleton.elim (α := Fin 1) _ _
    | 2 => exact Subsingleton.elim (α := Fin 1) _ _
    | 3 => rfl
  show (dat1 U c).after 7 t ((cfg1.win 7).xinj (grid1.coords t) y) = _
  rw [after1_7, hy]
  unfold outsAt1
  dsimp only
  refine (block1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (block_in1_0 U c hq t) (block_in1_3 U c hg t) (block_in1_4 U c h4 t) (fun r d => (block_in1_5 U c h5 t r d).trans (by congr 2; omega)) ⟨(y 0).val, h0⟩ ⟨(y 3).val, h3⟩).trans ?_
  have g0 : ((((cfg1.win 7).blk t).view.emb y 0 : Fin _) : ℕ) = 2 * (grid1.coords t 0).val + (y 0).val := by
    show win1_7.index t 0 * 2 + 1 * (y 0).val = _
    omega
  have g1 : ((((cfg1.win 7).blk t).view.emb y 1 : Fin _) : ℕ) = (grid1.coords t 1).val := by
    show win1_7.index t 1 * 1 + 1 * (y 1).val = _
    omega
  have g3 : ((((cfg1.win 7).blk t).view.emb y 3 : Fin _) : ℕ) = (y 3).val := by
    show win1_7.index t 3 * 512 + 1 * (y 3).val = _
    omega
  dsimp only
  rw [g0, g1, g3]

end

end Cert.KernelIdeal.Values

end
-- ==== Proof.Values.Pay2.lean ====
/- The body of the keys' and values' gradients: its computed values at an index, and the running sums of a block of 512 keys. -/
module

public import proofs.«01_k».proof.Proof.Values.Head

@[expose] public section

set_option maxRecDepth 16384

noncomputable section

namespace Cert.KernelIdeal.Values

open Cert.KernelIdeal.Gen Cert.Attn
open Idealize.ShloMosaic Idealize.ShloMosaic.TcCoe Idealize.SL.Sem Finset

/-- The logarithms, or the row sums, of a block of 512 rows. -/
abbrev VR := FVec Idealize.ShloMosaic.Ideal S1x1x1x512 .f32

/-! ### The values read before the loop -/

theorem k2_pay25_at (q : VB) (r : Fin 512) (d : Fin 128) : (k2_pay25 q : VB) (ix2 r d) = q (ix2 r d) := by pointwise [k2_pay25]
theorem k2_pay26_at (q : VB) (r : Fin 512) (d : Fin 128) : (k2_pay26 q : VB) (ix2 r d) = q (ix2 r d) := by pointwise [k2_pay26]
theorem k2_pay27_at (q : VB) (r : Fin 512) (d : Fin 128) : (k2_pay27 q : VB) (ix2 r d) = q (ix2 r d) := by pointwise [k2_pay27]
theorem k2_pay28_at (q : VB) (r : Fin 512) (d : Fin 128) : (k2_pay28 q : VB) (ix2 r d) = q (ix2 r d) := by pointwise [k2_pay28]
theorem k2_pay29_at (r : Fin 512) (d : Fin 128) : (k2_pay29 : VA) (ix2 r d) = 0 := by pointwise [k2_pay29]

/-! ### A whole block of rows -/

theorem k2_pay10_at (k q : VB) (acc g : VA) (l : VR) (x : Fin 512) (d : Fin 128) :
    k2_pay10 k acc q g l (ix2 x d) = acc (ix2 x d)
      + ∑ r : Fin 512, Ideal.exp ((∑ e : Fin 128, k (ix2 x e) * q (ix2 r e)) - l (ix4 0 0 0 r)) * g (ix2 r d) := by
  pointwise [k2_pay10, k2_pay9, k2_pay8, k2_pay7]

theorem k2_pay11_at (k v q : VB) (acc g : VA) (l dl : VR) (x : Fin 512) (d : Fin 128) :
    k2_pay11 k v acc q g l dl (ix2 x d) = acc (ix2 x d)
      + ∑ r : Fin 512, Ideal.exp ((∑ e : Fin 128, k (ix2 x e) * q (ix2 r e)) - l (ix4 0 0 0 r))
        * ((∑ e : Fin 128, v (ix2 x e) * g (ix2 r e)) - dl (ix4 0 0 0 r)) * q (ix2 r d) := by
  pointwise [k2_pay11, k2_pay9, k2_pay8, k2_pay7]

theorem k2_pay2_at (k q : VB) (acc g : VA) (l : VR) (x : Fin 512) (d : Fin 128) :
    k2_pay2 acc (k2_pay13 g) (k2_pay14 k q) (k2_pay15 l) (ix2 x d) = acc (ix2 x d)
      + ∑ r : Fin 512, Ideal.exp ((∑ e : Fin 128, k (ix2 x e) * q (ix2 r e)) - l (ix4 0 0 0 r)) * g (ix2 r d) := by
  pointwise [k2_pay2, k2_pay1, k2_pay12, k2_pay13, k2_pay14, k2_pay15]

theorem k2_pay3_at (k v q : VB) (acc g : VA) (l dl : VR) (x : Fin 512) (d : Fin 128) :
    k2_pay3 v acc (k2_pay12 q) (k2_pay13 g) (k2_pay14 k q) (k2_pay15 l) dl (ix2 x d) = acc (ix2 x d)
      + ∑ r : Fin 512, Ideal.exp ((∑ e : Fin 128, k (ix2 x e) * q (ix2 r e)) - l (ix4 0 0 0 r))
        * ((∑ e : Fin 128, v (ix2 x e) * g (ix2 r e)) - dl (ix4 0 0 0 r)) * q (ix2 r d) := by
  pointwise [k2_pay3, k2_pay1, k2_pay12, k2_pay13, k2_pay14, k2_pay15]

/-! ### The diagonal block -/

theorem k2_pay32_at (k q : VB) (x r : Fin 512) :
    (k2_pay32 k q : VS) (ix2 x r) = ∑ e : Fin 128, k (ix2 x e) * q (ix2 r e) := by pointwise [k2_pay32, k2_pay25, k2_pay30]
theorem k2_pay43_at (k q : VB) (x r : Fin 512) :
    (k2_pay43 k q : VS) (ix2 x r) = ∑ e : Fin 128, k (ix2 x e) * q (ix2 r e) := by pointwise [k2_pay43, k2_pay41]
theorem k2_pay30_at (q : VB) (r : Fin 512) (d : Fin 128) : (k2_pay30 q : VB) (ix2 r d) = q (ix2 r d) := by pointwise [k2_pay30]
theorem k2_pay41_at (q : VB) (r : Fin 512) (d : Fin 128) : (k2_pay41 q : VB) (ix2 r d) = q (ix2 r d) := by pointwise [k2_pay41]
theorem k2_pay31_at (g : VA) (r : Fin 512) (d : Fin 128) : (k2_pay31 g : VB) (ix2 r d) = g (ix2 r d) := by pointwise [k2_pay31]
theorem k2_pay42_at (g : VA) (r : Fin 512) (d : Fin 128) : (k2_pay42 g : VB) (ix2 r d) = g (ix2 r d) := by pointwise [k2_pay42]

theorem k2_pay37_at (T : VS) (l : VR) (x r : Fin 512) :
    (k2_pay37 T k2_pay33 k2_pay34 k2_pay35 k2_pay36 l : VS) (ix2 x r)
      = Ideal.exp ((if x.val / 64 ≤ r.val / 64 then T (ix2 x r) else ⊥) - l (ix4 0 0 0 r)) := by
  simp only [← masked]
  pointwise [k2_pay37, k2_pay33, k2_pay34, k2_pay35, k2_pay36]

theorem k2_pay47_at (T : VS) (l : VR) (x r : Fin 512) :
    (k2_pay47 T k2_pay44 (iota Kind.tc S512x512 32 [1] iota_S512x512_d1_w32) (64#32) k2_pay45 k2_pay46 l : VS) (ix2 x r)
      = Ideal.exp ((if x.val / 64 ≤ r.val / 64 then T (ix2 x r) else ⊥) - l (ix4 0 0 0 r)) := by
  simp only [← masked]
  pointwise [k2_pay47, k2_pay44, k2_pay45, k2_pay46]

theorem k2_pay38_at (acc : VA) (g : VB) (T : VS) (l : VR) (x : Fin 512) (d : Fin 128) :
    k2_pay38 acc g T k2_pay33 k2_pay34 k2_pay35 k2_pay36 l (ix2 x d) = acc (ix2 x d)
      + ∑ r : Fin 512, Ideal.exp ((if x.val / 64 ≤ r.val / 64 then T (ix2 x r) else ⊥) - l (ix4 0 0 0 r)) * g (ix2 r d) := by
  simp only [← k2_pay37_at]
  unfold k2_pay38
  generalize k2_pay37 (F := Idealize.ShloMosaic.Ideal) T k2_pay33 k2_pay34 k2_pay35 k2_pay36 l = w
  pointwise

theorem k2_pay48_at (acc : VA) (g : VB) (T : VS) (l : VR) (x : Fin 512) (d : Fin 128) :
    k2_pay48 acc g T k2_pay44 (iota Kind.tc S512x512 32 [1] iota_S512x512_d1_w32) (64#32) k2_pay45 k2_pay46 l (ix2 x d) = acc (ix2 x d)
      + ∑ r : Fin 512, Ideal.exp ((if x.val / 64 ≤ r.val / 64 then T (ix2 x r) else ⊥) - l (ix4 0 0 0 r)) * g (ix2 r d) := by
  simp only [← k2_pay47_at]
  unfold k2_pay48
  generalize k2_pay47 (F := Idealize.ShloMosaic.Ideal) T k2_pay44 (iota Kind.tc S512x512 32 [1] iota_S512x512_d1_w32) (64#32) k2_pay45
    k2_pay46 l = w
  pointwise

theorem k2_pay40_at (acc : VA) (v q g : VB) (T : VS) (l dl : VR) (x : Fin 512) (d : Fin 128) :
    k2_pay40 acc q (k2_pay37 T k2_pay33 k2_pay34 k2_pay35 k2_pay36 l) (k2_pay39 v g) dl (ix2 x d) = acc (ix2 x d)
      + ∑ r : Fin 512, Ideal.exp ((if x.val / 64 ≤ r.val / 64 then T (ix2 x r) else ⊥) - l (ix4 0 0 0 r))
        * ((∑ e : Fin 128, v (ix2 x e) * g (ix2 r e)) - dl (ix4 0 0 0 r)) * q (ix2 r d) := by
  simp only [← k2_pay37_at]
  generalize k2_pay37 (F := Idealize.ShloMosaic.Ideal) T k2_pay33 k2_pay34 k2_pay35 k2_pay36 l = w
  pointwise [k2_pay40, k2_pay39]

theorem k2_pay49_at (acc : VA) (v q g : VB) (T : VS) (l dl : VR) (x : Fin 512) (d : Fin 128) :
    k2_pay49 v acc q g T k2_pay44 (iota Kind.tc S512x512 32 [1] iota_S512x512_d1_w32) (64#32) k2_pay45 k2_pay46 l dl (ix2 x d)
      = acc (ix2 x d)
      + ∑ r : Fin 512, Ideal.exp ((if x.val / 64 ≤ r.val / 64 then T (ix2 x r) else ⊥) - l (ix4 0 0 0 r))
        * ((∑ e : Fin 128, v (ix2 x e) * g (ix2 r e)) - dl (ix4 0 0 0 r)) * q (ix2 r d) := by
  simp only [← k2_pay47_at]
  unfold k2_pay49
  generalize k2_pay47 (F := Idealize.ShloMosaic.Ideal) T k2_pay44 (iota Kind.tc S512x512 32 [1] iota_S512x512_d1_w32) (64#32) k2_pay45
    k2_pay46 l = w
  pointwise

/-! ### The running sums -/

/-- The gradient of the keys of head `h` in key block `j`, summed over the first `n` blocks of rows. -/
def Dk (Q K V G : ℕ → ℕ → ℝ) (j h n : ℕ) (acc : VA) : Prop :=
  ∀ (x : Fin 512) (d : Fin 128), acc (ix2 x d)
    = ((∑ r ∈ range (512 * n), dS Q K V G h r (512 * j + x.val) * Q r (128 * h + d.val) : ℝ) : EReal)

/-- The gradient of the values of head `h` in key block `j`, summed over the first `n` blocks of rows. -/
def Dv (Q K G : ℕ → ℕ → ℝ) (j h n : ℕ) (acc : VA) : Prop :=
  ∀ (x : Fin 512) (d : Fin 128), acc (ix2 x d)
    = ((∑ r ∈ range (512 * n), P Q K h r (512 * j + x.val) * G r (128 * h + d.val) : ℝ) : EReal)

variable {Q K V G : ℕ → ℕ → ℝ}

theorem S_comm (Q K : ℕ → ℕ → ℝ) (h r t : ℕ) : S K Q h t r = S Q K h r t := by
  unfold S
  exact sum_congr rfl fun d _ => mul_comm _ _

/-- The rows before a key's block do not see it. -/
theorem Dk.zero {j h : ℕ} {acc : VA} (ha : ∀ (x : Fin 512) (d : Fin 128), acc (ix2 x d) = 0) : Dk Q K V G j h j acc := by
  intro x d
  rw [ha, sum_eq_zero fun r hr => ?_, EReal.coe_zero]
  unfold dS
  rw [P_before Q K h r _ j (by simpa using hr) (by omega), zero_mul, zero_mul]

theorem Dv.zero {j h : ℕ} {acc : VA} (ha : ∀ (x : Fin 512) (d : Fin 128), acc (ix2 x d) = 0) : Dv Q K G j h j acc := by
  intro x d
  rw [ha, sum_eq_zero fun r hr => ?_, EReal.coe_zero]
  rw [P_before Q K h r _ j (by simpa using hr) (by omega), zero_mul]

theorem Dk.step {j h n : ℕ} {acc acc' : VA} (h0 : Dk Q K V G j h n acc) {T dp : Fin 512 → Fin 512 → EReal} {l dl : Fin 512 → EReal}
    {q : Fin 512 → Fin 128 → EReal}
    (hT : ∀ x r : Fin 512, T x r = if (512 * j + x.val) / 64 ≤ (512 * n + r.val) / 64
      then ((S Q K h (512 * n + r.val) (512 * j + x.val) : ℝ) : EReal) else ⊥)
    (hl : ∀ r : Fin 512, l r = ((L Q K h (512 * n + r.val) : ℝ) : EReal))
    (hp : ∀ x r : Fin 512, dp x r = ((S G V h (512 * n + r.val) (512 * j + x.val) : ℝ) : EReal))
    (hd : ∀ r : Fin 512, dl r = ((D Q K V G h (512 * n + r.val) : ℝ) : EReal))
    (hq : ∀ (r : Fin 512) (d : Fin 128), q r d = ((Q (512 * n + r.val) (128 * h + d.val) : ℝ) : EReal))
    (ha : ∀ (x : Fin 512) (d : Fin 128), acc' (ix2 x d) = acc (ix2 x d)
      + ∑ r : Fin 512, Ideal.exp (T x r - l r) * (dp x r - dl r) * q r d) :
    Dk Q K V G j h (n + 1) acc' := by
  intro x d
  rw [ha, h0, sum_next, EReal.coe_add,
    ← coe_sum_fin 512 (fun r => dS Q K V G h (512 * n + r) (512 * j + x.val) * Q (512 * n + r) (128 * h + d.val))]
  congr 1
  refine sum_congr rfl fun r _ => ?_
  rw [hT, hl, hp, hd, hq, dS_coe, ← EReal.coe_mul]

theorem Dv.step {j h n : ℕ} {acc acc' : VA} (h0 : Dv Q K G j h n acc) {T : Fin 512 → Fin 512 → EReal} {l : Fin 512 → EReal}
    {g : Fin 512 → Fin 128 → EReal}
    (hT : ∀ x r : Fin 512, T x r = if (512 * j + x.val) / 64 ≤ (512 * n + r.val) / 64
      then ((S Q K h (512 * n + r.val) (512 * j + x.val) : ℝ) : EReal) else ⊥)
    (hl : ∀ r : Fin 512, l r = ((L Q K h (512 * n + r.val) : ℝ) : EReal))
    (hg : ∀ (r : Fin 512) (d : Fin 128), g r d = ((G (512 * n + r.val) (128 * h + d.val) : ℝ) : EReal))
    (ha : ∀ (x : Fin 512) (d : Fin 128), acc' (ix2 x d) = acc (ix2 x d) + ∑ r : Fin 512, Ideal.exp (T x r - l r) * g r d) :
    Dv Q K G j h (n + 1) acc' := by
  intro x d
  rw [ha, h0, sum_next, EReal.coe_add,
    ← coe_sum_fin 512 (fun r => P Q K h (512 * n + r) (512 * j + x.val) * G (512 * n + r) (128 * h + d.val))]
  congr 1
  refine sum_congr rfl fun r _ => ?_
  rw [hT, hl, hg, exp_sub_L_coe, ← EReal.coe_mul]

theorem Dk.out {j h : ℕ} {acc : VA} (h0 : Dk Q K V G j h 16 acc) (x : Fin 512) (d : Fin 128) :
    acc (ix2 x d) = ((dK Q K V G (512 * j + x.val) (128 * h + d.val) : ℝ) : EReal) := by
  have hc : (128 * h + d.val) / 128 = h := by omega
  rw [h0]
  unfold dK
  rw [hc]

theorem Dv.out {j h : ℕ} {acc : VA} (h0 : Dv Q K G j h 16 acc) (x : Fin 512) (d : Fin 128) :
    acc (ix2 x d) = ((dV Q K G (512 * j + x.val) (128 * h + d.val) : ℝ) : EReal) := by
  have hc : (128 * h + d.val) / 128 = h := by omega
  rw [h0]
  unfold dV
  rw [hc]

end Cert.KernelIdeal.Values

end
-- ==== Proof.Values.Block2.lean ====
/- One grid point of the keys' and values' gradients: the two blocks it stores. -/
module

public import proofs.«01_k».proof.Proof.Values.Pay2
public import proofs.«01_k».proof.Proof.Values.Loads
public import proofs.«01_k».proof.Proof.RunKernelIdeal.Body2

@[expose] public section

set_option maxRecDepth 16384

noncomputable section

namespace Cert.KernelIdeal.Values

open Cert.KernelIdeal.Gen Cert.KernelIdeal.Run Cert.Attn
open Idealize.ShloMosaic Idealize.ShloMosaic.TcCoe Idealize.SL.Sem Finset

theorem k2_t1_trips : ∀ i : grid2.Coords, (k2_t1_loop i).trips = 15 - (i 1).val := by decide +kernel
theorem k2_t2_trips : ∀ i : grid2.Coords, (k2_t2_loop i).trips = 0 := by decide +kernel

variable {Q K V G : ℕ → ℕ → ℝ}

/-- The keys and values of head `h` in key block `j`. -/
structure Keys (K V : ℕ → ℕ → ℝ) (j h : ℕ) (k v : VB) : Prop where
  k : ∀ (x : Fin 512) (d : Fin 128), k (ix2 x d) = ((K (512 * j + x.val) (128 * h + d.val) : ℝ) : EReal)
  v : ∀ (x : Fin 512) (d : Fin 128), v (ix2 x d) = ((V (512 * j + x.val) (128 * h + d.val) : ℝ) : EReal)

/-- What the body reads of head `h` for row block `n`. -/
structure Rows (Q K V G : ℕ → ℕ → ℝ) (h n : ℕ) (q : VB) (g : VA) (l dl : VR) : Prop where
  q : ∀ (r : Fin 512) (d : Fin 128), q (ix2 r d) = ((Q (512 * n + r.val) (128 * h + d.val) : ℝ) : EReal)
  g : ∀ (r : Fin 512) (d : Fin 128), g (ix2 r d) = ((G (512 * n + r.val) (128 * h + d.val) : ℝ) : EReal)
  l : ∀ r : Fin 512, l (ix4 0 0 0 r) = ((L Q K h (512 * n + r.val) : ℝ) : EReal)
  dl : ∀ r : Fin 512, dl (ix4 0 0 0 r) = ((D Q K V G h (512 * n + r.val) : ℝ) : EReal)

theorem scoreT {q k : VB} {h R T : ℕ} (hk : ∀ (x : Fin 512) (d : Fin 128), k (ix2 x d) = ((K (T + x.val) (128 * h + d.val) : ℝ) : EReal))
    (hq : ∀ (r : Fin 512) (d : Fin 128), q (ix2 r d) = ((Q (R + r.val) (128 * h + d.val) : ℝ) : EReal)) (x r : Fin 512) :
    (∑ e : Fin 128, k (ix2 x e) * q (ix2 r e) : EReal) = ((S Q K h (R + r.val) (T + x.val) : ℝ) : EReal) := by
  rw [score hk hq x r, S_comm]

section Steps
variable {j h n : ℕ} {k v q : VB} {g acc acc' : VA} {l dl : VR} (hK : Keys K V j h k v) (hR : Rows Q K V G h n q g l dl)

include hK hR in
theorem Dk.whole (hn : j < n) (h0 : Dk Q K V G j h n acc)
    (ha : ∀ (x : Fin 512) (d : Fin 128), acc' (ix2 x d) = acc (ix2 x d)
      + ∑ r : Fin 512, Ideal.exp ((∑ e : Fin 128, k (ix2 x e) * q (ix2 r e)) - l (ix4 0 0 0 r))
        * ((∑ e : Fin 128, v (ix2 x e) * g (ix2 r e)) - dl (ix4 0 0 0 r)) * q (ix2 r d)) : Dk Q K V G j h (n + 1) acc' :=
  h0.step (T := fun x r => ∑ e : Fin 128, k (ix2 x e) * q (ix2 r e)) (dp := fun x r => ∑ e : Fin 128, v (ix2 x e) * g (ix2 r e))
    (l := fun r => l (ix4 0 0 0 r)) (dl := fun r => dl (ix4 0 0 0 r)) (q := fun r d => q (ix2 r d))
    (fun x r => by rw [if_pos (by omega)]; exact scoreT hK.k hR.q x r) hR.l (fun x r => scoreT (q := g) hK.v hR.g x r) hR.dl hR.q ha

include hK hR in
theorem Dv.whole (hn : j < n) (h0 : Dv Q K G j h n acc)
    (ha : ∀ (x : Fin 512) (d : Fin 128), acc' (ix2 x d) = acc (ix2 x d)
      + ∑ r : Fin 512, Ideal.exp ((∑ e : Fin 128, k (ix2 x e) * q (ix2 r e)) - l (ix4 0 0 0 r)) * g (ix2 r d)) :
    Dv Q K G j h (n + 1) acc' :=
  h0.step (T := fun x r => ∑ e : Fin 128, k (ix2 x e) * q (ix2 r e))
    (l := fun r => l (ix4 0 0 0 r)) (g := fun r d => g (ix2 r d))
    (fun x r => by rw [if_pos (by omega)]; exact scoreT hK.k hR.q x r) hR.l hR.g ha

end Steps

section Diag
variable {j h : ℕ} {k v q q' g' : VB} {g acc acc' : VA} {l dl : VR} {T : VS} (hK : Keys K V j h k v) (hR : Rows Q K V G h j q g l dl)
  (hT : ∀ x r : Fin 512, T (ix2 x r) = ∑ e : Fin 128, k (ix2 x e) * q (ix2 r e))
  (hg' : ∀ (r : Fin 512) (d : Fin 128), g' (ix2 r d) = g (ix2 r d))

include hK hR hT hg' in
theorem Dk.diag (hq' : ∀ (r : Fin 512) (d : Fin 128), q' (ix2 r d) = q (ix2 r d)) (h0 : Dk Q K V G j h j acc)
    (ha : ∀ (x : Fin 512) (d : Fin 128), acc' (ix2 x d) = acc (ix2 x d)
      + ∑ r : Fin 512, Ideal.exp ((if x.val / 64 ≤ r.val / 64 then T (ix2 x r) else ⊥) - l (ix4 0 0 0 r))
        * ((∑ e : Fin 128, v (ix2 x e) * g' (ix2 r e)) - dl (ix4 0 0 0 r)) * q' (ix2 r d)) : Dk Q K V G j h (j + 1) acc' :=
  h0.step (T := fun x r => if x.val / 64 ≤ r.val / 64 then T (ix2 x r) else ⊥)
    (dp := fun x r => ∑ e : Fin 128, v (ix2 x e) * g' (ix2 r e))
    (l := fun r => l (ix4 0 0 0 r)) (dl := fun r => dl (ix4 0 0 0 r)) (q := fun r d => q' (ix2 r d))
    (fun x r => by
      rw [hT, scoreT hK.k hR.q]
      exact if_congr (by omega) rfl rfl) hR.l
    (fun x r => scoreT hK.v (fun r d => (hg' r d).trans (hR.g r d)) x r) hR.dl (fun r d => (hq' r d).trans (hR.q r d)) ha

include hK hR hT hg' in
theorem Dv.diag (h0 : Dv Q K G j h j acc)
    (ha : ∀ (x : Fin 512) (d : Fin 128), acc' (ix2 x d) = acc (ix2 x d)
      + ∑ r : Fin 512, Ideal.exp ((if x.val / 64 ≤ r.val / 64 then T (ix2 x r) else ⊥) - l (ix4 0 0 0 r)) * g' (ix2 r d)) :
    Dv Q K G j h (j + 1) acc' :=
  h0.step (T := fun x r => if x.val / 64 ≤ r.val / 64 then T (ix2 x r) else ⊥)
    (l := fun r => l (ix4 0 0 0 r)) (g := fun r d => g' (ix2 r d))
    (fun x r => by
      rw [hT, scoreT hK.k hR.q]
      exact if_congr (by omega) rfl rfl) hR.l (fun r d => (hg' r d).trans (hR.g r d)) ha

end Diag

/-- Both heads' sums over the first `n` blocks of rows. -/
def Dkvs (Q K V G : ℕ → ℕ → ℝ) (i : grid2.Coords) (n : ℕ) (s : VA × VA × VA × VA) : Prop :=
  Dk Q K V G (i 1).val (2 * (i 0).val) n s.1 ∧ Dv Q K G (i 1).val (2 * (i 0).val) n s.2.1
    ∧ Dk Q K V G (i 1).val (2 * (i 0).val + 1) n s.2.2.1 ∧ Dv Q K G (i 1).val (2 * (i 0).val + 1) n s.2.2.2

section
variable (c : Dev nD) (i : grid2.Coords)
  (arg2 : Memref sig .tc .vmem S8192x256 .bf16) (harg2 : arg2.IsWhole) (arg3 : Memref sig .tc .vmem S512x256 .bf16) (harg3 : arg3.IsWhole)
  (arg4 : Memref sig .tc .vmem S512x256 .bf16) (harg4 : arg4.IsWhole) (arg5 : Memref sig .tc .vmem S8192x256 .f32) (harg5 : arg5.IsWhole)
  (arg6 : Memref sig .tc .vmem S2x16x1x512 .f32) (harg6 : arg6.IsWhole) (arg7 : Memref sig .tc .vmem S2x16x1x512 .f32) (harg7 : arg7.IsWhole)
  (arg8 : Memref sig .tc .vmem S512x256 .f32) (harg8 : arg8.IsWhole) (arg9 : Memref sig .tc .vmem S512x256 .f32) (harg9 : arg9.IsWhole)
  {x0 : Vec Idealize.ShloMosaic.Ideal S8192x256 .bf16} {x1 x2 : Vec Idealize.ShloMosaic.Ideal S512x256 .bf16}
  {x3 : Vec Idealize.ShloMosaic.Ideal S8192x256 .f32} {x4 x5 : Vec Idealize.ShloMosaic.Ideal S2x16x1x512 .f32}
  (hq : ∀ (r : Fin 8192) (d : Fin 256), x0 (ix2 r d) = ((Q r.val (256 * (i 0).val + d.val) : ℝ) : EReal))
  (hk : ∀ (r : Fin 512) (d : Fin 256), x1 (ix2 r d) = ((K (512 * (i 1).val + r.val) (256 * (i 0).val + d.val) : ℝ) : EReal))
  (hv : ∀ (r : Fin 512) (d : Fin 256), x2 (ix2 r d) = ((V (512 * (i 1).val + r.val) (256 * (i 0).val + d.val) : ℝ) : EReal))
  (hg : ∀ (r : Fin 8192) (d : Fin 256), x3 (ix2 r d) = ((G r.val (256 * (i 0).val + d.val) : ℝ) : EReal))
  (hl : ∀ (e : Fin 2) (n : Fin 16) (r : Fin 512), x4 (ix4 e n 0 r)
    = ((L Q K (2 * (i 0).val + e.val) (512 * n.val + r.val) : ℝ) : EReal))
  (hd : ∀ (e : Fin 2) (n : Fin 16) (r : Fin 512), x5 (ix4 e n 0 r)
    = ((D Q K V G (2 * (i 0).val + e.val) (512 * n.val + r.val) : ℝ) : EReal))

include hk hv in
theorem keys_first : Keys K V (i 1).val (2 * (i 0).val)
    (part 0 inb_S512x256_S512x128_0_0 arg3 harg3 x1) (part 0 inb_S512x256_S512x128_0_0 arg4 harg4 x2) where
  k := part_real 0 _ arg3 harg3 (by omega) _ (by omega) id hk
  v := part_real 0 _ arg4 harg4 (by omega) _ (by omega) id hv

include hk hv in
theorem keys_second : Keys K V (i 1).val (2 * (i 0).val + 1)
    (part 128 inb_S512x256_S512x128_0_128 arg3 harg3 x1) (part 128 inb_S512x256_S512x128_0_128 arg4 harg4 x2) where
  k := part_real 128 _ arg3 harg3 (by omega) _ (by omega) id hk
  v := part_real 128 _ arg4 harg4 (by omega) _ (by omega) id hv

include hq hg hl hd in
/-- The loads of row block `n`, of the head whose columns begin at `128 * e` in the block. -/
theorem rows_of (e n : ℕ) (he : e < 2) (hn : n < 16) (off : Fin 2 → ℕ) (off' : Fin 4 → ℕ) (inb) (inb')
    (ho : off = ![512 * n, 128 * e]) (ho' : off' = ![e, n, 0, 0]) :
    Rows Q K V G (2 * (i 0).val + e) n
      (View.readAt (Elt Idealize.ShloMosaic.Ideal) arg2.view (Rect.unit (s := S8192x256) off S512x128.size inb).toLoadRect (harg2.unread x0))
      (View.readAt (Elt Idealize.ShloMosaic.Ideal) arg5.view (Rect.unit (s := S8192x256) off S512x128.size inb).toLoadRect (harg5.unread x3))
      (View.readAt (Elt Idealize.ShloMosaic.Ideal) arg6.view (Rect.unit (s := S2x16x1x512) off' S1x1x1x512.size inb').toLoadRect
        (harg6.unread x4))
      (View.readAt (Elt Idealize.ShloMosaic.Ideal) arg7.view (Rect.unit (s := S2x16x1x512) off' S1x1x1x512.size inb').toLoadRect
        (harg7.unread x5)) where
  q r d := by rw [load _ _ _ _ _ _ _ ho (by omega) (by omega), hq]; congr 2; dsimp only; omega
  g r d := by rw [load _ _ _ _ _ _ _ ho (by omega) (by omega), hg]; congr 2; dsimp only; omega
  l r := by rw [loadRow _ _ _ _ _ _ _ ho' he hn, hl]
  dl r := by rw [loadRow _ _ _ _ _ _ _ ho' he hn, hd]

/-- One trip of the loop over whole blocks, in the body's named values. -/
theorem trip2 (v1 v3 v5 v7 : VB) (v171 : BitVec 32) (X2 X5 X6 X7) (k : Fin (k2_t1_loop i).trips) (s : VA × VA × VA × VA) :
    tripR_k2_t1 (F := Idealize.ShloMosaic.Ideal) Variants.none c none i arg2 harg2 arg3 harg3 arg4 harg4 arg5 harg5 arg6 harg6 arg7 harg7
      arg8 harg8 arg9 harg9 v1 v3 v5 v7 v171 X2 X5 X6 X7 k s
    = let qA : VB := View.readAt (Elt Idealize.ShloMosaic.Ideal) arg2.view
        (Rect.unit (s := S8192x256) (k2_off5 i k) S512x128.size (k2_off5_inb i k)).toLoadRect X2
      let gA : VA := View.readAt (Elt Idealize.ShloMosaic.Ideal) arg5.view
        (Rect.unit (s := S8192x256) (k2_off5 i k) S512x128.size (k2_off5_inb i k)).toLoadRect X5
      let lA : VR := View.readAt (Elt Idealize.ShloMosaic.Ideal) arg6.view
        (Rect.unit (s := S2x16x1x512) (k2_off6 i k) S1x1x1x512.size (k2_off6_inb i k)).toLoadRect X6
      let dA : VR := View.readAt (Elt Idealize.ShloMosaic.Ideal) arg7.view
        (Rect.unit (s := S2x16x1x512) (k2_off6 i k) S1x1x1x512.size (k2_off6_inb i k)).toLoadRect X7
      let qB : VB := View.readAt (Elt Idealize.ShloMosaic.Ideal) arg2.view
        (Rect.unit (s := S8192x256) (k2_off7 i k) S512x128.size (k2_off7_inb i k)).toLoadRect X2
      let gB : VA := View.readAt (Elt Idealize.ShloMosaic.Ideal) arg5.view
        (Rect.unit (s := S8192x256) (k2_off7 i k) S512x128.size (k2_off7_inb i k)).toLoadRect X5
      let lB : VR := View.readAt (Elt Idealize.ShloMosaic.Ideal) arg6.view
        (Rect.unit (s := S2x16x1x512) (k2_off8 i k) S1x1x1x512.size (k2_off8_inb i k)).toLoadRect X6
      let dB : VR := View.readAt (Elt Idealize.ShloMosaic.Ideal) arg7.view
        (Rect.unit (s := S2x16x1x512) (k2_off8 i k) S1x1x1x512.size (k2_off8_inb i k)).toLoadRect X7
      (k2_pay11 v1 v5 s.1 qA gA lA dA, k2_pay10 v1 s.2.1 qA gA lA,
        k2_pay3 v7 s.2.2.1 (k2_pay12 qB) (k2_pay13 gB) (k2_pay14 v3 qB) (k2_pay15 lB) dB,
        k2_pay2 s.2.2.2 (k2_pay13 gB) (k2_pay14 v3 qB) (k2_pay15 lB)) := by
  unfold tripR_k2_t1 trip_k2_t1
  dsimp only
  sl_unfold_run_names
  rfl

include hq hg hl hd in
/-- The loop over the whole blocks of rows after the diagonal one. -/
theorem loop2 {v1 v3 v5 v7 : VB} (v171 : BitVec 32) (hA : Keys K V (i 1).val (2 * (i 0).val) v1 v5)
    (hB : Keys K V (i 1).val (2 * (i 0).val + 1) v3 v7) (s0) (h0 : Dkvs Q K V G i ((i 1).val + 1) s0) :
    ∀ n : ℕ, n ≤ 15 - (i 1).val → Dkvs Q K V G i ((i 1).val + 1 + n)
    (st_k2_t1 (F := Idealize.ShloMosaic.Ideal) Variants.none c none i arg2 harg2 arg3 harg3 arg4 harg4 arg5 harg5 arg6 harg6 arg7 harg7
      arg8 harg8 arg9 harg9 v1 v3 v5 v7 v171 (harg2.unread x0) (harg5.unread x3) (harg6.unread x4) (harg7.unread x5) s0 n) := by
  intro n
  induction n with
  | zero => exact fun _ => h0
  | succ n ih =>
    intro hn
    have hi : (i 1).val < 16 := (i 1).isLt
    have hlt : n < (k2_t1_loop i).trips := by rw [k2_t1_trips]; omega
    have ih := ih (by omega)
    rw [show n + 1 = (⟨n, hlt⟩ : Fin (k2_t1_loop i).trips).val + 1 from rfl, st_k2_t1_succ]
    dsimp only
    generalize st_k2_t1 (F := Idealize.ShloMosaic.Ideal) Variants.none c none i arg2 harg2 arg3 harg3 arg4 harg4 arg5 harg5 arg6 harg6
      arg7 harg7 arg8 harg8 arg9 harg9 _ _ _ _ _ _ _ _ _ _ n = s at ih ⊢
    rw [trip2]
    have hRA := rows_of i arg2 harg2 arg5 harg5 arg6 harg6 arg7 harg7 hq hg hl hd 0 ((i 1).val + 1 + n) (by omega) (by omega)
      (k2_off5 i ⟨n, hlt⟩) (k2_off6 i ⟨n, hlt⟩) (k2_off5_inb i ⟨n, hlt⟩) (k2_off6_inb i ⟨n, hlt⟩)
      ((k2_off5_eq i ⟨n, hlt⟩).trans (by congr 1; dsimp only; omega))
      ((k2_off6_eq i ⟨n, hlt⟩).trans (by congr 2; dsimp only; omega))
    have hRB := rows_of i arg2 harg2 arg5 harg5 arg6 harg6 arg7 harg7 hq hg hl hd 1 ((i 1).val + 1 + n) (by omega) (by omega)
      (k2_off7 i ⟨n, hlt⟩) (k2_off8 i ⟨n, hlt⟩) (k2_off7_inb i ⟨n, hlt⟩) (k2_off8_inb i ⟨n, hlt⟩)
      ((k2_off7_eq i ⟨n, hlt⟩).trans (by congr 1; dsimp only; omega))
      ((k2_off8_eq i ⟨n, hlt⟩).trans (by congr 2; dsimp only; omega))
    have hlt' : (i 1).val < (i 1).val + 1 + n := by omega
    exact ⟨Dk.whole hA hRA hlt' ih.1 (k2_pay11_at _ _ _ _ _ _ _), Dv.whole hA hRA hlt' ih.2.1 (k2_pay10_at _ _ _ _ _),
      Dk.whole hB hRB hlt' ih.2.2.1 (k2_pay3_at _ _ _ _ _ _ _), Dv.whole hB hRB hlt' ih.2.2.2 (k2_pay2_at _ _ _ _ _)⟩

include hk hv in
/-- The diagonal block of rows, both heads. -/
theorem start2 (v0 v2 v4 v6 : VB)
    (h0 : v0 = part 0 inb_S512x256_S512x128_0_0 arg3 harg3 x1) (h2 : v2 = part 128 inb_S512x256_S512x128_0_128 arg3 harg3 x1)
    (h4 : v4 = part 0 inb_S512x256_S512x128_0_0 arg4 harg4 x2) (h6 : v6 = part 128 inb_S512x256_S512x128_0_128 arg4 harg4 x2)
    (qA qB : VB) (gA gB : VA) (lA lB dA dB : VR)
    (hA : Rows Q K V G (2 * (i 0).val) (i 1).val qA gA lA dA) (hB : Rows Q K V G (2 * (i 0).val + 1) (i 1).val qB gB lB dB) :
    Dkvs Q K V G i ((i 1).val + 1)
      (k2_pay40 k2_pay29 (k2_pay30 qA) (k2_pay37 (k2_pay32 v0 qA) k2_pay33 k2_pay34 k2_pay35 k2_pay36 lA)
          (k2_pay39 (k2_pay27 v4) (k2_pay31 gA)) dA,
        k2_pay38 k2_pay29 (k2_pay31 gA) (k2_pay32 v0 qA) k2_pay33 k2_pay34 k2_pay35 k2_pay36 lA,
        k2_pay49 (k2_pay28 v6) k2_pay29 (k2_pay41 qB) (k2_pay42 gB) (k2_pay43 (k2_pay26 v2) qB) k2_pay44
          (iota Kind.tc S512x512 32 [1] iota_S512x512_d1_w32) (64#32) k2_pay45 k2_pay46 lB dB,
        k2_pay48 k2_pay29 (k2_pay42 gB) (k2_pay43 (k2_pay26 v2) qB) k2_pay44
          (iota Kind.tc S512x512 32 [1] iota_S512x512_d1_w32) (64#32) k2_pay45 k2_pay46 lB) := by
  subst h0 h2 h4 h6
  have kA := keys_first i arg3 harg3 arg4 harg4 hk hv
  have kB := keys_second i arg3 harg3 arg4 harg4 hk hv
  have kA' : Keys K V (i 1).val (2 * (i 0).val) (part 0 inb_S512x256_S512x128_0_0 arg3 harg3 x1)
      (k2_pay27 (part 0 inb_S512x256_S512x128_0_0 arg4 harg4 x2)) := ⟨kA.k, fun x d => (k2_pay27_at _ x d).trans (kA.v x d)⟩
  have kB' : Keys K V (i 1).val (2 * (i 0).val + 1) (k2_pay26 (part 128 inb_S512x256_S512x128_0_128 arg3 harg3 x1))
      (k2_pay28 (part 128 inb_S512x256_S512x128_0_128 arg4 harg4 x2)) :=
    ⟨fun x d => (k2_pay26_at _ x d).trans (kB.k x d), fun x d => (k2_pay28_at _ x d).trans (kB.v x d)⟩
  exact ⟨Dk.diag kA' hA (k2_pay32_at _ _) (k2_pay31_at _) (k2_pay30_at _) (Dk.zero k2_pay29_at) (k2_pay40_at _ _ _ _ _ _ _),
    Dv.diag kA' hA (k2_pay32_at _ _) (k2_pay31_at _) (Dv.zero k2_pay29_at) (k2_pay38_at _ _ _ _),
    Dk.diag kB' hB (k2_pay43_at _ _) (k2_pay42_at _) (k2_pay41_at _) (Dk.zero k2_pay29_at) (k2_pay49_at _ _ _ _ _ _ _),
    Dv.diag kB' hB (k2_pay43_at _ _) (k2_pay42_at _) (Dv.zero k2_pay29_at) (k2_pay48_at _ _ _ _)⟩

include hq hk hv hg hl hd in
/-- Both heads' sums at the end of the body. -/
theorem final2 (v171 : BitVec 32) (s0) (h0 : Dkvs Q K V G i ((i 1).val + 1) s0) :
    Dkvs Q K V G i 16 (st_k2_t1 (F := Idealize.ShloMosaic.Ideal) Variants.none c none i arg2 harg2 arg3 harg3 arg4 harg4 arg5 harg5
      arg6 harg6 arg7 harg7 arg8 harg8 arg9 harg9
      (k2_pay25 (part 0 inb_S512x256_S512x128_0_0 arg3 harg3 x1)) (k2_pay26 (part 128 inb_S512x256_S512x128_0_128 arg3 harg3 x1))
      (k2_pay27 (part 0 inb_S512x256_S512x128_0_0 arg4 harg4 x2)) (k2_pay28 (part 128 inb_S512x256_S512x128_0_128 arg4 harg4 x2))
      v171 (harg2.unread x0) (harg5.unread x3) (harg6.unread x4) (harg7.unread x5) s0 (15 - (i 1).val)) := by
  have kA := keys_first i arg3 harg3 arg4 harg4 hk hv
  have kB := keys_second i arg3 harg3 arg4 harg4 hk hv
  have h := loop2 c i arg2 harg2 arg3 harg3 arg4 harg4 arg5 harg5 arg6 harg6 arg7 harg7 arg8 harg8 arg9 harg9 hq hg hl hd v171
    (v1 := k2_pay25 (part 0 inb_S512x256_S512x128_0_0 arg3 harg3 x1)) (v5 := k2_pay27 (part 0 inb_S512x256_S512x128_0_0 arg4 harg4 x2))
    (v3 := k2_pay26 (part 128 inb_S512x256_S512x128_0_128 arg3 harg3 x1))
    (v7 := k2_pay28 (part 128 inb_S512x256_S512x128_0_128 arg4 harg4 x2))
    ⟨fun x d => (k2_pay25_at _ x d).trans (kA.k x d), fun x d => (k2_pay27_at _ x d).trans (kA.v x d)⟩
    ⟨fun x d => (k2_pay26_at _ x d).trans (kB.k x d), fun x d => (k2_pay28_at _ x d).trans (kB.v x d)⟩ s0 h0 (15 - (i 1).val) le_rfl
  have hi : (i 1).val < 16 := (i 1).isLt
  rwa [show (i 1).val + 1 + (15 - (i 1).val) = 16 by omega] at h

include hq hk hv hg hl hd in
/-- The block of the keys' gradient. -/
theorem block2_6 (r : Fin 512) (d : Fin 256) :
    out2_A_6 c i arg2 harg2 arg3 harg3 arg4 harg4 arg5 harg5 arg6 harg6 arg7 harg7 arg8 harg8 arg9 harg9 x0 x1 x2 x3 x4 x5 (ix2 r d)
      = ((dK Q K V G (512 * (i 1).val + r.val) (256 * (i 0).val + d.val) : ℝ) : EReal) := by
  unfold out2_A_6
  rw [View.read_writes_eq_canon _ _ _ (cover2_A_6 c i arg2 harg2 arg3 harg3 arg4 harg4 arg5 harg5 arg6 harg6 arg7 harg7 arg8 harg8
    arg9 harg9 x0 x1 x2 x3 x4 x5)]
  unfold kernelRun2_A
  dsimp only
  sl_unfold_run_names
  have hi : (i 1).val < 16 := (i 1).isLt
  have hs := final2 c i arg2 harg2 arg3 harg3 arg4 harg4 arg5 harg5 arg6 harg6 arg7 harg7 arg8 harg8 arg9 harg9 hq hk hv hg hl hd
    (Scalar.addi (BitVec.ofNat 32 (i 1).val) 1#32) _
    (start2 i arg3 harg3 arg4 harg4 hk hv _ _ _ _ rfl rfl rfl rfl _ _ _ _ _ _ _ _
      (rows_of i arg2 harg2 arg5 harg5 arg6 harg6 arg7 harg7 hq hg hl hd 0 (i 1).val (by omega) hi
        (k2_off1 i) (k2_off2 i) (k2_off1_inb i) (k2_off2_inb i) (k2_off1_eq i) (k2_off2_eq i))
      (rows_of i arg2 harg2 arg5 harg5 arg6 harg6 arg7 harg7 hq hg hl hd 1 (i 1).val (by omega) hi
        (k2_off3 i) (k2_off4 i) (k2_off3_inb i) (k2_off4_inb i) (k2_off3_eq i) (k2_off4_eq i)))
  have e2 : Scf.trips (k2_t2_loop i).lb (k2_t2_loop i).ub (k2_t2_loop i).st = 0 := k2_t2_trips i
  have e1 : Scf.trips (k2_t1_loop i).lb (k2_t1_loop i).ub (k2_t1_loop i).st = 15 - (i 1).val := k2_t1_trips i
  simp only [e1, e2, st_k2_t2_zero]
  generalize st_k2_t1 (F := Idealize.ShloMosaic.Ideal) Variants.none c none i arg2 harg2 arg3 harg3 arg4 harg4 arg5 harg5 arg6 harg6
    arg7 harg7 arg8 harg8 arg9 harg9 _ _ _ _ _ _ _ _ _ _ _ = s at hs ⊢
  refine halves _ _ _ _ r d _ (fun d' hd' => ?_) (fun d' hd' => ?_)
  · refine (hs.1.out r d').trans ?_
    congr 2; omega
  · refine (hs.2.2.1.out r d').trans ?_
    congr 2; omega

include hq hk hv hg hl hd in
/-- The block of the values' gradient. -/
theorem block2_7 (r : Fin 512) (d : Fin 256) :
    out2_A_7 c i arg2 harg2 arg3 harg3 arg4 harg4 arg5 harg5 arg6 harg6 arg7 harg7 arg8 harg8 arg9 harg9 x0 x1 x2 x3 x4 x5 (ix2 r d)
      = ((dV Q K G (512 * (i 1).val + r.val) (256 * (i 0).val + d.val) : ℝ) : EReal) := by
  unfold out2_A_7
  rw [View.read_writes_eq_canon _ _ _ (cover2_A_7 c i arg2 harg2 arg3 harg3 arg4 harg4 arg5 harg5 arg6 harg6 arg7 harg7 arg8 harg8
    arg9 harg9 x0 x1 x2 x3 x4 x5)]
  unfold kernelRun2_A
  dsimp only
  sl_unfold_run_names
  have hi : (i 1).val < 16 := (i 1).isLt
  have hs := final2 c i arg2 harg2 arg3 harg3 arg4 harg4 arg5 harg5 arg6 harg6 arg7 harg7 arg8 harg8 arg9 harg9 hq hk hv hg hl hd
    (Scalar.addi (BitVec.ofNat 32 (i 1).val) 1#32) _
    (start2 i arg3 harg3 arg4 harg4 hk hv _ _ _ _ rfl rfl rfl rfl _ _ _ _ _ _ _ _
      (rows_of i arg2 harg2 arg5 harg5 arg6 harg6 arg7 harg7 hq hg hl hd 0 (i 1).val (by omega) hi
        (k2_off1 i) (k2_off2 i) (k2_off1_inb i) (k2_off2_inb i) (k2_off1_eq i) (k2_off2_eq i))
      (rows_of i arg2 harg2 arg5 harg5 arg6 harg6 arg7 harg7 hq hg hl hd 1 (i 1).val (by omega) hi
        (k2_off3 i) (k2_off4 i) (k2_off3_inb i) (k2_off4_inb i) (k2_off3_eq i) (k2_off4_eq i)))
  have e2 : Scf.trips (k2_t2_loop i).lb (k2_t2_loop i).ub (k2_t2_loop i).st = 0 := k2_t2_trips i
  have e1 : Scf.trips (k2_t1_loop i).lb (k2_t1_loop i).ub (k2_t1_loop i).st = 15 - (i 1).val := k2_t1_trips i
  simp only [e1, e2, st_k2_t2_zero]
  generalize st_k2_t1 (F := Idealize.ShloMosaic.Ideal) Variants.none c none i arg2 harg2 arg3 harg3 arg4 harg4 arg5 harg5 arg6 harg6
    arg7 harg7 arg8 harg8 arg9 harg9 _ _ _ _ _ _ _ _ _ _ _ = s at hs ⊢
  refine halves _ _ _ _ r d _ (fun d' hd' => ?_) (fun d' hd' => ?_)
  · refine (hs.2.1.out r d').trans ?_
    congr 2; omega
  · refine (hs.2.2.2.out r d').trans ?_
    congr 2; omega

end

end Cert.KernelIdeal.Values

end
-- ==== Proof.Values.Arrays2.lean ====
/- The arrays the third call leaves: the keys' and values' gradients. -/
module

public import proofs.«01_k».proof.Proof.Values.Block2
public import proofs.«01_k».proof.Proof.Values.Wide
public import Idealize.ShloMosaic.Lib.Pipeline.ValueKit.Geometry

@[expose] public section

set_option maxRecDepth 16384

noncomputable section

namespace Cert.KernelIdeal.Values

open Cert.KernelIdeal.Gen Cert.KernelIdeal.Run Cert.Attn
open Idealize.ShloMosaic Idealize.ShloMosaic.TcCoe Idealize.SL.Sem
open Idealize.ShloMosaic.Pipeline (Dat)

variable {Q K V G : ℕ → ℕ → ℝ} (U : (c : Dev nD) → (b : Ref sig .tc) → Buf (Elt Idealize.ShloMosaic.Ideal) ((c : Thread nD τ).loc b))
  (c : Dev nD)
theorem idx2_0 : ∀ t : Fin grid2.N, win2_0.index t 0 = 0 ∧ win2_0.index t 1 = (grid2.coords t 0).val := by decide +kernel
theorem idx2_1 : ∀ t : Fin grid2.N, win2_1.index t 0 = (grid2.coords t 1).val ∧ win2_1.index t 1 = (grid2.coords t 0).val := by decide +kernel
theorem idx2_2 : ∀ t : Fin grid2.N, win2_2.index t 0 = (grid2.coords t 1).val ∧ win2_2.index t 1 = (grid2.coords t 0).val := by decide +kernel
theorem idx2_3 : ∀ t : Fin grid2.N, win2_3.index t 0 = 0 ∧ win2_3.index t 1 = (grid2.coords t 0).val := by decide +kernel
theorem idx2_4 : ∀ t : Fin grid2.N, win2_4.index t 0 = (grid2.coords t 0).val ∧ win2_4.index t 1 = 0 ∧ win2_4.index t 2 = 0 ∧ win2_4.index t 3 = 0 := by decide +kernel
theorem idx2_5 : ∀ t : Fin grid2.N, win2_5.index t 0 = (grid2.coords t 0).val ∧ win2_5.index t 1 = 0 ∧ win2_5.index t 2 = 0 ∧ win2_5.index t 3 = 0 := by decide +kernel
theorem idx2_6 : ∀ t : Fin grid2.N, win2_6.index t 0 = (grid2.coords t 1).val ∧ win2_6.index t 1 = (grid2.coords t 0).val := by decide +kernel
theorem idx2_7 : ∀ t : Fin grid2.N, win2_7.index t 0 = (grid2.coords t 1).val ∧ win2_7.index t 1 = (grid2.coords t 0).val := by decide +kernel

theorem block_in2_0 {Φ : ℕ → ℕ → ℝ} (h : Wide (U c main_v4) Φ) (t : Fin cfg2.N) (r : Fin 8192) (d : Fin 256) :
    iblk2 U c 0 t (ix2 r d) = ((Φ r.val (256 * (grid2.coords t 0).val + d.val) : ℝ) : EReal) := by
  obtain ⟨e0, e1⟩ := idx2_0 t
  unfold iblk2
  rw [View.read_apply]
  refine (h _).trans ?_
  congr 2
  · show win2_0.index t 0 * 8192 + 1 * r.val = _
    omega
  · show win2_0.index t 1 * 256 + 1 * d.val = _
    omega

theorem block_in2_1 {Φ : ℕ → ℕ → ℝ} (h : Wide (U c main_v7) Φ) (t : Fin cfg2.N) (r : Fin 512) (d : Fin 256) :
    iblk2 U c 1 t (ix2 r d) = ((Φ (512 * (grid2.coords t 1).val + r.val) (256 * (grid2.coords t 0).val + d.val) : ℝ) : EReal) := by
  obtain ⟨e0, e1⟩ := idx2_1 t
  unfold iblk2
  rw [View.read_apply]
  refine (h _).trans ?_
  congr 2
  · show win2_1.index t 0 * 512 + 1 * r.val = _
    omega
  · show win2_1.index t 1 * 256 + 1 * d.val = _
    omega

theorem block_in2_2 {Φ : ℕ → ℕ → ℝ} (h : Wide (U c main_v10) Φ) (t : Fin cfg2.N) (r : Fin 512) (d : Fin 256) :
    iblk2 U c 2 t (ix2 r d) = ((Φ (512 * (grid2.coords t 1).val + r.val) (256 * (grid2.coords t 0).val + d.val) : ℝ) : EReal) := by
  obtain ⟨e0, e1⟩ := idx2_2 t
  unfold iblk2
  rw [View.read_apply]
  refine (h _).trans ?_
  congr 2
  · show win2_2.index t 0 * 512 + 1 * r.val = _
    omega
  · show win2_2.index t 1 * 256 + 1 * d.val = _
    omega

theorem block_in2_3 {Φ : ℕ → ℕ → ℝ} (h : Wide (U c main_v12) Φ) (t : Fin cfg2.N) (r : Fin 8192) (d : Fin 256) :
    iblk2 U c 3 t (ix2 r d) = ((Φ r.val (256 * (grid2.coords t 0).val + d.val) : ℝ) : EReal) := by
  obtain ⟨e0, e1⟩ := idx2_3 t
  unfold iblk2
  rw [View.read_apply]
  refine (h _).trans ?_
  congr 2
  · show win2_3.index t 0 * 8192 + 1 * r.val = _
    omega
  · show win2_3.index t 1 * 256 + 1 * d.val = _
    omega

theorem block_in2_4 {Φ : ℕ → ℕ → ℝ} (h : Lines (U c main_v13_2) Φ) (t : Fin cfg2.N) (e : Fin 2) (n : Fin 16) (r : Fin 512) :
    iblk2 U c 4 t (ix4 e n 0 r) = ((Φ (2 * (grid2.coords t 0).val + e.val) (512 * n.val + r.val) : ℝ) : EReal) := by
  obtain ⟨e0, e1, e2, e3⟩ := idx2_4 t
  unfold iblk2
  rw [View.read_apply]
  refine (h _).trans ?_
  congr 2
  · show win2_4.index t 0 * 2 + 1 * e.val = _
    omega
  · show 512 * (win2_4.index t 1 * 16 + 1 * n.val) + (win2_4.index t 3 * 512 + 1 * r.val) = _
    omega

theorem block_in2_5 {Φ : ℕ → ℕ → ℝ} (h : Lines (U c main_v14_1) Φ) (t : Fin cfg2.N) (e : Fin 2) (n : Fin 16) (r : Fin 512) :
    iblk2 U c 5 t (ix4 e n 0 r) = ((Φ (2 * (grid2.coords t 0).val + e.val) (512 * n.val + r.val) : ℝ) : EReal) := by
  obtain ⟨e0, e1, e2, e3⟩ := idx2_5 t
  unfold iblk2
  rw [View.read_apply]
  refine (h _).trans ?_
  congr 2
  · show win2_5.index t 0 * 2 + 1 * e.val = _
    omega
  · show 512 * (win2_5.index t 1 * 16 + 1 * n.val) + (win2_5.index t 3 * 512 + 1 * r.val) = _
    omega

section
variable (hq : Wide (U c main_v4) Q) (hk : Wide (U c main_v7) K) (hv : Wide (U c main_v10) V) (hg : Wide (U c main_v12) G) (h4 : Lines (U c main_v13_2) (L Q K)) (h5 : Lines (U c main_v14_1) (D Q K V G))

include hq hk hv hg h4 h5 in
theorem array2_6 : Wide ((dat2 U c).arrAt 6 cfg2.N) (dK Q K V G) := by
  intro i
  refine Dat.arrAt_forall_of_covers (dat2 U c) 6 (fun i x => x = ((((dK Q K V G) (i 0).val (i 1).val) : ℝ) : EReal)) (by decide +kernel)
    (fun t _ y => ?_) i
  obtain ⟨e0, e1⟩ := idx2_6 t
  have h0 : (y 0).val < 512 := (y 0).isLt
  have h1 : (y 1).val < 256 := (y 1).isLt
  have hy : (cfg2.win 6).xinj (grid2.coords t) y = ix2 ⟨(y 0).val, h0⟩ ⟨(y 1).val, h1⟩ := by
    funext a
    match a with
    | 0 => rfl
    | 1 => rfl
  show (dat2 U c).after 6 t ((cfg2.win 6).xinj (grid2.coords t) y) = _
  rw [after2_6, hy]
  unfold outsAt2
  dsimp only
  refine (block2_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (block_in2_0 U c hq t) (block_in2_1 U c hk t) (block_in2_2 U c hv t) (block_in2_3 U c hg t) (block_in2_4 U c h4 t) (block_in2_5 U c h5 t) ⟨(y 0).val, h0⟩ ⟨(y 1).val, h1⟩).trans ?_
  have g0 : ((((cfg2.win 6).blk t).view.emb y 0 : Fin _) : ℕ) = 512 * (grid2.coords t 1).val + (y 0).val := by
    show win2_6.index t 0 * 512 + 1 * (y 0).val = _
    omega
  have g1 : ((((cfg2.win 6).blk t).view.emb y 1 : Fin _) : ℕ) = 256 * (grid2.coords t 0).val + (y 1).val := by
    show win2_6.index t 1 * 256 + 1 * (y 1).val = _
    omega
  dsimp only
  rw [g0, g1]

include hq hk hv hg h4 h5 in
theorem array2_7 : Wide ((dat2 U c).arrAt 7 cfg2.N) (dV Q K G) := by
  intro i
  refine Dat.arrAt_forall_of_covers (dat2 U c) 7 (fun i x => x = ((((dV Q K G) (i 0).val (i 1).val) : ℝ) : EReal)) (by decide +kernel)
    (fun t _ y => ?_) i
  obtain ⟨e0, e1⟩ := idx2_7 t
  have h0 : (y 0).val < 512 := (y 0).isLt
  have h1 : (y 1).val < 256 := (y 1).isLt
  have hy : (cfg2.win 7).xinj (grid2.coords t) y = ix2 ⟨(y 0).val, h0⟩ ⟨(y 1).val, h1⟩ := by
    funext a
    match a with
    | 0 => rfl
    | 1 => rfl
  show (dat2 U c).after 7 t ((cfg2.win 7).xinj (grid2.coords t) y) = _
  rw [after2_7, hy]
  unfold outsAt2
  dsimp only
  refine (block2_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (block_in2_0 U c hq t) (block_in2_1 U c hk t) (block_in2_2 U c hv t) (block_in2_3 U c hg t) (block_in2_4 U c h4 t) (block_in2_5 U c h5 t) ⟨(y 0).val, h0⟩ ⟨(y 1).val, h1⟩).trans ?_
  have g0 : ((((cfg2.win 7).blk t).view.emb y 0 : Fin _) : ℕ) = 512 * (grid2.coords t 1).val + (y 0).val := by
    show win2_7.index t 0 * 512 + 1 * (y 0).val = _
    omega
  have g1 : ((((cfg2.win 7).blk t).view.emb y 1 : Fin _) : ℕ) = 256 * (grid2.coords t 0).val + (y 1).val := by
    show win2_7.index t 1 * 256 + 1 * (y 1).val = _
    omega
  dsimp only
  rw [g0, g1]

end

end Cert.KernelIdeal.Values

end
-- ==== Proof.Values.Result.lean ====
/- What the three calls leave, in terms of the arguments. -/
module

public import proofs.«01_k».proof.Proof.Values.Host
public import proofs.«01_k».proof.Proof.Values.Arrays0
public import proofs.«01_k».proof.Proof.Values.Arrays1
public import proofs.«01_k».proof.Proof.Values.Arrays2

@[expose] public section

set_option maxRecDepth 16384

noncomputable section

namespace Cert.KernelIdeal.Values

open Cert.KernelIdeal.Gen Cert.KernelIdeal.Run Cert.Attn
open Idealize.ShloMosaic Idealize.ShloMosaic.TcCoe Idealize.SL.Sem

variable (m : (ℓ : Loc nD τ sig) → Buf (Elt Idealize.ShloMosaic.Ideal) ℓ) (ρ : Dev nD → PrngReg) (c : Dev nD)
  {Q K V G : ℕ → ℕ → ℝ}

theorem keep {A B : S8192x1024.Idx → EReal} {Φ : ℕ → ℕ → ℝ} (hB : Wide B Φ) (hA : A = B) : Wide A Φ := hA ▸ hB
theorem keep' {A B : S8x16x1x512.Idx → EReal} {Φ : ℕ → ℕ → ℝ} (hB : Lines B Φ) (hA : A = B) : Lines A Φ := hA ▸ hB

section

variable (hq : Wide (V9 m ρ c main_v4) Q) (hk : Wide (V9 m ρ c main_v7) K) (hv : Wide (V9 m ρ c main_v10) V)
  (hg : Wide (V9 m ρ c main_v12) G)

include hq in
theorem q10 : Wide (V10 m ρ c main_v4) Q := keep hq (W10_of m ρ c main_v4 (by decide +kernel))
include hk in
theorem k10 : Wide (V10 m ρ c main_v7) K := keep hk (W10_of m ρ c main_v7 (by decide +kernel))
include hv in
theorem v10 : Wide (V10 m ρ c main_v10) V := keep hv (W10_of m ρ c main_v10 (by decide +kernel))
include hg in
theorem g10 : Wide (V10 m ρ c main_v12) G := keep hg (W10_of m ρ c main_v12 (by decide +kernel))
include hq hk hv in
theorem o10 : Wide (V10 m ρ c main_v13_0) (O Q K V) := keep (array0_3 (V9 m ρ) c hq hk hv) (W10_arr m ρ c 3)
include hq hk hv in
theorem l10 : Wide (V10 m ρ c main_v13_1) (fun r c => L Q K (c / 128) r) := keep (array0_4 (V9 m ρ) c hq hk hv) (W10_arr m ρ c 4)
include hq hk hv in
theorem t10 : Lines (V10 m ρ c main_v13_2) (L Q K) := keep' (array0_5 (V9 m ρ) c hq hk hv) (W10_arr m ρ c 5)

include hq in
theorem q11 : Wide (V11 m ρ c main_v4) Q := keep (q10 m ρ c hq) (W11_of m ρ c main_v4 (by decide +kernel))
include hk in
theorem k11 : Wide (V11 m ρ c main_v7) K := keep (k10 m ρ c hk) (W11_of m ρ c main_v7 (by decide +kernel))
include hv in
theorem v11 : Wide (V11 m ρ c main_v10) V := keep (v10 m ρ c hv) (W11_of m ρ c main_v10 (by decide +kernel))
include hg in
theorem g11 : Wide (V11 m ρ c main_v12) G := keep (g10 m ρ c hg) (W11_of m ρ c main_v12 (by decide +kernel))
include hq hk hv in
theorem t11 : Lines (V11 m ρ c main_v13_2) (L Q K) := keep' (t10 m ρ c hq hk hv) (W11_of m ρ c main_v13_2 (by decide +kernel))
include hq hk hv hg in
theorem d11 : Lines (V11 m ρ c main_v14_1) (D Q K V G) :=
  keep' (array1_7 (V10 m ρ) c (q10 m ρ c hq) (g10 m ρ c hg) (o10 m ρ c hq hk hv) (l10 m ρ c hq hk hv)) (W11_arr m ρ c 7)

include hq hk hv in
/-- The attention's output. -/
theorem out_attn : Wide (V12 m ρ c main_v13_0) (O Q K V) :=
  keep (keep (o10 m ρ c hq hk hv) (W11_of m ρ c main_v13_0 (by decide +kernel))) (W12_of m ρ c main_v13_0 (by decide +kernel))

include hq hk hv hg in
/-- The queries' gradient. -/
theorem out_dq : Wide (V12 m ρ c main_v14_0) (dQ Q K V G) :=
  keep (keep (array1_6 (V10 m ρ) c (q10 m ρ c hq) (k10 m ρ c hk) (v10 m ρ c hv) (g10 m ρ c hg) (o10 m ρ c hq hk hv)
    (l10 m ρ c hq hk hv)) (W11_arr m ρ c 6)) (W12_of m ρ c main_v14_0 (by decide +kernel))

include hq hk hv hg in
/-- The keys' gradient. -/
theorem out_dk : Wide (V12 m ρ c main_v15_0) (dK Q K V G) :=
  keep (array2_6 (V11 m ρ) c (q11 m ρ c hq) (k11 m ρ c hk) (v11 m ρ c hv) (g11 m ρ c hg) (t11 m ρ c hq hk hv)
    (d11 m ρ c hq hk hv hg)) (W12_arr m ρ c 6)

include hq hk hv hg in
/-- The values' gradient. -/
theorem out_dv : Wide (V12 m ρ c main_v15_1) (dV Q K G) :=
  keep (array2_7 (V11 m ρ) c (q11 m ρ c hq) (k11 m ρ c hk) (v11 m ρ c hv) (g11 m ρ c hg) (t11 m ρ c hq hk hv)
    (d11 m ρ c hq hk hv hg)) (W12_arr m ρ c 7)

end

end Cert.KernelIdeal.Values

end
-- ==== Proof.Values.Ref.lean ====
/- The reference's stages, each an array over the extended reals: the masked scores, the exponentials, the row sums, the
   probabilities, and the gradients that `jax.vjp` takes through them. -/
module

public import proofs.«01_k».proof.Proof.Gen.ReferenceIdeal.Run
public import Idealize.ShloMosaic.Lib.Pointwise

@[expose] public section

set_option maxRecDepth 16384

noncomputable section

namespace Cert.ReferenceIdeal.Stages

open Cert.ReferenceIdeal.Gen
open Idealize.ShloMosaic Idealize.ShloMosaic.TcCoe Idealize.SL.Sem

abbrev Arr (s : Shape) : Type := FVec Idealize.ShloMosaic.Ideal s .f32
abbrev Big : Type := Arr S8x8192x8192

variable (q k : Arr S8192x8x96) (v g : Arr S8192x8x64)

/-- Whether a row sees a key. -/
def seen : IVec S8x8192x8192 1 :=
  (broadcastInDim S8x8192x8192 ![0, 1, 2] bcast_S1x8192x8192_S8x8192x8192_0_1_2
    (broadcastInDim S1x8192x8192 ![1, 2] bcast_S8192x8192_S1x8192x8192_1_2
      (cmpi .sle
        (broadcastInDim S8192x8192 ![0, 1] bcast_S1x8192_S8192x8192_0_1
          (broadcastInDim S1x8192 ![1] bcast_S8192_S1x8192_1
            (Host.divsi (iotaInDim S8192 32 0) (broadcastInDim S8192 ![] bcast_S_S8192 (constantI S_ 32 64#32)))))
        (broadcastInDim S8192x8192 ![0, 1] bcast_S8192x1_S8192x8192_0_1
          (broadcastInDim S8192x1 ![0] bcast_S8192_S8192x1_0
            (Host.divsi (iotaInDim S8192 32 0) (broadcastInDim S8192 ![] bcast_S_S8192 (constantI S_ 32 64#32))))))))

/-- The scores, minus infinity at a hidden key. -/
def score : Big :=
  select seen
    (mulf (Host.dotGeneral dot_S8192x8x96_S8192x8x96_S8x8192x8192_2_2_0_0_1_1 none q k)
      (broadcastInDim S8x8192x8192 ![] bcast_S_S8x8192x8192 (constant S_ .f32 0x3DD105EC#32)))
    (broadcastInDim S8x8192x8192 ![] bcast_S_S8x8192x8192 (id (constant S_ .f32 0xFF800000#32)))

/-- The greatest score of each row. -/
def top : Arr S8x8192 :=
  Host.reduce FloatOps.maximumf (score q k) (constant S_ .f32 0xFF800000#32) reducesTo_S8x8192x8192_S8x8192_d2 h_S_

/-- A number for each row, as a column. -/
abbrev col (x : Arr S8x8192) : Arr S8x8192x1 := broadcastInDim S8x8192x1 ![0, 1] bcast_S8x8192_S8x8192x1_0_1 x

/-- A column repeated over the keys. -/
abbrev keys (x : Arr S8x8192x1) : Big := broadcastInDim S8x8192x8192 ![0, 1, 2] bcast_S8x8192x1_S8x8192x8192_0_1_2 x

/-- The exponentials of the scores, each row against its greatest. -/
def expo : Big := Host.exp (subf (score q k) (keys (col (top q k))))

/-- Their sum over the keys. -/
def total : Arr S8x8192 :=
  Host.reduceAdd (expo q k) (constant S_ .f32 0x00000000#32) reducesTo_S8x8192x8192_S8x8192_d2 h_S_

/-- The attention probabilities. -/
def prob : Big := Host.divf (expo q k) (keys (col (total q k)))

/-- The cotangent of the output, heads first. -/
abbrev cot : Arr S8x64x8192 := transpose S8x64x8192 [1, 2, 0] g transposes_S8192x8x64_S8x64x8192_1_2_0

/-- The cotangent of the probabilities. -/
def dprob : Big := Host.dotGeneral dot_S8x64x8192_S8192x8x64_S8x8192x8192_1_2_2_0_0_1 none (cot g) v

/-- What the row sums receive, before its sign. -/
def dtotal : Arr S8x8192 :=
  Host.reduceAdd
    (mulf
      (mulf (dprob v g)
        (keys (Host.divf (broadcastInDim S8x8192x1 ![] bcast_S_S8x8192x1 (constant S_ .f32 0x3F800000#32))
          (mulf (col (total q k)) (col (total q k))))))
      (expo q k))
    (constant S_ .f32 0x00000000#32) reducesTo_S8x8192x8192_S8x8192_d2 h_S_

/-- The cotangent of the row sums. -/
def dtotal' : Arr S8x8192 :=
  Host.reduceAdd (Host.negf (shapeCast _ (dtotal q k v g) shapeCasts_S8x8192_S8x8192x1)) (constant S_ .f32 0x00000000#32)
    reducesTo_S8x8192x1_S8x8192_d2 h_S_

/-- The cotangent of the products of queries and keys. -/
def dscore : Big :=
  mulf
    (select seen
      (mulf (addf (Host.divf (dprob v g) (keys (col (total q k))))
          (broadcastInDim S8x8192x8192 ![0, 1] bcast_S8x8192_S8x8192x8192_0_1 (dtotal' q k v g)))
        (expo q k))
      (broadcastInDim S8x8192x8192 ![] bcast_S_S8x8192x8192 (constant S_ .f32 0x00000000#32)))
    (broadcastInDim S8x8192x8192 ![] bcast_S_S8x8192x8192 (constant S_ .f32 0x3DD105EC#32))

/-- Heads of 64 columns, as a wide array. -/
abbrev wide64 (x : Arr S8192x8x64) : Arr S8192x1024 :=
  shapeCast _ (pad S8192x8x128 ![0, 0, 0] ![0, 0, 64] ![0, 0, 0] x (sitofp .f32 (constantI S_ 32 0#32))
    pads_S8192x8x64_S8192x8x128_000_000_0640 h_S_) shapeCasts_S8192x8x128_S8192x1024

/-- Heads of 96 columns, as a wide array. -/
abbrev wide96 (x : Arr S8192x8x96) : Arr S8192x1024 :=
  shapeCast _ (pad S8192x8x128 ![0, 0, 0] ![0, 0, 32] ![0, 0, 0] x (sitofp .f32 (constantI S_ 32 0#32))
    pads_S8192x8x96_S8192x8x128_000_000_0320 h_S_) shapeCasts_S8192x8x128_S8192x1024

/-- The attention's output. -/
def outO : Arr S8192x1024 :=
  wide64 (transpose S8192x8x64 [2, 0, 1] (Host.dotGeneral dot_S8192x8x64_S8x8192x8192_S8x64x8192_0_2_2_1_1_0 none v (prob q k))
    transposes_S8x64x8192_S8192x8x64_2_0_1)

/-- The queries' gradient, divided by the scale. -/
def outQ : Arr S8192x1024 :=
  wide96 (Host.divf (transpose S8192x8x96 [1, 0, 2]
      (Host.dotGeneral dot_S8x8192x8192_S8192x8x96_S8x8192x96_2_0_1_2_0_1 none (dscore q k v g) k) transposes_S8x8192x96_S8192x8x96_1_0_2)
    (broadcastInDim S8192x8x96 ![] bcast_S_S8192x8x96 (constant S_ .f32 0x3DD105EC#32)))

/-- The keys' gradient. -/
def outK : Arr S8192x1024 :=
  wide96 (transpose S8192x8x96 [1, 0, 2]
    (Host.dotGeneral dot_S8x8192x8192_S8192x8x96_S8x8192x96_1_0_2_2_0_1 none (dscore q k v g) q) transposes_S8x8192x96_S8192x8x96_1_0_2)

/-- The values' gradient. -/
def outV : Arr S8192x1024 :=
  wide64 (transpose S8192x8x64 [2, 0, 1] (Host.dotGeneral dot_S8x64x8192_S8x8192x8192_S8x64x8192_2_1_1_2_0_0 none (cot g) (prob q k))
    transposes_S8x64x8192_S8192x8x64_2_0_1)

variable (m : (ℓ : Loc nD τ sig) → Buf (Elt Idealize.ShloMosaic.Ideal) ℓ) (c : Dev nD)

theorem res0 : Value.res_main_v56 m c = outO (m ((c.tc : Thread nD τ).loc main_arg0)) (m ((c.tc : Thread nD τ).loc main_arg1))
    (m ((c.tc : Thread nD τ).loc main_arg2)) := rfl
theorem res1 : Value.res_main_v60 m c = outQ (m ((c.tc : Thread nD τ).loc main_arg0)) (m ((c.tc : Thread nD τ).loc main_arg1))
    (m ((c.tc : Thread nD τ).loc main_arg2)) (m ((c.tc : Thread nD τ).loc main_arg3)) := rfl
theorem res2 : Value.res_main_v62 m c = outK (m ((c.tc : Thread nD τ).loc main_arg0)) (m ((c.tc : Thread nD τ).loc main_arg1))
    (m ((c.tc : Thread nD τ).loc main_arg2)) (m ((c.tc : Thread nD τ).loc main_arg3)) := rfl
theorem res3 : Value.res_main_v64 m c = outV (m ((c.tc : Thread nD τ).loc main_arg0)) (m ((c.tc : Thread nD τ).loc main_arg1))
    (m ((c.tc : Thread nD τ).loc main_arg3)) := rfl

end Cert.ReferenceIdeal.Stages

end
-- ==== Proof.Values.RefValues.lean ====
/- What the reference computes on real arguments: the attention, and the gradients of its queries, keys and values. -/
module

public import proofs.«01_k».proof.Proof.Values.Ref
public import proofs.«01_k».proof.Proof.Values.Heads

@[expose] public section

set_option maxRecDepth 16384

noncomputable section

namespace Cert.ReferenceIdeal.Stages

open Cert.ReferenceIdeal.Gen Cert.Attn
open Idealize.ShloMosaic Idealize.ShloMosaic.TcCoe Idealize.SL.Sem
open Finset (range univ)

/-! ### The mask -/

theorem chunk : ∀ x : Fin 8192, IntOp.divsi ArithUnit.host (BitVec.ofNat 32 x.val) 64#32 = BitVec.ofNat 32 (x.val / 64) := by
  decide +kernel

theorem sle_chunk : ∀ a b : Fin 128, (IntOp.cmpi CmpIPredicate.sle (BitVec.ofNat 32 a.val) (BitVec.ofNat 32 b.val) : BitVec 1)
    = if a.val ≤ b.val then 1#1 else 0#1 := by decide +kernel

theorem minus_inf : Ideal.ofBits .f32 4286578688#32 = (⊥ : EReal) := by
  have h1 : ((4286578688#32 : BitVec 32).extractLsb' 23 8).toNat = 255 := by decide
  have h2 : ((4286578688#32 : BitVec 32).extractLsb' 0 23).toNat = 0 := by decide
  have h3 : ((4286578688#32 : BitVec 32).extractLsb' 31 1 == 1#1) = true := by decide
  simp [Ideal.ofBits, Ideal.ieee, h1, h2]

variable {q k : Arr S8192x8x96} {v g : Arr S8192x8x64} {a b x y : ℕ → ℕ → ℕ → ℝ}

theorem seen_at (h : Fin 8) (r t : Fin 8192) : seen (ix3 h r t) = if t.val / 64 ≤ r.val / 64 then 1#1 else 0#1 := by
  pointwise [seen]
  rw [chunk, chunk]
  exact sle_chunk ⟨t.val / 64, by omega⟩ ⟨r.val / 64, by omega⟩

theorem select_one (a b : EReal) : Scalar.select (1#1) a b = a := rfl
theorem select_zero (a b : EReal) : Scalar.select (0#1) a b = b := rfl

/-! ### Steps on reals -/

theorem exp_shift (s M : ℝ) : Real.exp (s - M) = Real.exp (-M) * Real.exp s := by
  rw [← Real.exp_add]; congr 1; ring

theorem prob_step (e w A : ℝ) (he : e ≠ 0) : e * w / (e * A) = w / A := mul_div_mul_left w A he

theorem dtotal_step (z e w A : ℝ) (he : e ≠ 0) (hA : A ≠ 0) :
    z * (1 / (e * A * (e * A))) * (e * w) = z * (w / A) / (e * A) := by
  field_simp

theorem dscore_step (z e w A D s : ℝ) (he : e ≠ 0) (hA : A ≠ 0) :
    (z / (e * A) + -(D / (e * A))) * (e * w) * s = w / A * (z - D) * s := by
  field_simp
  ring

/-! ### The values -/

section

variable (hq : ∀ r h d, q (ix3 r h d) = ((a r.val h.val d.val : ℝ) : EReal)) (hk : ∀ r h d, k (ix3 r h d) = ((b r.val h.val d.val : ℝ) : EReal))
  (hv : ∀ r h d, v (ix3 r h d) = ((x r.val h.val d.val : ℝ) : EReal)) (hg : ∀ r h d, g (ix3 r h d) = ((y r.val h.val d.val : ℝ) : EReal))

/-- The queries as the kernel has them: scaled, and 128 columns to a head. -/
abbrev sq (a : ℕ → ℕ → ℕ → ℝ) : ℕ → ℕ → ℝ := padded 96 fun r h d => a r h d * scale

include hq hk in
theorem score_at (h : Fin 8) (r t : Fin 8192) :
    score q k (ix3 h r t) = if t.val / 64 ≤ r.val / 64 then ((S (sq a) (padded 96 b) h.val r.val t.val : ℝ) : EReal) else ⊥ := by
  have hs := seen_at h r t
  have e : ∑ d : Fin 96, q (ix3 r h d) * k (ix3 t h d) = ((∑ d ∈ range 96, a r.val h.val d * b t.val h.val d : ℝ) : EReal) := by
    rw [← coe_sum_fin 96 fun d => a r.val h.val d * b t.val h.val d]
    exact Finset.sum_congr rfl fun d _ => by rw [hq, hk, EReal.coe_mul]
  generalize hz : seen = z at hs
  pointwise [score]
  rw [hz, hs]
  split_ifs with hc
  · show (∑ d : Fin 96, q (ix3 r h d) * k (ix3 t h d)) * _ = _
    rw [e, scale_bits, S_scaled, EReal.coe_mul]
  · exact minus_inf

include hq hk in
/-- Each row has a greatest score, a real number. -/
theorem top_real (h : Fin 8) (r : Fin 8192) : ∃ M : ℝ, top q k (ix2 h r) = (M : EReal) := by
  pointwise [top]
  rw [minus_inf]
  refine fold_max_real _ (fun t => ?_) ⟨0, by norm_num⟩ ?_
  · rw [score_at hq hk]
    split_ifs
    · exact EReal.coe_ne_top _
    · exact bot_ne_top
  · rw [score_at hq hk, if_pos (show 0 / 64 ≤ r.val / 64 by omega)]
    exact EReal.coe_ne_bot _

include hq hk in
theorem expo_at (h : Fin 8) (r t : Fin 8192) (M : ℝ) (hM : top q k (ix2 h r) = (M : EReal)) :
    expo q k (ix3 h r t) = ((Real.exp (-M) * W (sq a) (padded 96 b) h.val r.val t.val : ℝ) : EReal) := by
  pointwise [expo]
  rw [hM, score_at hq hk]
  unfold W
  split_ifs
  · rw [← EReal.coe_sub, Ideal.exp_coe, exp_shift]
  · rw [EReal.bot_sub, mul_zero]
    simp

include hq hk in
theorem total_at (h : Fin 8) (r : Fin 8192) (M : ℝ) (hM : top q k (ix2 h r) = (M : EReal)) :
    total q k (ix2 h r) = ((Real.exp (-M) * A (sq a) (padded 96 b) h.val r.val : ℝ) : EReal) := by
  pointwise [total]
  refine (Finset.sum_congr rfl fun t _ => expo_at hq hk h r t M hM).trans ?_
  refine (coe_sum_fin 8192 fun t => Real.exp (-M) * W (sq a) (padded 96 b) h.val r.val t).trans ?_
  rw [← Finset.mul_sum]
  rfl

include hq hk in
/-- The attention probabilities. -/
theorem prob_at (h : Fin 8) (r t : Fin 8192) :
    prob q k (ix3 h r t) = ((P (sq a) (padded 96 b) h.val r.val t.val : ℝ) : EReal) := by
  obtain ⟨M, hM⟩ := top_real hq hk h r
  have hA := (A_pos (sq a) (padded 96 b) h.val r.val).ne'
  have hE := (Real.exp_pos (-M)).ne'
  pointwise [prob]
  rw [expo_at hq hk h r t M hM, total_at hq hk h r M hM, div_coe _ _ (mul_ne_zero hE hA)]
  unfold P
  rw [prob_step _ _ _ hE]

include hv hg in
theorem dprob_at (h : Fin 8) (r t : Fin 8192) :
    dprob v g (ix3 h r t) = ((S (padded 64 y) (padded 64 x) h.val r.val t.val : ℝ) : EReal) := by
  pointwise [dprob]
  rw [S_padded 64 (by norm_num), ← coe_sum_fin 64 fun d => y r.val h.val d * x t.val h.val d]
  exact Finset.sum_congr rfl fun d _ => by rw [hg, hv, EReal.coe_mul]

include hq hk hv hg in
theorem dtotal_at (h : Fin 8) (r : Fin 8192) (M : ℝ) (hM : top q k (ix2 h r) = (M : EReal)) :
    dtotal q k v g (ix2 h r) = ((D (sq a) (padded 96 b) (padded 64 x) (padded 64 y) h.val r.val
      / (Real.exp (-M) * A (sq a) (padded 96 b) h.val r.val) : ℝ) : EReal) := by
  have hA := (A_pos (sq a) (padded 96 b) h.val r.val).ne'
  have hE := (Real.exp_pos (-M)).ne'
  pointwise [dtotal]
  rw [total_at hq hk h r M hM, ← EReal.coe_mul, ← EReal.coe_one, div_coe _ _ (mul_ne_zero (mul_ne_zero hE hA) (mul_ne_zero hE hA))]
  refine (Finset.sum_congr rfl fun t _ => ?_).trans ((coe_sum_fin 8192 fun t =>
    S (padded 64 y) (padded 64 x) h.val r.val t * P (sq a) (padded 96 b) h.val r.val t
      / (Real.exp (-M) * A (sq a) (padded 96 b) h.val r.val)).trans ?_)
  · rw [dprob_at hv hg, expo_at hq hk h r t M hM, ← EReal.coe_mul, ← EReal.coe_mul]
    unfold P
    rw [dtotal_step _ _ _ _ hE hA]
  · rw [D_keys, Finset.sum_div]

include hq hk hv hg in
/-- The cotangent of the products of queries and keys. -/
theorem dscore_at (h : Fin 8) (r t : Fin 8192) :
    dscore q k v g (ix3 h r t)
      = ((dS (sq a) (padded 96 b) (padded 64 x) (padded 64 y) h.val r.val t.val * scale : ℝ) : EReal) := by
  obtain ⟨M, hM⟩ := top_real hq hk h r
  have hA := (A_pos (sq a) (padded 96 b) h.val r.val).ne'
  have hE := (Real.exp_pos (-M)).ne'
  have ht : dtotal' q k v g (ix2 h r) = ((-(D (sq a) (padded 96 b) (padded 64 x) (padded 64 y) h.val r.val
      / (Real.exp (-M) * A (sq a) (padded 96 b) h.val r.val)) : ℝ) : EReal) := by
    pointwise [dtotal']
    rw [Fin.sum_univ_one, dtotal_at hq hk hv hg h r M hM, EReal.coe_neg]
  have hs := seen_at h r t
  generalize hz : seen = z at hs
  pointwise [dscore]
  rw [hz, hs, ht, dprob_at hv hg, expo_at hq hk h r t M hM, total_at hq hk h r M hM, div_coe _ _ (mul_ne_zero hE hA), scale_bits,
    ← EReal.coe_add, ← EReal.coe_mul]
  split_ifs with hc
  · rw [select_one, ← EReal.coe_mul]
    unfold dS P
    rw [dscore_step _ _ _ _ _ _ hE hA]
  · rw [select_zero]
    unfold dS
    rw [P_hidden _ _ _ _ _ hc]
    simp

end

end Cert.ReferenceIdeal.Stages

end
-- ==== Proof.Values.RefOut.lean ====
/- The reference's four results on real arguments, column by column. -/
module

public import proofs.«01_k».proof.Proof.Values.RefValues

@[expose] public section

set_option maxRecDepth 16384

noncomputable section

namespace Cert.ReferenceIdeal.Stages

open Cert.ReferenceIdeal.Gen Cert.Attn
open Idealize.ShloMosaic Idealize.ShloMosaic.TcCoe Idealize.SL.Sem
open Finset (range univ)

theorem zero_word (φ : FTy) : (FloatOps.sitofp φ (0#32) : Idealize.ShloMosaic.Ideal φ) = ((0 : ℝ) : EReal) := by
  show (((0#32 : BitVec 32).toInt : ℝ) : EReal) = _
  simp

/-- A sum of products of reals. -/
theorem sum_products (n : ℕ) (f₁ f₂ : Fin n → EReal) (g₁ g₂ : ℕ → ℝ) (h₁ : ∀ t, f₁ t = ((g₁ t.val : ℝ) : EReal))
    (h₂ : ∀ t, f₂ t = ((g₂ t.val : ℝ) : EReal)) :
    ∑ t, f₁ t * f₂ t = ((∑ t ∈ range n, g₁ t * g₂ t : ℝ) : EReal) := by
  refine (Finset.sum_congr rfl fun t _ => ?_).trans (coe_sum_fin n fun t => g₁ t * g₂ t)
  rw [h₁, h₂, EReal.coe_mul]

theorem padded_in {n : ℕ} {x : ℕ → ℕ → ℕ → ℝ} {r c : ℕ} (h : c % 128 < n) : padded n x r c = x r (c / 128) (c % 128) := if_pos h
theorem padded_out {n : ℕ} {x : ℕ → ℕ → ℕ → ℝ} {r c : ℕ} (h : ¬ c % 128 < n) : padded n x r c = 0 := if_neg h

/-! ### The same sums, as the kernel's arrays have them -/

theorem O_in {Q K V : ℕ → ℕ → ℝ} {r c : ℕ} {u : ℕ → ℝ} (h : ∀ t, V t c = u t) :
    ∑ t ∈ range 8192, u t * P Q K (c / 128) r t = O Q K V r c := by
  unfold O P
  rw [Finset.sum_div]
  refine Finset.sum_congr rfl fun t _ => ?_
  rw [h t]
  ring

theorem O_out {Q K V : ℕ → ℕ → ℝ} {r c : ℕ} (h : ∀ t, V t c = 0) : O Q K V r c = 0 := by
  unfold O
  rw [Finset.sum_eq_zero fun t _ => by rw [h t, mul_zero], zero_div]

theorem dV_in {Q K G : ℕ → ℕ → ℝ} {t c : ℕ} {u : ℕ → ℝ} (h : ∀ r, G r c = u r) :
    ∑ r ∈ range 8192, u r * P Q K (c / 128) r t = dV Q K G t c := by
  unfold dV
  refine Finset.sum_congr rfl fun r _ => ?_
  rw [h r, mul_comm]

theorem dV_out {Q K G : ℕ → ℕ → ℝ} {t c : ℕ} (h : ∀ r, G r c = 0) : dV Q K G t c = 0 := by
  unfold dV
  exact Finset.sum_eq_zero fun r _ => by rw [h r, mul_zero]

theorem dQ_in {Q K V G : ℕ → ℕ → ℝ} {r c : ℕ} {u : ℕ → ℝ} (h : ∀ t, K t c = u t) :
    (∑ t ∈ range 8192, dS Q K V G (c / 128) r t * scale * u t) / scale = dQ Q K V G r c := by
  unfold dQ
  rw [Finset.sum_div]
  refine Finset.sum_congr rfl fun t _ => ?_
  rw [h t, mul_right_comm, mul_div_cancel_right₀ _ scale_pos.ne']

theorem dQ_out {Q K V G : ℕ → ℕ → ℝ} {r c : ℕ} (h : ∀ t, K t c = 0) : dQ Q K V G r c = 0 := by
  unfold dQ
  exact Finset.sum_eq_zero fun t _ => by rw [h t, mul_zero]

theorem dK_in {Q K V G : ℕ → ℕ → ℝ} {t c : ℕ} {u : ℕ → ℝ} (h : ∀ r, Q r c = u r * scale) :
    ∑ r ∈ range 8192, dS Q K V G (c / 128) r t * scale * u r = dK Q K V G t c := by
  unfold dK
  refine Finset.sum_congr rfl fun r _ => ?_
  rw [h r]
  ring

theorem dK_out {Q K V G : ℕ → ℕ → ℝ} {t c : ℕ} (h : ∀ r, Q r c = 0) : dK Q K V G t c = 0 := by
  unfold dK
  exact Finset.sum_eq_zero fun r _ => by rw [h r, mul_zero]

/-! ### The results -/

variable {q k : Arr S8192x8x96} {v g : Arr S8192x8x64} {a b x y : ℕ → ℕ → ℕ → ℝ}

section

variable (hq : ∀ r h d, q (ix3 r h d) = ((a r.val h.val d.val : ℝ) : EReal)) (hk : ∀ r h d, k (ix3 r h d) = ((b r.val h.val d.val : ℝ) : EReal))
  (hv : ∀ r h d, v (ix3 r h d) = ((x r.val h.val d.val : ℝ) : EReal)) (hg : ∀ r h d, g (ix3 r h d) = ((y r.val h.val d.val : ℝ) : EReal))
  (i : S8192x1024.Idx)

include hq hk hv in
theorem outO_at : outO q k v i = ((O (sq a) (padded 96 b) (padded 64 x) (i 0).val (i 1).val : ℝ) : EReal) := by
  have h1 : (i 1).val < 1024 := (i 1).isLt
  have h8 : (i 1).val / 128 < 8 := by omega
  pointwise [outO]
  by_cases h : (i 1).val % 128 < 64
  · rw [dif_pos ⟨h8, h⟩]
    have e := O_in (Q := sq a) (K := padded 96 b) (V := padded 64 x) (r := (i 0).val) (c := (i 1).val) (u := fun t => x t ((i 1).val / 128) ((i 1).val % 128))
      fun t => padded_in h
    refine Eq.trans ?_ (congrArg Real.toEReal e)
    exact sum_products 8192 _ _ (fun t => x t ((i 1).val / 128) ((i 1).val % 128))
      (fun t => P (sq a) (padded 96 b) ((i 1).val / 128) (i 0).val t) (fun t => hv _ _ _) fun t => prob_at hq hk _ _ _
  · rw [dif_neg fun e => h e.2]
    have e := O_out (Q := sq a) (K := padded 96 b) (V := padded 64 x) (r := (i 0).val) (c := (i 1).val) fun t => padded_out h
    exact (zero_word _).trans (congrArg Real.toEReal e.symm)

include hq hk hg in
theorem outV_at : outV q k g i = ((dV (sq a) (padded 96 b) (padded 64 y) (i 0).val (i 1).val : ℝ) : EReal) := by
  have h1 : (i 1).val < 1024 := (i 1).isLt
  have h8 : (i 1).val / 128 < 8 := by omega
  pointwise [outV]
  by_cases h : (i 1).val % 128 < 64
  · rw [dif_pos ⟨h8, h⟩]
    have e := dV_in (Q := sq a) (K := padded 96 b) (G := padded 64 y) (t := (i 0).val) (c := (i 1).val) (u := fun r => y r ((i 1).val / 128) ((i 1).val % 128))
      fun r => padded_in h
    refine Eq.trans ?_ (congrArg Real.toEReal e)
    exact sum_products 8192 _ _ (fun r => y r ((i 1).val / 128) ((i 1).val % 128))
      (fun r => P (sq a) (padded 96 b) ((i 1).val / 128) r (i 0).val) (fun r => hg _ _ _) fun r => prob_at hq hk _ _ _
  · rw [dif_neg fun e => h e.2]
    have e := dV_out (Q := sq a) (K := padded 96 b) (G := padded 64 y) (t := (i 0).val) (c := (i 1).val) fun t => padded_out h
    exact (zero_word _).trans (congrArg Real.toEReal e.symm)

include hq hk hv hg in
theorem outQ_at : outQ q k v g i
    = ((dQ (sq a) (padded 96 b) (padded 64 x) (padded 64 y) (i 0).val (i 1).val : ℝ) : EReal) := by
  have h1 : (i 1).val < 1024 := (i 1).isLt
  have h8 : (i 1).val / 128 < 8 := by omega
  pointwise [outQ]
  by_cases h : (i 1).val % 128 < 96
  · refine (dif_pos ⟨h8, h⟩).trans ?_
    have e := dQ_in (Q := sq a) (K := padded 96 b) (V := padded 64 x) (G := padded 64 y) (r := (i 0).val) (c := (i 1).val)
      (u := fun t => b t ((i 1).val / 128) ((i 1).val % 128)) fun t => padded_in h
    refine Eq.trans (Eq.trans ?_ (div_coe _ _ scale_pos.ne')) (congrArg Real.toEReal e)
    refine congrArg₂ Ideal.div ?_ scale_bits
    exact sum_products 8192 _ _
      (fun t => dS (sq a) (padded 96 b) (padded 64 x) (padded 64 y) ((i 1).val / 128) (i 0).val t * scale)
      (fun t => b t ((i 1).val / 128) ((i 1).val % 128)) (fun t => dscore_at hq hk hv hg _ _ _) fun t => hk _ _ _
  · rw [dif_neg fun e => h e.2]
    have e := dQ_out (Q := sq a) (K := padded 96 b) (V := padded 64 x) (G := padded 64 y) (r := (i 0).val) (c := (i 1).val) fun t => padded_out h
    exact (zero_word _).trans (congrArg Real.toEReal e.symm)

include hq hk hv hg in
theorem outK_at : outK q k v g i
    = ((dK (sq a) (padded 96 b) (padded 64 x) (padded 64 y) (i 0).val (i 1).val : ℝ) : EReal) := by
  have h1 : (i 1).val < 1024 := (i 1).isLt
  have h8 : (i 1).val / 128 < 8 := by omega
  pointwise [outK]
  by_cases h : (i 1).val % 128 < 96
  · rw [dif_pos ⟨h8, h⟩]
    have e := dK_in (Q := sq a) (K := padded 96 b) (V := padded 64 x) (G := padded 64 y) (t := (i 0).val) (c := (i 1).val)
      (u := fun r => a r ((i 1).val / 128) ((i 1).val % 128)) fun r => padded_in h
    refine Eq.trans ?_ (congrArg Real.toEReal e)
    exact sum_products 8192 _ _
      (fun r => dS (sq a) (padded 96 b) (padded 64 x) (padded 64 y) ((i 1).val / 128) r (i 0).val * scale)
      (fun r => a r ((i 1).val / 128) ((i 1).val % 128)) (fun r => dscore_at hq hk hv hg _ _ _) fun r => hq _ _ _
  · rw [dif_neg fun e => h e.2]
    have e := dK_out (Q := sq a) (K := padded 96 b) (V := padded 64 x) (G := padded 64 y) (t := (i 0).val) (c := (i 1).val) fun t => padded_out h
    exact (zero_word _).trans (congrArg Real.toEReal e.symm)

end

end Cert.ReferenceIdeal.Stages

end
-- ==== Proof.Values.Equation.lean ====
/- The two programs' results on the same finite arguments are the same arrays. -/
module

public import proofs.«01_k».proof.Defs
public import proofs.«01_k».proof.Proof.Gen.Pre_entries_finite
public import proofs.«01_k».proof.Proof.Values.Finite
public import proofs.«01_k».proof.Proof.Values.Result
public import proofs.«01_k».proof.Proof.Values.RefOut

@[expose] public section

set_option maxRecDepth 16384

noncomputable section

namespace Cert.Equation

open Idealize.ShloMosaic Idealize.ShloMosaic.TcCoe Idealize.SL.Sem Cert.Attn Cert.Finite
open Cert.KernelIdeal.Values Cert.ReferenceIdeal.Stages

abbrev KMem : Type := (ℓ : Loc KernelIdeal.nD KernelIdeal.τ KernelIdeal.sig) → Buf (Elt Idealize.ShloMosaic.Ideal) ℓ

variable (m : KMem) (ρ : Dev KernelIdeal.nD → PrngReg) (c : Dev KernelIdeal.nD)

/-! ### The arguments as arrays of extended reals, and as tables of reals -/

abbrev argQ : KernelIdeal.S8192x8x96.Idx → EReal := m ((c.tc : Thread KernelIdeal.nD KernelIdeal.τ).loc KernelIdeal.main_arg0)
abbrev argK : KernelIdeal.S8192x8x96.Idx → EReal := m ((c.tc : Thread KernelIdeal.nD KernelIdeal.τ).loc KernelIdeal.main_arg1)
abbrev argV : KernelIdeal.S8192x8x64.Idx → EReal := m ((c.tc : Thread KernelIdeal.nD KernelIdeal.τ).loc KernelIdeal.main_arg2)
abbrev argG : KernelIdeal.S8192x8x64.Idx → EReal := m ((c.tc : Thread KernelIdeal.nD KernelIdeal.τ).loc KernelIdeal.main_arg3)

section

variable (hp : Pre_KernelIdeal_entries_finite (hPre_entries_finite := Pre_entries_finite.Gen.facts) m)

include hp

theorem table_q (r : Fin 8192) (h : Fin 8) (d : Fin 96) : argQ m c (ix3 r h d) = ((table (argQ m c) r.val h.val d.val : ℝ) : EReal) := by
  rw [table_at]
  exact real_q (hp c) r h d
theorem table_k (r : Fin 8192) (h : Fin 8) (d : Fin 96) : argK m c (ix3 r h d) = ((table (argK m c) r.val h.val d.val : ℝ) : EReal) := by
  rw [table_at]
  exact real_k (hp c) r h d
theorem table_v (r : Fin 8192) (h : Fin 8) (d : Fin 64) : argV m c (ix3 r h d) = ((table (argV m c) r.val h.val d.val : ℝ) : EReal) := by
  rw [table_at]
  exact real_v (hp c) r h d
theorem table_g (r : Fin 8192) (h : Fin 8) (d : Fin 64) : argG m c (ix3 r h d) = ((table (argG m c) r.val h.val d.val : ℝ) : EReal) := by
  rw [table_at]
  exact real_g (hp c) r h d

theorem wide_q : Wide (KernelIdeal.Run.V9 m ρ c KernelIdeal.main_v4) (sq (table (argQ m c))) :=
  host_q m ρ c fun i => (congrArg (argQ m c) (ix3_eta i).symm).trans (table_q m c hp (i 0) (i 1) (i 2))
theorem wide_k : Wide (KernelIdeal.Run.V9 m ρ c KernelIdeal.main_v7) (padded 96 (table (argK m c))) :=
  host_k m ρ c fun i => (congrArg (argK m c) (ix3_eta i).symm).trans (table_k m c hp (i 0) (i 1) (i 2))
theorem wide_v : Wide (KernelIdeal.Run.V9 m ρ c KernelIdeal.main_v10) (padded 64 (table (argV m c))) :=
  host_v m ρ c fun i => (congrArg (argV m c) (ix3_eta i).symm).trans (table_v m c hp (i 0) (i 1) (i 2))
theorem wide_g : Wide (KernelIdeal.Run.V9 m ρ c KernelIdeal.main_v12) (padded 64 (table (argG m c))) :=
  host_g m ρ c fun i => (congrArg (argG m c) (ix3_eta i).symm).trans (table_g m c hp (i 0) (i 1) (i 2))

/-- The attention's output. -/
theorem equal_o : outO (argQ m c) (argK m c) (argV m c) = KernelIdeal.Run.V12 m ρ c KernelIdeal.main_v13_0 :=
  funext fun i => (outO_at (table_q m c hp) (table_k m c hp) (table_v m c hp) i).trans
    (out_attn m ρ c (wide_q m ρ c hp) (wide_k m ρ c hp) (wide_v m ρ c hp) i).symm

/-- The gradient of the scaled queries. -/
theorem equal_dq : outQ (argQ m c) (argK m c) (argV m c) (argG m c) = KernelIdeal.Run.V12 m ρ c KernelIdeal.main_v14_0 :=
  funext fun i => (outQ_at (table_q m c hp) (table_k m c hp) (table_v m c hp) (table_g m c hp) i).trans
    (out_dq m ρ c (wide_q m ρ c hp) (wide_k m ρ c hp) (wide_v m ρ c hp) (wide_g m ρ c hp) i).symm

/-- The keys' gradient. -/
theorem equal_dk : outK (argQ m c) (argK m c) (argV m c) (argG m c) = KernelIdeal.Run.V12 m ρ c KernelIdeal.main_v15_0 :=
  funext fun i => (outK_at (table_q m c hp) (table_k m c hp) (table_v m c hp) (table_g m c hp) i).trans
    (out_dk m ρ c (wide_q m ρ c hp) (wide_k m ρ c hp) (wide_v m ρ c hp) (wide_g m ρ c hp) i).symm

/-- The values' gradient. -/
theorem equal_dv : outV (argQ m c) (argK m c) (argG m c) = KernelIdeal.Run.V12 m ρ c KernelIdeal.main_v15_1 :=
  funext fun i => (outV_at (table_q m c hp) (table_k m c hp) (table_g m c hp) i).trans
    (out_dv m ρ c (wide_q m ρ c hp) (wide_k m ρ c hp) (wide_v m ρ c hp) (wide_g m ρ c hp) i).symm

end

/-! ### The claim -/

theorem algebraic : algebraic_KernelIdeal_ReferenceIdeal_pre_entries_finite (hKernelIdeal := KernelIdeal.Gen.facts)
    (hReferenceIdeal := ReferenceIdeal.Gen.facts) (hPre_entries_finite := Pre_entries_finite.Gen.facts) := by
  intro m ρ m' ρ' hp ha
  refine ⟨fun c => KernelIdeal.Run.V12 m ρ c KernelIdeal.main_v13_0, fun c => KernelIdeal.Run.V12 m ρ c KernelIdeal.main_v14_0,
    fun c => KernelIdeal.Run.V12 m ρ c KernelIdeal.main_v15_0, fun c => KernelIdeal.Run.V12 m ρ c KernelIdeal.main_v15_1, ?_, ?_⟩
  · refine (θ_run _ _ _).mono ?_ (KernelIdeal.Run.ends m ρ)
    intro r h c
    exact ⟨h.1 c _ (KernelIdeal.Run.mem_uc KernelIdeal.main_v13_0 (by decide)),
      h.1 c _ (KernelIdeal.Run.mem_uc KernelIdeal.main_v14_0 (by decide)),
      h.1 c _ (KernelIdeal.Run.mem_uc KernelIdeal.main_v15_0 (by decide)),
      h.1 c _ (KernelIdeal.Run.mem_uc KernelIdeal.main_v15_1 (by decide)),
      (h.1 c _ (KernelIdeal.Run.mem_uc KernelIdeal.main_arg0 (by decide))).trans (KernelIdeal.Run.W12_main_arg0 m ρ c),
      (h.1 c _ (KernelIdeal.Run.mem_uc KernelIdeal.main_arg1 (by decide))).trans (KernelIdeal.Run.W12_main_arg1 m ρ c),
      (h.1 c _ (KernelIdeal.Run.mem_uc KernelIdeal.main_arg2 (by decide))).trans (KernelIdeal.Run.W12_main_arg2 m ρ c),
      (h.1 c _ (KernelIdeal.Run.mem_uc KernelIdeal.main_arg3 (by decide))).trans (KernelIdeal.Run.W12_main_arg3 m ρ c)⟩
  · refine (θ_run _ _ _).mono ?_ (ReferenceIdeal.Value.run m' ρ')
    intro r h c
    obtain ⟨h0, h1, h2, h3, hrest⟩ := h c
    obtain ⟨a0, a1, a2, a3⟩ := ha c
    refine ⟨h0.trans ?_, h1.trans ?_, h2.trans ?_, h3.trans ?_, hrest⟩
    · rw [res0, a0, a1, a2]
      exact equal_o m ρ c hp
    · rw [res1, a0, a1, a2, a3]
      exact equal_dq m ρ c hp
    · rw [res2, a0, a1, a2, a3]
      exact equal_dk m ρ c hp
    · rw [res3, a0, a1, a3]
      exact equal_dv m ρ c hp

end Cert.Equation

end
-- ==== Proof.Products.Sums.lean ====
/- Products of matrices over the extended reals as sums over the natural numbers: the cells of an array, columns with gaps, and
   sums taken a block at a time. No entry need be finite: only the order and the grouping of a sum change, and a product
   with a padding zero is zero. -/
module

public import Idealize.ShloMosaic.PureOps.Ideal
public import Idealize.ShloMosaic.Lib.ValueIdx
public import proofs.«01_k».proof.Defs
public import Idealize.ShloMosaic.Lib.Pipeline.ValueKit.Geometry
public import Idealize.ShloMosaic.Lib.Pipeline.ValueKit.Tiles
public import Idealize.ShloMosaic.Lib.StableHlo.Run
public import Idealize.ShloMosaic.Lib.Pointwise
public import Idealize.ShloMosaic.Lib.Claim
public import Mathlib.Algebra.BigOperators.Fin
public import Mathlib.Algebra.BigOperators.Intervals

@[expose] public section

noncomputable section

namespace Cert.Products

open Idealize.ShloMosaic Finset

/-- The entry of a matrix in row `i` and column `j`, zero outside of it. -/
def cell {a b : ℕ} (x : (⟨2, ![a, b]⟩ : Shape).Idx → EReal) (i j : ℕ) : EReal :=
  if h : i < a ∧ j < b then x (ix2 ⟨i, h.1⟩ ⟨j, h.2⟩) else 0

theorem cell_fin {a b : ℕ} (x : (⟨2, ![a, b]⟩ : Shape).Idx → EReal) (i : Fin a) (j : Fin b) : cell x i.val j.val = x (ix2 i j) :=
  dif_pos ⟨i.isLt, j.isLt⟩

/-- A row whose pieces of 704 entries are each followed by 64 zeros. -/
def gap (f : ℕ → EReal) (j : ℕ) : EReal := if j % 768 < 704 then f (704 * (j / 768) + j % 768) else 0

/-- The matrix holds the table `φ`. -/
def Holds {a b : ℕ} (x : (⟨2, ![a, b]⟩ : Shape).Idx → EReal) (φ : ℕ → ℕ → EReal) : Prop :=
  ∀ i : (⟨2, ![a, b]⟩ : Shape).Idx, x i = φ (i 0).val (i 1).val

theorem holds_cell {a b : ℕ} (x : (⟨2, ![a, b]⟩ : Shape).Idx → EReal) : Holds x (cell x) := fun i =>
  (congrArg x (ix2_eta i).symm).trans (cell_fin x (i 0) (i 1)).symm

/-- Terms with zeros in the gaps add up to the terms without the gaps. -/
theorem sum_gap (f : ℕ → EReal) (n : ℕ) : ∑ j ∈ range (768 * n), gap f j = ∑ j ∈ range (704 * n), f j := by
  induction n with
  | zero => rfl
  | succ n ih =>
    rw [Nat.mul_succ, Nat.mul_succ, sum_range_add, sum_range_add, ih]
    congr 1
    rw [show (768 : ℕ) = 704 + 64 from rfl, sum_range_add]
    have h0 : ∑ x ∈ range 64, gap f ((704 + 64) * n + (704 + x)) = 0 := sum_eq_zero fun x hx => by
      have := mem_range.mp hx
      exact if_neg (by omega)
    rw [h0, add_zero]
    refine sum_congr rfl fun x hx => ?_
    have := mem_range.mp hx
    refine (if_pos (by omega)).trans (congrArg f ?_)
    omega

theorem gap_mul (f g : ℕ → EReal) (j : ℕ) : gap f j * gap g j = gap (fun k => f k * g k) j := by
  unfold gap
  by_cases h : j % 768 < 704
  · rw [if_pos h, if_pos h, if_pos h]
  · rw [if_neg h, if_neg h, if_neg h, mul_zero]

theorem gap_sum {n : ℕ} (f : ℕ → ℕ → EReal) (g : ℕ → EReal) (j : ℕ) :
    ∑ k ∈ range n, g k * gap (f k) j = gap (fun i => ∑ k ∈ range n, g k * f k i) j := by
  unfold gap
  by_cases h : j % 768 < 704
  · simp only [if_pos h]
  · simp only [if_neg h, mul_zero, sum_const_zero]

theorem gap_sum' {n : ℕ} (f : ℕ → ℕ → EReal) (g : ℕ → EReal) (j : ℕ) :
    ∑ k ∈ range n, gap (f k) j * g k = gap (fun i => ∑ k ∈ range n, f k i * g k) j := by
  unfold gap
  by_cases h : j % 768 < 704
  · simp only [if_pos h]
  · simp only [if_neg h, zero_mul, sum_const_zero]

/-- A padded array read at a column: the argument's entry, or the padding. -/
theorem gap_padded {a : ℕ} (x : (⟨2, ![a, 2816]⟩ : Shape).Idx → EReal) (i : Fin a) {j : ℕ} (hj : j < 3072) {z : EReal} (hz : z = 0) :
    (if h : j / 768 < 4 ∧ j % 768 < 704 then x (ix2 i ⟨j / 768 * 704 + j % 768, by omega⟩) else z) = gap (cell x i.val) j := by
  unfold gap
  by_cases h : j % 768 < 704
  · refine (dif_pos ⟨by omega, h⟩).trans (Eq.trans ?_ (if_pos h).symm)
    refine (cell_fin x i _).symm.trans (congrArg (cell x i.val) ?_)
    show j / 768 * 704 + j % 768 = _
    omega
  · exact (dif_neg fun e => h e.2).trans (hz.trans (if_neg h).symm)

/-- The sum of `n` blocks of `b` terms and of one more. -/
theorem sum_block (b : ℕ) (f : ℕ → EReal) (n : ℕ) (g : Fin b → EReal) (h : ∀ x : Fin b, g x = f (b * n + x.val)) :
    ∑ k ∈ range (b * n), f k + ∑ x : Fin b, g x = ∑ k ∈ range (b * (n + 1)), f k := by
  rw [Nat.mul_succ, sum_range_add, sum_congr rfl fun x _ => h x, sum_range fun x => f (b * n + x)]

/-- The sum of the first block of `b` terms. -/
theorem sum_first (b : ℕ) (f : ℕ → EReal) (g : Fin b → EReal) (h : ∀ x : Fin b, g x = f x.val) :
    ∑ x : Fin b, g x = ∑ k ∈ range b, f k := by
  rw [sum_congr rfl fun x _ => h x, sum_range]

/-- A sum over a row of which only the second half counts. -/
theorem sum_second (f : ℕ → EReal) (g : Fin 5632 → EReal) (h0 : ∀ x : Fin 5632, x.val < 2816 → g x = 0)
    (h1 : ∀ x : Fin 5632, ∀ k : ℕ, x.val = 2816 + k → g x = f k) : ∑ x : Fin 5632, g x = ∑ k ∈ range 2816, f k := by
  refine (Fin.sum_univ_add (a := 2816) (b := 2816) g).trans ?_
  rw [sum_eq_zero fun x _ => h0 _ x.isLt, zero_add]
  exact sum_first 2816 f _ fun x => h1 _ x.val rfl

/-- The integer zero, converted. -/
theorem zero_word (φ : FTy) : (FloatOps.sitofp φ (0#32) : Ideal φ) = (0 : EReal) := by
  show (((0#32 : BitVec 32).toInt : ℝ) : EReal) = _
  simp

/-- An entry of a matrix, its place given by numbers. -/
theorem cell_eq {a b : ℕ} (x : (⟨2, ![a, b]⟩ : Shape).Idx → EReal) (r : Fin a) (s : Fin b) {i j : ℕ} (hi : r.val = i) (hj : s.val = j) :
    x (ix2 r s) = cell x i j := by
  subst hi hj
  exact (cell_fin x r s).symm

/-- A value given in the pieces and zero after each of them, the place given by the piece and the column in it. -/
theorem gap_piece (f : ℕ → EReal) {s j : ℕ} (hj : j < 768) {z : EReal} (hz : z = 0) (g : j < 704 → EReal)
    (hg : ∀ h, g h = f (704 * s + j)) : (if h : j < 704 then g h else z) = gap f (768 * s + j) := by
  have e1 : (768 * s + j) % 768 = j := by omega
  have e2 : (768 * s + j) / 768 = s := by omega
  unfold gap
  rw [e1, e2]
  by_cases h : j < 704
  · exact (dif_pos h).trans ((hg h).trans (if_pos h).symm)
  · exact (dif_neg h).trans (hz.trans (if_neg h).symm)

/-- The same, the place given as one column. -/
theorem gap_column (f : ℕ → EReal) {j : ℕ} (hj : j < 3072) {z : EReal} (hz : z = 0) (g : j / 768 < 4 ∧ j % 768 < 704 → EReal)
    (hg : ∀ h, g h = f (704 * (j / 768) + j % 768)) : (if h : j / 768 < 4 ∧ j % 768 < 704 then g h else z) = gap f j := by
  unfold gap
  by_cases h : j % 768 < 704
  · exact (dif_pos ⟨by omega, h⟩).trans ((hg ⟨by omega, h⟩).trans (if_pos h).symm)
  · exact (dif_neg fun e => h e.2).trans (hz.trans (if_neg h).symm)

/-- The second half of a row with gaps. -/
theorem gap_half (f : ℕ → EReal) (j : ℕ) : gap f (3072 + j) = gap (fun k => f (2816 + k)) j := by
  unfold gap
  have e1 : (3072 + j) % 768 = j % 768 := by omega
  have e2 : 704 * ((3072 + j) / 768) + j % 768 = 2816 + (704 * (j / 768) + j % 768) := by omega
  rw [e1, e2]

/-- The mean of the squares of a row, with the small number added. -/
def spread (p : Fin 1024 → EReal) : EReal :=
  Ideal.div (∑ k, p k * p k) (Ideal.ofBits FTy.f32 0x44800000#32) + Ideal.ofBits FTy.f32 0x358637BD#32

/-- A row of a matrix, and zeros outside of it. -/
def row {a : ℕ} (x : (⟨2, ![a, 1024]⟩ : Shape).Idx → EReal) (i : ℕ) : Fin 1024 → EReal := fun k => cell x i k.val

theorem row_fin {a : ℕ} (x : (⟨2, ![a, 1024]⟩ : Shape).Idx → EReal) (r : Fin a) : (fun k => x (ix2 r k)) = row x r.val :=
  funext fun k => (cell_fin x r k).symm

theorem zeros2 : (![0, 0] : Fin 2 → ℕ) = fun _ => 0 := by decide
theorem zeros3 : (![0, 0, 0] : Fin 3 → ℕ) = fun _ => 0 := by decide

end Cert.Products

end
-- ==== Proof.Products.UpGate.lean ====
/- The gate half of the widening product: one block of rows against one shard of the weight at a time. -/
module

public import proofs.«01_k».proof.Proof.Gen.UpGateIdeal.Value
public import proofs.«01_k».proof.Proof.Gen.UpGateRefIdeal.Run
public import proofs.«01_k».proof.Proof.Products.Sums

@[expose] public section

set_option maxRecDepth 16384

noncomputable section

namespace Cert.UpGateIdeal.Product

open Cert.UpGateIdeal Cert.UpGateIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor: the rows as they are. -/
theorem left : Holds (V m c main_v0) (cell (m (c.tc.loc main_arg0))) := by
  intro i
  show V m c main_v0 i = _
  unfold V hostOps0 hostOps0_1
  simp only [List.flatten_cons, List.flatten_nil, List.append_nil, List.cons_append, List.nil_append,
    StableHlo.TRef.binary, StableHlo.TRef.unary]
  after_results_simp
  pointwise
  exact holds_cell _ i

/-- The right factor: the weight's columns with their gaps, cut into eight pieces. -/
theorem right (i : S8x1024x768.Idx) : V m c main_v4 i = gap (cell (m (c.tc.loc main_arg1)) (i 1).val) (768 * (i 0).val + (i 2).val) := by
  unfold V hostOps0 hostOps0_1
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h2 : (i 2).val < 768 := (i 2).isLt
  pointwise
  refine gap_piece _ h2 (zero_word _) _ fun h => cell_eq _ (i 1) _ rfl ?_
  show (i 0).val * 704 + (i 2).val = _
  omega

theorem pay1_at (a : Vec Ideal S512x1024 .bf16) (b : Vec Ideal S1x1024x768 .bf16) (r : Fin 512) (s : Fin 768) :
    k0_pay1 a b (ix2 r s) = ∑ x : Fin 1024, a (ix2 r x) * b (ix3 0 x s) := by
  pointwise [k0_pay1]

theorem out_at (x0 : Vec Ideal S512x1024 .bf16) (x1 : Vec Ideal S1x1024x768 .bf16) :
    out0_2 x0 x1 = k0_pay1 x0 x1 := by
  unfold out0_2
  rw [View.canon_unit_zero zeros2, View.ld_unit_zero (S := S512x1024) zeros2, View.ld_unit_zero (S := S1x1024x768) zeros3]

theorem idx_0 : ∀ t : Fin grid0.N, win0_0.index t 0 = t.val / 4 ∧ win0_0.index t 1 = 0 := by decide +kernel
theorem idx_1 : ∀ t : Fin grid0.N, win0_1.index t 0 = t.val % 4 ∧ win0_1.index t 1 = 0 ∧ win0_1.index t 2 = 0 := by decide +kernel
theorem idx_2 : ∀ t : Fin grid0.N, win0_2.index t 0 = t.val / 4 ∧ win0_2.index t 1 = t.val % 4 := by decide +kernel

section
variable {L R : ℕ → ℕ → EReal} (hL : Holds (V m c main_v0) L)
  (hR : ∀ i : S8x1024x768.Idx, V m c main_v4 i = R (i 1).val (768 * (i 0).val + (i 2).val))

include hL in
theorem block_0 (t : Fin cfg0.N) (x : Fin 512) (r : Fin 1024) :
    iblk m c 0 t (ix2 x r) = L (512 * (t.val / 4) + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (r : Fin 1024) (s : Fin 768) :
    iblk m c 1 t (ix3 0 r s) = R r.val (768 * (t.val % 4) + s.val) := by
  obtain ⟨e0, e1, e2⟩ := idx_1 t
  unfold iblk
  rw [View.read_apply]
  refine (hR _).trans ?_
  congr 1
  · show win0_1.index t 1 * 1024 + 1 * r.val = _
    omega
  · show 768 * (win0_1.index t 0 * 1 + 1 * 0) + (win0_1.index t 2 * 768 + 1 * s.val) = _
    omega

include hL hR in
/-- The result after the run. -/
theorem array (i : S8192x3072.Idx) :
    (dats m 0 c).arrAt 2 cfg0.N i = ∑ k ∈ range 1024, L (i 0).val k * R k (i 1).val := by
  refine Dat.arrAt_forall_of_covers (dats m 0 c) 2 (fun i x => x = ∑ k ∈ range 1024, L (i 0).val k * R k (i 1).val)
    (by decide +kernel) (fun t _ y => ?_) i
  obtain ⟨e0, e1⟩ := idx_2 t
  have h0 : (y 0).val < 512 := (y 0).isLt
  have h1 : (y 1).val < 768 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  have g0 : win0_2.index t 0 * 512 + 1 * (y 0).val = 512 * (t.val / 4) + (y 0).val := by omega
  have g1 : (win0_2.index t 1 * 768 + 1 * (y 1).val) = 768 * (t.val % 4) + (y 1).val := by omega
  refine (sum_first 1024 (fun k => L (512 * (t.val / 4) + (y 0).val) k * R k (768 * (t.val % 4) + (y 1).val)) _ fun x => by
    rw [block_0 m c hL, block_1 m c hR]).trans ?_
  refine sum_congr rfl fun k _ => ?_
  exact (congrArg₂ (fun a b => L a k * R k b) g0 g1).symm

end

/-- The reference's result, index by index. -/
theorem reference_at (x : FVec Ideal UpGateRefIdeal.S8192x1024 .f32) (y : FVec Ideal UpGateRefIdeal.S1024x5632 .f32)
    (i : UpGateRefIdeal.S8192x3072.Idx) :
    (shapeCast UpGateRefIdeal.S8192x3072 (pad UpGateRefIdeal.S8192x4x768 ![0, 0, 0] ![0, 0, 64] ![0, 0, 0] (shapeCast _
      (extractStridedSlice UpGateRefIdeal.S8192x2816 ![0, 0] (Host.dotGeneral (F := Ideal)
        UpGateRefIdeal.dot_S8192x1024_S1024x5632_S8192x5632_1_0_0_1_n_n none x y) UpGateRefIdeal.Gen.slices_S8192x5632_S8192x2816_0_0)
      UpGateRefIdeal.Gen.shapeCasts_S8192x2816_S8192x4x704) (sitofp .f32 (constantI UpGateRefIdeal.S_ 32 0#32))
      UpGateRefIdeal.Gen.pads_S8192x4x704_S8192x4x768_000_000_0640 UpGateRefIdeal.Gen.h_S_) UpGateRefIdeal.Gen.shapeCasts_S8192x4x768_S8192x3072) i
      = ∑ k ∈ range 1024, cell x (i 0).val k * gap (cell y k) (i 1).val := by
  have h1 : (i 1).val < 3072 := (i 1).isLt
  refine Eq.trans ?_ (gap_sum (cell y) (fun k => cell x (i 0).val k) _).symm
  pointwise
  refine gap_column (fun n => ∑ k ∈ range 1024, cell x (i 0).val k * cell y k (n)) h1 (zero_word _) _ fun h => ?_
  refine sum_first 1024 (fun k => cell x (i 0).val k * cell y k ((704 * ((i 1).val / 768) + (i 1).val % 768))) _ fun k => ?_
  refine congrArg₂ (· * ·) (cell_eq x (i 0) k rfl rfl) (cell_eq y k _ rfl ?_)
  dsimp only
  omega

/-- The gate half of the widening product. -/
theorem algebraic : algebraic_UpGateIdeal_UpGateRefIdeal (hUpGateIdeal := UpGateIdeal.Gen.facts) (hUpGateRefIdeal := UpGateRefIdeal.Gen.facts) := by
  intro m ρ m' ρ' _ ha
  refine ⟨fun c => (dats m 0 c).arrAt 2 cfg0.N, UpGateIdeal.Value.run_blocks m ρ, (θ_run _ _ _).mono ?_ (UpGateRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.UpGateIdeal.Product

end
-- ==== Proof.Products.UpValue.lean ====
/- The value half of the widening product: one block of rows against one shard of the weight at a time. -/
module

public import proofs.«01_k».proof.Proof.Gen.UpValueIdeal.Value
public import proofs.«01_k».proof.Proof.Gen.UpValueRefIdeal.Run
public import proofs.«01_k».proof.Proof.Products.Sums

@[expose] public section

set_option maxRecDepth 16384

noncomputable section

namespace Cert.UpValueIdeal.Product

open Cert.UpValueIdeal Cert.UpValueIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor: the rows as they are. -/
theorem left : Holds (V m c main_v0) (cell (m (c.tc.loc main_arg0))) := by
  intro i
  show V m c main_v0 i = _
  unfold V hostOps0 hostOps0_1
  simp only [List.flatten_cons, List.flatten_nil, List.append_nil, List.cons_append, List.nil_append,
    StableHlo.TRef.binary, StableHlo.TRef.unary]
  after_results_simp
  pointwise
  exact holds_cell _ i

/-- The right factor: the weight's columns with their gaps, cut into eight pieces. -/
theorem right (i : S8x1024x768.Idx) : V m c main_v4 i = gap (cell (m (c.tc.loc main_arg1)) (i 1).val) (768 * (i 0).val + (i 2).val) := by
  unfold V hostOps0 hostOps0_1
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h2 : (i 2).val < 768 := (i 2).isLt
  pointwise
  refine gap_piece _ h2 (zero_word _) _ fun h => cell_eq _ (i 1) _ rfl ?_
  show (i 0).val * 704 + (i 2).val = _
  omega

theorem pay1_at (a : Vec Ideal S512x1024 .bf16) (b : Vec Ideal S1x1024x768 .bf16) (r : Fin 512) (s : Fin 768) :
    k0_pay1 a b (ix2 r s) = ∑ x : Fin 1024, a (ix2 r x) * b (ix3 0 x s) := by
  pointwise [k0_pay1]

theorem out_at (x0 : Vec Ideal S512x1024 .bf16) (x1 : Vec Ideal S1x1024x768 .bf16) :
    out0_2 x0 x1 = k0_pay1 x0 x1 := by
  unfold out0_2
  rw [View.canon_unit_zero zeros2, View.ld_unit_zero (S := S512x1024) zeros2, View.ld_unit_zero (S := S1x1024x768) zeros3]

theorem idx_0 : ∀ t : Fin grid0.N, win0_0.index t 0 = t.val / 4 ∧ win0_0.index t 1 = 0 := by decide +kernel
theorem idx_1 : ∀ t : Fin grid0.N, win0_1.index t 0 = 4 + t.val % 4 ∧ win0_1.index t 1 = 0 ∧ win0_1.index t 2 = 0 := by decide +kernel
theorem idx_2 : ∀ t : Fin grid0.N, win0_2.index t 0 = t.val / 4 ∧ win0_2.index t 1 = t.val % 4 := by decide +kernel

section
variable {L R : ℕ → ℕ → EReal} (hL : Holds (V m c main_v0) L)
  (hR : ∀ i : S8x1024x768.Idx, V m c main_v4 i = R (i 1).val (768 * (i 0).val + (i 2).val))

include hL in
theorem block_0 (t : Fin cfg0.N) (x : Fin 512) (r : Fin 1024) :
    iblk m c 0 t (ix2 x r) = L (512 * (t.val / 4) + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (r : Fin 1024) (s : Fin 768) :
    iblk m c 1 t (ix3 0 r s) = R r.val (3072 + 768 * (t.val % 4) + s.val) := by
  obtain ⟨e0, e1, e2⟩ := idx_1 t
  unfold iblk
  rw [View.read_apply]
  refine (hR _).trans ?_
  congr 1
  · show win0_1.index t 1 * 1024 + 1 * r.val = _
    omega
  · show 768 * (win0_1.index t 0 * 1 + 1 * 0) + (win0_1.index t 2 * 768 + 1 * s.val) = _
    omega

include hL hR in
/-- The result after the run. -/
theorem array (i : S8192x3072.Idx) :
    (dats m 0 c).arrAt 2 cfg0.N i = ∑ k ∈ range 1024, L (i 0).val k * R k (3072 + (i 1).val) := by
  refine Dat.arrAt_forall_of_covers (dats m 0 c) 2 (fun i x => x = ∑ k ∈ range 1024, L (i 0).val k * R k (3072 + (i 1).val))
    (by decide +kernel) (fun t _ y => ?_) i
  obtain ⟨e0, e1⟩ := idx_2 t
  have h0 : (y 0).val < 512 := (y 0).isLt
  have h1 : (y 1).val < 768 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  have g0 : win0_2.index t 0 * 512 + 1 * (y 0).val = 512 * (t.val / 4) + (y 0).val := by omega
  have g1 : 3072 + (win0_2.index t 1 * 768 + 1 * (y 1).val) = 3072 + 768 * (t.val % 4) + (y 1).val := by omega
  refine (sum_first 1024 (fun k => L (512 * (t.val / 4) + (y 0).val) k * R k (3072 + 768 * (t.val % 4) + (y 1).val)) _ fun x => by
    rw [block_0 m c hL, block_1 m c hR]).trans ?_
  refine sum_congr rfl fun k _ => ?_
  exact (congrArg₂ (fun a b => L a k * R k b) g0 g1).symm

end

/-- The reference's result, index by index. -/
theorem reference_at (x : FVec Ideal UpValueRefIdeal.S8192x1024 .f32) (y : FVec Ideal UpValueRefIdeal.S1024x5632 .f32)
    (i : UpValueRefIdeal.S8192x3072.Idx) :
    (shapeCast UpValueRefIdeal.S8192x3072 (pad UpValueRefIdeal.S8192x4x768 ![0, 0, 0] ![0, 0, 64] ![0, 0, 0] (shapeCast _
      (extractStridedSlice UpValueRefIdeal.S8192x2816 ![0, 2816] (Host.dotGeneral (F := Ideal)
        UpValueRefIdeal.dot_S8192x1024_S1024x5632_S8192x5632_1_0_0_1_n_n none x y) UpValueRefIdeal.Gen.slices_S8192x5632_S8192x2816_0_2816)
      UpValueRefIdeal.Gen.shapeCasts_S8192x2816_S8192x4x704) (sitofp .f32 (constantI UpValueRefIdeal.S_ 32 0#32))
      UpValueRefIdeal.Gen.pads_S8192x4x704_S8192x4x768_000_000_0640 UpValueRefIdeal.Gen.h_S_) UpValueRefIdeal.Gen.shapeCasts_S8192x4x768_S8192x3072) i
      = ∑ k ∈ range 1024, cell x (i 0).val k * gap (cell y k) (3072 + (i 1).val) := by
  have h1 : (i 1).val < 3072 := (i 1).isLt
  simp only [gap_half]
  refine Eq.trans ?_ (gap_sum (fun k n => cell y k (2816 + n)) (fun k => cell x (i 0).val k) _).symm
  pointwise
  refine gap_column (fun n => ∑ k ∈ range 1024, cell x (i 0).val k * cell y k (2816 + n)) h1 (zero_word _) _ fun h => ?_
  refine sum_first 1024 (fun k => cell x (i 0).val k * cell y k (2816 + (704 * ((i 1).val / 768) + (i 1).val % 768))) _ fun k => ?_
  refine congrArg₂ (· * ·) (cell_eq x (i 0) k rfl rfl) (cell_eq y k _ rfl ?_)
  dsimp only
  omega

/-- The value half of the widening product. -/
theorem algebraic : algebraic_UpValueIdeal_UpValueRefIdeal (hUpValueIdeal := UpValueIdeal.Gen.facts) (hUpValueRefIdeal := UpValueRefIdeal.Gen.facts) := by
  intro m ρ m' ρ' _ ha
  refine ⟨fun c => (dats m 0 c).arrAt 2 cfg0.N, UpValueIdeal.Value.run_blocks m ρ, (θ_run _ _ _).mono ?_ (UpValueRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.UpValueIdeal.Product

end
-- ==== Proof.Products.UpGateT.lean ====
/- The incoming gradient against the gate half of the widening weight, summed over four shards. -/
module

public import proofs.«01_k».proof.Proof.Gen.UpGateTIdeal.Value
public import proofs.«01_k».proof.Proof.Gen.UpGateTRefIdeal.Run
public import proofs.«01_k».proof.Proof.Products.Sums

@[expose] public section

set_option maxRecDepth 16384

noncomputable section

namespace Cert.UpGateTIdeal.Product

open Cert.UpGateTIdeal Cert.UpGateTIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor: its columns with their gaps. -/
theorem left : Holds (V m c main_v2) (fun i => gap (cell (m (c.tc.loc main_arg1)) i)) := by
  intro i
  show V m c main_v2 i = _
  unfold V hostOps0 hostOps0_1 hostOps0_2 hostOps0_3
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h1 : (i 1).val < 3072 := (i 1).isLt
  pointwise
  exact gap_padded _ (i 0) h1 (zero_word _)

/-- The right factor: the weight's columns with their gaps, cut into eight pieces. -/
theorem right (i : S8x1024x768.Idx) : V m c main_v6 i = gap (cell (m (c.tc.loc main_arg0)) (i 1).val) (768 * (i 0).val + (i 2).val) := by
  unfold V hostOps0 hostOps0_1 hostOps0_2 hostOps0_3
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h2 : (i 2).val < 768 := (i 2).isLt
  pointwise
  refine gap_piece _ h2 (zero_word _) _ fun h => cell_eq _ (i 1) _ rfl ?_
  show (i 0).val * 704 + (i 2).val = _
  omega

theorem pay1_at (a : Vec Ideal S512x768 .f32) (b : Vec Ideal S1x1024x768 .bf16) (r : Fin 512) (s : Fin 1024) :
    k0_pay1 a b (ix2 r s) = ∑ x : Fin 768, a (ix2 r x) * b (ix3 0 s x) := by
  pointwise [k0_pay1]

theorem pay2_at (a : Vec Ideal S512x768 .f32) (b : Vec Ideal S1x1024x768 .bf16) (r : Fin 512) (s : Fin 1024) :
    k0_pay2 a b (ix2 r s) = ∑ x : Fin 768, a (ix2 r x) * b (ix3 0 s x) := by
  refine Eq.trans ?_ (pay1_at a b r s)
  unfold k0_pay2
  generalize k0_pay1 a b = p
  pointwise

theorem pay3_at (a : Vec Ideal S512x768 .f32) (b : Vec Ideal S1x1024x768 .bf16)
    (o : Vec Ideal S512x1024 .f32) (r : Fin 512) (s : Fin 1024) :
    k0_pay3 a b o (ix2 r s) = o (ix2 r s) + ∑ x : Fin 768, a (ix2 r x) * b (ix3 0 s x) := by
  refine Eq.trans ?_ (congrArg (o (ix2 r s) + ·) (pay1_at a b r s))
  unfold k0_pay3
  generalize k0_pay1 a b = p
  pointwise

section
variable (i : grid0.Coords) (a3 : Memref sig .tc .vmem S512x768 .f32) (h3 : a3.IsWhole)
  (a4 : Memref sig .tc .vmem S1x1024x768 .bf16) (h4 : a4.IsWhole) (a5 : Memref sig .tc .vmem S512x1024 .f32) (h5 : a5.IsWhole)
  (a6 : Memref sig .tc .vmem S512x1024 .f32) (h6 : a6.IsWhole)
  (x0 : Vec Ideal S512x768 .f32) (x1 : Vec Ideal S1x1024x768 .bf16)
  (x2 xs : Vec Ideal S512x1024 .f32)

theorem scratch_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  simp only [View.readAt_eq_ld, h3.read_unread, h4.read_unread, View.ld_unit_zero (S := S512x768) zeros2, View.ld_unit_zero (S := S1x1024x768) zeros3, View.ld_unit_zero (S := S512x1024) zeros2]

theorem scratch_B (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zeros2]
  simp only [View.readAt_eq_ld, h3.read_unread, h4.read_unread, h6.read_unread, View.ld_unit_zero (S := S512x768) zeros2, View.ld_unit_zero (S := S1x1024x768) zeros3, View.ld_unit_zero (S := S512x1024) zeros2]

theorem scratch_C (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero zeros2]
  simp only [View.readAt_eq_ld, h3.read_unread, h4.read_unread, h6.read_unread, View.ld_unit_zero (S := S512x768) zeros2, View.ld_unit_zero (S := S1x1024x768) zeros3, View.ld_unit_zero (S := S512x1024) zeros2]

theorem out_C (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero zeros2, View.readCov_unit_zero (S := S512x1024) _ zeros2]
  simp only [View.readAt_eq_ld, h3.read_unread, h4.read_unread, h6.read_unread, View.ld_unit_zero (S := S512x768) zeros2, View.ld_unit_zero (S := S1x1024x768) zeros3, View.ld_unit_zero (S := S512x1024) zeros2]

end

theorem idx_0 : ∀ t : Fin grid0.N, win0_0.index t 0 = t.val / 4 ∧ win0_0.index t 1 = t.val % 4 := by decide +kernel
theorem idx_1 : ∀ t : Fin grid0.N, win0_1.index t 0 = t.val % 4 ∧ win0_1.index t 1 = 0 ∧ win0_1.index t 2 = 0 := by decide +kernel
theorem idx_2 : ∀ t : Fin grid0.N, win0_2.index t 0 = t.val / 4 ∧ win0_2.index t 1 = 0 := by decide +kernel

section
variable {L R : ℕ → ℕ → EReal} (hL : Holds (V m c main_v2) L)
  (hR : ∀ i : S8x1024x768.Idx, V m c main_v6 i = R (i 1).val (768 * (i 0).val + (i 2).val))

include hL in
theorem block_0 (t : Fin cfg0.N) (x : Fin 512) (r : Fin 768) :
    iblk m c 0 t (ix2 x r) = L (512 * (t.val / 4) + x.val) (768 * (t.val % 4) + r.val) := by
  obtain ⟨e0, e1⟩ := idx_0 t
  unfold iblk
  rw [View.read_apply]
  refine (hL _).trans ?_
  congr 1
  · show win0_0.index t 0 * 512 + 1 * x.val = _
    omega
  · show win0_0.index t 1 * 768 + 1 * r.val = _
    omega

include hR in
theorem block_1 (t : Fin cfg0.N) (s : Fin 1024) (r : Fin 768) :
    iblk m c 1 t (ix3 0 s r) = R s.val (768 * (t.val % 4) + r.val) := by
  obtain ⟨e0, e1, e2⟩ := idx_1 t
  unfold iblk
  rw [View.read_apply]
  refine (hR _).trans ?_
  congr 1
  · show win0_1.index t 1 * 1024 + 1 * s.val = _
    omega
  · show 768 * (win0_1.index t 0 * 1 + 1 * 0) + (win0_1.index t 2 * 768 + 1 * r.val) = _
    omega

include hL hR in
/-- What the accumulator holds after each point: the sum over the columns so far. -/
theorem after_point : ∀ (n : ℕ) (hn : n < cfg0.N) (r : Fin 512) (s : Fin 1024),
    (outsAt0 m c n hn).2 (ix2 r s) = ∑ k ∈ range (768 * (n % 4 + 1)), L (512 * (n / 4) + r.val) k * R s.val k := by
  intro n
  induction n with
  | zero =>
    intro hn r s
    refine (congrFun (congrArg Prod.snd (outsAt0_A m c ⟨0, hn⟩ (by dsimp only) (by dsimp only; omega) (by dsimp only; omega))) _).trans ?_
    dsimp only
    rw [scratch_A, pay2_at]
    exact sum_first 768 (fun k => L (512 * (0 / 4) + r.val) k * R s.val k) _ fun x => by
      rw [block_0 m c hL, block_1 m c hR]
      simp only [Nat.zero_mod, Nat.mul_zero, Nat.zero_add]
  | succ n ih =>
    intro hn r s
    by_cases h0 : (n + 1) % 4 = 0
    · refine (congrFun (congrArg Prod.snd (outsAt0_A m c ⟨n + 1, hn⟩ h0 (by dsimp only; omega) (by dsimp only; omega))) _).trans ?_
      dsimp only
      rw [scratch_A, pay2_at, h0]
      exact sum_first 768 (fun k => L (512 * ((n + 1) / 4) + r.val) k * R s.val k) _ fun x => by
        rw [block_0 m c hL, block_1 m c hR]
        simp only [h0, Nat.mul_zero, Nat.zero_add]
    · have e : (n + 1) % 4 = n % 4 + 1 := by omega
      have e' : (n + 1) / 4 = n / 4 := by omega
      have step : (outsAt0 m c (n + 1) hn).2
          = k0_pay3 (iblk m c 0 ⟨n + 1, hn⟩) (iblk m c 1 ⟨n + 1, hn⟩) (outsAt0 m c n (Nat.lt_of_succ_lt hn)).2 := by
        by_cases h2 : (n + 1) % 4 = 3
        · refine (congrArg Prod.snd (outsAt0_C m c ⟨n + 1, hn⟩ h0 (by dsimp only; omega) h2)).trans ?_
          dsimp only
          rw [scratch_C]
          rfl
        · refine (congrArg Prod.snd (outsAt0_B m c ⟨n + 1, hn⟩ h0 (by dsimp only; omega) h2)).trans ?_
          dsimp only
          rw [scratch_B]
          rfl
      refine (congrFun step _).trans ?_
      rw [pay3_at, ih (Nat.lt_of_succ_lt hn) r s, e, e']
      refine sum_block 768 (fun k => L (512 * (n / 4) + r.val) k * R s.val k) (n % 4 + 1) _ fun x => ?_
      rw [block_0 m c hL, block_1 m c hR]
      simp only [e, e']

/-- What is written back at a block's last step. -/
theorem out_last (t : Fin cfg0.N) (ht : t.val % 4 = 3) :
    (outsAt0 m c t.val t.isLt).1 = (outsAt0 m c t.val t.isLt).2 := by
  have h := outsAt0_C m c t (by omega) (by omega) ht
  have h1 := congrArg Prod.fst h
  have h2 := congrArg Prod.snd h
  dsimp only at h1 h2
  rw [out_C] at h1
  rw [scratch_C] at h2
  exact h1.trans h2.symm

include hL hR in
/-- The result after the run. -/
theorem array (i : S8192x1024.Idx) :
    (dats m 0 c).arrAt 2 cfg0.N i = ∑ k ∈ range 3072, L (i 0).val k * R (i 1).val k := by
  refine Dat.arrAt_forall_of_covers (dats m 0 c) 2 (fun i x => x = ∑ k ∈ range 3072, L (i 0).val k * R (i 1).val k)
    (by decide +kernel) (fun t hf y => ?_) i
  obtain ⟨e0, e1⟩ := idx_2 t
  have h0 : (y 0).val < 512 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  have ht : t.val % 4 = 3 := (flush0_2 t).mp hf
  refine (congrFun ((after0_2 m c t).trans (out_last m c t ht)) _).trans ?_
  rw [hy, after_point m c hL hR t.val t.isLt, ht, show 768 * (3 + 1) = 3072 from rfl]
  have g0 : win0_2.index t 0 * 512 + 1 * (y 0).val = 512 * (t.val / 4) + (y 0).val := by omega
  have g1 : win0_2.index t 1 * 1024 + 1 * (y 1).val = (y 1).val := by omega
  exact (congrArg₂ (fun a b => ∑ k ∈ range 3072, L a k * R b k) g0 g1).symm

end

/-- The reference's result, index by index. -/
theorem reference_at (x : FVec Ideal UpGateTRefIdeal.S8192x2816 .f32) (y : FVec Ideal UpGateTRefIdeal.S1024x5632 .f32)
    (i : UpGateTRefIdeal.S8192x1024.Idx) :
    (Host.dotGeneral (F := Ideal) UpGateTRefIdeal.dot_S8192x5632_S1024x5632_S8192x1024_1_1_0_0_n_n none
      (pad UpGateTRefIdeal.S8192x5632 ![0, 0] ![0, 2816] ![0, 0] x (constant UpGateTRefIdeal.S_ .f32 0x00000000#32) UpGateTRefIdeal.Gen.pads_S8192x2816_S8192x5632_000_028160 UpGateTRefIdeal.Gen.h_S_) y) i
      = ∑ k ∈ range 3072, gap (cell x (i 0).val) k * gap (cell y (i 1).val) k := by
  have g : ∑ k ∈ range (768 * 4), gap (cell x (i 0).val) k * gap (cell y (i 1).val) k = ∑ k ∈ range (704 * 4), cell x (i 0).val k * cell y (i 1).val k := by
    simp only [gap_mul]
    exact sum_gap _ 4
  refine Eq.trans ?_ g.symm
  pointwise
  refine (congrArg₂ (· + ·) (sum_first 2816 (fun k => cell x (i 0).val k * cell y (i 1).val k) _ fun k => ?_) (sum_eq_zero fun k _ => zero_mul _)).trans (add_zero _)
  exact congrArg₂ (· * ·) (cell_eq x (i 0) k rfl rfl) (cell_eq y (i 1) _ rfl rfl)

/-- The gradient of the widening product's left factor, the gate half. -/
theorem algebraic : algebraic_UpGateTIdeal_UpGateTRefIdeal (hUpGateTIdeal := UpGateTIdeal.Gen.facts) (hUpGateTRefIdeal := UpGateTRefIdeal.Gen.facts) := by
  intro m ρ m' ρ' _ ha
  refine ⟨fun c => (dats m 0 c).arrAt 2 cfg0.N, UpGateTIdeal.Value.run_blocks m ρ, (θ_run _ _ _).mono ?_ (UpGateTRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (R := fun r => gap (cell (m (c.tc.loc main_arg0)) r)) (left m c) (right m c) i).symm

end Cert.UpGateTIdeal.Product

end
-- ==== Proof.Products.UpValueT.lean ====
/- The incoming gradient against the value half of the widening weight, summed over four shards and added to the gate half's. -/
module

public import proofs.«01_k».proof.Proof.Gen.UpValueTIdeal.Value
public import proofs.«01_k».proof.Proof.Gen.UpValueTRefIdeal.Run
public import proofs.«01_k».proof.Proof.Products.Sums

@[expose] public section

set_option maxRecDepth 16384

noncomputable section

namespace Cert.UpValueTIdeal.Product

open Cert.UpValueTIdeal Cert.UpValueTIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor: its columns with their gaps. -/
theorem left : Holds (V m c main_v2) (fun i => gap (cell (m (c.tc.loc main_arg1)) i)) := by
  intro i
  show V m c main_v2 i = _
  unfold V hostOps0 hostOps0_1 hostOps0_2 hostOps0_3
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h1 : (i 1).val < 3072 := (i 1).isLt
  pointwise
  exact gap_padded _ (i 0) h1 (zero_word _)

/-- The right factor: the weight's columns with their gaps, cut into eight pieces. -/
theorem right (i : S8x1024x768.Idx) : V m c main_v6 i = gap (cell (m (c.tc.loc main_arg0)) (i 1).val) (768 * (i 0).val + (i 2).val) := by
  unfold V hostOps0 hostOps0_1 hostOps0_2 hostOps0_3
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h2 : (i 2).val < 768 := (i 2).isLt
  pointwise
  refine gap_piece _ h2 (zero_word _) _ fun h => cell_eq _ (i 1) _ rfl ?_
  show (i 0).val * 704 + (i 2).val = _
  omega

/-- What is added at the end. -/
theorem addend : Holds (V m c main_arg2) (cell (m (c.tc.loc main_arg2))) := by
  rw [V_main_arg2]
  exact holds_cell _

theorem pay1_at (a : Vec Ideal S512x768 .f32) (b : Vec Ideal S1x1024x768 .bf16) (r : Fin 512) (s : Fin 1024) :
    k0_pay1 a b (ix2 r s) = ∑ x : Fin 768, a (ix2 r x) * b (ix3 0 s x) := by
  pointwise [k0_pay1]

theorem pay2_at (a : Vec Ideal S512x768 .f32) (b : Vec Ideal S1x1024x768 .bf16) (r : Fin 512) (s : Fin 1024) :
    k0_pay2 a b (ix2 r s) = ∑ x : Fin 768, a (ix2 r x) * b (ix3 0 s x) := by
  refine Eq.trans ?_ (pay1_at a b r s)
  unfold k0_pay2
  generalize k0_pay1 a b = p
  pointwise

theorem pay3_at (a : Vec Ideal S512x768 .f32) (b : Vec Ideal S1x1024x768 .bf16)
    (o : Vec Ideal S512x1024 .f32) (r : Fin 512) (s : Fin 1024) :
    k0_pay3 a b o (ix2 r s) = o (ix2 r s) + ∑ x : Fin 768, a (ix2 r x) * b (ix3 0 s x) := by
  refine Eq.trans ?_ (congrArg (o (ix2 r s) + ·) (pay1_at a b r s))
  unfold k0_pay3
  generalize k0_pay1 a b = p
  pointwise

theorem pay4_at (a b : Vec Ideal S512x1024 .f32) (r : Fin 512) (s : Fin 1024) :
    k0_pay4 a b (ix2 r s) = a (ix2 r s) + b (ix2 r s) := by
  pointwise [k0_pay4]

section
variable (i : grid0.Coords) (a3 : Memref sig .tc .vmem S512x768 .f32) (h3 : a3.IsWhole)
  (a4 : Memref sig .tc .vmem S1x1024x768 .bf16) (h4 : a4.IsWhole) (a5 : Memref sig .tc .vmem S512x1024 .f32) (h5 : a5.IsWhole)
  (a6 : Memref sig .tc .vmem S512x1024 .f32) (h6 : a6.IsWhole) (a7 : Memref sig .tc .vmem S512x1024 .f32) (h7 : a7.IsWhole)
  (x0 : Vec Ideal S512x768 .f32) (x1 : Vec Ideal S1x1024x768 .bf16)
  (x2 xs : Vec Ideal S512x1024 .f32)

theorem scratch_A (hc0 : cond0_0 i) (hc1 : ¬cond0_1 i) (hc2 : ¬cond0_2 i) :
    sout0_A_0 c i a3 h3 a4 h4 a5 h5 a6 h6 a7 h7 hc0 hc1 hc2 x0 x1 x2 = k0_pay2 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero zeros2]
  simp only [View.readAt_eq_ld, h3.read_unread, h4.read_unread, View.ld_unit_zero (S := S512x768) zeros2, View.ld_unit_zero (S := S1x1024x768) zeros3, View.ld_unit_zero (S := S512x1024) zeros2]

theorem scratch_B (hc0 : ¬cond0_0 i) (hc1 : cond0_1 i) (hc2 : ¬cond0_2 i) :
    sout0_B_0 c i a3 h3 a4 h4 a5 h5 a6 h6 a7 h7 hc0 hc1 hc2 x0 x1 x2 xs = k0_pay3 x0 x1 xs := by
  unfold sout0_B_0
  rw [View.read_writes_eq_canon _ _ _ (scover0_B_0 c i a3 h3 a4 h4 a5 h5 a6 h6 a7 h7 hc0 hc1 hc2 x0 x1 x2 xs)]
  unfold kernelRun0_B
  dsimp only
  rw [View.canon_unit_zero zeros2]
  simp only [View.readAt_eq_ld, h3.read_unread, h4.read_unread, h7.read_unread, View.ld_unit_zero (S := S512x768) zeros2, View.ld_unit_zero (S := S1x1024x768) zeros3, View.ld_unit_zero (S := S512x1024) zeros2]

theorem scratch_C (hc0 : ¬cond0_0 i) (hc1 : cond0_1 i) (hc2 : cond0_2 i) :
    sout0_C_0 c i a3 h3 a4 h4 a5 h5 a6 h6 a7 h7 hc0 hc1 hc2 x0 x1 x2 xs = k0_pay3 x0 x1 xs := by
  unfold sout0_C_0
  rw [View.read_writes_eq_canon _ _ _ (scover0_C_0 c i a3 h3 a4 h4 a5 h5 a6 h6 a7 h7 hc0 hc1 hc2 x0 x1 x2 xs)]
  unfold kernelRun0_C
  dsimp only
  sl_unfold_words
  rw [View.canon_unit_zero zeros2]
  simp only [View.readAt_eq_ld, h3.read_unread, h4.read_unread, h7.read_unread, View.ld_unit_zero (S := S512x768) zeros2, View.ld_unit_zero (S := S1x1024x768) zeros3, View.ld_unit_zero (S := S512x1024) zeros2]

theorem out_C (hc0 : ¬cond0_0 i) (hc1 : cond0_1 i) (hc2 : cond0_2 i) :
    out0_C_3 c i a3 h3 a4 h4 a5 h5 a6 h6 a7 h7 hc0 hc1 hc2 x0 x1 x2 xs = k0_pay4 (k0_pay3 x0 x1 xs) x2 := by
  unfold out0_C_3
  rw [View.read_writes_eq_canon _ _ _ (cover0_C_3 c i a3 h3 a4 h4 a5 h5 a6 h6 a7 h7 hc0 hc1 hc2 x0 x1 x2 xs)]
  unfold kernelRun0_C
  dsimp only
  sl_unfold_words
  rw [View.canon_unit_zero zeros2, View.readCov_unit_zero (S := S512x1024) _ zeros2]
  simp only [View.readAt_eq_ld, h3.read_unread, h4.read_unread, h5.read_unread, h7.read_unread, View.ld_unit_zero (S := S512x768) zeros2, View.ld_unit_zero (S := S1x1024x768) zeros3, View.ld_unit_zero (S := S512x1024) zeros2]

end

theorem idx_0 : ∀ t : Fin grid0.N, win0_0.index t 0 = t.val / 4 ∧ win0_0.index t 1 = t.val % 4 := by decide +kernel
theorem idx_1 : ∀ t : Fin grid0.N, win0_1.index t 0 = 4 + t.val % 4 ∧ win0_1.index t 1 = 0 ∧ win0_1.index t 2 = 0 := by decide +kernel
theorem idx_2 : ∀ t : Fin grid0.N, win0_2.index t 0 = t.val / 4 ∧ win0_2.index t 1 = 0 := by decide +kernel
theorem idx_3 : ∀ t : Fin grid0.N, win0_3.index t 0 = t.val / 4 ∧ win0_3.index t 1 = 0 := by decide +kernel

section
variable {L R Y : ℕ → ℕ → EReal} (hL : Holds (V m c main_v2) L)
  (hR : ∀ i : S8x1024x768.Idx, V m c main_v6 i = R (i 1).val (768 * (i 0).val + (i 2).val)) (hY : Holds (V m c main_arg2) Y)

include hL in
theorem block_0 (t : Fin cfg0.N) (x : Fin 512) (r : Fin 768) :
    iblk m c 0 t (ix2 x r) = L (512 * (t.val / 4) + x.val) (768 * (t.val % 4) + r.val) := by
  obtain ⟨e0, e1⟩ := idx_0 t
  unfold iblk
  rw [View.read_apply]
  refine (hL _).trans ?_
  congr 1
  · show win0_0.index t 0 * 512 + 1 * x.val = _
    omega
  · show win0_0.index t 1 * 768 + 1 * r.val = _
    omega

include hR in
theorem block_1 (t : Fin cfg0.N) (s : Fin 1024) (r : Fin 768) :
    iblk m c 1 t (ix3 0 s r) = R s.val (3072 + (768 * (t.val % 4) + r.val)) := by
  obtain ⟨e0, e1, e2⟩ := idx_1 t
  unfold iblk
  rw [View.read_apply]
  refine (hR _).trans ?_
  congr 1
  · show win0_1.index t 1 * 1024 + 1 * s.val = _
    omega
  · show 768 * (win0_1.index t 0 * 1 + 1 * 0) + (win0_1.index t 2 * 768 + 1 * r.val) = _
    omega

include hY in
theorem block_2 (t : Fin cfg0.N) (x : Fin 512) (s : Fin 1024) :
    iblk m c 2 t (ix2 x s) = Y (512 * (t.val / 4) + x.val) s.val := by
  obtain ⟨e0, e1⟩ := idx_2 t
  unfold iblk
  rw [View.read_apply]
  refine (hY _).trans ?_
  congr 1
  · show win0_2.index t 0 * 512 + 1 * x.val = _
    omega
  · show win0_2.index t 1 * 1024 + 1 * s.val = _
    omega

include hL hR in
/-- What the accumulator holds after each point: the sum over the columns so far. -/
theorem after_point : ∀ (n : ℕ) (hn : n < cfg0.N) (r : Fin 512) (s : Fin 1024),
    (outsAt0 m c n hn).2 (ix2 r s) = ∑ k ∈ range (768 * (n % 4 + 1)), L (512 * (n / 4) + r.val) k * R s.val (3072 + k) := by
  intro n
  induction n with
  | zero =>
    intro hn r s
    refine (congrFun (congrArg Prod.snd (outsAt0_A m c ⟨0, hn⟩ (by dsimp only) (by dsimp only; omega) (by dsimp only; omega))) _).trans ?_
    dsimp only
    rw [scratch_A, pay2_at]
    exact sum_first 768 (fun k => L (512 * (0 / 4) + r.val) k * R s.val (3072 + k)) _ fun x => by
      rw [block_0 m c hL, block_1 m c hR]
      simp only [Nat.zero_mod, Nat.mul_zero, Nat.zero_add]
  | succ n ih =>
    intro hn r s
    by_cases h0 : (n + 1) % 4 = 0
    · refine (congrFun (congrArg Prod.snd (outsAt0_A m c ⟨n + 1, hn⟩ h0 (by dsimp only; omega) (by dsimp only; omega))) _).trans ?_
      dsimp only
      rw [scratch_A, pay2_at, h0]
      exact sum_first 768 (fun k => L (512 * ((n + 1) / 4) + r.val) k * R s.val (3072 + k)) _ fun x => by
        rw [block_0 m c hL, block_1 m c hR]
        simp only [h0, Nat.mul_zero, Nat.zero_add]
    · have e : (n + 1) % 4 = n % 4 + 1 := by omega
      have e' : (n + 1) / 4 = n / 4 := by omega
      have step : (outsAt0 m c (n + 1) hn).2
          = k0_pay3 (iblk m c 0 ⟨n + 1, hn⟩) (iblk m c 1 ⟨n + 1, hn⟩) (outsAt0 m c n (Nat.lt_of_succ_lt hn)).2 := by
        by_cases h2 : (n + 1) % 4 = 3
        · refine (congrArg Prod.snd (outsAt0_C m c ⟨n + 1, hn⟩ h0 (by dsimp only; omega) h2)).trans ?_
          dsimp only
          rw [scratch_C]
          rfl
        · refine (congrArg Prod.snd (outsAt0_B m c ⟨n + 1, hn⟩ h0 (by dsimp only; omega) h2)).trans ?_
          dsimp only
          rw [scratch_B]
          rfl
      refine (congrFun step _).trans ?_
      rw [pay3_at, ih (Nat.lt_of_succ_lt hn) r s, e, e']
      refine sum_block 768 (fun k => L (512 * (n / 4) + r.val) k * R s.val (3072 + k)) (n % 4 + 1) _ fun x => ?_
      rw [block_0 m c hL, block_1 m c hR]
      simp only [e, e']

/-- What is written back at a block's last step. -/
theorem out_last (t : Fin cfg0.N) (ht : t.val % 4 = 3) :
    (outsAt0 m c t.val t.isLt).1 = k0_pay4 (outsAt0 m c t.val t.isLt).2 (iblk m c 2 t) := by
  have h := outsAt0_C m c t (by omega) (by omega) ht
  have h1 := congrArg Prod.fst h
  have h2 := congrArg Prod.snd h
  dsimp only at h1 h2
  rw [out_C] at h1
  rw [scratch_C] at h2
  exact h1.trans (congrArg (k0_pay4 · (iblk m c 2 t)) h2.symm)

include hL hR hY in
/-- The result after the run. -/
theorem array (i : S8192x1024.Idx) :
    (dats m 0 c).arrAt 3 cfg0.N i = (∑ k ∈ range 3072, L (i 0).val k * R (i 1).val (3072 + k)) + Y (i 0).val (i 1).val := by
  refine Dat.arrAt_forall_of_covers (dats m 0 c) 3 (fun i x => x = (∑ k ∈ range 3072, L (i 0).val k * R (i 1).val (3072 + k)) + Y (i 0).val (i 1).val)
    (by decide +kernel) (fun t hf y => ?_) i
  obtain ⟨e0, e1⟩ := idx_3 t
  have h0 : (y 0).val < 512 := (y 0).isLt
  have h1 : (y 1).val < 1024 := (y 1).isLt
  have hy : (cfg0.win 3).xinj (grid0.coords t) y = ix2 ⟨(y 0).val, h0⟩ ⟨(y 1).val, h1⟩ := by
    funext a
    match a with
    | 0 => rfl
    | 1 => rfl
  have ht : t.val % 4 = 3 := (flush0_3 t).mp hf
  refine (congrFun ((after0_3 m c t).trans (out_last m c t ht)) _).trans ?_
  rw [hy, pay4_at, block_2 m c hY, after_point m c hL hR t.val t.isLt, ht, show 768 * (3 + 1) = 3072 from rfl]
  have g0 : win0_3.index t 0 * 512 + 1 * (y 0).val = 512 * (t.val / 4) + (y 0).val := by omega
  have g1 : win0_3.index t 1 * 1024 + 1 * (y 1).val = (y 1).val := by omega
  exact (congrArg₂ (fun a b => (∑ k ∈ range 3072, L a k * R b (3072 + k)) + Y a b) g0 g1).symm

end

/-- The reference's result, index by index. -/
theorem reference_at (x : FVec Ideal UpValueTRefIdeal.S8192x2816 .f32) (y : FVec Ideal UpValueTRefIdeal.S1024x5632 .f32) (z : FVec Ideal UpValueTRefIdeal.S8192x1024 .f32)
    (i : UpValueTRefIdeal.S8192x1024.Idx) :
    (addf z (Host.dotGeneral (F := Ideal) UpValueTRefIdeal.dot_S8192x5632_S1024x5632_S8192x1024_1_1_0_0_n_n none
      (pad UpValueTRefIdeal.S8192x5632 ![0, 2816] ![0, 0] ![0, 0] x (constant UpValueTRefIdeal.S_ .f32 0x00000000#32) UpValueTRefIdeal.Gen.pads_S8192x2816_S8192x5632_000_281600 UpValueTRefIdeal.Gen.h_S_) y)) i
      = (∑ k ∈ range 3072, gap (cell x (i 0).val) k * gap (cell y (i 1).val) (3072 + k)) + cell z (i 0).val (i 1).val := by
  simp only [gap_half]
  refine Eq.trans ?_ (add_comm _ _)
  have g : ∑ k ∈ range (768 * 4), gap (cell x (i 0).val) k * gap (fun k => cell y (i 1).val (2816 + k)) k = ∑ k ∈ range (704 * 4), cell x (i 0).val k * cell y (i 1).val (2816 + k) := by
    simp only [gap_mul]
    exact sum_gap _ 4
  refine Eq.trans ?_ (congrArg (_ + ·) g.symm)
  pointwise
  refine congrArg₂ (· + ·) (holds_cell z i) (sum_second (fun k => cell x (i 0).val k * cell y (i 1).val (2816 + k)) _ (fun n hn => ?_) fun n k hk => ?_)
  · exact (congrArg (· * _) (dif_neg fun e => absurd e.1 (by omega))).trans (zero_mul _)
  · have hn : n.val < 5632 := n.isLt
    refine congrArg₂ (· * ·) ((dif_pos ⟨by omega, by omega⟩).trans (cell_eq x (i 0) _ rfl ?_)) (cell_eq y (i 1) n rfl hk)
    dsimp only
    omega

/-- The gradient of the widening product's left factor, the value half added to the gate half. -/
theorem algebraic : algebraic_UpValueTIdeal_UpValueTRefIdeal (hUpValueTIdeal := UpValueTIdeal.Gen.facts) (hUpValueTRefIdeal := UpValueTRefIdeal.Gen.facts) := by
  intro m ρ m' ρ' _ ha
  refine ⟨fun c => (dats m 0 c).arrAt 3 cfg0.N, UpValueTIdeal.Value.run_blocks m ρ, (θ_run _ _ _).mono ?_ (UpValueTRefIdeal.Value.run m' ρ')⟩
  intro r h c
  obtain ⟨h0, hrest⟩ := h c
  obtain ⟨a0, a1, a2⟩ := ha c
  refine ⟨h0.trans ?_, hrest⟩
  rw [a0, a1, a2]
  exact funext fun i => (reference_at _ _ _ i).trans (array m c (R := fun r => gap (cell (m (c.tc.loc main_arg0)) r)) (left m c) (right m c) (addend m c) i).symm

end Cert.UpValueTIdeal.Product

end
-- ==== Proof.Products.UpTn.lean ====
/- The gradient of half of the widening weight: the rows' inner products with the incoming gradient, summed over sixteen blocks of rows. -/
module

public import proofs.«01_k».proof.Proof.Gen.UpTnIdeal.Value
public import proofs.«01_k».proof.Proof.Gen.UpTnRefIdeal.Run
public import proofs.«01_k».proof.Proof.Products.Sums

@[expose] public section

set_option maxRecDepth 16384

noncomputable section

namespace Cert.UpTnIdeal.Product

open Cert.UpTnIdeal Cert.UpTnIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor: the argument as it is. -/
theorem left : Holds (V m c main_v0) (cell (m (c.tc.loc main_arg0))) := by
  intro i
  show V m c main_v0 i = _
  unfold V hostOps0 hostOps0_1 hostOps0_2
  simp only [List.flatten_cons, List.flatten_nil, List.append_nil, List.cons_append, List.nil_append,
    StableHlo.TRef.binary, StableHlo.TRef.unary]
  after_results_simp
  pointwise
  exact holds_cell _ i

/-- The right factor: the incoming gradient with its gaps. -/
theorem right : Holds (V m c main_v3) (fun i => gap (cell (m (c.tc.loc main_arg1)) i)) := by
  intro i
  show V m c main_v3 i = _
  unfold V hostOps0 hostOps0_1 hostOps0_2
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h1 : (i 1).val < 3072 := (i 1).isLt
  pointwise
  exact gap_padded _ (i 0) h1 (zero_word _)

theorem pay1_at (a : Vec Ideal S512x1024 .bf16) (b : Vec Ideal S512x768 .f32) (r : Fin 1024) (s : Fin 768) :
    k0_pay1 a b (ix2 r s) = ∑ x : Fin 512, a (ix2 x r) * b (ix2 x s) := by
  pointwise [k0_pay1]

theorem pay2_at (a : Vec Ideal S512x1024 .bf16) (b : Vec Ideal S512x768 .f32) (r : Fin 1024) (s : Fin 768) :
    k0_pay2 a b (ix3 0 r s) = ∑ x : Fin 512, a (ix2 x r) * b (ix2 x s) := by
  refine Eq.trans ?_ (pay1_at a b r s)
  unfold k0_pay2
  generalize k0_pay1 a b = p
  pointwise

theorem pay3_at (a : Vec Ideal S512x1024 .bf16) (b : Vec Ideal S512x768 .f32)
    (o : Vec Ideal S1x1024x768 .f32) (r : Fin 1024) (s : Fin 768) :
    k0_pay3 a b o (ix3 0 r s) = o (ix3 0 r s) + ∑ x : Fin 512, a (ix2 x r) * b (ix2 x s) := by
  refine Eq.trans ?_ (congrArg (o (ix3 0 r s) + ·) (pay1_at a b r s))
  unfold k0_pay3
  generalize k0_pay1 a b = p
  pointwise

section
variable (i : grid0.Coords) (a3 : Memref sig .tc .vmem S512x1024 .bf16) (h3 : a3.IsWhole)
  (a4 : Memref sig .tc .vmem S512x768 .f32) (h4 : a4.IsWhole) (a5 : Memref sig .tc .vmem S1x1024x768 .f32) (h5 : a5.IsWhole)
  (x0 : Vec Ideal S512x1024 .bf16) (x1 : Vec Ideal S512x768 .f32)
  (xo : Vec Ideal S1x1024x768 .f32)

theorem out_A (hc0 : cond0_0 i) (hc1 : ¬cond0_1 i) : out0_A_2 c i a3 h3 a4 h4 a5 h5 hc0 hc1 x0 x1 = k0_pay2 x0 x1 := by
  unfold out0_A_2
  rw [View.read_writes_eq_canon _ _ _ (cover0_A_2 c i a3 h3 a4 h4 a5 h5 hc0 hc1 x0 x1)]
  unfold kernelRun0_A
  dsimp only
  rw [View.canon_unit_zero zeros3]
  simp only [View.readAt_eq_ld, h3.read_unread, h4.read_unread, View.ld_unit_zero (S := S512x1024) zeros2, View.ld_unit_zero (S := S512x768) zeros2]

theorem out_B (hc0 : ¬cond0_0 i) (hc1 : cond0_1 i) : out0_B_2 c i a3 h3 a4 h4 a5 h5 hc0 hc1 x0 x1 xo = k0_pay3 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero zeros3]
  simp only [View.readAt_eq_ld, h3.read_unread, h4.read_unread, h5.read_unread, View.ld_unit_zero (S := S512x1024) zeros2,
    View.ld_unit_zero (S := S512x768) zeros2, View.ld_unit_zero (S := S1x1024x768) zeros3]

end

theorem flush_last : ∀ t : Fin cfg0.N, (cfg0.win 2).flush t = true → t.val % 16 = 15 := by decide +kernel
theorem idx_0 : ∀ t : Fin grid0.N, win0_0.index t 0 = t.val % 16 ∧ win0_0.index t 1 = 0 := by decide +kernel
theorem idx_1 : ∀ t : Fin grid0.N, win0_1.index t 0 = t.val % 16 ∧ win0_1.index t 1 = t.val / 16 := by decide +kernel
theorem idx_2 : ∀ t : Fin grid0.N, win0_2.index t 0 = t.val / 16 ∧ win0_2.index t 1 = 0 ∧ win0_2.index t 2 = 0 := by decide +kernel

section
variable {L R : ℕ → ℕ → EReal} (hL : Holds (V m c main_v0) L) (hR : Holds (V m c main_v3) R)

include hL in
theorem block_0 (t : Fin cfg0.N) (x : Fin 512) (r : Fin 1024) :
    iblk m c 0 t (ix2 x r) = L (512 * (t.val % 16) + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (x : Fin 512) (s : Fin 768) :
    iblk m c 1 t (ix2 x s) = R (512 * (t.val % 16) + x.val) (768 * (t.val / 16) + s.val) := by
  obtain ⟨e0, e1⟩ := idx_1 t
  unfold iblk
  rw [View.read_apply]
  refine (hR _).trans ?_
  congr 1
  · show win0_1.index t 0 * 512 + 1 * x.val = _
    omega
  · show win0_1.index t 1 * 768 + 1 * s.val = _
    omega

include hL hR in
/-- What the result's block holds after each point: the sum over the rows so far. -/
theorem after_point : ∀ (n : ℕ) (hn : n < cfg0.N) (r : Fin 1024) (s : Fin 768),
    outsAt0 m c n hn (ix3 0 r s) = ∑ k ∈ range (512 * (n % 16 + 1)), L k r.val * R k (768 * (n / 16) + s.val) := by
  intro n
  induction n with
  | zero =>
    intro hn r s
    refine (congrFun (outsAt0_A m c ⟨0, hn⟩ (by dsimp only) (by dsimp only; omega)) _).trans ?_
    rw [out_A, pay2_at]
    exact sum_first 512 (fun k => L k r.val * R k (768 * (0 / 16) + s.val)) _ fun x => by
      rw [block_0 m c hL, block_1 m c hR]
      simp only [Nat.zero_mod, Nat.mul_zero, Nat.zero_add]
  | succ n ih =>
    intro hn r s
    by_cases h0 : (n + 1) % 16 = 0
    · refine (congrFun (outsAt0_A m c ⟨n + 1, hn⟩ h0 (by dsimp only; omega)) _).trans ?_
      rw [out_A, pay2_at, h0]
      exact sum_first 512 (fun k => L k r.val * R k (768 * ((n + 1) / 16) + s.val)) _ fun x => by
        rw [block_0 m c hL, block_1 m c hR]
        simp only [h0, Nat.mul_zero, Nat.zero_add]
    · refine (congrFun (outsAt0_B m c ⟨n + 1, hn⟩ h0 (by dsimp only; omega)) _).trans ?_
      rw [out_B, pay3_at]
      have e : (n + 1) % 16 = n % 16 + 1 := by omega
      have e' : (n + 1) / 16 = n / 16 := by omega
      have ih' := ih (Nat.lt_of_succ_lt hn) r s
      refine (congrArg (· + _) ih').trans ?_
      rw [e, e']
      refine sum_block 512 (fun k => L k r.val * R k (768 * (n / 16) + s.val)) (n % 16 + 1) _ fun x => ?_
      rw [block_0 m c hL, block_1 m c hR]
      simp only [e, e']

include hL hR in
/-- The result after the run. -/
theorem array (i : S4x1024x768.Idx) :
    (dats m 0 c).arrAt 2 cfg0.N i = ∑ k ∈ range 8192, L k (i 1).val * R k (768 * (i 0).val + (i 2).val) := by
  refine Dat.arrAt_forall_of_covers (dats m 0 c) 2 (fun i x => x = ∑ k ∈ range 8192, L k (i 1).val * R k (768 * (i 0).val + (i 2).val))
    (by decide +kernel) (fun t hf y => ?_) i
  obtain ⟨e0, e1, e2⟩ := idx_2 t
  have h0 : (y 0).val < 1 := (y 0).isLt
  have h1 : (y 1).val < 1024 := (y 1).isLt
  have h2 : (y 2).val < 768 := (y 2).isLt
  have hy : (cfg0.win 2).xinj (grid0.coords t) y = ix3 0 ⟨(y 1).val, h1⟩ ⟨(y 2).val, h2⟩ := by
    funext a
    match a with
    | 0 => exact Subsingleton.elim (α := Fin 1) _ _
    | 1 => rfl
    | 2 => rfl
  have ht : t.val % 16 = 15 := flush_last t hf
  refine (congrFun (after0_2 m c t) _).trans ?_
  rw [hy]
  refine (after_point m c hL hR t.val t.isLt _ _).trans ?_
  rw [ht]
  have g1 : win0_2.index t 1 * 1024 + 1 * (y 1).val = (y 1).val := by omega
  have g2 : 768 * (win0_2.index t 0 * 1 + 1 * (y 0).val) + (win0_2.index t 2 * 768 + 1 * (y 2).val) = 768 * (t.val / 16) + (y 2).val := by omega
  refine sum_congr rfl fun k _ => ?_
  exact (congrArg₂ (fun a b => L k a * R k b) g1 g2).symm

end

/-- The reference's result, index by index. -/
theorem reference_at (x : FVec Ideal UpTnRefIdeal.S8192x1024 .f32) (y : FVec Ideal UpTnRefIdeal.S8192x2816 .f32)
    (i : UpTnRefIdeal.S4x1024x768.Idx) :
    (pad UpTnRefIdeal.S4x1024x768 ![0, 0, 0] ![0, 0, 64] ![0, 0, 0] (transpose UpTnRefIdeal.S4x1024x704 [1, 0, 2] (shapeCast _
      (transpose UpTnRefIdeal.S1024x2816 [1, 0] (Host.dotGeneral (F := Ideal) UpTnRefIdeal.dot_S8192x2816_S8192x1024_S2816x1024_0_0_1_1_n_n none y x)
        UpTnRefIdeal.Gen.transposes_S2816x1024_S1024x2816_1_0) UpTnRefIdeal.Gen.shapeCasts_S1024x2816_S1024x4x704)
      UpTnRefIdeal.Gen.transposes_S1024x4x704_S4x1024x704_1_0_2) (sitofp .f32 (constantI UpTnRefIdeal.S_ 32 0#32))
      UpTnRefIdeal.Gen.pads_S4x1024x704_S4x1024x768_000_000_0640 UpTnRefIdeal.Gen.h_S_) i
      = ∑ k ∈ range 8192, cell x k (i 1).val * gap (cell y k) (768 * (i 0).val + (i 2).val) := by
  refine Eq.trans ?_ (gap_sum (cell y) (fun k => cell x k (i 1).val) _).symm
  have h2 : (i 2).val < 768 := (i 2).isLt
  pointwise
  refine gap_piece (fun n => ∑ k ∈ range 8192, cell x k (i 1).val * cell y k n) h2 (zero_word _) _ fun h => ?_
  refine sum_first 8192 (fun k => cell x k (i 1).val * cell y k (704 * (i 0).val + (i 2).val)) _ fun k => ?_
  refine (mul_comm _ _).trans (congrArg₂ (· * ·) (cell_eq x k (i 1) rfl rfl) (cell_eq y k _ rfl ?_))
  show (i 0).val * 704 + (i 2).val = _
  omega

/-- The gradient of half of the widening weight. -/
theorem algebraic : algebraic_UpTnIdeal_UpTnRefIdeal (hUpTnIdeal := UpTnIdeal.Gen.facts) (hUpTnRefIdeal := UpTnRefIdeal.Gen.facts) := by
  intro m ρ m' ρ' _ ha
  refine ⟨fun c => (dats m 0 c).arrAt 2 cfg0.N, UpTnIdeal.Value.run_blocks m ρ, (θ_run _ _ _).mono ?_ (UpTnRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.UpTnIdeal.Product

end
-- ==== Proof.Products.Down.lean ====
/- The narrowing product, summed over three blocks of columns and added to the residual. -/
module

public import proofs.«01_k».proof.Proof.Gen.DownIdeal.Value
public import proofs.«01_k».proof.Proof.Gen.DownRefIdeal.Run
public import proofs.«01_k».proof.Proof.Products.Sums

@[expose] public section

set_option maxRecDepth 16384

noncomputable section

namespace Cert.DownIdeal.Product

open Cert.DownIdeal Cert.DownIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor: its columns with their gaps. -/
theorem left : Holds (V m c main_v3) (fun i => gap (cell (m (c.tc.loc main_arg0)) i)) := by
  intro i
  show V m c main_v3 i = _
  unfold V hostOps0 hostOps0_1 hostOps0_2 hostOps0_3 hostOps0_4
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h1 : (i 1).val < 3072 := (i 1).isLt
  pointwise
  exact gap_padded _ (i 0) h1 (zero_word _)

/-- The right factor: the weight's rows with their gaps. -/
theorem right : Holds (V m c main_v7) (fun r k => gap (fun n => cell (m (c.tc.loc main_arg1)) n k) r) := by
  intro i
  show V m c main_v7 i = _
  unfold V hostOps0 hostOps0_1 hostOps0_2 hostOps0_3 hostOps0_4
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h0 : (i 0).val < 3072 := (i 0).isLt
  pointwise
  refine gap_column (fun n => cell _ n (i 1).val) h0 (zero_word _) _ fun h => cell_eq _ _ (i 1) ?_ rfl
  show (i 0).val / 768 * 704 + (i 0).val % 768 = _
  omega

/-- What is added at the end. -/
theorem addend : Holds (V m c main_arg2) (cell (m (c.tc.loc main_arg2))) := by
  rw [V_main_arg2]
  exact holds_cell _

theorem pay1_at (a : Vec Ideal S512x1024 .bf16) (b : Vec Ideal S1024x1024 .bf16) (r : Fin 512) (s : Fin 1024) :
    k0_pay1 a b (ix2 r s) = ∑ x : Fin 1024, a (ix2 r x) * b (ix2 x s) := by
  pointwise [k0_pay1]

theorem pay2_at (a : Vec Ideal S512x1024 .bf16) (b : Vec Ideal S1024x1024 .bf16) (r : Fin 512) (s : Fin 1024) :
    k0_pay2 a b (ix2 r s) = ∑ x : Fin 1024, a (ix2 r x) * b (ix2 x s) := by
  refine Eq.trans ?_ (pay1_at a b r s)
  unfold k0_pay2
  generalize k0_pay1 a b = p
  pointwise

theorem pay3_at (a : Vec Ideal S512x1024 .bf16) (b : Vec Ideal S1024x1024 .bf16)
    (o : Vec Ideal S512x1024 .f32) (r : Fin 512) (s : Fin 1024) :
    k0_pay3 a b o (ix2 r s) = o (ix2 r s) + ∑ x : Fin 1024, a (ix2 r x) * b (ix2 x s) := by
  refine Eq.trans ?_ (congrArg (o (ix2 r s) + ·) (pay1_at a b r s))
  unfold k0_pay3
  generalize k0_pay1 a b = p
  pointwise

theorem pay4_at (a b : Vec Ideal S512x1024 .f32) (r : Fin 512) (s : Fin 1024) :
    k0_pay4 a b (ix2 r s) = a (ix2 r s) + b (ix2 r s) := by
  pointwise [k0_pay4]

section
variable (i : grid0.Coords) (a3 : Memref sig .tc .vmem S512x1024 .bf16) (h3 : a3.IsWhole)
  (a4 : Memref sig .tc .vmem S1024x1024 .bf16) (h4 : a4.IsWhole) (a5 : Memref sig .tc .vmem S512x1024 .f32) (h5 : a5.IsWhole)
  (a6 : Memref sig .tc .vmem S512x1024 .f32) (h6 : a6.IsWhole) (a7 : Memref sig .tc .vmem S512x1024 .f32) (h7 : a7.IsWhole)
  (x0 : Vec Ideal S512x1024 .bf16) (x1 : Vec Ideal S1024x1024 .bf16)
  (x2 xs : Vec Ideal S512x1024 .f32)

theorem scratch_A (hc0 : cond0_0 i) (hc1 : ¬cond0_1 i) (hc2 : ¬cond0_2 i) :
    sout0_A_0 c i a3 h3 a4 h4 a5 h5 a6 h6 a7 h7 hc0 hc1 hc2 x0 x1 x2 = k0_pay2 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero zeros2]
  simp only [View.readAt_eq_ld, h3.read_unread, h4.read_unread, View.ld_unit_zero (S := S512x1024) zeros2, View.ld_unit_zero (S := S1024x1024) zeros2]

theorem scratch_B (hc0 : ¬cond0_0 i) (hc1 : cond0_1 i) (hc2 : ¬cond0_2 i) :
    sout0_B_0 c i a3 h3 a4 h4 a5 h5 a6 h6 a7 h7 hc0 hc1 hc2 x0 x1 x2 xs = k0_pay3 x0 x1 xs := by
  unfold sout0_B_0
  rw [View.read_writes_eq_canon _ _ _ (scover0_B_0 c i a3 h3 a4 h4 a5 h5 a6 h6 a7 h7 hc0 hc1 hc2 x0 x1 x2 xs)]
  unfold kernelRun0_B
  dsimp only
  rw [View.canon_unit_zero zeros2]
  simp only [View.readAt_eq_ld, h3.read_unread, h4.read_unread, h7.read_unread, View.ld_unit_zero (S := S512x1024) zeros2, View.ld_unit_zero (S := S1024x1024) zeros2]

theorem scratch_C (hc0 : ¬cond0_0 i) (hc1 : cond0_1 i) (hc2 : cond0_2 i) :
    sout0_C_0 c i a3 h3 a4 h4 a5 h5 a6 h6 a7 h7 hc0 hc1 hc2 x0 x1 x2 xs = k0_pay3 x0 x1 xs := by
  unfold sout0_C_0
  rw [View.read_writes_eq_canon _ _ _ (scover0_C_0 c i a3 h3 a4 h4 a5 h5 a6 h6 a7 h7 hc0 hc1 hc2 x0 x1 x2 xs)]
  unfold kernelRun0_C
  dsimp only
  sl_unfold_words
  rw [View.canon_unit_zero zeros2]
  simp only [View.readAt_eq_ld, h3.read_unread, h4.read_unread, h7.read_unread, View.ld_unit_zero (S := S512x1024) zeros2, View.ld_unit_zero (S := S1024x1024) zeros2]

theorem out_C (hc0 : ¬cond0_0 i) (hc1 : cond0_1 i) (hc2 : cond0_2 i) :
    out0_C_3 c i a3 h3 a4 h4 a5 h5 a6 h6 a7 h7 hc0 hc1 hc2 x0 x1 x2 xs = k0_pay4 (k0_pay3 x0 x1 xs) x2 := by
  unfold out0_C_3
  rw [View.read_writes_eq_canon _ _ _ (cover0_C_3 c i a3 h3 a4 h4 a5 h5 a6 h6 a7 h7 hc0 hc1 hc2 x0 x1 x2 xs)]
  unfold kernelRun0_C
  dsimp only
  sl_unfold_words
  rw [View.canon_unit_zero zeros2, View.readCov_unit_zero (S := S512x1024) _ zeros2]
  simp only [View.readAt_eq_ld, h3.read_unread, h4.read_unread, h5.read_unread, h7.read_unread, View.ld_unit_zero (S := S512x1024) zeros2, View.ld_unit_zero (S := S1024x1024) zeros2]

end

theorem idx_0 : ∀ t : Fin grid0.N, win0_0.index t 0 = t.val / 3 ∧ win0_0.index t 1 = t.val % 3 := by decide +kernel
theorem idx_1 : ∀ t : Fin grid0.N, win0_1.index t 0 = t.val % 3 ∧ win0_1.index t 1 = 0 := by decide +kernel
theorem idx_2 : ∀ t : Fin grid0.N, win0_2.index t 0 = t.val / 3 ∧ win0_2.index t 1 = 0 := by decide +kernel
theorem idx_3 : ∀ t : Fin grid0.N, win0_3.index t 0 = t.val / 3 ∧ win0_3.index t 1 = 0 := by decide +kernel

section
variable {L R Y : ℕ → ℕ → EReal} (hL : Holds (V m c main_v3) L)
  (hR : Holds (V m c main_v7) R) (hY : Holds (V m c main_arg2) Y)

include hL in
theorem block_0 (t : Fin cfg0.N) (x : Fin 512) (r : Fin 1024) :
    iblk m c 0 t (ix2 x r) = L (512 * (t.val / 3) + x.val) (1024 * (t.val % 3) + r.val) := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (r : Fin 1024) (s : Fin 1024) :
    iblk m c 1 t (ix2 r s) = R (1024 * (t.val % 3) + r.val) s.val := by
  obtain ⟨e0, e1⟩ := idx_1 t
  unfold iblk
  rw [View.read_apply]
  refine (hR _).trans ?_
  congr 1
  · show win0_1.index t 0 * 1024 + 1 * r.val = _
    omega
  · show win0_1.index t 1 * 1024 + 1 * s.val = _
    omega

include hY in
theorem block_2 (t : Fin cfg0.N) (x : Fin 512) (s : Fin 1024) :
    iblk m c 2 t (ix2 x s) = Y (512 * (t.val / 3) + x.val) s.val := by
  obtain ⟨e0, e1⟩ := idx_2 t
  unfold iblk
  rw [View.read_apply]
  refine (hY _).trans ?_
  congr 1
  · show win0_2.index t 0 * 512 + 1 * x.val = _
    omega
  · show win0_2.index t 1 * 1024 + 1 * s.val = _
    omega

include hL hR in
/-- What the accumulator holds after each point: the sum over the columns so far. -/
theorem after_point : ∀ (n : ℕ) (hn : n < cfg0.N) (r : Fin 512) (s : Fin 1024),
    (outsAt0 m c n hn).2 (ix2 r s) = ∑ k ∈ range (1024 * (n % 3 + 1)), L (512 * (n / 3) + r.val) k * R k s.val := by
  intro n
  induction n with
  | zero =>
    intro hn r s
    refine (congrFun (congrArg Prod.snd (outsAt0_A m c ⟨0, hn⟩ (by dsimp only) (by dsimp only; omega) (by dsimp only; omega))) _).trans ?_
    dsimp only
    rw [scratch_A, pay2_at]
    exact sum_first 1024 (fun k => L (512 * (0 / 3) + r.val) k * R k s.val) _ fun x => by
      rw [block_0 m c hL, block_1 m c hR]
      simp only [Nat.zero_mod, Nat.mul_zero, Nat.zero_add]
  | succ n ih =>
    intro hn r s
    by_cases h0 : (n + 1) % 3 = 0
    · refine (congrFun (congrArg Prod.snd (outsAt0_A m c ⟨n + 1, hn⟩ h0 (by dsimp only; omega) (by dsimp only; omega))) _).trans ?_
      dsimp only
      rw [scratch_A, pay2_at, h0]
      exact sum_first 1024 (fun k => L (512 * ((n + 1) / 3) + r.val) k * R k s.val) _ fun x => by
        rw [block_0 m c hL, block_1 m c hR]
        simp only [h0, Nat.mul_zero, Nat.zero_add]
    · have e : (n + 1) % 3 = n % 3 + 1 := by omega
      have e' : (n + 1) / 3 = n / 3 := by omega
      have step : (outsAt0 m c (n + 1) hn).2
          = k0_pay3 (iblk m c 0 ⟨n + 1, hn⟩) (iblk m c 1 ⟨n + 1, hn⟩) (outsAt0 m c n (Nat.lt_of_succ_lt hn)).2 := by
        by_cases h2 : (n + 1) % 3 = 2
        · refine (congrArg Prod.snd (outsAt0_C m c ⟨n + 1, hn⟩ h0 (by dsimp only; omega) h2)).trans ?_
          dsimp only
          rw [scratch_C]
          rfl
        · refine (congrArg Prod.snd (outsAt0_B m c ⟨n + 1, hn⟩ h0 (by dsimp only; omega) h2)).trans ?_
          dsimp only
          rw [scratch_B]
          rfl
      refine (congrFun step _).trans ?_
      rw [pay3_at, ih (Nat.lt_of_succ_lt hn) r s, e, e']
      refine sum_block 1024 (fun k => L (512 * (n / 3) + r.val) k * R k s.val) (n % 3 + 1) _ fun x => ?_
      rw [block_0 m c hL, block_1 m c hR]
      simp only [e, e']

/-- What is written back at a block's last step. -/
theorem out_last (t : Fin cfg0.N) (ht : t.val % 3 = 2) :
    (outsAt0 m c t.val t.isLt).1 = k0_pay4 (outsAt0 m c t.val t.isLt).2 (iblk m c 2 t) := by
  have h := outsAt0_C m c t (by omega) (by omega) ht
  have h1 := congrArg Prod.fst h
  have h2 := congrArg Prod.snd h
  dsimp only at h1 h2
  rw [out_C] at h1
  rw [scratch_C] at h2
  exact h1.trans (congrArg (k0_pay4 · (iblk m c 2 t)) h2.symm)

include hL hR hY in
/-- The result after the run. -/
theorem array (i : S8192x1024.Idx) :
    (dats m 0 c).arrAt 3 cfg0.N i = (∑ k ∈ range 3072, L (i 0).val k * R k (i 1).val) + Y (i 0).val (i 1).val := by
  refine Dat.arrAt_forall_of_covers (dats m 0 c) 3 (fun i x => x = (∑ k ∈ range 3072, L (i 0).val k * R k (i 1).val) + Y (i 0).val (i 1).val)
    (by decide +kernel) (fun t hf y => ?_) i
  obtain ⟨e0, e1⟩ := idx_3 t
  have h0 : (y 0).val < 512 := (y 0).isLt
  have h1 : (y 1).val < 1024 := (y 1).isLt
  have hy : (cfg0.win 3).xinj (grid0.coords t) y = ix2 ⟨(y 0).val, h0⟩ ⟨(y 1).val, h1⟩ := by
    funext a
    match a with
    | 0 => rfl
    | 1 => rfl
  have ht : t.val % 3 = 2 := (flush0_3 t).mp hf
  refine (congrFun ((after0_3 m c t).trans (out_last m c t ht)) _).trans ?_
  rw [hy, pay4_at, block_2 m c hY, after_point m c hL hR t.val t.isLt, ht, show 1024 * (2 + 1) = 3072 from rfl]
  have g0 : win0_3.index t 0 * 512 + 1 * (y 0).val = 512 * (t.val / 3) + (y 0).val := by omega
  have g1 : win0_3.index t 1 * 1024 + 1 * (y 1).val = (y 1).val := by omega
  exact (congrArg₂ (fun a b => (∑ k ∈ range 3072, L a k * R k b) + Y a b) g0 g1).symm

end

/-- The reference's result, index by index. -/
theorem reference_at (x : FVec Ideal DownRefIdeal.S8192x2816 .f32) (y : FVec Ideal DownRefIdeal.S2816x1024 .f32) (z : FVec Ideal DownRefIdeal.S8192x1024 .f32)
    (i : DownRefIdeal.S8192x1024.Idx) :
    (addf z (Host.dotGeneral (F := Ideal) DownRefIdeal.dot_S8192x2816_S2816x1024_S8192x1024_1_0_0_1_n_n none x y)) i
      = (∑ k ∈ range 3072, gap (cell x (i 0).val) k * gap (fun n => cell y n (i 1).val) k) + cell z (i 0).val (i 1).val := by
  refine Eq.trans ?_ (add_comm _ _)
  have g : ∑ k ∈ range (768 * 4), gap (cell x (i 0).val) k * gap (fun n => cell y n (i 1).val) k = ∑ k ∈ range (704 * 4), cell x (i 0).val k * cell y k (i 1).val := by
    simp only [gap_mul]
    exact sum_gap _ 4
  refine Eq.trans ?_ (congrArg (_ + ·) g.symm)
  pointwise
  refine congrArg₂ (· + ·) (holds_cell z i) (sum_first 2816 (fun k => cell x (i 0).val k * cell y k (i 1).val) _ fun k => ?_)
  exact congrArg₂ (· * ·) (cell_eq x (i 0) k rfl rfl) (cell_eq y k (i 1) rfl rfl)

/-- The narrowing product with the residual. -/
theorem algebraic : algebraic_DownIdeal_DownRefIdeal (hDownIdeal := DownIdeal.Gen.facts) (hDownRefIdeal := DownRefIdeal.Gen.facts) := by
  intro m ρ m' ρ' _ ha
  refine ⟨fun c => (dats m 0 c).arrAt 3 cfg0.N, DownIdeal.Value.run_blocks m ρ, (θ_run _ _ _).mono ?_ (DownRefIdeal.Value.run m' ρ')⟩
  intro r h c
  obtain ⟨h0, hrest⟩ := h c
  obtain ⟨a0, a1, a2⟩ := ha c
  refine ⟨h0.trans ?_, hrest⟩
  rw [a0, a1, a2]
  exact funext fun i => (reference_at _ _ _ i).trans (array m c (left m c) (right m c) (addend m c) i).symm

end Cert.DownIdeal.Product

end
-- ==== Proof.Products.DownT.lean ====
/- The incoming gradient against the rows of the narrowing weight: one block of rows against half of the weight at a time. -/
module

public import proofs.«01_k».proof.Proof.Gen.DownTIdeal.Value
public import proofs.«01_k».proof.Proof.Gen.DownTRefIdeal.Run
public import proofs.«01_k».proof.Proof.Products.Sums

@[expose] public section

set_option maxRecDepth 16384

noncomputable section

namespace Cert.DownTIdeal.Product

open Cert.DownTIdeal Cert.DownTIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The right factor: the weight's rows with their gaps. -/
theorem right : Holds (V m c main_v3) (fun r k => gap (fun n => cell (m (c.tc.loc main_arg0)) n k) r) := by
  intro i
  show V m c main_v3 i = _
  unfold V hostOps0 hostOps0_1 hostOps0_2
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h0 : (i 0).val < 3072 := (i 0).isLt
  pointwise
  refine gap_column (fun n => cell _ n (i 1).val) h0 (zero_word _) _ fun h => cell_eq _ _ (i 1) ?_ rfl
  show (i 0).val / 768 * 704 + (i 0).val % 768 = _
  omega

/-- The left factor: the incoming gradient as it is. -/
theorem left : Holds (V m c main_arg1) (cell (m (c.tc.loc main_arg1))) := by
  rw [V_main_arg1]
  exact holds_cell _

theorem pay1_at (a : Vec Ideal S512x1024 .f32) (b : Vec Ideal S1536x1024 .bf16) (r : Fin 512) (s : Fin 1536) :
    k0_pay1 a b (ix2 r s) = ∑ x : Fin 1024, a (ix2 r x) * b (ix2 s x) := by
  pointwise [k0_pay1]

theorem out_at (x0 : Vec Ideal S512x1024 .f32) (x1 : Vec Ideal S1536x1024 .bf16) :
    out0_2 x0 x1 = k0_pay1 x0 x1 := by
  unfold out0_2
  rw [View.canon_unit_zero zeros2, View.ld_unit_zero (S := S512x1024) zeros2, View.ld_unit_zero (S := S1536x1024) zeros2]

theorem idx_0 : ∀ t : Fin grid0.N, win0_0.index t 0 = t.val / 2 ∧ win0_0.index t 1 = 0 := by decide +kernel
theorem idx_1 : ∀ t : Fin grid0.N, win0_1.index t 0 = t.val % 2 ∧ win0_1.index t 1 = 0 := by decide +kernel
theorem idx_2 : ∀ t : Fin grid0.N, win0_2.index t 0 = t.val / 2 ∧ win0_2.index t 1 = t.val % 2 := by decide +kernel

section
variable {L R : ℕ → ℕ → EReal} (hL : Holds (V m c main_arg1) L) (hR : Holds (V m c main_v3) R)

include hL in
theorem block_0 (t : Fin cfg0.N) (x : Fin 512) (r : Fin 1024) :
    iblk m c 0 t (ix2 x r) = L (512 * (t.val / 2) + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (s : Fin 1536) (r : Fin 1024) :
    iblk m c 1 t (ix2 s r) = R (1536 * (t.val % 2) + s.val) r.val := by
  obtain ⟨e0, e1⟩ := idx_1 t
  unfold iblk
  rw [View.read_apply]
  refine (hR _).trans ?_
  congr 1
  · show win0_1.index t 0 * 1536 + 1 * s.val = _
    omega
  · show win0_1.index t 1 * 1024 + 1 * r.val = _
    omega

include hL hR in
/-- The result after the run. -/
theorem array (i : S8192x3072.Idx) :
    (dats m 0 c).arrAt 2 cfg0.N i = ∑ k ∈ range 1024, L (i 0).val k * R (i 1).val k := by
  refine Dat.arrAt_forall_of_covers (dats m 0 c) 2 (fun i x => x = ∑ k ∈ range 1024, L (i 0).val k * R (i 1).val k)
    (by decide +kernel) (fun t _ y => ?_) i
  obtain ⟨e0, e1⟩ := idx_2 t
  have h0 : (y 0).val < 512 := (y 0).isLt
  have h1 : (y 1).val < 1536 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  have g0 : win0_2.index t 0 * 512 + 1 * (y 0).val = 512 * (t.val / 2) + (y 0).val := by omega
  have g1 : win0_2.index t 1 * 1536 + 1 * (y 1).val = 1536 * (t.val % 2) + (y 1).val := by omega
  refine (sum_first 1024 (fun k => L (512 * (t.val / 2) + (y 0).val) k * R (1536 * (t.val % 2) + (y 1).val) k) _ fun x => by
    rw [block_0 m c hL, block_1 m c hR]).trans ?_
  refine sum_congr rfl fun k _ => ?_
  exact (congrArg₂ (fun a b => L a k * R b k) g0 g1).symm

end

/-- The reference's result, index by index. -/
theorem reference_at (x : FVec Ideal DownTRefIdeal.S8192x1024 .f32) (y : FVec Ideal DownTRefIdeal.S2816x1024 .f32)
    (i : DownTRefIdeal.S8192x3072.Idx) :
    (shapeCast DownTRefIdeal.S8192x3072 (pad DownTRefIdeal.S8192x4x768 ![0, 0, 0] ![0, 0, 64] ![0, 0, 0] (shapeCast _
      (Host.dotGeneral (F := Ideal) DownTRefIdeal.dot_S8192x1024_S2816x1024_S8192x2816_1_1_0_0_n_n none x y)
      DownTRefIdeal.Gen.shapeCasts_S8192x2816_S8192x4x704) (sitofp .f32 (constantI DownTRefIdeal.S_ 32 0#32))
      DownTRefIdeal.Gen.pads_S8192x4x704_S8192x4x768_000_000_0640 DownTRefIdeal.Gen.h_S_) DownTRefIdeal.Gen.shapeCasts_S8192x4x768_S8192x3072) i
      = ∑ k ∈ range 1024, cell x (i 0).val k * gap (fun n => cell y n k) (i 1).val := by
  refine Eq.trans ?_ (gap_sum (fun k n => cell y n k) (fun k => cell x (i 0).val k) _).symm
  have h1 : (i 1).val < 3072 := (i 1).isLt
  pointwise
  refine gap_column (fun n => ∑ k ∈ range 1024, cell x (i 0).val k * cell y n k) h1 (zero_word _) _ fun h => ?_
  refine sum_first 1024 (fun k => cell x (i 0).val k * cell y (704 * ((i 1).val / 768) + (i 1).val % 768) k) _ fun k => ?_
  refine congrArg₂ (· * ·) (cell_eq x (i 0) k rfl rfl) (cell_eq y _ k ?_ rfl)
  dsimp only
  omega

/-- The gradient of the narrowing product's left factor. -/
theorem algebraic : algebraic_DownTIdeal_DownTRefIdeal (hDownTIdeal := DownTIdeal.Gen.facts) (hDownTRefIdeal := DownTRefIdeal.Gen.facts) := by
  intro m ρ m' ρ' _ ha
  refine ⟨fun c => (dats m 0 c).arrAt 2 cfg0.N, DownTIdeal.Value.run_blocks m ρ, (θ_run _ _ _).mono ?_ (DownTRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.DownTIdeal.Product

end
-- ==== Proof.Products.DownTn.lean ====
/- The gradient of the narrowing weight: the columns' inner products with the incoming gradient, summed over sixteen blocks of rows. -/
module

public import proofs.«01_k».proof.Proof.Gen.DownTnIdeal.Value
public import proofs.«01_k».proof.Proof.Gen.DownTnRefIdeal.Run
public import proofs.«01_k».proof.Proof.Products.Sums

@[expose] public section

set_option maxRecDepth 16384

noncomputable section

namespace Cert.DownTnIdeal.Product

open Cert.DownTnIdeal Cert.DownTnIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor: its columns with their gaps. -/
theorem left : Holds (V m c main_v3) (fun i => gap (cell (m (c.tc.loc main_arg0)) i)) := by
  intro i
  show V m c main_v3 i = _
  unfold V hostOps0 hostOps0_1 hostOps0_2
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h1 : (i 1).val < 3072 := (i 1).isLt
  pointwise
  exact gap_padded _ (i 0) h1 (zero_word _)

/-- The right factor: the incoming gradient as it is. -/
theorem right : Holds (V m c main_arg1) (cell (m (c.tc.loc main_arg1))) := by
  rw [V_main_arg1]
  exact holds_cell _

theorem pay1_at (a : Vec Ideal S512x1024 .bf16) (b : Vec Ideal S512x1024 .f32) (r s : Fin 1024) :
    k0_pay1 a b (ix2 r s) = ∑ x : Fin 512, a (ix2 x r) * b (ix2 x s) := by
  pointwise [k0_pay1]

theorem pay2_at (a : Vec Ideal S512x1024 .bf16) (b : Vec Ideal S512x1024 .f32)
    (o : Vec Ideal S1024x1024 .f32) (r s : Fin 1024) :
    k0_pay2 a b o (ix2 r s) = o (ix2 r s) + ∑ x : Fin 512, a (ix2 x r) * b (ix2 x s) := by
  refine Eq.trans ?_ (congrArg (o (ix2 r s) + ·) (pay1_at a b r s))
  unfold k0_pay2
  generalize k0_pay1 a b = p
  pointwise

section
variable (i : grid0.Coords) (a3 : Memref sig .tc .vmem S512x1024 .bf16) (h3 : a3.IsWhole)
  (a4 : Memref sig .tc .vmem S512x1024 .f32) (h4 : a4.IsWhole) (a5 : Memref sig .tc .vmem S1024x1024 .f32) (h5 : a5.IsWhole)
  (x0 : Vec Ideal S512x1024 .bf16) (x1 : Vec Ideal S512x1024 .f32)
  (xo : Vec Ideal S1024x1024 .f32)

theorem out_A (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero zeros2]
  simp only [View.readAt_eq_ld, h3.read_unread, h4.read_unread, View.ld_unit_zero (S := S512x1024) zeros2]

theorem out_B (hc0 : ¬cond0_0 i) (hc1 : cond0_1 i) : out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero zeros2]
  simp only [View.readAt_eq_ld, h3.read_unread, h4.read_unread, h5.read_unread, View.ld_unit_zero (S := S512x1024) zeros2, View.ld_unit_zero (S := S1024x1024) zeros2]

end

theorem flush_last : ∀ t : Fin cfg0.N, (cfg0.win 2).flush t = true → t.val % 16 = 15 := by decide +kernel
theorem idx_0 : ∀ t : Fin grid0.N, win0_0.index t 0 = t.val % 16 ∧ win0_0.index t 1 = t.val / 16 := by decide +kernel
theorem idx_1 : ∀ t : Fin grid0.N, win0_1.index t 0 = t.val % 16 ∧ win0_1.index t 1 = 0 := by decide +kernel
theorem idx_2 : ∀ t : Fin grid0.N, win0_2.index t 0 = t.val / 16 ∧ win0_2.index t 1 = 0 := by decide +kernel

section
variable {L R : ℕ → ℕ → EReal} (hL : Holds (V m c main_v3) L) (hR : Holds (V m c main_arg1) R)

include hL in
theorem block_0 (t : Fin cfg0.N) (x : Fin 512) (r : Fin 1024) :
    iblk m c 0 t (ix2 x r) = L (512 * (t.val % 16) + x.val) (1024 * (t.val / 16) + r.val) := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (x : Fin 512) (s : Fin 1024) :
    iblk m c 1 t (ix2 x s) = R (512 * (t.val % 16) + x.val) s.val := by
  obtain ⟨e0, e1⟩ := idx_1 t
  unfold iblk
  rw [View.read_apply]
  refine (hR _).trans ?_
  congr 1
  · show win0_1.index t 0 * 512 + 1 * x.val = _
    omega
  · show win0_1.index t 1 * 1024 + 1 * s.val = _
    omega

include hL hR in
/-- What the result's block holds after each point: the sum over the rows so far. -/
theorem after_point : ∀ (n : ℕ) (hn : n < cfg0.N) (r s : Fin 1024),
    outsAt0 m c n hn (ix2 r s) = ∑ k ∈ range (512 * (n % 16 + 1)), L k (1024 * (n / 16) + r.val) * R k s.val := by
  intro n
  induction n with
  | zero =>
    intro hn r s
    refine (congrFun (outsAt0_A m c ⟨0, hn⟩ (by dsimp only) (by dsimp only; omega)) _).trans ?_
    rw [out_A, pay1_at]
    exact sum_first 512 (fun k => L k (1024 * (0 / 16) + r.val) * R k s.val) _ fun x => by
      rw [block_0 m c hL, block_1 m c hR]
      simp only [Nat.zero_mod, Nat.mul_zero, Nat.zero_add]
  | succ n ih =>
    intro hn r s
    by_cases h0 : (n + 1) % 16 = 0
    · refine (congrFun (outsAt0_A m c ⟨n + 1, hn⟩ h0 (by dsimp only; omega)) _).trans ?_
      rw [out_A, pay1_at, h0]
      exact sum_first 512 (fun k => L k (1024 * ((n + 1) / 16) + r.val) * R k s.val) _ fun x => by
        rw [block_0 m c hL, block_1 m c hR]
        simp only [h0, Nat.mul_zero, Nat.zero_add]
    · refine (congrFun (outsAt0_B m c ⟨n + 1, hn⟩ h0 (by dsimp only; omega)) _).trans ?_
      rw [out_B, pay2_at]
      have e : (n + 1) % 16 = n % 16 + 1 := by omega
      have e' : (n + 1) / 16 = n / 16 := by omega
      have ih' := ih (Nat.lt_of_succ_lt hn) r s
      refine (congrArg (· + _) ih').trans ?_
      rw [e, e']
      refine sum_block 512 (fun k => L k (1024 * (n / 16) + r.val) * R k s.val) (n % 16 + 1) _ fun x => ?_
      rw [block_0 m c hL, block_1 m c hR]
      simp only [e, e']

include hL hR in
/-- The result after the run. -/
theorem array (i : S3072x1024.Idx) :
    (dats m 0 c).arrAt 2 cfg0.N i = ∑ k ∈ range 8192, L k (i 0).val * R k (i 1).val := by
  refine Dat.arrAt_forall_of_covers (dats m 0 c) 2 (fun i x => x = ∑ k ∈ range 8192, L k (i 0).val * R k (i 1).val)
    (by decide +kernel) (fun t hf y => ?_) i
  obtain ⟨e0, e1⟩ := idx_2 t
  have h0 : (y 0).val < 1024 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  have ht : t.val % 16 = 15 := flush_last t hf
  refine (congrFun (after0_2 m c t) _).trans ?_
  rw [hy]
  refine (after_point m c hL hR t.val t.isLt _ _).trans ?_
  rw [ht]
  have g0 : win0_2.index t 0 * 1024 + 1 * (y 0).val = 1024 * (t.val / 16) + (y 0).val := by omega
  have g1 : win0_2.index t 1 * 1024 + 1 * (y 1).val = (y 1).val := by omega
  refine sum_congr rfl fun k _ => ?_
  exact (congrArg₂ (fun a b => L k a * R k b) g0 g1).symm

end

/-- The reference's result, index by index. -/
theorem reference_at (x : FVec Ideal DownTnRefIdeal.S8192x2816 .f32) (y : FVec Ideal DownTnRefIdeal.S8192x1024 .f32)
    (i : DownTnRefIdeal.S3072x1024.Idx) :
    (shapeCast DownTnRefIdeal.S3072x1024 (pad DownTnRefIdeal.S4x768x1024 ![0, 0, 0] ![0, 64, 0] ![0, 0, 0] (shapeCast _
      (transpose DownTnRefIdeal.S2816x1024 [1, 0] (Host.dotGeneral (F := Ideal) DownTnRefIdeal.dot_S8192x1024_S8192x2816_S1024x2816_0_0_1_1_n_n none y x)
        DownTnRefIdeal.Gen.transposes_S1024x2816_S2816x1024_1_0) DownTnRefIdeal.Gen.shapeCasts_S2816x1024_S4x704x1024)
      (sitofp .f32 (constantI DownTnRefIdeal.S_ 32 0#32))
      DownTnRefIdeal.Gen.pads_S4x704x1024_S4x768x1024_000_0640_000 DownTnRefIdeal.Gen.h_S_) DownTnRefIdeal.Gen.shapeCasts_S4x768x1024_S3072x1024) i
      = ∑ k ∈ range 8192, gap (cell x k) (i 0).val * cell y k (i 1).val := by
  refine Eq.trans ?_ (gap_sum' (cell x) (fun k => cell y k (i 1).val) _).symm
  have h0 : (i 0).val < 3072 := (i 0).isLt
  pointwise
  refine gap_column (fun n => ∑ k ∈ range 8192, cell x k n * cell y k (i 1).val) h0 (zero_word _) _ fun h => ?_
  refine sum_first 8192 (fun k => cell x k (704 * ((i 0).val / 768) + (i 0).val % 768) * cell y k (i 1).val) _ fun k => ?_
  refine (mul_comm _ _).trans (congrArg₂ (· * ·) (cell_eq x k _ rfl ?_) (cell_eq y k (i 1) rfl rfl))
  dsimp only
  omega

/-- The gradient of the narrowing weight. -/
theorem algebraic : algebraic_DownTnIdeal_DownTnRefIdeal (hDownTnIdeal := DownTnIdeal.Gen.facts) (hDownTnRefIdeal := DownTnRefIdeal.Gen.facts) := by
  intro m ρ m' ρ' _ ha
  refine ⟨fun c => (dats m 0 c).arrAt 2 cfg0.N, DownTnIdeal.Value.run_blocks m ρ, (θ_run _ _ _).mono ?_ (DownTnRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.DownTnIdeal.Product

end
-- ==== Proof.Products.MemQ.lean ====
/- The product of the queries of the memory attention. -/
module

public import proofs.«01_k».proof.Proof.Gen.MemQIdeal.Value
public import proofs.«01_k».proof.Proof.Gen.MemQRefIdeal.Run
public import proofs.«01_k».proof.Proof.Products.Sums

@[expose] public section

set_option maxRecDepth 16384

noncomputable section

namespace Cert.MemQIdeal.Product

open Cert.MemQIdeal Cert.MemQIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v0) (cell (m (c.tc.loc main_arg0))) := by
  intro i
  show V m c main_v0 i = _
  unfold V hostOps0
  simp only [List.flatten_cons, List.flatten_nil, List.append_nil, List.cons_append, List.nil_append,
    StableHlo.TRef.binary, StableHlo.TRef.unary]
  after_results_simp
  pointwise
  exact holds_cell _ i

/-- The right factor. -/
theorem right : Holds (V m c main_v1) (cell (m (c.tc.loc main_arg1))) := by
  intro i
  show V m c main_v1 i = _
  unfold V hostOps0
  simp only [List.flatten_cons, List.flatten_nil, List.append_nil, List.cons_append, List.nil_append,
    StableHlo.TRef.binary, StableHlo.TRef.unary]
  after_results_simp
  pointwise
  exact holds_cell _ i

theorem pay1_at (a : Vec Ideal S512x1024 .bf16) (b : Vec Ideal S1024x1024 .bf16) (r : Fin 512) (s : Fin 1024) :
    k0_pay1 a b (ix2 r s) = ∑ x : Fin 1024, a (ix2 r x) * b (ix2 x s) := by
  pointwise [k0_pay1]

theorem out_at (x0 : Vec Ideal S512x1024 .bf16) (x1 : Vec Ideal S1024x1024 .bf16) :
    out0_2 x0 x1 = k0_pay1 x0 x1 := by
  unfold out0_2
  rw [View.canon_unit_zero zeros2]
  simp only [View.ld_unit_zero (S := S512x1024) zeros2,
    View.ld_unit_zero (S := S1024x1024) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel

section
variable {L R : ℕ → ℕ → EReal} (hL : Holds (V m c main_v0) L) (hR : Holds (V m c main_v1) R)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (r : Fin 1024) (s : Fin 1024) :
    iblk m c 1 t (ix2 r s) = R r.val s.val := by
  obtain ⟨e0, e1⟩ := idx_1 t
  unfold iblk
  rw [View.read_apply]
  refine (hR _).trans ?_
  congr 1
  · show win0_1.index t 0 * 1024 + 1 * r.val = _
    omega
  · show win0_1.index t 1 * 1024 + 1 * s.val = _
    omega

include hL hR in
/-- The result after the run. -/
theorem array (i : S8192x1024.Idx) :
    (dats m 0 c).arrAt 2 cfg0.N i = ∑ k ∈ range 1024, L (i 0).val k * R k (i 1).val := by
  refine Dat.arrAt_forall_of_covers (dats m 0 c) 2 (fun i x => x = ∑ k ∈ range 1024, L (i 0).val k * R k (i 1).val)
    (by decide +kernel) (fun t _ y => ?_) i
  obtain ⟨e0, e1⟩ := idx_2 t
  have h0 : (y 0).val < 512 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  have g0 : win0_2.index t 0 * 512 + 1 * (y 0).val = 512 * t.val + (y 0).val := by omega
  have g1 : win0_2.index t 1 * 1024 + 1 * (y 1).val = (y 1).val := by omega
  refine (sum_first 1024 (fun k => L (512 * t.val + (y 0).val) k * R k (y 1).val) _ fun x => by
    rw [block_0 m c hL, block_1 m c hR]).trans ?_
  exact (congrArg₂ (fun a b => ∑ k ∈ range 1024, L a k * R k b) g0 g1).symm

end

/-- The reference's result, index by index. -/
theorem reference_at (x : FVec Ideal MemQRefIdeal.S8192x1024 .f32) (y : FVec Ideal MemQRefIdeal.S1024x1024 .f32) (i : MemQRefIdeal.S8192x1024.Idx) :
    (Host.dotGeneral (F := Ideal) MemQRefIdeal.dot_S8192x1024_S1024x1024_S8192x1024_1_0_0_1_n_n none x y) i
      = ∑ k ∈ range 1024, cell x (i 0).val k * cell y k (i 1).val := by
  pointwise
  exact sum_first 1024 (fun k => cell x (i 0).val k * cell y k (i 1).val) _ fun k =>
    congrArg₂ (· * ·) (cell_eq x (i 0) k rfl rfl) (cell_eq y k (i 1) rfl rfl)

/-- The product with the memory attention's query weight. -/
theorem algebraic : algebraic_MemQIdeal_MemQRefIdeal (hMemQIdeal := MemQIdeal.Gen.facts) (hMemQRefIdeal := MemQRefIdeal.Gen.facts) := by
  intro m ρ m' ρ' _ ha
  refine ⟨fun c => (dats m 0 c).arrAt 2 cfg0.N, MemQIdeal.Value.run_blocks m ρ, (θ_run _ _ _).mono ?_ (MemQRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.MemQIdeal.Product

end
-- ==== Proof.Products.MemO.lean ====
/- The output product of the memory attention, added to the residual. -/
module

public import proofs.«01_k».proof.Proof.Gen.MemOIdeal.Value
public import proofs.«01_k».proof.Proof.Gen.MemORefIdeal.Run
public import proofs.«01_k».proof.Proof.Products.Sums

@[expose] public section

set_option maxRecDepth 16384

noncomputable section

namespace Cert.MemOIdeal.Product

open Cert.MemOIdeal Cert.MemOIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v0) (cell (m (c.tc.loc main_arg0))) := by
  intro i
  show V m c main_v0 i = _
  unfold V hostOps0
  simp only [List.flatten_cons, List.flatten_nil, List.append_nil, List.cons_append, List.nil_append,
    StableHlo.TRef.binary, StableHlo.TRef.unary]
  after_results_simp
  pointwise
  exact holds_cell _ i

/-- The right factor. -/
theorem right : Holds (V m c main_v1) (cell (m (c.tc.loc main_arg1))) := by
  intro i
  show V m c main_v1 i = _
  unfold V hostOps0
  simp only [List.flatten_cons, List.flatten_nil, List.append_nil, List.cons_append, List.nil_append,
    StableHlo.TRef.binary, StableHlo.TRef.unary]
  after_results_simp
  pointwise
  exact holds_cell _ i

/-- The addend. -/
theorem addend : Holds (V m c main_arg2) (cell (m (c.tc.loc main_arg2))) := by
  rw [V_main_arg2]
  exact holds_cell _

theorem pay1_at (a : Vec Ideal S512x1024 .bf16) (b : Vec Ideal S1024x1024 .bf16) (z : Vec Ideal S512x1024 .f32) (r : Fin 512) (s : Fin 1024) :
    k0_pay1 a b z (ix2 r s) = (∑ x : Fin 1024, a (ix2 r x) * b (ix2 x s)) + z (ix2 r s) := by
  pointwise [k0_pay1]

theorem out_at (x0 : Vec Ideal S512x1024 .bf16) (x1 : Vec Ideal S1024x1024 .bf16) (x2 : Vec Ideal S512x1024 .f32) :
    out0_3 x0 x1 x2 = k0_pay1 x0 x1 x2 := by
  unfold out0_3
  rw [View.canon_unit_zero zeros2]
  simp only [View.ld_unit_zero (S := S512x1024) zeros2,
    View.ld_unit_zero (S := S1024x1024) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel
theorem idx_3 : ∀ t : Fin grid0.N, win0_3.index t 0 = t.val ∧ win0_3.index t 1 = 0 := by decide +kernel

section
variable {L R Y : ℕ → ℕ → EReal} (hL : Holds (V m c main_v0) L) (hR : Holds (V m c main_v1) R) (hY : Holds (V m c main_arg2) Y)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (r : Fin 1024) (s : Fin 1024) :
    iblk m c 1 t (ix2 r s) = R r.val s.val := by
  obtain ⟨e0, e1⟩ := idx_1 t
  unfold iblk
  rw [View.read_apply]
  refine (hR _).trans ?_
  congr 1
  · show win0_1.index t 0 * 1024 + 1 * r.val = _
    omega
  · show win0_1.index t 1 * 1024 + 1 * s.val = _
    omega

include hY in
theorem block_2 (t : Fin cfg0.N) (x : Fin 512) (s : Fin 1024) :
    iblk m c 2 t (ix2 x s) = Y (512 * t.val + x.val) s.val := by
  obtain ⟨e0, e1⟩ := idx_2 t
  unfold iblk
  rw [View.read_apply]
  refine (hY _).trans ?_
  congr 1
  · show win0_2.index t 0 * 512 + 1 * x.val = _
    omega
  · show win0_2.index t 1 * 1024 + 1 * s.val = _
    omega

include hL hR hY in
/-- The result after the run. -/
theorem array (i : S8192x1024.Idx) :
    (dats m 0 c).arrAt 3 cfg0.N i = (∑ k ∈ range 1024, L (i 0).val k * R k (i 1).val) + Y (i 0).val (i 1).val := by
  refine Dat.arrAt_forall_of_covers (dats m 0 c) 3 (fun i x => x = (∑ k ∈ range 1024, L (i 0).val k * R k (i 1).val) + Y (i 0).val (i 1).val)
    (by decide +kernel) (fun t _ y => ?_) i
  obtain ⟨e0, e1⟩ := idx_3 t
  have h0 : (y 0).val < 512 := (y 0).isLt
  have h1 : (y 1).val < 1024 := (y 1).isLt
  have hy : (cfg0.win 3).xinj (grid0.coords t) y = ix2 ⟨(y 0).val, h0⟩ ⟨(y 1).val, h1⟩ := by
    funext a
    match a with
    | 0 => rfl
    | 1 => rfl
  refine (congrFun (after0_3 m c t) _).trans ?_
  rw [hy, out_at, pay1_at]
  have g0 : win0_3.index t 0 * 512 + 1 * (y 0).val = 512 * t.val + (y 0).val := by omega
  have g1 : win0_3.index t 1 * 1024 + 1 * (y 1).val = (y 1).val := by omega
  rw [block_2 m c hY]
  refine (congrArg (· + _) (sum_first 1024 (fun k => L (512 * t.val + (y 0).val) k * R k (y 1).val) _ fun x => by
    rw [block_0 m c hL, block_1 m c hR])).trans ?_
  exact (congrArg₂ (fun a b => (∑ k ∈ range 1024, L a k * R k b) + Y a b) g0 g1).symm

end

/-- The reference's result, index by index. -/
theorem reference_at (x : FVec Ideal MemORefIdeal.S8192x1024 .f32) (y : FVec Ideal MemORefIdeal.S1024x1024 .f32) (z : FVec Ideal MemORefIdeal.S8192x1024 .f32)
    (i : MemORefIdeal.S8192x1024.Idx) :
    (addf z (Host.dotGeneral (F := Ideal) MemORefIdeal.dot_S8192x1024_S1024x1024_S8192x1024_1_0_0_1_n_n none x y)) i
      = (∑ k ∈ range 1024, cell x (i 0).val k * cell y k (i 1).val) + cell z (i 0).val (i 1).val := by
  pointwise
  refine (add_comm _ _).trans (congrArg₂ (· + ·) ?_ (holds_cell z i))
  exact sum_first 1024 (fun k => cell x (i 0).val k * cell y k (i 1).val) _ fun k =>
    congrArg₂ (· * ·) (cell_eq x (i 0) k rfl rfl) (cell_eq y k (i 1) rfl rfl)

/-- The product with the memory attention's output weight, added to the residual. -/
theorem algebraic : algebraic_MemOIdeal_MemORefIdeal (hMemOIdeal := MemOIdeal.Gen.facts) (hMemORefIdeal := MemORefIdeal.Gen.facts) := by
  intro m ρ m' ρ' _ ha
  refine ⟨fun c => (dats m 0 c).arrAt 3 cfg0.N, MemOIdeal.Value.run_blocks m ρ, (θ_run _ _ _).mono ?_ (MemORefIdeal.Value.run m' ρ')⟩
  intro r h c
  obtain ⟨h0, hrest⟩ := h c
  obtain ⟨a0, a1, a2⟩ := ha c
  refine ⟨h0.trans ?_, hrest⟩
  rw [a0, a1, a2]
  exact funext fun i => (reference_at _ _ _ i).trans (array m c (left m c) (right m c) (addend m c) i).symm

end Cert.MemOIdeal.Product

end
-- ==== Proof.Products.MemT.lean ====
/- The gradient through a product of the memory attention: the rows of the incoming gradient against the rows of the weight. -/
module

public import proofs.«01_k».proof.Proof.Gen.MemTIdeal.Value
public import proofs.«01_k».proof.Proof.Gen.MemTRefIdeal.Run
public import proofs.«01_k».proof.Proof.Products.Sums

@[expose] public section

set_option maxRecDepth 16384

noncomputable section

namespace Cert.MemTIdeal.Product

open Cert.MemTIdeal Cert.MemTIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_arg1) (cell (m (c.tc.loc main_arg1))) := by
  rw [V_main_arg1]
  exact holds_cell _

/-- The right factor. -/
theorem right : Holds (V m c main_v0) (cell (m (c.tc.loc main_arg0))) := by
  intro i
  show V m c main_v0 i = _
  unfold V hostOps0
  simp only [List.flatten_cons, List.flatten_nil, List.append_nil, List.cons_append, List.nil_append,
    StableHlo.TRef.binary, StableHlo.TRef.unary]
  after_results_simp
  pointwise
  exact holds_cell _ i

theorem pay1_at (a : Vec Ideal S512x1024 .f32) (b : Vec Ideal S1024x1024 .bf16) (r : Fin 512) (s : Fin 1024) :
    k0_pay1 a b (ix2 r s) = ∑ x : Fin 1024, a (ix2 r x) * b (ix2 s x) := by
  pointwise [k0_pay1]

theorem out_at (x0 : Vec Ideal S512x1024 .f32) (x1 : Vec Ideal S1024x1024 .bf16) :
    out0_2 x0 x1 = k0_pay1 x0 x1 := by
  unfold out0_2
  rw [View.canon_unit_zero zeros2]
  simp only [View.ld_unit_zero (S := S512x1024) zeros2,
    View.ld_unit_zero (S := S1024x1024) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel

section
variable {L R : ℕ → ℕ → EReal} (hL : Holds (V m c main_arg1) L) (hR : Holds (V m c main_v0) R)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (s : Fin 1024) (r : Fin 1024) :
    iblk m c 1 t (ix2 s r) = R s.val r.val := by
  obtain ⟨e0, e1⟩ := idx_1 t
  unfold iblk
  rw [View.read_apply]
  refine (hR _).trans ?_
  congr 1
  · show win0_1.index t 0 * 1024 + 1 * s.val = _
    omega
  · show win0_1.index t 1 * 1024 + 1 * r.val = _
    omega

include hL hR in
/-- The result after the run. -/
theorem array (i : S8192x1024.Idx) :
    (dats m 0 c).arrAt 2 cfg0.N i = ∑ k ∈ range 1024, L (i 0).val k * R (i 1).val k := by
  refine Dat.arrAt_forall_of_covers (dats m 0 c) 2 (fun i x => x = ∑ k ∈ range 1024, L (i 0).val k * R (i 1).val k)
    (by decide +kernel) (fun t _ y => ?_) i
  obtain ⟨e0, e1⟩ := idx_2 t
  have h0 : (y 0).val < 512 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  have g0 : win0_2.index t 0 * 512 + 1 * (y 0).val = 512 * t.val + (y 0).val := by omega
  have g1 : win0_2.index t 1 * 1024 + 1 * (y 1).val = (y 1).val := by omega
  refine (sum_first 1024 (fun k => L (512 * t.val + (y 0).val) k * R (y 1).val k) _ fun x => by
    rw [block_0 m c hL, block_1 m c hR]).trans ?_
  exact (congrArg₂ (fun a b => ∑ k ∈ range 1024, L a k * R b k) g0 g1).symm

end

/-- The reference's result, index by index. -/
theorem reference_at (x : FVec Ideal MemTRefIdeal.S8192x1024 .f32) (y : FVec Ideal MemTRefIdeal.S1024x1024 .f32) (i : MemTRefIdeal.S8192x1024.Idx) :
    (Host.dotGeneral (F := Ideal) MemTRefIdeal.dot_S8192x1024_S1024x1024_S8192x1024_1_1_0_0_n_n none x y) i
      = ∑ k ∈ range 1024, cell x (i 0).val k * cell y (i 1).val k := by
  pointwise
  exact sum_first 1024 (fun k => cell x (i 0).val k * cell y (i 1).val k) _ fun k =>
    congrArg₂ (· * ·) (cell_eq x (i 0) k rfl rfl) (cell_eq y (i 1) k rfl rfl)

/-- The gradient of the factor of a product of the memory attention. -/
theorem algebraic : algebraic_MemTIdeal_MemTRefIdeal (hMemTIdeal := MemTIdeal.Gen.facts) (hMemTRefIdeal := MemTRefIdeal.Gen.facts) := by
  intro m ρ m' ρ' _ ha
  refine ⟨fun c => (dats m 0 c).arrAt 2 cfg0.N, MemTIdeal.Value.run_blocks m ρ, (θ_run _ _ _).mono ?_ (MemTRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.MemTIdeal.Product

end
-- ==== Proof.Products.MemTn.lean ====
/- The gradient of a weight of the memory attention: the columns' inner products with the incoming gradient, summed over sixteen blocks of rows. -/
module

public import proofs.«01_k».proof.Proof.Gen.MemTnIdeal.Value
public import proofs.«01_k».proof.Proof.Gen.MemTnRefIdeal.Run
public import proofs.«01_k».proof.Proof.Products.Sums

@[expose] public section

set_option maxRecDepth 16384

noncomputable section

namespace Cert.MemTnIdeal.Product

open Cert.MemTnIdeal Cert.MemTnIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v0) (cell (m (c.tc.loc main_arg0))) := by
  intro i
  show V m c main_v0 i = _
  unfold V hostOps0
  simp only [List.flatten_cons, List.flatten_nil, List.append_nil, List.cons_append, List.nil_append,
    StableHlo.TRef.binary, StableHlo.TRef.unary]
  after_results_simp
  pointwise
  exact holds_cell _ i

/-- The right factor. -/
theorem right : Holds (V m c main_arg1) (cell (m (c.tc.loc main_arg1))) := by
  rw [V_main_arg1]
  exact holds_cell _

theorem pay1_at (a : Vec Ideal S512x1024 .bf16) (b : Vec Ideal S512x1024 .f32) (r : Fin 1024) (s : Fin 1024) :
    k0_pay1 a b (ix2 r s) = ∑ x : Fin 512, a (ix2 x r) * b (ix2 x s) := by
  pointwise [k0_pay1]

theorem pay2_at (a : Vec Ideal S512x1024 .bf16) (b : Vec Ideal S512x1024 .f32)
    (o : Vec Ideal S1024x1024 .f32) (r : Fin 1024) (s : Fin 1024) :
    k0_pay2 a b o (ix2 r s) = o (ix2 r s) + ∑ x : Fin 512, a (ix2 x r) * b (ix2 x s) := by
  refine Eq.trans ?_ (congrArg (o (ix2 r s) + ·) (pay1_at a b r s))
  unfold k0_pay2
  generalize k0_pay1 a b = p
  pointwise

section
variable (i : grid0.Coords) (a3 : Memref sig .tc .vmem S512x1024 .bf16) (h3 : a3.IsWhole)
  (a4 : Memref sig .tc .vmem S512x1024 .f32) (h4 : a4.IsWhole) (a5 : Memref sig .tc .vmem S1024x1024 .f32) (h5 : a5.IsWhole)
  (x0 : Vec Ideal S512x1024 .bf16) (x1 : Vec Ideal S512x1024 .f32)
  (xo : Vec Ideal S1024x1024 .f32)

theorem out_A (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero zeros2]
  simp only [View.readAt_eq_ld, h3.read_unread, h4.read_unread, View.ld_unit_zero (S := S512x1024) zeros2]

theorem out_B (hc0 : ¬cond0_0 i) (hc1 : cond0_1 i) : out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero zeros2]
  simp only [View.readAt_eq_ld, h3.read_unread, h4.read_unread, h5.read_unread, View.ld_unit_zero (S := S512x1024) zeros2,
    View.ld_unit_zero (S := S1024x1024) zeros2]

end

theorem flush_last : ∀ t : Fin cfg0.N, (cfg0.win 2).flush t = true → t.val = 15 := by decide +kernel
theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = 0 ∧ win0_2.index t 1 = 0 := by decide +kernel

section
variable {L R : ℕ → ℕ → EReal} (hL : Holds (V m c main_v0) L) (hR : Holds (V m c main_arg1) R)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (x : Fin 512) (s : Fin 1024) :
    iblk m c 1 t (ix2 x s) = R (512 * t.val + x.val) s.val := by
  obtain ⟨e0, e1⟩ := idx_1 t
  unfold iblk
  rw [View.read_apply]
  refine (hR _).trans ?_
  congr 1
  · show win0_1.index t 0 * 512 + 1 * x.val = _
    omega
  · show win0_1.index t 1 * 1024 + 1 * s.val = _
    omega

include hL hR in
/-- What the result's block holds after each point: the sum over the rows so far. -/
theorem after_point : ∀ (n : ℕ) (hn : n < cfg0.N) (r : Fin 1024) (s : Fin 1024),
    outsAt0 m c n hn (ix2 r s) = ∑ k ∈ range (512 * (n + 1)), L k r.val * R k s.val := by
  intro n
  induction n with
  | zero =>
    intro hn r s
    refine (congrFun (outsAt0_A m c ⟨0, hn⟩ (by dsimp only) (by dsimp only; omega)) _).trans ?_
    rw [out_A, pay1_at]
    exact sum_first 512 (fun k => L k r.val * R k s.val) _ fun x => by
      rw [block_0 m c hL, block_1 m c hR]
      simp only [Nat.mul_zero, Nat.zero_add]
  | succ n ih =>
    intro hn r s
    have hN : n + 1 < 16 := lt_of_lt_of_eq hn (show cfg0.N = 16 from N_0)
    refine (congrFun (outsAt0_B m c ⟨n + 1, hn⟩ (by dsimp only; omega) (by dsimp only; omega)) _).trans ?_
    rw [out_B, pay2_at]
    refine (congrArg (· + _) (ih (Nat.lt_of_succ_lt hn) r s)).trans ?_
    refine sum_block 512 (fun k => L k r.val * R k s.val) (n + 1) _ fun x => ?_
    rw [block_0 m c hL, block_1 m c hR]

include hL hR in
/-- The result after the run. -/
theorem array (i : S1024x1024.Idx) :
    (dats m 0 c).arrAt 2 cfg0.N i = ∑ k ∈ range 8192, L k (i 0).val * R k (i 1).val := by
  refine Dat.arrAt_forall_of_covers (dats m 0 c) 2 (fun i x => x = ∑ k ∈ range 8192, L k (i 0).val * R k (i 1).val)
    (by decide +kernel) (fun t hf y => ?_) i
  obtain ⟨e0, e1⟩ := idx_2 t
  have h0 : (y 0).val < 1024 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  have ht : t.val = 15 := flush_last t hf
  refine (congrFun (after0_2 m c t) _).trans ?_
  rw [hy]
  refine (after_point m c hL hR t.val t.isLt _ _).trans ?_
  rw [ht]
  have g0 : win0_2.index t 0 * 1024 + 1 * (y 0).val = (y 0).val := by omega
  have g1 : win0_2.index t 1 * 1024 + 1 * (y 1).val = (y 1).val := by omega
  exact (congrArg₂ (fun a b => ∑ k ∈ range 8192, L k a * R k b) g0 g1).symm

end

/-- The reference's result, index by index. -/
theorem reference_at (x : FVec Ideal MemTnRefIdeal.S8192x1024 .f32) (y : FVec Ideal MemTnRefIdeal.S8192x1024 .f32) (i : MemTnRefIdeal.S1024x1024.Idx) :
    (transpose MemTnRefIdeal.S1024x1024 [1, 0] (Host.dotGeneral (F := Ideal)
      MemTnRefIdeal.dot_S8192x1024_S8192x1024_S1024x1024_0_0_1_1_n_n none y x) MemTnRefIdeal.Gen.transposes_S1024x1024_S1024x1024_1_0) i
      = ∑ k ∈ range 8192, cell x k (i 0).val * cell y k (i 1).val := by
  pointwise
  exact sum_first 8192 (fun k => cell x k (i 0).val * cell y k (i 1).val) _ fun k =>
    (mul_comm _ _).trans (congrArg₂ (· * ·) (cell_eq x k (i 0) rfl rfl) (cell_eq y k (i 1) rfl rfl))

/-- The gradient of a weight of the memory attention. -/
theorem algebraic : algebraic_MemTnIdeal_MemTnRefIdeal (hMemTnIdeal := MemTnIdeal.Gen.facts) (hMemTnRefIdeal := MemTnRefIdeal.Gen.facts) := by
  intro m ρ m' ρ' _ ha
  refine ⟨fun c => (dats m 0 c).arrAt 2 cfg0.N, MemTnIdeal.Value.run_blocks m ρ, (θ_run _ _ _).mono ?_ (MemTnRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.MemTnIdeal.Product

end
-- ==== Proof.Products.Split.lean ====
/- A row of 1440 entries with gaps: 64 zeros before its last 32 entries and 32 zeros after them. -/
module

public import proofs.«01_k».proof.Proof.Products.Sums

@[expose] public section

noncomputable section

namespace Cert.Products

open Idealize.ShloMosaic Finset

/-- The row with its gaps. -/
def split (f : ℕ → EReal) (j : ℕ) : EReal := if j < 1408 then f j else if 1472 ≤ j ∧ j < 1504 then f (j - 64) else 0

theorem split_head (f : ℕ → EReal) {j : ℕ} (h : j < 1408) : split f j = f j := if_pos h

theorem split_zero (f : ℕ → EReal) {j : ℕ} (h : 1408 ≤ j) (h' : j < 1472 ∨ 1504 ≤ j) : split f j = 0 :=
  (if_neg (by omega)).trans (if_neg (by omega))

theorem split_tail (f : ℕ → EReal) {j : ℕ} (h : 1472 ≤ j) (h' : j < 1504) : split f j = f (j - 64) :=
  (if_neg (by omega)).trans (if_pos ⟨h, h'⟩)

theorem split_mul (f g : ℕ → EReal) (j : ℕ) : split f j * split g j = split (fun k => f k * g k) j := by
  unfold split
  by_cases h : j < 1408
  · simp only [if_pos h]
  · simp only [if_neg h]
    by_cases h' : 1472 ≤ j ∧ j < 1504
    · simp only [if_pos h']
    · simp only [if_neg h', mul_zero]

theorem split_sum {n : ℕ} (f : ℕ → ℕ → EReal) (g : ℕ → EReal) (j : ℕ) :
    ∑ k ∈ range n, g k * split (f k) j = split (fun i => ∑ k ∈ range n, g k * f k i) j := by
  unfold split
  by_cases h : j < 1408
  · simp only [if_pos h]
  · simp only [if_neg h]
    by_cases h' : 1472 ≤ j ∧ j < 1504
    · simp only [if_pos h']
    · simp only [if_neg h', mul_zero, sum_const_zero]

/-- Terms with zeros in the gaps add up to the terms without the gaps. -/
theorem sum_split (f : ℕ → EReal) : ∑ j ∈ range 1536, split f j = ∑ j ∈ range 1440, f j := by
  rw [show (1536 : ℕ) = 1408 + (64 + (32 + 32)) from rfl, show (1440 : ℕ) = 1408 + 32 from rfl,
    sum_range_add, sum_range_add, sum_range_add, sum_range_add]
  have h1 : ∑ x ∈ range 64, split f (1408 + x) = 0 := sum_eq_zero fun x hx => by
    have := mem_range.mp hx
    exact split_zero f (by omega) (by omega)
  have h3 : ∑ x ∈ range 32, split f (1408 + (64 + (32 + x))) = 0 := sum_eq_zero fun x hx => by
    have := mem_range.mp hx
    exact split_zero f (by omega) (by omega)
  rw [h1, h3, zero_add, add_zero]
  refine congrArg₂ (· + ·) ?_ ?_
  · refine sum_congr rfl fun x hx => split_head f (mem_range.mp hx)
  · refine sum_congr rfl fun x hx => ?_
    have := mem_range.mp hx
    refine (split_tail f (by omega) (by omega)).trans (congrArg f ?_)
    omega

/-- The row put together from two parts, each followed by its zeros. -/
theorem split_two (f : ℕ → EReal) {j : ℕ} (hj : j < 1536) {z : EReal} (hz : z = 0) (g : j < 1472 → j < 1408 → EReal)
    (g' : ¬j < 1472 → j - 1472 < 32 → EReal) (hg : ∀ h h', g h h' = f j) (hg' : ∀ h h', g' h h' = f (j - 64)) :
    (if h : j < 1472 then if h' : j < 1408 then g h h' else z else if h' : j - 1472 < 32 then g' h h' else z) = split f j := by
  by_cases h : j < 1472
  · refine (dif_pos h).trans ?_
    by_cases h' : j < 1408
    · exact (dif_pos h').trans ((hg h h').trans (split_head f h').symm)
    · exact (dif_neg h').trans (hz.trans (split_zero f (by omega) (by omega)).symm)
  · refine (dif_neg h).trans ?_
    by_cases h' : j - 1472 < 32
    · exact (dif_pos h').trans ((hg' h h').trans (split_tail f (by omega) (by omega)).symm)
    · exact (dif_neg h').trans (hz.trans (split_zero f (by omega) (by omega)).symm)

/-- The row put together from four pieces. -/
theorem split_four (f : ℕ → EReal) {j : ℕ} (hj : j < 1536) (g : j < 1408 → EReal)
    (g' : ¬j < 1408 → ¬j - 1408 < 64 → j - 1408 - 64 < 32 → EReal) (hg : ∀ h, g h = f j)
    (hg' : ∀ h h' h'', g' h h' h'' = f (j - 64)) :
    (if h : j < 1408 then g h else if h' : j - 1408 < 64 then 0 else if h'' : j - 1408 - 64 < 32 then g' h h' h'' else 0) =
      split f j := by
  by_cases h : j < 1408
  · exact (dif_pos h).trans ((hg h).trans (split_head f h).symm)
  · refine (dif_neg h).trans ?_
    by_cases h' : j - 1408 < 64
    · exact (dif_pos h').trans (split_zero f (by omega) (by omega)).symm
    · refine (dif_neg h').trans ?_
      by_cases h'' : j - 1408 - 64 < 32
      · exact (dif_pos h'').trans ((hg' h h' h'').trans (split_tail f (by omega) (by omega)).symm)
      · exact (dif_neg h'').trans (split_zero f (by omega) (by omega)).symm

end Cert.Products

end
-- ==== Proof.Products.MixIn.lean ====
/- The first product of the mixer: the normalized rows against the padded weight. -/
module

public import proofs.«01_k».proof.Proof.Gen.MixInIdeal.Value
public import proofs.«01_k».proof.Proof.Gen.MixInRefIdeal.Run
public import proofs.«01_k».proof.Proof.Products.Split

@[expose] public section

set_option maxRecDepth 16384

noncomputable section

namespace Cert.MixInIdeal.Product

open Cert.MixInIdeal Cert.MixInIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v0) (cell (m (c.tc.loc main_arg0))) := by
  intro i
  show V m c main_v0 i = _
  unfold V hostOps0
  simp only [List.flatten_cons, List.flatten_nil, List.append_nil, List.cons_append, List.nil_append,
    StableHlo.TRef.binary, StableHlo.TRef.unary]
  after_results_simp
  pointwise
  exact holds_cell _ i

/-- The right factor. -/
theorem right : Holds (V m c main_v6) (fun i => split (cell (m (c.tc.loc main_arg1)) i)) := by
  intro i
  show V m c main_v6 i = _
  unfold V hostOps0
  simp only [List.flatten_cons, List.flatten_nil, List.append_nil, List.cons_append, List.nil_append,
    StableHlo.TRef.binary, StableHlo.TRef.unary]
  after_results_simp
  pointwise
  after_results_simp
  pointwise
  have h1 : (i 1).val < 1536 := (i 1).isLt
  refine split_four (cell (m (c.tc.loc main_arg1)) (i 0).val) h1 _ _ (fun h => ?_) fun h h' h'' => ?_
  · exact cell_eq _ (i 0) _ rfl rfl
  · refine cell_eq _ (i 0) _ rfl ?_
    dsimp only
    omega

theorem pay1_at (a : Vec Ideal S512x1024 .bf16) (b : Vec Ideal S1024x1536 .bf16) (r : Fin 512) (s : Fin 1536) :
    k0_pay1 a b (ix2 r s) = ∑ x : Fin 1024, a (ix2 r x) * b (ix2 x s) := by
  pointwise [k0_pay1]

theorem out_at (x0 : Vec Ideal S512x1024 .bf16) (x1 : Vec Ideal S1024x1536 .bf16) :
    out0_2 x0 x1 = k0_pay1 x0 x1 := by
  unfold out0_2
  rw [View.canon_unit_zero zeros2]
  simp only [View.ld_unit_zero (S := S512x1024) zeros2,
    View.ld_unit_zero (S := S1024x1536) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel

section
variable {L R : ℕ → ℕ → EReal} (hL : Holds (V m c main_v0) L) (hR : Holds (V m c main_v6) R)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (r : Fin 1024) (s : Fin 1536) :
    iblk m c 1 t (ix2 r s) = R r.val s.val := by
  obtain ⟨e0, e1⟩ := idx_1 t
  unfold iblk
  rw [View.read_apply]
  refine (hR _).trans ?_
  congr 1
  · show win0_1.index t 0 * 1024 + 1 * r.val = _
    omega
  · show win0_1.index t 1 * 1536 + 1 * s.val = _
    omega

include hL hR in
/-- The result after the run. -/
theorem array (i : S8192x1536.Idx) :
    (dats m 0 c).arrAt 2 cfg0.N i = ∑ k ∈ range 1024, L (i 0).val k * R k (i 1).val := by
  refine Dat.arrAt_forall_of_covers (dats m 0 c) 2 (fun i x => x = ∑ k ∈ range 1024, L (i 0).val k * R k (i 1).val)
    (by decide +kernel) (fun t _ y => ?_) i
  obtain ⟨e0, e1⟩ := idx_2 t
  have h0 : (y 0).val < 512 := (y 0).isLt
  have h1 : (y 1).val < 1536 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  have g0 : win0_2.index t 0 * 512 + 1 * (y 0).val = 512 * t.val + (y 0).val := by omega
  have g1 : win0_2.index t 1 * 1536 + 1 * (y 1).val = (y 1).val := by omega
  refine (sum_first 1024 (fun k => L (512 * t.val + (y 0).val) k * R k (y 1).val) _ fun x => by
    rw [block_0 m c hL, block_1 m c hR]).trans ?_
  exact (congrArg₂ (fun a b => ∑ k ∈ range 1024, L a k * R k b) g0 g1).symm

end

/-- The reference's result, index by index. -/
theorem reference_at (x : FVec Ideal MixInRefIdeal.S8192x1024 .f32) (y : FVec Ideal MixInRefIdeal.S1024x1440 .f32) (i : MixInRefIdeal.S8192x1536.Idx) :
    (concatenate MixInRefIdeal.S8192x1536 1
      [⟨MixInRefIdeal.S8192x1472, pad MixInRefIdeal.S8192x1472 ![0, 0] ![0, 64] ![0, 0] (extractStridedSlice MixInRefIdeal.S8192x1408 ![0, 0]
          (Host.dotGeneral (F := Ideal) MixInRefIdeal.dot_S8192x1024_S1024x1440_S8192x1440_1_0_0_1_n_n none x y)
          MixInRefIdeal.Gen.slices_S8192x1440_S8192x1408_0_0) (sitofp .f32 (constantI MixInRefIdeal.S_ 32 0#32))
          MixInRefIdeal.Gen.pads_S8192x1408_S8192x1472_000_0640 MixInRefIdeal.Gen.h_S_⟩,
       ⟨MixInRefIdeal.S8192x64, pad MixInRefIdeal.S8192x64 ![0, 0] ![0, 32] ![0, 0] (extractStridedSlice MixInRefIdeal.S8192x32 ![0, 1408]
          (Host.dotGeneral (F := Ideal) MixInRefIdeal.dot_S8192x1024_S1024x1440_S8192x1440_1_0_0_1_n_n none x y)
          MixInRefIdeal.Gen.slices_S8192x1440_S8192x32_0_1408) (sitofp .f32 (constantI MixInRefIdeal.S_ 32 0#32))
          MixInRefIdeal.Gen.pads_S8192x32_S8192x64_000_0320 MixInRefIdeal.Gen.h_S_⟩]
      MixInRefIdeal.Gen.concatenates_S8192x1472_S8192x64_S8192x1536_d1) i
      = ∑ k ∈ range 1024, cell x (i 0).val k * split (cell y k) (i 1).val := by
  refine Eq.trans ?_ (split_sum (cell y) (fun k => cell x (i 0).val k) _).symm
  have h1 : (i 1).val < 1536 := (i 1).isLt
  pointwise
  refine split_two (fun n => ∑ k ∈ range 1024, cell x (i 0).val k * cell y k n) h1 (zero_word _) _ _ (fun h h' => ?_) fun h h' => ?_
  · exact sum_first 1024 (fun k => cell x (i 0).val k * cell y k (i 1).val) _ fun k =>
      congrArg₂ (· * ·) (cell_eq x (i 0) k rfl rfl) (cell_eq y k _ rfl rfl)
  · refine sum_first 1024 (fun k => cell x (i 0).val k * cell y k ((i 1).val - 64)) _ fun k =>
      congrArg₂ (· * ·) (cell_eq x (i 0) k rfl rfl) (cell_eq y k _ rfl ?_)
    dsimp only
    omega

/-- The first product of the mixer. -/
theorem algebraic : algebraic_MixInIdeal_MixInRefIdeal (hMixInIdeal := MixInIdeal.Gen.facts) (hMixInRefIdeal := MixInRefIdeal.Gen.facts) := by
  intro m ρ m' ρ' _ ha
  refine ⟨fun c => (dats m 0 c).arrAt 2 cfg0.N, MixInIdeal.Value.run_blocks m ρ, (θ_run _ _ _).mono ?_ (MixInRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.MixInIdeal.Product

end
-- ==== Proof.Products.MixInT.lean ====
/- The incoming gradient against the mixer's first weight, both padded, summed over two blocks of columns. -/
module

public import proofs.«01_k».proof.Proof.Gen.MixInTIdeal.Value
public import proofs.«01_k».proof.Proof.Gen.MixInTRefIdeal.Run
public import proofs.«01_k».proof.Proof.Products.Split

@[expose] public section

set_option maxRecDepth 16384

noncomputable section

namespace Cert.MixInTIdeal.Product

open Cert.MixInTIdeal Cert.MixInTIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor: the incoming gradient with its gaps. -/
theorem left : Holds (V m c main_v4) (fun i => split (cell (m (c.tc.loc main_arg1)) i)) := by
  intro i
  show V m c main_v4 i = _
  unfold V hostOps0
  simp only [List.flatten_cons, List.flatten_nil, List.append_nil, List.cons_append, List.nil_append,
    StableHlo.TRef.binary, StableHlo.TRef.unary]
  after_results_simp
  pointwise
  after_results_simp
  pointwise
  have h1 : (i 1).val < 1536 := (i 1).isLt
  refine split_four (cell (m (c.tc.loc main_arg1)) (i 0).val) h1 _ _ (fun h => ?_) fun h h' h'' => ?_
  · exact cell_eq _ (i 0) _ rfl rfl
  · refine cell_eq _ (i 0) _ rfl ?_
    dsimp only
    omega

/-- The right factor: the weight with its gaps. -/
theorem right : Holds (V m c main_v10) (fun i => split (cell (m (c.tc.loc main_arg0)) i)) := by
  intro i
  show V m c main_v10 i = _
  unfold V hostOps0
  simp only [List.flatten_cons, List.flatten_nil, List.append_nil, List.cons_append, List.nil_append,
    StableHlo.TRef.binary, StableHlo.TRef.unary]
  after_results_simp
  pointwise
  after_results_simp
  pointwise
  have h1 : (i 1).val < 1536 := (i 1).isLt
  refine split_four (cell (m (c.tc.loc main_arg0)) (i 0).val) h1 _ _ (fun h => ?_) fun h h' h'' => ?_
  · exact cell_eq _ (i 0) _ rfl rfl
  · refine cell_eq _ (i 0) _ rfl ?_
    dsimp only
    omega

theorem pay1_at (a : Vec Ideal S512x768 .f32) (b : Vec Ideal S1024x768 .bf16) (r : Fin 512) (s : Fin 1024) :
    k0_pay1 a b (ix2 r s) = ∑ x : Fin 768, a (ix2 r x) * b (ix2 s x) := by
  pointwise [k0_pay1]

theorem pay2_at (a : Vec Ideal S512x768 .f32) (b : Vec Ideal S1024x768 .bf16) (r : Fin 512) (s : Fin 1024) :
    k0_pay2 a b (ix2 r s) = ∑ x : Fin 768, a (ix2 r x) * b (ix2 s x) := by
  refine Eq.trans ?_ (pay1_at a b r s)
  unfold k0_pay2
  generalize k0_pay1 a b = p
  pointwise

theorem pay3_at (a : Vec Ideal S512x768 .f32) (b : Vec Ideal S1024x768 .bf16)
    (o : Vec Ideal S512x1024 .f32) (r : Fin 512) (s : Fin 1024) :
    k0_pay3 a b o (ix2 r s) = o (ix2 r s) + ∑ x : Fin 768, a (ix2 r x) * b (ix2 s x) := by
  refine Eq.trans ?_ (congrArg (o (ix2 r s) + ·) (pay1_at a b r s))
  unfold k0_pay3
  generalize k0_pay1 a b = p
  pointwise

section
variable (i : grid0.Coords) (a3 : Memref sig .tc .vmem S512x768 .f32) (h3 : a3.IsWhole)
  (a4 : Memref sig .tc .vmem S1024x768 .bf16) (h4 : a4.IsWhole) (a5 : Memref sig .tc .vmem S512x1024 .f32) (h5 : a5.IsWhole)
  (a6 : Memref sig .tc .vmem S512x1024 .f32) (h6 : a6.IsWhole)
  (x0 : Vec Ideal S512x768 .f32) (x1 : Vec Ideal S1024x768 .bf16)
  (x2 xs : Vec Ideal S512x1024 .f32)

theorem scratch_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  simp only [View.readAt_eq_ld, h3.read_unread, h4.read_unread, View.ld_unit_zero (S := S512x768) zeros2, View.ld_unit_zero (S := S1024x768) zeros2, View.ld_unit_zero (S := S512x1024) zeros2]

theorem scratch_B (hc0 : ¬cond0_0 i) (hc1 : cond0_1 i) (hc2 : cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero zeros2]
  simp only [View.readAt_eq_ld, h3.read_unread, h4.read_unread, h6.read_unread, View.ld_unit_zero (S := S512x768) zeros2, View.ld_unit_zero (S := S1024x768) zeros2, View.ld_unit_zero (S := S512x1024) zeros2]

theorem out_B (hc0 : ¬cond0_0 i) (hc1 : cond0_1 i) (hc2 : cond0_2 i) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zeros2, View.readCov_unit_zero (S := S512x1024) _ zeros2]
  simp only [View.readAt_eq_ld, h3.read_unread, h4.read_unread, h6.read_unread, View.ld_unit_zero (S := S512x768) zeros2, View.ld_unit_zero (S := S1024x768) zeros2, View.ld_unit_zero (S := S512x1024) zeros2]

end

theorem idx_0 : ∀ t : Fin grid0.N, win0_0.index t 0 = t.val / 2 ∧ win0_0.index t 1 = t.val % 2 := by decide +kernel
theorem idx_1 : ∀ t : Fin grid0.N, win0_1.index t 0 = 0 ∧ win0_1.index t 1 = t.val % 2 := by decide +kernel
theorem idx_2 : ∀ t : Fin grid0.N, win0_2.index t 0 = t.val / 2 ∧ win0_2.index t 1 = 0 := by decide +kernel

section
variable {L R : ℕ → ℕ → EReal} (hL : Holds (V m c main_v4) L) (hR : Holds (V m c main_v10) R)

include hL in
theorem block_0 (t : Fin cfg0.N) (x : Fin 512) (r : Fin 768) :
    iblk m c 0 t (ix2 x r) = L (512 * (t.val / 2) + x.val) (768 * (t.val % 2) + r.val) := by
  obtain ⟨e0, e1⟩ := idx_0 t
  unfold iblk
  rw [View.read_apply]
  refine (hL _).trans ?_
  congr 1
  · show win0_0.index t 0 * 512 + 1 * x.val = _
    omega
  · show win0_0.index t 1 * 768 + 1 * r.val = _
    omega

include hR in
theorem block_1 (t : Fin cfg0.N) (s : Fin 1024) (r : Fin 768) :
    iblk m c 1 t (ix2 s r) = R s.val (768 * (t.val % 2) + r.val) := by
  obtain ⟨e0, e1⟩ := idx_1 t
  unfold iblk
  rw [View.read_apply]
  refine (hR _).trans ?_
  congr 1
  · show win0_1.index t 0 * 1024 + 1 * s.val = _
    omega
  · show win0_1.index t 1 * 768 + 1 * r.val = _
    omega

include hL hR in
/-- What the accumulator holds after a block's first step: the sum over the first 768 columns. -/
theorem after_first (t : Fin cfg0.N) (ht : t.val % 2 = 0) (r : Fin 512) (s : Fin 1024) :
    (outsAt0 m c t.val t.isLt).2 (ix2 r s) = ∑ k ∈ range 768, L (512 * (t.val / 2) + r.val) k * R s.val k := by
  refine (congrFun (congrArg Prod.snd (outsAt0_A m c t ht (by omega) (by omega))) _).trans ?_
  dsimp only
  rw [scratch_A, pay2_at]
  exact sum_first 768 (fun k => L (512 * (t.val / 2) + r.val) k * R s.val k) _ fun x => by
    rw [block_0 m c hL, block_1 m c hR]
    simp only [ht, Nat.mul_zero, Nat.zero_add]

include hL hR in
/-- What is written back at a block's last step: the sum over all columns. -/
theorem out_last (t : Fin cfg0.N) (ht : t.val % 2 = 1) (r : Fin 512) (s : Fin 1024) :
    (outsAt0 m c t.val t.isLt).1 (ix2 r s) = ∑ k ∈ range 1536, L (512 * (t.val / 2) + r.val) k * R s.val k := by
  refine (congrFun (congrArg Prod.fst (outsAt0_B m c t (by omega) ht ht)) _).trans ?_
  dsimp only
  have hb : t.val - 1 < cfg0.N := Nat.lt_of_le_of_lt (Nat.sub_le _ _) t.isLt
  have e : (t.val - 1) / 2 = t.val / 2 := by omega
  rw [out_B, pay3_at, after_first m c hL hR ⟨t.val - 1, hb⟩ (by dsimp only; omega)]
  dsimp only
  rw [e]
  refine sum_block 768 (fun k => L (512 * (t.val / 2) + r.val) k * R s.val k) 1 _ fun x => ?_
  rw [block_0 m c hL, block_1 m c hR]
  simp only [ht]

include hL hR in
/-- The result after the run. -/
theorem array (i : S8192x1024.Idx) :
    (dats m 0 c).arrAt 2 cfg0.N i = ∑ k ∈ range 1536, L (i 0).val k * R (i 1).val k := by
  refine Dat.arrAt_forall_of_covers (dats m 0 c) 2 (fun i x => x = ∑ k ∈ range 1536, L (i 0).val k * R (i 1).val k)
    (by decide +kernel) (fun t hf y => ?_) i
  obtain ⟨e0, e1⟩ := idx_2 t
  have h0 : (y 0).val < 512 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  have ht : t.val % 2 = 1 := (flush0_2 t).mp hf
  refine (congrFun (after0_2 m c t) _).trans ?_
  rw [hy, out_last m c hL hR t ht]
  have g0 : win0_2.index t 0 * 512 + 1 * (y 0).val = 512 * (t.val / 2) + (y 0).val := by omega
  have g1 : win0_2.index t 1 * 1024 + 1 * (y 1).val = (y 1).val := by omega
  exact (congrArg₂ (fun a b => ∑ k ∈ range 1536, L a k * R b k) g0 g1).symm

end

/-- The reference's result, index by index. -/
theorem reference_at (x : FVec Ideal MixInTRefIdeal.S8192x1440 .f32) (y : FVec Ideal MixInTRefIdeal.S1024x1440 .f32) (i : MixInTRefIdeal.S8192x1024.Idx) :
    (Host.dotGeneral (F := Ideal) MixInTRefIdeal.dot_S8192x1440_S1024x1440_S8192x1024_1_1_0_0_n_n none x y) i
      = ∑ k ∈ range 1536, split (cell x (i 0).val) k * split (cell y (i 1).val) k := by
  have g : ∑ k ∈ range 1536, split (cell x (i 0).val) k * split (cell y (i 1).val) k = ∑ k ∈ range 1440, cell x (i 0).val k * cell y (i 1).val k := by
    simp only [split_mul]
    exact sum_split _
  refine Eq.trans ?_ g.symm
  pointwise
  exact sum_first 1440 (fun k => cell x (i 0).val k * cell y (i 1).val k) _ fun k =>
    congrArg₂ (· * ·) (cell_eq x (i 0) k rfl rfl) (cell_eq y (i 1) k rfl rfl)

/-- The gradient of the mixer's first product's left factor. -/
theorem algebraic : algebraic_MixInTIdeal_MixInTRefIdeal (hMixInTIdeal := MixInTIdeal.Gen.facts) (hMixInTRefIdeal := MixInTRefIdeal.Gen.facts) := by
  intro m ρ m' ρ' _ ha
  refine ⟨fun c => (dats m 0 c).arrAt 2 cfg0.N, MixInTIdeal.Value.run_blocks m ρ, (θ_run _ _ _).mono ?_ (MixInTRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (R := fun r => split (cell (m (c.tc.loc main_arg0)) r)) (left m c) (right m c) i).symm

end Cert.MixInTIdeal.Product

end
-- ==== Proof.Products.MixInTn.lean ====
/- The gradient of the mixer's first weight: the columns' inner products with the padded incoming gradient, summed over sixteen blocks of rows. -/
module

public import proofs.«01_k».proof.Proof.Gen.MixInTnIdeal.Value
public import proofs.«01_k».proof.Proof.Gen.MixInTnRefIdeal.Run
public import proofs.«01_k».proof.Proof.Products.Split

@[expose] public section

set_option maxRecDepth 16384

noncomputable section

namespace Cert.MixInTnIdeal.Product

open Cert.MixInTnIdeal Cert.MixInTnIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v0) (cell (m (c.tc.loc main_arg0))) := by
  intro i
  show V m c main_v0 i = _
  unfold V hostOps0
  simp only [List.flatten_cons, List.flatten_nil, List.append_nil, List.cons_append, List.nil_append,
    StableHlo.TRef.binary, StableHlo.TRef.unary]
  after_results_simp
  pointwise
  exact holds_cell _ i

/-- The right factor. -/
theorem right : Holds (V m c main_v5) (fun i => split (cell (m (c.tc.loc main_arg1)) i)) := by
  intro i
  show V m c main_v5 i = _
  unfold V hostOps0
  simp only [List.flatten_cons, List.flatten_nil, List.append_nil, List.cons_append, List.nil_append,
    StableHlo.TRef.binary, StableHlo.TRef.unary]
  after_results_simp
  pointwise
  after_results_simp
  pointwise
  have h1 : (i 1).val < 1536 := (i 1).isLt
  refine split_four (cell (m (c.tc.loc main_arg1)) (i 0).val) h1 _ _ (fun h => ?_) fun h h' h'' => ?_
  · exact cell_eq _ (i 0) _ rfl rfl
  · refine cell_eq _ (i 0) _ rfl ?_
    dsimp only
    omega

theorem pay1_at (a : Vec Ideal S512x1024 .bf16) (b : Vec Ideal S512x1536 .f32) (r : Fin 1024) (s : Fin 1536) :
    k0_pay1 a b (ix2 r s) = ∑ x : Fin 512, a (ix2 x r) * b (ix2 x s) := by
  pointwise [k0_pay1]

theorem pay2_at (a : Vec Ideal S512x1024 .bf16) (b : Vec Ideal S512x1536 .f32)
    (o : Vec Ideal S1024x1536 .f32) (r : Fin 1024) (s : Fin 1536) :
    k0_pay2 a b o (ix2 r s) = o (ix2 r s) + ∑ x : Fin 512, a (ix2 x r) * b (ix2 x s) := by
  refine Eq.trans ?_ (congrArg (o (ix2 r s) + ·) (pay1_at a b r s))
  unfold k0_pay2
  generalize k0_pay1 a b = p
  pointwise

section
variable (i : grid0.Coords) (a3 : Memref sig .tc .vmem S512x1024 .bf16) (h3 : a3.IsWhole)
  (a4 : Memref sig .tc .vmem S512x1536 .f32) (h4 : a4.IsWhole) (a5 : Memref sig .tc .vmem S1024x1536 .f32) (h5 : a5.IsWhole)
  (x0 : Vec Ideal S512x1024 .bf16) (x1 : Vec Ideal S512x1536 .f32)
  (xo : Vec Ideal S1024x1536 .f32)

theorem out_A (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero zeros2]
  simp only [View.readAt_eq_ld, h3.read_unread, h4.read_unread, View.ld_unit_zero (S := S512x1024) zeros2,
    View.ld_unit_zero (S := S512x1536) zeros2]

theorem out_B (hc0 : ¬cond0_0 i) (hc1 : cond0_1 i) : out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero zeros2]
  simp only [View.readAt_eq_ld, h3.read_unread, h4.read_unread, h5.read_unread, View.ld_unit_zero (S := S512x1024) zeros2,
    View.ld_unit_zero (S := S512x1536) zeros2,
    View.ld_unit_zero (S := S1024x1536) zeros2]

end

theorem flush_last : ∀ t : Fin cfg0.N, (cfg0.win 2).flush t = true → t.val = 15 := by decide +kernel
theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = 0 ∧ win0_2.index t 1 = 0 := by decide +kernel

section
variable {L R : ℕ → ℕ → EReal} (hL : Holds (V m c main_v0) L) (hR : Holds (V m c main_v5) R)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (x : Fin 512) (s : Fin 1536) :
    iblk m c 1 t (ix2 x s) = R (512 * t.val + x.val) s.val := by
  obtain ⟨e0, e1⟩ := idx_1 t
  unfold iblk
  rw [View.read_apply]
  refine (hR _).trans ?_
  congr 1
  · show win0_1.index t 0 * 512 + 1 * x.val = _
    omega
  · show win0_1.index t 1 * 1536 + 1 * s.val = _
    omega

include hL hR in
/-- What the result's block holds after each point: the sum over the rows so far. -/
theorem after_point : ∀ (n : ℕ) (hn : n < cfg0.N) (r : Fin 1024) (s : Fin 1536),
    outsAt0 m c n hn (ix2 r s) = ∑ k ∈ range (512 * (n + 1)), L k r.val * R k s.val := by
  intro n
  induction n with
  | zero =>
    intro hn r s
    refine (congrFun (outsAt0_A m c ⟨0, hn⟩ (by dsimp only) (by dsimp only; omega)) _).trans ?_
    rw [out_A, pay1_at]
    exact sum_first 512 (fun k => L k r.val * R k s.val) _ fun x => by
      rw [block_0 m c hL, block_1 m c hR]
      simp only [Nat.mul_zero, Nat.zero_add]
  | succ n ih =>
    intro hn r s
    have hN : n + 1 < 16 := lt_of_lt_of_eq hn (show cfg0.N = 16 from N_0)
    refine (congrFun (outsAt0_B m c ⟨n + 1, hn⟩ (by dsimp only; omega) (by dsimp only; omega)) _).trans ?_
    rw [out_B, pay2_at]
    refine (congrArg (· + _) (ih (Nat.lt_of_succ_lt hn) r s)).trans ?_
    refine sum_block 512 (fun k => L k r.val * R k s.val) (n + 1) _ fun x => ?_
    rw [block_0 m c hL, block_1 m c hR]

include hL hR in
/-- The result after the run. -/
theorem array (i : S1024x1536.Idx) :
    (dats m 0 c).arrAt 2 cfg0.N i = ∑ k ∈ range 8192, L k (i 0).val * R k (i 1).val := by
  refine Dat.arrAt_forall_of_covers (dats m 0 c) 2 (fun i x => x = ∑ k ∈ range 8192, L k (i 0).val * R k (i 1).val)
    (by decide +kernel) (fun t hf y => ?_) i
  obtain ⟨e0, e1⟩ := idx_2 t
  have h0 : (y 0).val < 1024 := (y 0).isLt
  have h1 : (y 1).val < 1536 := (y 1).isLt
  have hy : (cfg0.win 2).xinj (grid0.coords t) y = ix2 ⟨(y 0).val, h0⟩ ⟨(y 1).val, h1⟩ := by
    funext a
    match a with
    | 0 => rfl
    | 1 => rfl
  have ht : t.val = 15 := flush_last t hf
  refine (congrFun (after0_2 m c t) _).trans ?_
  rw [hy]
  refine (after_point m c hL hR t.val t.isLt _ _).trans ?_
  rw [ht]
  have g0 : win0_2.index t 0 * 1024 + 1 * (y 0).val = (y 0).val := by omega
  have g1 : win0_2.index t 1 * 1536 + 1 * (y 1).val = (y 1).val := by omega
  exact (congrArg₂ (fun a b => ∑ k ∈ range 8192, L k a * R k b) g0 g1).symm

end

/-- The reference's result, index by index. -/
theorem reference_at (x : FVec Ideal MixInTnRefIdeal.S8192x1024 .f32) (y : FVec Ideal MixInTnRefIdeal.S8192x1440 .f32) (i : MixInTnRefIdeal.S1024x1536.Idx) :
    (concatenate MixInTnRefIdeal.S1024x1536 1
      [⟨MixInTnRefIdeal.S1024x1472, pad MixInTnRefIdeal.S1024x1472 ![0, 0] ![0, 64] ![0, 0] (extractStridedSlice MixInTnRefIdeal.S1024x1408 ![0, 0]
          (transpose MixInTnRefIdeal.S1024x1440 [1, 0]
            (Host.dotGeneral (F := Ideal) MixInTnRefIdeal.dot_S8192x1440_S8192x1024_S1440x1024_0_0_1_1_n_n none y x)
            MixInTnRefIdeal.Gen.transposes_S1440x1024_S1024x1440_1_0)
          MixInTnRefIdeal.Gen.slices_S1024x1440_S1024x1408_0_0) (sitofp .f32 (constantI MixInTnRefIdeal.S_ 32 0#32))
          MixInTnRefIdeal.Gen.pads_S1024x1408_S1024x1472_000_0640 MixInTnRefIdeal.Gen.h_S_⟩,
       ⟨MixInTnRefIdeal.S1024x64, pad MixInTnRefIdeal.S1024x64 ![0, 0] ![0, 32] ![0, 0] (extractStridedSlice MixInTnRefIdeal.S1024x32 ![0, 1408]
          (transpose MixInTnRefIdeal.S1024x1440 [1, 0]
            (Host.dotGeneral (F := Ideal) MixInTnRefIdeal.dot_S8192x1440_S8192x1024_S1440x1024_0_0_1_1_n_n none y x)
            MixInTnRefIdeal.Gen.transposes_S1440x1024_S1024x1440_1_0)
          MixInTnRefIdeal.Gen.slices_S1024x1440_S1024x32_0_1408) (sitofp .f32 (constantI MixInTnRefIdeal.S_ 32 0#32))
          MixInTnRefIdeal.Gen.pads_S1024x32_S1024x64_000_0320 MixInTnRefIdeal.Gen.h_S_⟩]
      MixInTnRefIdeal.Gen.concatenates_S1024x1472_S1024x64_S1024x1536_d1) i
      = ∑ k ∈ range 8192, cell x k (i 0).val * split (cell y k) (i 1).val := by
  refine Eq.trans ?_ (split_sum (cell y) (fun k => cell x k (i 0).val) _).symm
  have h1 : (i 1).val < 1536 := (i 1).isLt
  pointwise
  refine split_two (fun n => ∑ k ∈ range 8192, cell x k (i 0).val * cell y k n) h1 (zero_word _) _ _ (fun h h' => ?_) fun h h' => ?_
  · exact sum_first 8192 (fun k => cell x k (i 0).val * cell y k (i 1).val) _ fun k =>
      (mul_comm _ _).trans (congrArg₂ (· * ·) (cell_eq x k (i 0) rfl rfl) (cell_eq y k _ rfl rfl))
  · refine sum_first 8192 (fun k => cell x k (i 0).val * cell y k ((i 1).val - 64)) _ fun k =>
      (mul_comm _ _).trans (congrArg₂ (· * ·) (cell_eq x k (i 0) rfl rfl) (cell_eq y k _ rfl ?_))
    dsimp only
    omega

/-- The gradient of the mixer's first weight. -/
theorem algebraic : algebraic_MixInTnIdeal_MixInTnRefIdeal (hMixInTnIdeal := MixInTnIdeal.Gen.facts) (hMixInTnRefIdeal := MixInTnRefIdeal.Gen.facts) := by
  intro m ρ m' ρ' _ ha
  refine ⟨fun c => (dats m 0 c).arrAt 2 cfg0.N, MixInTnIdeal.Value.run_blocks m ρ, (θ_run _ _ _).mono ?_ (MixInTnRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.MixInTnIdeal.Product

end
-- ==== Proof.Products.OutU.lean ====
/- The output product of the mixer, the convolution's half, added to the residual. -/
module

public import proofs.«01_k».proof.Proof.Gen.OutUIdeal.Value
public import proofs.«01_k».proof.Proof.Gen.OutURefIdeal.Run
public import proofs.«01_k».proof.Proof.Products.Sums

@[expose] public section

set_option maxRecDepth 16384

noncomputable section

namespace Cert.OutUIdeal.Product

open Cert.OutUIdeal Cert.OutUIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v0) (cell (m (c.tc.loc main_arg0))) := by
  intro i
  show V m c main_v0 i = _
  unfold V hostOps0
  simp only [List.flatten_cons, List.flatten_nil, List.append_nil, List.cons_append, List.nil_append,
    StableHlo.TRef.binary, StableHlo.TRef.unary]
  after_results_simp
  pointwise
  exact holds_cell _ i

/-- The right factor. -/
theorem right : Holds (V m c main_v2) (cell (m (c.tc.loc main_arg1))) := by
  intro i
  show V m c main_v2 i = _
  unfold V hostOps0
  simp only [List.flatten_cons, List.flatten_nil, List.append_nil, List.cons_append, List.nil_append,
    StableHlo.TRef.binary, StableHlo.TRef.unary]
  after_results_simp
  pointwise
  exact cell_eq _ _ (i 1) rfl rfl

/-- The addend. -/
theorem addend : Holds (V m c main_arg2) (cell (m (c.tc.loc main_arg2))) := by
  rw [V_main_arg2]
  exact holds_cell _

theorem pay1_at (a : Vec Ideal S512x512 .bf16) (b : Vec Ideal S512x1024 .bf16) (z : Vec Ideal S512x1024 .f32) (r : Fin 512) (s : Fin 1024) :
    k0_pay1 a b z (ix2 r s) = (∑ x : Fin 512, a (ix2 r x) * b (ix2 x s)) + z (ix2 r s) := by
  pointwise [k0_pay1]

theorem out_at (x0 : Vec Ideal S512x512 .bf16) (x1 : Vec Ideal S512x1024 .bf16) (x2 : Vec Ideal S512x1024 .f32) :
    out0_3 x0 x1 x2 = k0_pay1 x0 x1 x2 := by
  unfold out0_3
  rw [View.canon_unit_zero zeros2]
  simp only [View.ld_unit_zero (S := S512x512) zeros2,
    View.ld_unit_zero (S := S512x1024) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel
theorem idx_3 : ∀ t : Fin grid0.N, win0_3.index t 0 = t.val ∧ win0_3.index t 1 = 0 := by decide +kernel

section
variable {L R Y : ℕ → ℕ → EReal} (hL : Holds (V m c main_v0) L) (hR : Holds (V m c main_v2) R) (hY : Holds (V m c main_arg2) Y)

include hL in
theorem block_0 (t : Fin cfg0.N) (x : Fin 512) (r : Fin 512) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 512 + 1 * r.val = _
    omega

include hR in
theorem block_1 (t : Fin cfg0.N) (r : Fin 512) (s : Fin 1024) :
    iblk m c 1 t (ix2 r s) = R r.val s.val := by
  obtain ⟨e0, e1⟩ := idx_1 t
  unfold iblk
  rw [View.read_apply]
  refine (hR _).trans ?_
  congr 1
  · show win0_1.index t 0 * 512 + 1 * r.val = _
    omega
  · show win0_1.index t 1 * 1024 + 1 * s.val = _
    omega

include hY in
theorem block_2 (t : Fin cfg0.N) (x : Fin 512) (s : Fin 1024) :
    iblk m c 2 t (ix2 x s) = Y (512 * t.val + x.val) s.val := by
  obtain ⟨e0, e1⟩ := idx_2 t
  unfold iblk
  rw [View.read_apply]
  refine (hY _).trans ?_
  congr 1
  · show win0_2.index t 0 * 512 + 1 * x.val = _
    omega
  · show win0_2.index t 1 * 1024 + 1 * s.val = _
    omega

include hL hR hY in
/-- The result after the run. -/
theorem array (i : S8192x1024.Idx) :
    (dats m 0 c).arrAt 3 cfg0.N i = (∑ k ∈ range 512, L (i 0).val k * R k (i 1).val) + Y (i 0).val (i 1).val := by
  refine Dat.arrAt_forall_of_covers (dats m 0 c) 3 (fun i x => x = (∑ k ∈ range 512, L (i 0).val k * R k (i 1).val) + Y (i 0).val (i 1).val)
    (by decide +kernel) (fun t _ y => ?_) i
  obtain ⟨e0, e1⟩ := idx_3 t
  have h0 : (y 0).val < 512 := (y 0).isLt
  have h1 : (y 1).val < 1024 := (y 1).isLt
  have hy : (cfg0.win 3).xinj (grid0.coords t) y = ix2 ⟨(y 0).val, h0⟩ ⟨(y 1).val, h1⟩ := by
    funext a
    match a with
    | 0 => rfl
    | 1 => rfl
  refine (congrFun (after0_3 m c t) _).trans ?_
  rw [hy, out_at, pay1_at]
  have g0 : win0_3.index t 0 * 512 + 1 * (y 0).val = 512 * t.val + (y 0).val := by omega
  have g1 : win0_3.index t 1 * 1024 + 1 * (y 1).val = (y 1).val := by omega
  rw [block_2 m c hY]
  refine (congrArg (· + _) (sum_first 512 (fun k => L (512 * t.val + (y 0).val) k * R k (y 1).val) _ fun x => by
    rw [block_0 m c hL, block_1 m c hR])).trans ?_
  exact (congrArg₂ (fun a b => (∑ k ∈ range 512, L a k * R k b) + Y a b) g0 g1).symm

end

/-- The reference's result, index by index. -/
theorem reference_at (x : FVec Ideal OutURefIdeal.S8192x512 .f32) (y : FVec Ideal OutURefIdeal.S1024x1024 .f32) (z : FVec Ideal OutURefIdeal.S8192x1024 .f32)
    (i : OutURefIdeal.S8192x1024.Idx) :
    (addf z (Host.dotGeneral (F := Ideal) OutURefIdeal.dot_S8192x512_S512x1024_S8192x1024_1_0_0_1_n_n none x
      (extractStridedSlice OutURefIdeal.S512x1024 ![0, 0] y OutURefIdeal.Gen.slices_S1024x1024_S512x1024_0_0))) i
      = (∑ k ∈ range 512, cell x (i 0).val k * cell y k (i 1).val) + cell z (i 0).val (i 1).val := by
  pointwise
  refine (add_comm _ _).trans (congrArg₂ (· + ·) ?_ (holds_cell z i))
  exact sum_first 512 (fun k => cell x (i 0).val k * cell y k (i 1).val) _ fun k =>
    congrArg₂ (· * ·) (cell_eq x (i 0) k rfl rfl) (cell_eq y _ (i 1) rfl rfl)

/-- The mixer's output product of the convolution's half. -/
theorem algebraic : algebraic_OutUIdeal_OutURefIdeal (hOutUIdeal := OutUIdeal.Gen.facts) (hOutURefIdeal := OutURefIdeal.Gen.facts) := by
  intro m ρ m' ρ' _ ha
  refine ⟨fun c => (dats m 0 c).arrAt 3 cfg0.N, OutUIdeal.Value.run_blocks m ρ, (θ_run _ _ _).mono ?_ (OutURefIdeal.Value.run m' ρ')⟩
  intro r h c
  obtain ⟨h0, hrest⟩ := h c
  obtain ⟨a0, a1, a2⟩ := ha c
  refine ⟨h0.trans ?_, hrest⟩
  rw [a0, a1, a2]
  exact funext fun i => (reference_at _ _ _ i).trans (array m c (left m c) (right m c) (addend m c) i).symm

end Cert.OutUIdeal.Product

end
-- ==== Proof.Products.Lanes.lean ====
/- Rows of eight heads: 64 entries for each head, with and without 64 zeros after them. -/
module

public import proofs.«01_k».proof.Proof.Products.Sums

@[expose] public section

noncomputable section

namespace Cert.Products

open Idealize.ShloMosaic Finset

/-- A row whose pieces of 64 entries are each followed by 64 zeros. -/
def lanes (f : ℕ → EReal) (j : ℕ) : EReal := if j % 128 < 64 then f (64 * (j / 128) + j % 128) else 0

/-- The entry of an array of heads in row `i` and column `j` of the heads side by side. -/
def flat {a : ℕ} (x : (⟨3, ![a, 8, 64]⟩ : Shape).Idx → EReal) (i j : ℕ) : EReal :=
  if h : i < a ∧ j < 512 then x (ix3 ⟨i, h.1⟩ ⟨j / 64, by omega⟩ ⟨j % 64, Nat.mod_lt _ (by decide)⟩) else 0

theorem flat_eq {a : ℕ} (x : (⟨3, ![a, 8, 64]⟩ : Shape).Idx → EReal) (r : Fin a) (s : Fin 8) (t : Fin 64) {i j : ℕ} (hi : r.val = i)
    (hj : 64 * s.val + t.val = j) : x (ix3 r s t) = flat x i j := by
  have hs := s.isLt
  have ht := t.isLt
  subst hi hj
  have e : s = ⟨(64 * s.val + t.val) / 64, by omega⟩ := Fin.ext (by dsimp only; omega)
  have e' : t = ⟨(64 * s.val + t.val) % 64, by omega⟩ := Fin.ext (by dsimp only; omega)
  refine Eq.trans ?_ (dif_pos ⟨r.isLt, by omega⟩).symm
  exact congrArg₂ (fun s t => x (ix3 r s t)) e e'

/-- Terms with zeros after each head add up to the terms without them. -/
theorem sum_lanes (f : ℕ → EReal) (n : ℕ) : ∑ j ∈ range (128 * n), lanes f j = ∑ j ∈ range (64 * n), f j := by
  induction n with
  | zero => rfl
  | succ n ih =>
    have h0 : ∑ x ∈ range 64, lanes f ((64 + 64) * n + (64 + x)) = 0 := sum_eq_zero fun x hx => by
      have := mem_range.mp hx
      exact if_neg (by omega)
    rw [Nat.mul_succ, Nat.mul_succ, sum_range_add, sum_range_add, ih, show (128 : ℕ) = 64 + 64 from rfl, sum_range_add, h0, add_zero]
    refine congrArg (_ + ·) (sum_congr rfl fun x hx => ?_)
    have := mem_range.mp hx
    refine (if_pos (by omega)).trans (congrArg f ?_)
    omega

theorem lanes_mul (f g : ℕ → EReal) (j : ℕ) : lanes f j * lanes g j = lanes (fun k => f k * g k) j := by
  unfold lanes
  by_cases h : j % 128 < 64
  · simp only [if_pos h]
  · simp only [if_neg h, mul_zero]

theorem lanes_sum {n : ℕ} (f : ℕ → ℕ → EReal) (g : ℕ → EReal) (j : ℕ) :
    ∑ k ∈ range n, g k * lanes (f k) j = lanes (fun i => ∑ k ∈ range n, g k * f k i) j := by
  unfold lanes
  by_cases h : j % 128 < 64
  · simp only [if_pos h]
  · simp only [if_neg h, mul_zero, sum_const_zero]

theorem lanes_sum' {n : ℕ} (f : ℕ → ℕ → EReal) (g : ℕ → EReal) (j : ℕ) :
    ∑ k ∈ range n, lanes (f k) j * g k = lanes (fun i => ∑ k ∈ range n, f k i * g k) j := by
  unfold lanes
  by_cases h : j % 128 < 64
  · simp only [if_pos h]
  · simp only [if_neg h, zero_mul, sum_const_zero]

/-- A value given for each head's entries and zero elsewhere. -/
theorem lanes_column (f : ℕ → EReal) {j : ℕ} (hj : j < 1024) {z : EReal} (hz : z = 0) (g : j / 128 < 8 ∧ j % 128 < 64 → EReal)
    (hg : ∀ h, g h = f (64 * (j / 128) + j % 128)) : (if h : j / 128 < 8 ∧ j % 128 < 64 then g h else z) = lanes f j := by
  unfold lanes
  by_cases h : j % 128 < 64
  · exact (dif_pos ⟨by omega, h⟩).trans ((hg ⟨by omega, h⟩).trans (if_pos h).symm)
  · exact (dif_neg fun e => h e.2).trans (hz.trans (if_neg h).symm)

end Cert.Products

end
-- ==== Proof.Products.OutA.lean ====
/- The output product of the mixer, the attention's half, added to the sum so far. -/
module

public import proofs.«01_k».proof.Proof.Gen.OutAIdeal.Value
public import proofs.«01_k».proof.Proof.Gen.OutARefIdeal.Run
public import proofs.«01_k».proof.Proof.Products.Lanes

@[expose] public section

set_option maxRecDepth 16384

noncomputable section

namespace Cert.OutAIdeal.Product

open Cert.OutAIdeal Cert.OutAIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v1) (fun i => lanes (flat (m (c.tc.loc main_arg0)) i)) := by
  intro i
  show V m c main_v1 i = _
  unfold V hostOps0 hostOps0_1 hostOps0_2 hostOps0_3 hostOps0_4
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h1 : (i 1).val < 1024 := (i 1).isLt
  pointwise
  refine lanes_column (flat (m (c.tc.loc main_arg0)) (i 0).val) h1 (zero_word _) _ fun h => flat_eq _ (i 0) _ _ rfl ?_
  dsimp only

/-- The right factor. -/
theorem right : Holds (V m c main_v6) (fun i j => lanes (fun k => cell (m (c.tc.loc main_arg1)) (512 + k) j) i) := by
  intro i
  show V m c main_v6 i = _
  unfold V hostOps0 hostOps0_1 hostOps0_2 hostOps0_3 hostOps0_4
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h0 : (i 0).val < 1024 := (i 0).isLt
  pointwise
  refine lanes_column (fun k => cell (m (c.tc.loc main_arg1)) (512 + k) (i 1).val) h0 (zero_word _) _ fun h => cell_eq _ _ (i 1) ?_ rfl
  dsimp only
  omega

/-- The addend. -/
theorem addend : Holds (V m c main_arg2) (cell (m (c.tc.loc main_arg2))) := by
  rw [V_main_arg2]
  exact holds_cell _

theorem pay1_at (a : Vec Ideal S512x1024 .f32) (b : Vec Ideal S1024x1024 .bf16) (z : Vec Ideal S512x1024 .f32) (r : Fin 512) (s : Fin 1024) :
    k0_pay1 a b z (ix2 r s) = (∑ x : Fin 1024, a (ix2 r x) * b (ix2 x s)) + z (ix2 r s) := by
  pointwise [k0_pay1]

theorem out_at (x0 : Vec Ideal S512x1024 .f32) (x1 : Vec Ideal S1024x1024 .bf16) (x2 : Vec Ideal S512x1024 .f32) :
    out0_3 x0 x1 x2 = k0_pay1 x0 x1 x2 := by
  unfold out0_3
  rw [View.canon_unit_zero zeros2]
  simp only [View.ld_unit_zero (S := S512x1024) zeros2,
    View.ld_unit_zero (S := S1024x1024) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel
theorem idx_3 : ∀ t : Fin grid0.N, win0_3.index t 0 = t.val ∧ win0_3.index t 1 = 0 := by decide +kernel

section
variable {L R Y : ℕ → ℕ → EReal} (hL : Holds (V m c main_v1) L) (hR : Holds (V m c main_v6) R) (hY : Holds (V m c main_arg2) Y)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (r : Fin 1024) (s : Fin 1024) :
    iblk m c 1 t (ix2 r s) = R r.val s.val := by
  obtain ⟨e0, e1⟩ := idx_1 t
  unfold iblk
  rw [View.read_apply]
  refine (hR _).trans ?_
  congr 1
  · show win0_1.index t 0 * 1024 + 1 * r.val = _
    omega
  · show win0_1.index t 1 * 1024 + 1 * s.val = _
    omega

include hY in
theorem block_2 (t : Fin cfg0.N) (x : Fin 512) (s : Fin 1024) :
    iblk m c 2 t (ix2 x s) = Y (512 * t.val + x.val) s.val := by
  obtain ⟨e0, e1⟩ := idx_2 t
  unfold iblk
  rw [View.read_apply]
  refine (hY _).trans ?_
  congr 1
  · show win0_2.index t 0 * 512 + 1 * x.val = _
    omega
  · show win0_2.index t 1 * 1024 + 1 * s.val = _
    omega

include hL hR hY in
/-- The result after the run. -/
theorem array (i : S8192x1024.Idx) :
    (dats m 0 c).arrAt 3 cfg0.N i = (∑ k ∈ range 1024, L (i 0).val k * R k (i 1).val) + Y (i 0).val (i 1).val := by
  refine Dat.arrAt_forall_of_covers (dats m 0 c) 3 (fun i x => x = (∑ k ∈ range 1024, L (i 0).val k * R k (i 1).val) + Y (i 0).val (i 1).val)
    (by decide +kernel) (fun t _ y => ?_) i
  obtain ⟨e0, e1⟩ := idx_3 t
  have h0 : (y 0).val < 512 := (y 0).isLt
  have h1 : (y 1).val < 1024 := (y 1).isLt
  have hy : (cfg0.win 3).xinj (grid0.coords t) y = ix2 ⟨(y 0).val, h0⟩ ⟨(y 1).val, h1⟩ := by
    funext a
    match a with
    | 0 => rfl
    | 1 => rfl
  refine (congrFun (after0_3 m c t) _).trans ?_
  rw [hy, out_at, pay1_at]
  have g0 : win0_3.index t 0 * 512 + 1 * (y 0).val = 512 * t.val + (y 0).val := by omega
  have g1 : win0_3.index t 1 * 1024 + 1 * (y 1).val = (y 1).val := by omega
  rw [block_2 m c hY]
  refine (congrArg (· + _) (sum_first 1024 (fun k => L (512 * t.val + (y 0).val) k * R k (y 1).val) _ fun x => by
    rw [block_0 m c hL, block_1 m c hR])).trans ?_
  exact (congrArg₂ (fun a b => (∑ k ∈ range 1024, L a k * R k b) + Y a b) g0 g1).symm

end

/-- The reference's result, index by index. -/
theorem reference_at (x : FVec Ideal OutARefIdeal.S8192x8x64 .f32) (y : FVec Ideal OutARefIdeal.S1024x1024 .f32) (z : FVec Ideal OutARefIdeal.S8192x1024 .f32)
    (i : OutARefIdeal.S8192x1024.Idx) :
    (addf z (Host.dotGeneral (F := Ideal) OutARefIdeal.dot_S8192x512_S512x1024_S8192x1024_1_0_0_1_n_n none
      (shapeCast _ x OutARefIdeal.Gen.shapeCasts_S8192x8x64_S8192x512)
      (extractStridedSlice OutARefIdeal.S512x1024 ![512, 0] y OutARefIdeal.Gen.slices_S1024x1024_S512x1024_512_0))) i
      = (∑ k ∈ range 1024, lanes (flat x (i 0).val) k * lanes (fun k => cell y (512 + k) (i 1).val) k) + cell z (i 0).val (i 1).val := by
  have g : ∑ k ∈ range (128 * 8), lanes (flat x (i 0).val) k * lanes (fun k => cell y (512 + k) (i 1).val) k
      = ∑ k ∈ range (64 * 8), flat x (i 0).val k * cell y (512 + k) (i 1).val := by
    simp only [lanes_mul]
    exact sum_lanes _ 8
  refine Eq.trans ?_ (congrArg (· + _) g.symm)
  pointwise
  refine (add_comm _ _).trans (congrArg₂ (· + ·) ?_ (holds_cell z i))
  exact sum_first 512 (fun k => flat x (i 0).val k * cell y (512 + k) (i 1).val) _ fun k =>
    congrArg₂ (· * ·) (flat_eq x (i 0) _ _ rfl (by dsimp only; omega)) (cell_eq y _ (i 1) rfl rfl)

/-- The mixer's output product of the attention's half. -/
theorem algebraic : algebraic_OutAIdeal_OutARefIdeal (hOutAIdeal := OutAIdeal.Gen.facts) (hOutARefIdeal := OutARefIdeal.Gen.facts) := by
  intro m ρ m' ρ' _ ha
  refine ⟨fun c => (dats m 0 c).arrAt 3 cfg0.N, OutAIdeal.Value.run_blocks m ρ, (θ_run _ _ _).mono ?_ (OutARefIdeal.Value.run m' ρ')⟩
  intro r h c
  obtain ⟨h0, hrest⟩ := h c
  obtain ⟨a0, a1, a2⟩ := ha c
  refine ⟨h0.trans ?_, hrest⟩
  rw [a0, a1, a2]
  exact funext fun i => (reference_at _ _ _ i).trans (array m c (R := fun i j => lanes (fun k => cell (m (c.tc.loc main_arg1)) (512 + k) j) i) (left m c) (right m c) (addend m c) i).symm

end Cert.OutAIdeal.Product

end
-- ==== Proof.Products.OutUT.lean ====
/- The gradient through the mixer's output product, the convolution's half. -/
module

public import proofs.«01_k».proof.Proof.Gen.OutUTIdeal.Value
public import proofs.«01_k».proof.Proof.Gen.OutUTRefIdeal.Run
public import proofs.«01_k».proof.Proof.Products.Sums

@[expose] public section

set_option maxRecDepth 16384

noncomputable section

namespace Cert.OutUTIdeal.Product

open Cert.OutUTIdeal Cert.OutUTIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_arg1) (cell (m (c.tc.loc main_arg1))) := by
  rw [V_main_arg1]
  exact holds_cell _

/-- The right factor. -/
theorem right : Holds (V m c main_v1) (cell (m (c.tc.loc main_arg0))) := by
  intro i
  show V m c main_v1 i = _
  unfold V hostOps0
  simp only [List.flatten_cons, List.flatten_nil, List.append_nil, List.cons_append, List.nil_append,
    StableHlo.TRef.binary, StableHlo.TRef.unary]
  after_results_simp
  pointwise
  exact cell_eq _ _ (i 1) rfl rfl

theorem pay1_at (a : Vec Ideal S512x1024 .f32) (b : Vec Ideal S512x1024 .bf16) (r : Fin 512) (s : Fin 512) :
    k0_pay1 a b (ix2 r s) = ∑ x : Fin 1024, a (ix2 r x) * b (ix2 s x) := by
  pointwise [k0_pay1]

theorem out_at (x0 : Vec Ideal S512x1024 .f32) (x1 : Vec Ideal S512x1024 .bf16) :
    out0_2 x0 x1 = k0_pay1 x0 x1 := by
  unfold out0_2
  rw [View.canon_unit_zero zeros2]
  simp only [View.ld_unit_zero (S := S512x1024) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel

section
variable {L R : ℕ → ℕ → EReal} (hL : Holds (V m c main_arg1) L) (hR : Holds (V m c main_v1) R)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (s : Fin 512) (r : Fin 1024) :
    iblk m c 1 t (ix2 s r) = R s.val r.val := by
  obtain ⟨e0, e1⟩ := idx_1 t
  unfold iblk
  rw [View.read_apply]
  refine (hR _).trans ?_
  congr 1
  · show win0_1.index t 0 * 512 + 1 * s.val = _
    omega
  · show win0_1.index t 1 * 1024 + 1 * r.val = _
    omega

include hL hR in
/-- The result after the run. -/
theorem array (i : S8192x512.Idx) :
    (dats m 0 c).arrAt 2 cfg0.N i = ∑ k ∈ range 1024, L (i 0).val k * R (i 1).val k := by
  refine Dat.arrAt_forall_of_covers (dats m 0 c) 2 (fun i x => x = ∑ k ∈ range 1024, L (i 0).val k * R (i 1).val k)
    (by decide +kernel) (fun t _ y => ?_) i
  obtain ⟨e0, e1⟩ := idx_2 t
  have h0 : (y 0).val < 512 := (y 0).isLt
  have h1 : (y 1).val < 512 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  have g0 : win0_2.index t 0 * 512 + 1 * (y 0).val = 512 * t.val + (y 0).val := by omega
  have g1 : win0_2.index t 1 * 512 + 1 * (y 1).val = (y 1).val := by omega
  refine (sum_first 1024 (fun k => L (512 * t.val + (y 0).val) k * R (y 1).val k) _ fun x => by
    rw [block_0 m c hL, block_1 m c hR]).trans ?_
  exact (congrArg₂ (fun a b => ∑ k ∈ range 1024, L a k * R b k) g0 g1).symm

end

/-- The reference's result, index by index. -/
theorem reference_at (x : FVec Ideal OutUTRefIdeal.S8192x1024 .f32) (y : FVec Ideal OutUTRefIdeal.S1024x1024 .f32) (i : OutUTRefIdeal.S8192x512.Idx) :
    (Host.dotGeneral (F := Ideal) OutUTRefIdeal.dot_S8192x1024_S512x1024_S8192x512_1_1_0_0_n_n none x
      (extractStridedSlice OutUTRefIdeal.S512x1024 ![0, 0] y OutUTRefIdeal.Gen.slices_S1024x1024_S512x1024_0_0)) i
      = ∑ k ∈ range 1024, cell x (i 0).val k * cell y (i 1).val k := by
  pointwise
  exact sum_first 1024 (fun k => cell x (i 0).val k * cell y (i 1).val k) _ fun k =>
    congrArg₂ (· * ·) (cell_eq x (i 0) k rfl rfl) (cell_eq y _ k rfl rfl)

/-- The gradient of the convolution's half. -/
theorem algebraic : algebraic_OutUTIdeal_OutUTRefIdeal (hOutUTIdeal := OutUTIdeal.Gen.facts) (hOutUTRefIdeal := OutUTRefIdeal.Gen.facts) := by
  intro m ρ m' ρ' _ ha
  refine ⟨fun c => (dats m 0 c).arrAt 2 cfg0.N, OutUTIdeal.Value.run_blocks m ρ, (θ_run _ _ _).mono ?_ (OutUTRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.OutUTIdeal.Product

end
-- ==== Proof.Products.OutAT.lean ====
/- The gradient through the mixer's output product, the attention's half. -/
module

public import proofs.«01_k».proof.Proof.Gen.OutATIdeal.Value
public import proofs.«01_k».proof.Proof.Gen.OutATRefIdeal.Run
public import proofs.«01_k».proof.Proof.Products.Lanes

@[expose] public section

set_option maxRecDepth 16384

noncomputable section

namespace Cert.OutATIdeal.Product

open Cert.OutATIdeal Cert.OutATIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_arg1) (cell (m (c.tc.loc main_arg1))) := by
  rw [V_main_arg1]
  exact holds_cell _

/-- The right factor. -/
theorem right : Holds (V m c main_v4) (fun i j => lanes (fun k => cell (m (c.tc.loc main_arg0)) (512 + k) j) i) := by
  intro i
  show V m c main_v4 i = _
  unfold V hostOps0 hostOps0_1 hostOps0_2
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h0 : (i 0).val < 1024 := (i 0).isLt
  pointwise
  refine lanes_column (fun k => cell (m (c.tc.loc main_arg0)) (512 + k) (i 1).val) h0 (zero_word _) _ fun h => cell_eq _ _ (i 1) ?_ rfl
  dsimp only
  omega

theorem pay1_at (a : Vec Ideal S512x1024 .f32) (b : Vec Ideal S1024x1024 .bf16) (r : Fin 512) (s : Fin 1024) :
    k0_pay1 a b (ix2 r s) = ∑ x : Fin 1024, a (ix2 r x) * b (ix2 s x) := by
  pointwise [k0_pay1]

theorem out_at (x0 : Vec Ideal S512x1024 .f32) (x1 : Vec Ideal S1024x1024 .bf16) :
    out0_2 x0 x1 = k0_pay1 x0 x1 := by
  unfold out0_2
  rw [View.canon_unit_zero zeros2]
  simp only [View.ld_unit_zero (S := S512x1024) zeros2,
    View.ld_unit_zero (S := S1024x1024) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel

section
variable {L R : ℕ → ℕ → EReal} (hL : Holds (V m c main_arg1) L) (hR : Holds (V m c main_v4) R)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (s : Fin 1024) (r : Fin 1024) :
    iblk m c 1 t (ix2 s r) = R s.val r.val := by
  obtain ⟨e0, e1⟩ := idx_1 t
  unfold iblk
  rw [View.read_apply]
  refine (hR _).trans ?_
  congr 1
  · show win0_1.index t 0 * 1024 + 1 * s.val = _
    omega
  · show win0_1.index t 1 * 1024 + 1 * r.val = _
    omega

include hL hR in
/-- The result after the run. -/
theorem array (i : S8192x1024.Idx) :
    (dats m 0 c).arrAt 2 cfg0.N i = ∑ k ∈ range 1024, L (i 0).val k * R (i 1).val k := by
  refine Dat.arrAt_forall_of_covers (dats m 0 c) 2 (fun i x => x = ∑ k ∈ range 1024, L (i 0).val k * R (i 1).val k)
    (by decide +kernel) (fun t _ y => ?_) i
  obtain ⟨e0, e1⟩ := idx_2 t
  have h0 : (y 0).val < 512 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  have g0 : win0_2.index t 0 * 512 + 1 * (y 0).val = 512 * t.val + (y 0).val := by omega
  have g1 : win0_2.index t 1 * 1024 + 1 * (y 1).val = (y 1).val := by omega
  refine (sum_first 1024 (fun k => L (512 * t.val + (y 0).val) k * R (y 1).val k) _ fun x => by
    rw [block_0 m c hL, block_1 m c hR]).trans ?_
  exact (congrArg₂ (fun a b => ∑ k ∈ range 1024, L a k * R b k) g0 g1).symm

end

/-- The reference's result, index by index. -/
theorem reference_at (x : FVec Ideal OutATRefIdeal.S8192x1024 .f32) (y : FVec Ideal OutATRefIdeal.S1024x1024 .f32) (i : OutATRefIdeal.S8192x1024.Idx) :
    (shapeCast OutATRefIdeal.S8192x1024 (pad OutATRefIdeal.S8192x8x128 ![0, 0, 0] ![0, 0, 64] ![0, 0, 0]
      (shapeCast OutATRefIdeal.S8192x8x64 (Host.dotGeneral (F := Ideal) OutATRefIdeal.dot_S8192x1024_S512x1024_S8192x512_1_1_0_0_n_n none x
        (extractStridedSlice OutATRefIdeal.S512x1024 ![512, 0] y OutATRefIdeal.Gen.slices_S1024x1024_S512x1024_512_0))
        OutATRefIdeal.Gen.shapeCasts_S8192x512_S8192x8x64) (sitofp .f32 (constantI OutATRefIdeal.S_ 32 0#32))
      OutATRefIdeal.Gen.pads_S8192x8x64_S8192x8x128_000_000_0640 OutATRefIdeal.Gen.h_S_) OutATRefIdeal.Gen.shapeCasts_S8192x8x128_S8192x1024) i
      = ∑ k ∈ range 1024, cell x (i 0).val k * lanes (fun n => cell y (512 + n) k) (i 1).val := by
  refine Eq.trans ?_ (lanes_sum (fun k n => cell y (512 + n) k) (fun k => cell x (i 0).val k) _).symm
  have h1 : (i 1).val < 1024 := (i 1).isLt
  pointwise
  refine lanes_column (fun n => ∑ k ∈ range 1024, cell x (i 0).val k * cell y (512 + n) k) h1 (zero_word _) _ fun h => ?_
  refine sum_first 1024 (fun k => cell x (i 0).val k * cell y (512 + (64 * ((i 1).val / 128) + (i 1).val % 128)) k) _ fun k =>
    congrArg₂ (· * ·) (cell_eq x (i 0) k rfl rfl) (cell_eq y _ k ?_ rfl)
  dsimp only
  omega

/-- The gradient of the attention's half. -/
theorem algebraic : algebraic_OutATIdeal_OutATRefIdeal (hOutATIdeal := OutATIdeal.Gen.facts) (hOutATRefIdeal := OutATRefIdeal.Gen.facts) := by
  intro m ρ m' ρ' _ ha
  refine ⟨fun c => (dats m 0 c).arrAt 2 cfg0.N, OutATIdeal.Value.run_blocks m ρ, (θ_run _ _ _).mono ?_ (OutATRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (R := fun i j => lanes (fun k => cell (m (c.tc.loc main_arg0)) (512 + k) j) i) (left m c) (right m c) i).symm

end Cert.OutATIdeal.Product

end
-- ==== Proof.Products.OutUTn.lean ====
/- The gradient of the mixer's output weight, the rows of the convolution's half. -/
module

public import proofs.«01_k».proof.Proof.Gen.OutUTnIdeal.Value
public import proofs.«01_k».proof.Proof.Gen.OutUTnRefIdeal.Run
public import proofs.«01_k».proof.Proof.Products.Sums

@[expose] public section

set_option maxRecDepth 16384

noncomputable section

namespace Cert.OutUTnIdeal.Product

open Cert.OutUTnIdeal Cert.OutUTnIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v0) (cell (m (c.tc.loc main_arg0))) := by
  intro i
  show V m c main_v0 i = _
  unfold V hostOps0
  simp only [List.flatten_cons, List.flatten_nil, List.append_nil, List.cons_append, List.nil_append,
    StableHlo.TRef.binary, StableHlo.TRef.unary]
  after_results_simp
  pointwise
  exact holds_cell _ i

/-- The right factor. -/
theorem right : Holds (V m c main_arg1) (cell (m (c.tc.loc main_arg1))) := by
  rw [V_main_arg1]
  exact holds_cell _

theorem pay1_at (a : Vec Ideal S512x512 .bf16) (b : Vec Ideal S512x1024 .f32) (r : Fin 512) (s : Fin 1024) :
    k0_pay1 a b (ix2 r s) = ∑ x : Fin 512, a (ix2 x r) * b (ix2 x s) := by
  pointwise [k0_pay1]

theorem pay2_at (a : Vec Ideal S512x512 .bf16) (b : Vec Ideal S512x1024 .f32)
    (o : Vec Ideal S512x1024 .f32) (r : Fin 512) (s : Fin 1024) :
    k0_pay2 a b o (ix2 r s) = o (ix2 r s) + ∑ x : Fin 512, a (ix2 x r) * b (ix2 x s) := by
  refine Eq.trans ?_ (congrArg (o (ix2 r s) + ·) (pay1_at a b r s))
  unfold k0_pay2
  generalize k0_pay1 a b = p
  pointwise

section
variable (i : grid0.Coords) (a3 : Memref sig .tc .vmem S512x512 .bf16) (h3 : a3.IsWhole)
  (a4 : Memref sig .tc .vmem S512x1024 .f32) (h4 : a4.IsWhole) (a5 : Memref sig .tc .vmem S512x1024 .f32) (h5 : a5.IsWhole)
  (x0 : Vec Ideal S512x512 .bf16) (x1 : Vec Ideal S512x1024 .f32)
  (xo : Vec Ideal S512x1024 .f32)

theorem out_A (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero zeros2]
  simp only [View.readAt_eq_ld, h3.read_unread, h4.read_unread, View.ld_unit_zero (S := S512x512) zeros2,
    View.ld_unit_zero (S := S512x1024) zeros2]

theorem out_B (hc0 : ¬cond0_0 i) (hc1 : cond0_1 i) : out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero zeros2]
  simp only [View.readAt_eq_ld, h3.read_unread, h4.read_unread, h5.read_unread, View.ld_unit_zero (S := S512x512) zeros2,
    View.ld_unit_zero (S := S512x1024) zeros2]

end

theorem flush_last : ∀ t : Fin cfg0.N, (cfg0.win 2).flush t = true → t.val = 15 := by decide +kernel
theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = 0 ∧ win0_2.index t 1 = 0 := by decide +kernel

section
variable {L R : ℕ → ℕ → EReal} (hL : Holds (V m c main_v0) L) (hR : Holds (V m c main_arg1) R)

include hL in
theorem block_0 (t : Fin cfg0.N) (x : Fin 512) (r : Fin 512) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 512 + 1 * r.val = _
    omega

include hR in
theorem block_1 (t : Fin cfg0.N) (x : Fin 512) (s : Fin 1024) :
    iblk m c 1 t (ix2 x s) = R (512 * t.val + x.val) s.val := by
  obtain ⟨e0, e1⟩ := idx_1 t
  unfold iblk
  rw [View.read_apply]
  refine (hR _).trans ?_
  congr 1
  · show win0_1.index t 0 * 512 + 1 * x.val = _
    omega
  · show win0_1.index t 1 * 1024 + 1 * s.val = _
    omega

include hL hR in
/-- What the result's block holds after each point: the sum over the rows so far. -/
theorem after_point : ∀ (n : ℕ) (hn : n < cfg0.N) (r : Fin 512) (s : Fin 1024),
    outsAt0 m c n hn (ix2 r s) = ∑ k ∈ range (512 * (n + 1)), L k r.val * R k s.val := by
  intro n
  induction n with
  | zero =>
    intro hn r s
    refine (congrFun (outsAt0_A m c ⟨0, hn⟩ (by dsimp only) (by dsimp only; omega)) _).trans ?_
    rw [out_A, pay1_at]
    exact sum_first 512 (fun k => L k r.val * R k s.val) _ fun x => by
      rw [block_0 m c hL, block_1 m c hR]
      simp only [Nat.mul_zero, Nat.zero_add]
  | succ n ih =>
    intro hn r s
    have hN : n + 1 < 16 := lt_of_lt_of_eq hn (show cfg0.N = 16 from N_0)
    refine (congrFun (outsAt0_B m c ⟨n + 1, hn⟩ (by dsimp only; omega) (by dsimp only; omega)) _).trans ?_
    rw [out_B, pay2_at]
    refine (congrArg (· + _) (ih (Nat.lt_of_succ_lt hn) r s)).trans ?_
    refine sum_block 512 (fun k => L k r.val * R k s.val) (n + 1) _ fun x => ?_
    rw [block_0 m c hL, block_1 m c hR]

include hL hR in
/-- The result after the run. -/
theorem array (i : S512x1024.Idx) :
    (dats m 0 c).arrAt 2 cfg0.N i = ∑ k ∈ range 8192, L k (i 0).val * R k (i 1).val := by
  refine Dat.arrAt_forall_of_covers (dats m 0 c) 2 (fun i x => x = ∑ k ∈ range 8192, L k (i 0).val * R k (i 1).val)
    (by decide +kernel) (fun t hf y => ?_) i
  obtain ⟨e0, e1⟩ := idx_2 t
  have h0 : (y 0).val < 512 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  have ht : t.val = 15 := flush_last t hf
  refine (congrFun (after0_2 m c t) _).trans ?_
  rw [hy]
  refine (after_point m c hL hR t.val t.isLt _ _).trans ?_
  rw [ht]
  have g0 : win0_2.index t 0 * 512 + 1 * (y 0).val = (y 0).val := by omega
  have g1 : win0_2.index t 1 * 1024 + 1 * (y 1).val = (y 1).val := by omega
  exact (congrArg₂ (fun a b => ∑ k ∈ range 8192, L k a * R k b) g0 g1).symm

end

/-- The reference's result, index by index. -/
theorem reference_at (x : FVec Ideal OutUTnRefIdeal.S8192x512 .f32) (y : FVec Ideal OutUTnRefIdeal.S8192x1024 .f32) (i : OutUTnRefIdeal.S512x1024.Idx) :
    (transpose OutUTnRefIdeal.S512x1024 [1, 0] (Host.dotGeneral (F := Ideal)
      OutUTnRefIdeal.dot_S8192x1024_S8192x512_S1024x512_0_0_1_1_n_n none y x) OutUTnRefIdeal.Gen.transposes_S1024x512_S512x1024_1_0) i
      = ∑ k ∈ range 8192, cell x k (i 0).val * cell y k (i 1).val := by
  pointwise
  exact sum_first 8192 (fun k => cell x k (i 0).val * cell y k (i 1).val) _ fun k =>
    (mul_comm _ _).trans (congrArg₂ (· * ·) (cell_eq x k (i 0) rfl rfl) (cell_eq y k (i 1) rfl rfl))

/-- The gradient of the mixer's output weight, the convolution's rows. -/
theorem algebraic : algebraic_OutUTnIdeal_OutUTnRefIdeal (hOutUTnIdeal := OutUTnIdeal.Gen.facts) (hOutUTnRefIdeal := OutUTnRefIdeal.Gen.facts) := by
  intro m ρ m' ρ' _ ha
  refine ⟨fun c => (dats m 0 c).arrAt 2 cfg0.N, OutUTnIdeal.Value.run_blocks m ρ, (θ_run _ _ _).mono ?_ (OutUTnRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.OutUTnIdeal.Product

end
-- ==== Proof.Products.OutATn.lean ====
/- The gradient of the mixer's output weight, the rows of the attention's half, padded for each head. -/
module

public import proofs.«01_k».proof.Proof.Gen.OutATnIdeal.Value
public import proofs.«01_k».proof.Proof.Gen.OutATnRefIdeal.Run
public import proofs.«01_k».proof.Proof.Products.Lanes

@[expose] public section

set_option maxRecDepth 16384

noncomputable section

namespace Cert.OutATnIdeal.Product

open Cert.OutATnIdeal Cert.OutATnIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The left factor. -/
theorem left : Holds (V m c main_v1) (fun i => lanes (flat (m (c.tc.loc main_arg0)) i)) := by
  intro i
  show V m c main_v1 i = _
  unfold V hostOps0 hostOps0_1 hostOps0_2
  simp only [List.flatten_cons, List.flatten_nil, List.append_nil, List.cons_append, List.nil_append,
    StableHlo.TRef.binary, StableHlo.TRef.unary]
  after_results_simp
  simp only [StableHlo.TRef.toBuf, StableHlo.TRef.ofBuf, cast_eq]
  have h1 : (i 1).val < 1024 := (i 1).isLt
  pointwise
  refine lanes_column (flat (m (c.tc.loc main_arg0)) (i 0).val) h1 (zero_word _) _ fun h => flat_eq _ (i 0) _ _ rfl ?_
  dsimp only

/-- The right factor. -/
theorem right : Holds (V m c main_arg1) (cell (m (c.tc.loc main_arg1))) := by
  rw [V_main_arg1]
  exact holds_cell _

theorem pay1_at (a : Vec Ideal S512x1024 .f32) (b : Vec Ideal S512x1024 .f32) (r : Fin 1024) (s : Fin 1024) :
    k0_pay1 a b (ix2 r s) = ∑ x : Fin 512, a (ix2 x r) * b (ix2 x s) := by
  pointwise [k0_pay1]

theorem pay2_at (a : Vec Ideal S512x1024 .f32) (b : Vec Ideal S512x1024 .f32)
    (o : Vec Ideal S1024x1024 .f32) (r : Fin 1024) (s : Fin 1024) :
    k0_pay2 a b o (ix2 r s) = o (ix2 r s) + ∑ x : Fin 512, a (ix2 x r) * b (ix2 x s) := by
  refine Eq.trans ?_ (congrArg (o (ix2 r s) + ·) (pay1_at a b r s))
  unfold k0_pay2
  generalize k0_pay1 a b = p
  pointwise

section
variable (i : grid0.Coords) (a3 : Memref sig .tc .vmem S512x1024 .f32) (h3 : a3.IsWhole)
  (a4 : Memref sig .tc .vmem S512x1024 .f32) (h4 : a4.IsWhole) (a5 : Memref sig .tc .vmem S1024x1024 .f32) (h5 : a5.IsWhole)
  (x0 : Vec Ideal S512x1024 .f32) (x1 : Vec Ideal S512x1024 .f32)
  (xo : Vec Ideal S1024x1024 .f32)

theorem out_A (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero zeros2]
  simp only [View.readAt_eq_ld, h3.read_unread, h4.read_unread, View.ld_unit_zero (S := S512x1024) zeros2]

theorem out_B (hc0 : ¬cond0_0 i) (hc1 : cond0_1 i) : out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero zeros2]
  simp only [View.readAt_eq_ld, h3.read_unread, h4.read_unread, h5.read_unread, View.ld_unit_zero (S := S512x1024) zeros2,
    View.ld_unit_zero (S := S1024x1024) zeros2]

end

theorem flush_last : ∀ t : Fin cfg0.N, (cfg0.win 2).flush t = true → t.val = 15 := by decide +kernel
theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = 0 ∧ win0_2.index t 1 = 0 := by decide +kernel

section
variable {L R : ℕ → ℕ → EReal} (hL : Holds (V m c main_v1) L) (hR : Holds (V m c main_arg1) R)

include hL in
theorem block_0 (t : Fin cfg0.N) (x : Fin 512) (r : Fin 1024) :
    iblk m c 0 t (ix2 x r) = L (512 * t.val + x.val) r.val := by
  obtain ⟨e0, e1⟩ := idx_0 t
  unfold iblk
  rw [View.read_apply]
  refine (hL _).trans ?_
  congr 1
  · show win0_0.index t 0 * 512 + 1 * x.val = _
    omega
  · show win0_0.index t 1 * 1024 + 1 * r.val = _
    omega

include hR in
theorem block_1 (t : Fin cfg0.N) (x : Fin 512) (s : Fin 1024) :
    iblk m c 1 t (ix2 x s) = R (512 * t.val + x.val) s.val := by
  obtain ⟨e0, e1⟩ := idx_1 t
  unfold iblk
  rw [View.read_apply]
  refine (hR _).trans ?_
  congr 1
  · show win0_1.index t 0 * 512 + 1 * x.val = _
    omega
  · show win0_1.index t 1 * 1024 + 1 * s.val = _
    omega

include hL hR in
/-- What the result's block holds after each point: the sum over the rows so far. -/
theorem after_point : ∀ (n : ℕ) (hn : n < cfg0.N) (r : Fin 1024) (s : Fin 1024),
    outsAt0 m c n hn (ix2 r s) = ∑ k ∈ range (512 * (n + 1)), L k r.val * R k s.val := by
  intro n
  induction n with
  | zero =>
    intro hn r s
    refine (congrFun (outsAt0_A m c ⟨0, hn⟩ (by dsimp only) (by dsimp only; omega)) _).trans ?_
    rw [out_A, pay1_at]
    exact sum_first 512 (fun k => L k r.val * R k s.val) _ fun x => by
      rw [block_0 m c hL, block_1 m c hR]
      simp only [Nat.mul_zero, Nat.zero_add]
  | succ n ih =>
    intro hn r s
    have hN : n + 1 < 16 := lt_of_lt_of_eq hn (show cfg0.N = 16 from N_0)
    refine (congrFun (outsAt0_B m c ⟨n + 1, hn⟩ (by dsimp only; omega) (by dsimp only; omega)) _).trans ?_
    rw [out_B, pay2_at]
    refine (congrArg (· + _) (ih (Nat.lt_of_succ_lt hn) r s)).trans ?_
    refine sum_block 512 (fun k => L k r.val * R k s.val) (n + 1) _ fun x => ?_
    rw [block_0 m c hL, block_1 m c hR]

include hL hR in
/-- The result after the run. -/
theorem array (i : S1024x1024.Idx) :
    (dats m 0 c).arrAt 2 cfg0.N i = ∑ k ∈ range 8192, L k (i 0).val * R k (i 1).val := by
  refine Dat.arrAt_forall_of_covers (dats m 0 c) 2 (fun i x => x = ∑ k ∈ range 8192, L k (i 0).val * R k (i 1).val)
    (by decide +kernel) (fun t hf y => ?_) i
  obtain ⟨e0, e1⟩ := idx_2 t
  have h0 : (y 0).val < 1024 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  have ht : t.val = 15 := flush_last t hf
  refine (congrFun (after0_2 m c t) _).trans ?_
  rw [hy]
  refine (after_point m c hL hR t.val t.isLt _ _).trans ?_
  rw [ht]
  have g0 : win0_2.index t 0 * 1024 + 1 * (y 0).val = (y 0).val := by omega
  have g1 : win0_2.index t 1 * 1024 + 1 * (y 1).val = (y 1).val := by omega
  exact (congrArg₂ (fun a b => ∑ k ∈ range 8192, L k a * R k b) g0 g1).symm

end

/-- The reference's result, index by index. -/
theorem reference_at (x : FVec Ideal OutATnRefIdeal.S8192x8x64 .f32) (y : FVec Ideal OutATnRefIdeal.S8192x1024 .f32) (i : OutATnRefIdeal.S1024x1024.Idx) :
    (shapeCast OutATnRefIdeal.S1024x1024 (pad OutATnRefIdeal.S8x128x1024 ![0, 0, 0] ![0, 64, 0] ![0, 0, 0]
      (shapeCast OutATnRefIdeal.S8x64x1024 (transpose OutATnRefIdeal.S512x1024 [1, 0] (Host.dotGeneral (F := Ideal)
        OutATnRefIdeal.dot_S8192x1024_S8192x512_S1024x512_0_0_1_1_n_n none y (shapeCast OutATnRefIdeal.S8192x512 x OutATnRefIdeal.Gen.shapeCasts_S8192x8x64_S8192x512))
        OutATnRefIdeal.Gen.transposes_S1024x512_S512x1024_1_0) OutATnRefIdeal.Gen.shapeCasts_S512x1024_S8x64x1024)
        (sitofp .f32 (constantI OutATnRefIdeal.S_ 32 0#32)) OutATnRefIdeal.Gen.pads_S8x64x1024_S8x128x1024_000_0640_000 OutATnRefIdeal.Gen.h_S_)
      OutATnRefIdeal.Gen.shapeCasts_S8x128x1024_S1024x1024) i
      = ∑ k ∈ range 8192, lanes (flat x k) (i 0).val * cell y k (i 1).val := by
  refine Eq.trans ?_ (lanes_sum' (flat x) (fun k => cell y k (i 1).val) _).symm
  have h0 : (i 0).val < 1024 := (i 0).isLt
  pointwise
  refine lanes_column (fun n => ∑ k ∈ range 8192, flat x k n * cell y k (i 1).val) h0 (zero_word _) _ fun h => ?_
  refine sum_first 8192 (fun k => flat x k (64 * ((i 0).val / 128) + (i 0).val % 128) * cell y k (i 1).val) _ fun k =>
    (mul_comm _ _).trans (congrArg₂ (· * ·) (flat_eq x k _ _ rfl ?_) (cell_eq y k (i 1) rfl rfl))
  dsimp only
  omega

/-- The gradient of the mixer's output weight, the attention's rows. -/
theorem algebraic : algebraic_OutATnIdeal_OutATnRefIdeal (hOutATnIdeal := OutATnIdeal.Gen.facts) (hOutATnRefIdeal := OutATnRefIdeal.Gen.facts) := by
  intro m ρ m' ρ' _ ha
  refine ⟨fun c => (dats m 0 c).arrAt 2 cfg0.N, OutATnIdeal.Value.run_blocks m ρ, (θ_run _ _ _).mono ?_ (OutATnRefIdeal.Value.run m' ρ')⟩
  intro r h c
  obtain ⟨h0, hrest⟩ := h c
  obtain ⟨a0, a1⟩ := ha c
  refine ⟨h0.trans ?_, hrest⟩
  rw [a0, a1]
  exact funext fun i => (reference_at _ _ i).trans (array m c (left m c) (right m c) i).symm

end Cert.OutATnIdeal.Product

end
-- ==== Proof.Products.RmsBwd.lean ====
/- The gradient of the normalisation of a row by its root mean square, added to the gradient that passes beside it, and the gradient of its scale. -/
module

public import proofs.«01_k».proof.Proof.Gen.RmsBwdIdeal.Value
public import proofs.«01_k».proof.Proof.Gen.RmsBwdRefIdeal.Run
public import proofs.«01_k».proof.Proof.Products.Sums

@[expose] public section

set_option maxRecDepth 16384

noncomputable section

namespace Cert.RmsBwdIdeal.Product

open Cert.RmsBwdIdeal Cert.RmsBwdIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The part of a row's gradient that comes through the mean of the squares. -/
def through (p q g : Fin 1024 → EReal) : EReal :=
  Ideal.div ((∑ k, p k * (q k * g k)) *
    (Ideal.ofBits FTy.f32 0xBF000000#32 * Ideal.div (Ideal.rsqrt (spread p)) (spread p))) (Ideal.ofBits FTy.f32 0x44800000#32)

/-- The gradient of a row. -/
def grad (p q g : Fin 1024 → EReal) (d : EReal) (s : Fin 1024) : EReal :=
  q s * g s * Ideal.rsqrt (spread p) + p s * through p q g + through p q g * p s + d

/-- A row's part of the gradient of the scale. -/
def part (p q : Fin 1024 → EReal) (s : Fin 1024) : EReal := p s * Ideal.rsqrt (spread p) * q s

/-- The scale: the argument laid out as a row. -/
theorem scale_at (s : Fin 1024) : V m c main_v0 (ix2 0 s) = m (c.tc.loc main_arg3) (ix1 s) := by
  unfold V hostOps0
  after_results_simp
  pointwise

theorem pay2_at (a : Vec Ideal S512x1024 .f32) (r : Fin 512) :
    k0_pay2 a (ix2 r 0) = spread fun k => a (ix2 r k) := by
  pointwise [k0_pay2]
  rfl

theorem pay4_at (a b : Vec Ideal S512x1024 .f32) (s : Fin 1024) :
    k0_pay4 a b (ix2 0 s) = ∑ r : Fin 512, part (fun k => a (ix2 r k)) (fun k => b (ix2 r k)) s := by
  have hp := pay2_at a
  unfold k0_pay4 k0_pay3
  generalize k0_pay2 a = p at hp ⊢
  pointwise
  simp only [hp]
  rfl

theorem pay1_at (v o : Vec Ideal S1x1024 .f32) (s : Fin 1024) : k0_pay1 v o (ix2 0 s) = o (ix2 0 s) + v (ix2 0 s) := by
  pointwise [k0_pay1]

theorem pay5_at (a b d : Vec Ideal S512x1024 .f32) (g : Vec Ideal S1x1024 .f32) (r : Fin 512) (s : Fin 1024) :
    k0_pay5 a b d g (ix2 r s) = grad (fun k => a (ix2 r k)) (fun k => b (ix2 r k)) (fun k => g (ix2 0 k)) (d (ix2 r s)) s := by
  have hp := pay2_at a
  unfold k0_pay5 k0_pay3
  generalize k0_pay2 a = p at hp ⊢
  pointwise
  simp only [Fin.sum_univ_one, hp]
  rfl

section
variable (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S1x1024 .f32) (h6 : a6.IsWhole)
  (x0 x1 x2 : Vec Ideal S512x1024 .f32) (x3 xo : Vec Ideal S1x1024 .f32)

theorem out_4_A (hc0 : cond0_0 i) (hc1 : ¬cond0_1 i) :
    out0_A_4 c i a1 h1 a2 h2 a3 h3 a4 h4 a5 h5 a6 h6 hc0 hc1 x0 x1 x2 x3 = k0_pay5 x0 x1 x2 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  rw [View.canon_unit_zero zeros2]
  simp only [View.readAt_eq_ld, h1.read_unread, h2.read_unread, h3.read_unread, h4.read_unread, h6.read_unread,
    View.ld_unit_zero (S := S512x1024) zeros2, View.ld_unit_zero (S := S1x1024) zeros2]

theorem out_4_B (hc0 : ¬cond0_0 i) (hc1 : cond0_1 i) :
    out0_B_4 c i a1 h1 a2 h2 a3 h3 a4 h4 a5 h5 a6 h6 hc0 hc1 x0 x1 x2 x3 xo = k0_pay5 x0 x1 x2 x3 := by
  unfold out0_B_4
  rw [View.read_writes_eq_canon _ _ _ (cover0_B_4 c i a1 h1 a2 h2 a3 h3 a4 h4 a5 h5 a6 h6 hc0 hc1 x0 x1 x2 x3 xo)]
  unfold kernelRun0_B
  dsimp only
  rw [View.canon_unit_zero zeros2]
  simp only [View.readAt_eq_ld, h1.read_unread, h2.read_unread, h3.read_unread, h4.read_unread, h6.read_unread,
    View.ld_unit_zero (S := S512x1024) zeros2, View.ld_unit_zero (S := S1x1024) zeros2]

theorem out_5_A (hc0 : cond0_0 i) (hc1 : ¬cond0_1 i) :
    out0_A_5 c i a1 h1 a2 h2 a3 h3 a4 h4 a5 h5 a6 h6 hc0 hc1 x0 x1 x2 x3 = k0_pay4 x0 x1 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  rw [View.canon_unit_zero zeros2]
  simp only [kernelRun0_A.sl.r, View.readAt_eq_ld, h1.read_unread, h2.read_unread, h3.read_unread, h4.read_unread, h6.read_unread,
    View.ld_unit_zero (S := S512x1024) zeros2, View.ld_unit_zero (S := S1x1024) zeros2]

theorem out_5_B (hc0 : ¬cond0_0 i) (hc1 : cond0_1 i) :
    out0_B_5 c i a1 h1 a2 h2 a3 h3 a4 h4 a5 h5 a6 h6 hc0 hc1 x0 x1 x2 x3 xo = k0_pay1 (k0_pay4 x0 x1) xo := by
  unfold out0_B_5
  rw [View.read_writes_eq_canon _ _ _ (cover0_B_5 c i a1 h1 a2 h2 a3 h3 a4 h4 a5 h5 a6 h6 hc0 hc1 x0 x1 x2 x3 xo)]
  unfold kernelRun0_B
  dsimp only
  rw [View.canon_unit_zero zeros2]
  simp only [kernelRun0_B.sl.r, View.readAt_eq_ld, h1.read_unread, h2.read_unread, h3.read_unread, h4.read_unread, h6.read_unread,
    View.ld_unit_zero (S := S512x1024) zeros2, View.ld_unit_zero (S := S1x1024) zeros2]

end

theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = t.val ∧ win0_2.index t 1 = 0 := by decide +kernel
theorem idx_3 : ∀ t : Fin grid0.N, win0_3.index t 0 = 0 ∧ win0_3.index t 1 = 0 := by decide +kernel
theorem idx_4 : ∀ t : Fin grid0.N, win0_4.index t 0 = t.val ∧ win0_4.index t 1 = 0 := by decide +kernel
theorem idx_5 : ∀ t : Fin grid0.N, win0_5.index t 0 = 0 ∧ win0_5.index t 1 = 0 := by decide +kernel

theorem block_0 (t : Fin cfg0.N) (r : Fin 512) (k : Fin 1024) :
    iblk m c 0 t (ix2 r k) = row (m (c.tc.loc main_arg0)) (512 * t.val + r.val) k := by
  obtain ⟨e0, e1⟩ := idx_0 t
  unfold iblk
  rw [View.read_apply]
  refine (congrFun (V_main_arg0 m c) _).trans ((holds_cell _ _).trans ?_)
  refine congrArg₂ (cell (m (c.tc.loc main_arg0))) ?_ ?_
  · show win0_0.index t 0 * 512 + 1 * r.val = _
    omega
  · show win0_0.index t 1 * 1024 + 1 * k.val = _
    omega

theorem block_1 (t : Fin cfg0.N) (r : Fin 512) (k : Fin 1024) :
    iblk m c 1 t (ix2 r k) = row (m (c.tc.loc main_arg1)) (512 * t.val + r.val) k := by
  obtain ⟨e0, e1⟩ := idx_1 t
  unfold iblk
  rw [View.read_apply]
  refine (congrFun (V_main_arg1 m c) _).trans ((holds_cell _ _).trans ?_)
  refine congrArg₂ (cell (m (c.tc.loc main_arg1))) ?_ ?_
  · show win0_1.index t 0 * 512 + 1 * r.val = _
    omega
  · show win0_1.index t 1 * 1024 + 1 * k.val = _
    omega

theorem block_2 (t : Fin cfg0.N) (r : Fin 512) (k : Fin 1024) :
    iblk m c 2 t (ix2 r k) = row (m (c.tc.loc main_arg2)) (512 * t.val + r.val) k := by
  obtain ⟨e0, e1⟩ := idx_2 t
  unfold iblk
  rw [View.read_apply]
  refine (congrFun (V_main_arg2 m c) _).trans ((holds_cell _ _).trans ?_)
  refine congrArg₂ (cell (m (c.tc.loc main_arg2))) ?_ ?_
  · show win0_2.index t 0 * 512 + 1 * r.val = _
    omega
  · show win0_2.index t 1 * 1024 + 1 * k.val = _
    omega

theorem block_3 (t : Fin cfg0.N) (k : Fin 1024) : iblk m c 3 t (ix2 0 k) = m (c.tc.loc main_arg3) (ix1 k) := by
  obtain ⟨e0, e1⟩ := idx_3 t
  unfold iblk
  rw [View.read_apply]
  refine (congrArg (V m c main_v0) (funext fun a => ?_)).trans (scale_at m c k)
  match a with
  | 0 => exact Subsingleton.elim (α := Fin 1) _ _
  | 1 =>
    refine Fin.ext ?_
    show _ = k.val
    show win0_3.index t 1 * 1024 + 1 * k.val = _
    omega

/-- What the block of the rows' gradients holds after each point. -/
theorem rows_after (t : Fin cfg0.N) (r : Fin 512) (s : Fin 1024) :
    (outsAt0 m c t.val t.isLt).1 (ix2 r s) = grad (row (m (c.tc.loc main_arg0)) (512 * t.val + r.val)) (row (m (c.tc.loc main_arg1)) (512 * t.val + r.val))
      (fun k => m (c.tc.loc main_arg3) (ix1 k)) (row (m (c.tc.loc main_arg2)) (512 * t.val + r.val) s) s := by
  have hN : t.val < 16 := t.isLt
  have e : (outsAt0 m c t.val t.isLt).1 = k0_pay5 (iblk m c 0 t) (iblk m c 1 t) (iblk m c 2 t) (iblk m c 3 t) := by
    by_cases h0 : t.val % 16 = 0
    · refine (congrArg Prod.fst (outsAt0_A m c t h0 (by omega))).trans ?_
      dsimp only
      rw [out_4_A]
    · refine (congrArg Prod.fst (outsAt0_B m c t h0 (by omega))).trans ?_
      dsimp only
      rw [out_4_B]
  rw [e, pay5_at]
  simp only [block_0, block_1, block_2, block_3]

/-- What the block of the scale's gradient holds after each point: the sum over the rows so far. -/
theorem scale_after (s : Fin 1024) : ∀ (n : ℕ) (hn : n < cfg0.N), (outsAt0 m c n hn).2 (ix2 0 s)
    = ∑ i ∈ range (512 * (n + 1)), part (row (m (c.tc.loc main_arg0)) i) (row (m (c.tc.loc main_arg1)) i) s := by
  intro n
  induction n with
  | zero =>
    intro hn
    have e : (outsAt0 m c 0 hn).2 = _ := congrArg Prod.snd (outsAt0_A m c ⟨0, hn⟩ rfl (by dsimp only; omega))
    rw [e]
    dsimp only
    rw [out_5_A, pay4_at]
    refine sum_first 512 (fun i => part (row (m (c.tc.loc main_arg0)) i) (row (m (c.tc.loc main_arg1)) i) s) _ fun x => ?_
    simp only [block_0, block_1, Nat.mul_zero, Nat.zero_add]
  | succ n ih =>
    intro hn
    have hN : n + 1 < 16 := hn
    have e : (outsAt0 m c (n + 1) hn).2 = _ := congrArg Prod.snd (outsAt0_B m c ⟨n + 1, hn⟩ (by dsimp only; omega) (by dsimp only; omega))
    rw [e]
    dsimp only
    rw [out_5_B, pay1_at, pay4_at]
    refine (congrArg (· + _) (ih (Nat.lt_of_succ_lt hn))).trans ?_
    refine sum_block 512 (fun i => part (row (m (c.tc.loc main_arg0)) i) (row (m (c.tc.loc main_arg1)) i) s) (n + 1) _ fun x => ?_
    simp only [block_0, block_1]

/-- The rows' gradients after the run. -/
theorem rows_array (i : S8192x1024.Idx) :
    (dats m 0 c).arrAt 4 cfg0.N i = grad (row (m (c.tc.loc main_arg0)) (i 0).val) (row (m (c.tc.loc main_arg1)) (i 0).val)
      (fun k => m (c.tc.loc main_arg3) (ix1 k)) (row (m (c.tc.loc main_arg2)) (i 0).val (i 1)) (i 1) := by
  refine Dat.arrAt_forall_of_covers (dats m 0 c) 4 (fun i x => x = grad (row (m (c.tc.loc main_arg0)) (i 0).val) (row (m (c.tc.loc main_arg1)) (i 0).val)
      (fun k => m (c.tc.loc main_arg3) (ix1 k)) (row (m (c.tc.loc main_arg2)) (i 0).val (i 1)) (i 1))
    (by decide +kernel) (fun t _ y => ?_) i
  obtain ⟨e0, e1⟩ := idx_4 t
  have hy : (cfg0.win 4).xinj (grid0.coords t) y = ix2 ⟨(y 0).val, (y 0).isLt⟩ ⟨(y 1).val, (y 1).isLt⟩ := by
    funext a
    match a with
    | 0 => rfl
    | 1 => rfl
  refine (congrFun (after0_4 m c t) _).trans ?_
  rw [hy]
  refine (rows_after m c t _ _).trans ?_
  have g0 : win0_4.index t 0 * 512 + 1 * (y 0).val = 512 * t.val + (y 0).val := by omega
  have g1 : win0_4.index t 1 * 1024 + 1 * (y 1).val = (y 1).val := by omega
  exact (congrArg₂ (fun (a : ℕ) (b : Fin 1024) => grad (row (m (c.tc.loc main_arg0)) a) (row (m (c.tc.loc main_arg1)) a)
      (fun k => m (c.tc.loc main_arg3) (ix1 k)) (row (m (c.tc.loc main_arg2)) a b) b) g0 (Fin.ext g1)).symm

/-- The scale's gradient after the run. -/
theorem scale_array (i : S1x1024.Idx) :
    (dats m 0 c).arrAt 5 cfg0.N i = ∑ k ∈ range 8192, part (row (m (c.tc.loc main_arg0)) k) (row (m (c.tc.loc main_arg1)) k) (i 1) := by
  refine Dat.arrAt_forall_of_covers (dats m 0 c) 5 (fun i x => x = ∑ k ∈ range 8192, part (row (m (c.tc.loc main_arg0)) k) (row (m (c.tc.loc main_arg1)) k) (i 1))
    (by decide +kernel) (fun t hf y => ?_) i
  obtain ⟨e0, e1⟩ := idx_5 t
  have hN : t.val < 16 := t.isLt
  have ht : t.val = 15 := by have := (flush0_5 t).mp hf; omega
  have hy : (cfg0.win 5).xinj (grid0.coords t) y = ix2 0 ⟨(y 1).val, (y 1).isLt⟩ := by
    funext a
    match a with
    | 0 => exact Subsingleton.elim (α := Fin 1) _ _
    | 1 => rfl
  refine (congrFun (after0_5 m c t) _).trans ?_
  rw [hy]
  refine (scale_after m c _ t.val t.isLt).trans ?_
  rw [ht]
  have g1 : win0_5.index t 1 * 1024 + 1 * (y 1).val = (y 1).val := by omega
  exact sum_congr rfl fun k _ => congrArg (part (row (m (c.tc.loc main_arg0)) k) (row (m (c.tc.loc main_arg1)) k)) (Fin.ext g1.symm)

/-- The gradient of the normalisation. -/
theorem algebraic : algebraic_RmsBwdIdeal_RmsBwdRefIdeal (hRmsBwdIdeal := RmsBwdIdeal.Gen.facts) (hRmsBwdRefIdeal := RmsBwdRefIdeal.Gen.facts) := by
  intro m ρ m' ρ' _ ha
  refine ⟨fun c => ((dats m 0 c).arrAt 4 cfg0.N), fun c => ((dats m 0 c).arrAt 5 cfg0.N), RmsBwdIdeal.Value.run_blocks m ρ, (θ_run _ _ _).mono ?_ (RmsBwdRefIdeal.Value.run m' ρ')⟩
  intro r h c
  obtain ⟨h0, h1, hrest⟩ := h c
  obtain ⟨a0, a1, a2, a3⟩ := ha c
  refine ⟨h0.trans ?_, h1.trans ?_, hrest⟩
  · rw [a0, a1, a2, a3]
    refine funext fun i => Eq.trans ?_ (rows_array m c i).symm
    obtain ⟨r, s, rfl⟩ : ∃ r s, i = ix2 r s := ⟨i 0, i 1, (ix2_eta i).symm⟩
    pointwise
    simp only [Fin.sum_univ_one]
    show _ = grad (row (m (c.tc.loc main_arg0)) r.val) (row (m (c.tc.loc main_arg1)) r.val) (fun k => m (c.tc.loc main_arg3) (ix1 k))
      (row (m (c.tc.loc main_arg2)) r.val s) s
    rw [← row_fin, ← row_fin, ← row_fin]
    rfl
  · rw [a0, a1]
    refine funext fun i => Eq.trans ?_ (scale_array m c i).symm
    obtain ⟨r, s, rfl⟩ : ∃ r s, i = ix2 r s := ⟨i 0, i 1, (ix2_eta i).symm⟩
    pointwise
    refine (Fin.sum_univ_one _).trans (sum_first 8192 (fun i => part (row (m (c.tc.loc main_arg0)) i) (row (m (c.tc.loc main_arg1)) i) s) _ fun x => ?_)
    rw [← row_fin, ← row_fin]
    rfl

end Cert.RmsBwdIdeal.Product

end
-- ==== Proof.Products.Rms.lean ====
/- The normalisation of a row by its root mean square. -/
module

public import proofs.«01_k».proof.Proof.Gen.RmsIdeal.Value
public import proofs.«01_k».proof.Proof.Gen.RmsRefIdeal.Run
public import proofs.«01_k».proof.Proof.Products.Sums

@[expose] public section

set_option maxRecDepth 16384

noncomputable section

namespace Cert.RmsIdeal.Product

open Cert.RmsIdeal Cert.RmsIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

/-- The scale: the argument laid out as a row. -/
theorem scale_at (s : Fin 1024) : V m c main_v0 (ix2 0 s) = m (c.tc.loc main_arg1) (ix1 s) := by
  unfold V hostOps0
  after_results_simp
  pointwise

theorem pay1_at (a : Vec Ideal S512x1024 .f32) (g : Vec Ideal S1x1024 .f32) (r : Fin 512) (s : Fin 1024) :
    k0_pay1 a g (ix2 r s) = a (ix2 r s) * Ideal.rsqrt (spread fun k => a (ix2 r k)) * g (ix2 0 s) := by
  pointwise [k0_pay1]
  rfl

theorem out_at (x0 : Vec Ideal S512x1024 .f32) (x1 : Vec Ideal S1x1024 .f32) : out0_2 x0 x1 = k0_pay1 x0 x1 := by
  unfold out0_2
  rw [View.canon_unit_zero zeros2]
  simp only [View.ld_unit_zero (S := S512x1024) zeros2, View.ld_unit_zero (S := S1x1024) zeros2]

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = t.val ∧ win0_2.index t 1 = 0 := by decide +kernel

theorem block_0 (t : Fin cfg0.N) (r : Fin 512) (k : Fin 1024) :
    iblk m c 0 t (ix2 r k) = row (m (c.tc.loc main_arg0)) (512 * t.val + r.val) k := by
  obtain ⟨e0, e1⟩ := idx_0 t
  unfold iblk
  rw [View.read_apply]
  refine (congrFun (V_main_arg0 m c) _).trans ((holds_cell _ _).trans ?_)
  refine congrArg₂ (cell (m (c.tc.loc main_arg0))) ?_ ?_
  · show win0_0.index t 0 * 512 + 1 * r.val = _
    omega
  · show win0_0.index t 1 * 1024 + 1 * k.val = _
    omega

theorem block_1 (t : Fin cfg0.N) (k : Fin 1024) : iblk m c 1 t (ix2 0 k) = m (c.tc.loc main_arg1) (ix1 k) := by
  obtain ⟨e0, e1⟩ := idx_1 t
  unfold iblk
  rw [View.read_apply]
  refine (congrArg (V m c main_v0) (funext fun a => ?_)).trans (scale_at m c k)
  match a with
  | 0 => exact Subsingleton.elim (α := Fin 1) _ _
  | 1 =>
    refine Fin.ext ?_
    show _ = k.val
    show win0_1.index t 1 * 1024 + 1 * k.val = _
    omega

/-- The normalised rows after the run. -/
theorem array (r : Fin 8192) (s : Fin 1024) :
    (dats m 0 c).arrAt 2 cfg0.N (ix2 r s) = row (m (c.tc.loc main_arg0)) r.val s * Ideal.rsqrt (spread (row (m (c.tc.loc main_arg0)) r.val)) * m (c.tc.loc main_arg1) (ix1 s) := by
  refine Dat.arrAt_forall_of_covers (dats m 0 c) 2 (fun i x => x = row (m (c.tc.loc main_arg0)) (i 0).val (i 1)
      * Ideal.rsqrt (spread (row (m (c.tc.loc main_arg0)) (i 0).val)) * m (c.tc.loc main_arg1) (ix1 (i 1)))
    (by decide +kernel) (fun t _ y => ?_) (ix2 r s)
  obtain ⟨e0, e1⟩ := idx_2 t
  have h0 : (y 0).val < 512 := (y 0).isLt
  have h1 : (y 1).val < 1024 := (y 1).isLt
  have hy : (cfg0.win 2).xinj (grid0.coords t) y = ix2 ⟨(y 0).val, h0⟩ ⟨(y 1).val, h1⟩ := by
    funext a
    match a with
    | 0 => rfl
    | 1 => rfl
  refine (congrFun (after0_2 m c t) _).trans ?_
  rw [hy, out_at, pay1_at]
  simp only [block_0, block_1]
  have g0 : win0_2.index t 0 * 512 + 1 * (y 0).val = 512 * t.val + (y 0).val := by omega
  have g1 : win0_2.index t 1 * 1024 + 1 * (y 1).val = (y 1).val := by omega
  exact (congrArg₂ (fun (a : ℕ) (b : Fin 1024) => row (m (c.tc.loc main_arg0)) a b * Ideal.rsqrt (spread (row (m (c.tc.loc main_arg0)) a))
    * m (c.tc.loc main_arg1) (ix1 b)) g0 (Fin.ext g1)).symm

/-- The normalisation. -/
theorem algebraic : algebraic_RmsIdeal_RmsRefIdeal (hRmsIdeal := RmsIdeal.Gen.facts) (hRmsRefIdeal := RmsRefIdeal.Gen.facts) := by
  intro m ρ m' ρ' _ ha
  refine ⟨fun c => (dats m 0 c).arrAt 2 cfg0.N, RmsIdeal.Value.run_blocks m ρ, (θ_run _ _ _).mono ?_ (RmsRefIdeal.Value.run m' ρ')⟩
  intro r h c
  obtain ⟨h0, hrest⟩ := h c
  obtain ⟨a0, a1⟩ := ha c
  refine ⟨h0.trans ?_, hrest⟩
  rw [a0, a1]
  refine funext fun i => ?_
  obtain ⟨r, s, rfl⟩ : ∃ r s, i = ix2 r s := ⟨i 0, i 1, (ix2_eta i).symm⟩
  refine Eq.trans ?_ (array m c r s).symm
  pointwise
  rw [← row_fin]
  rfl

end Cert.RmsIdeal.Product

end
-- ==== Proof.Products.Loss.lean ====
/- The head of the loss: the gradient at its input, and the sums over the rows of the squared errors. -/
module

public import proofs.«01_k».proof.Proof.Gen.LossIdeal.Value
public import proofs.«01_k».proof.Proof.Gen.LossRefIdeal.Run
public import proofs.«01_k».proof.Proof.Products.Sums

@[expose] public section

set_option maxRecDepth 16384

noncomputable section

namespace Cert.LossIdeal.Product

open Cert.LossIdeal Cert.LossIdeal.Gen Cert.Products
open Idealize.ShloMosaic Idealize.ShloMosaic.TcCoe Idealize.SL.Sem Idealize.ShloMosaic.Tactic Finset
open Idealize.ShloMosaic.Pipeline (Dat)

variable (m : (ℓ : Loc nD τ sig) → Buf (Elt Ideal) ℓ) (c : Dev nD)

theorem pay2_at (a b : Vec Ideal S512x1024 .f32) (r : Fin 512) (s : Fin 1024) :
    k0_pay2 a b (ix2 r s) = (a (ix2 r s) - b (ix2 r s)) * Ideal.ofBits FTy.f32 0x3A800000#32 := by
  pointwise [k0_pay2, k0_pay1]

theorem half_word : Ideal.ofBits FTy.f32 0x3F000000#32 = ((1 / 2 : ℝ) : EReal) := by
  simp [Ideal.ofBits, Ideal.ieee, -EReal.coe_mul]
  norm_num

theorem two_word : Ideal.ofBits FTy.f32 0x40000000#32 = ((2 : ℝ) : EReal) := by
  simp [Ideal.ofBits, Ideal.ieee, -EReal.coe_mul]
  norm_num

theorem width_word : Ideal.ofBits FTy.f32 0x44800000#32 = ((1024 : ℝ) : EReal) := by
  simp [Ideal.ofBits, Ideal.ieee, -EReal.coe_mul]
  norm_num

theorem part_word : Ideal.ofBits FTy.f32 0x3A800000#32 = ((1 / 1024 : ℝ) : EReal) := by
  simp [Ideal.ofBits, Ideal.ieee, -EReal.coe_mul]
  norm_num

/-- The derivative of half of the square, divided by the number of columns, is the error divided by it. -/
theorem slope (e : EReal) : Ideal.div (Ideal.ofBits FTy.f32 0x3F000000#32) (Ideal.ofBits FTy.f32 0x44800000#32) *
    (Ideal.ofBits FTy.f32 0x40000000#32 * e) = e * Ideal.ofBits FTy.f32 0x3A800000#32 := by
  rw [half_word, two_word, width_word, part_word, Ideal.div_coe (by norm_num), ← mul_assoc, mul_comm, ← EReal.coe_mul, ← EReal.coe_mul]
  norm_num

/-- The square of an error. -/
def sq (p q : EReal) : EReal := (p - q) * (p - q)

theorem pay3_at (a b : Vec Ideal S512x1024 .f32) (s : Fin 1024) :
    k0_pay3 a b (ix2 0 s) = ∑ r : Fin 512, sq (a (ix2 r s)) (b (ix2 r s)) := by
  pointwise [k0_pay3, k0_pay1]
  rfl

theorem pay4_at (a b : Vec Ideal S512x1024 .f32) (o : Vec Ideal S1x1024 .f32) (s : Fin 1024) :
    k0_pay4 a b o (ix2 0 s) = o (ix2 0 s) + ∑ r : Fin 512, sq (a (ix2 r s)) (b (ix2 r s)) := by
  refine Eq.trans ?_ (congrArg (o (ix2 0 s) + ·) (pay3_at a b s))
  unfold k0_pay4
  generalize k0_pay3 a b = p
  pointwise

section
variable (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (x0 x1 : Vec Ideal S512x1024 .f32) (xo : Vec Ideal S1x1024 .f32)

theorem out_2_A (hc0 : cond0_0 i) (hc1 : ¬cond0_1 i) : out0_A_2 c i a1 h1 a2 h2 a3 h3 a4 h4 hc0 hc1 x0 x1 = k0_pay2 x0 x1 := by
  unfold out0_A_2
  rw [View.read_writes_eq_canon _ _ _ (cover0_A_2 c i a1 h1 a2 h2 a3 h3 a4 h4 hc0 hc1 x0 x1)]
  unfold kernelRun0_A
  dsimp only
  rw [View.canon_unit_zero zeros2]
  simp only [View.readAt_eq_ld, h1.read_unread, h2.read_unread, h4.read_unread,
    View.ld_unit_zero (S := S512x1024) zeros2, View.ld_unit_zero (S := S1x1024) zeros2]

theorem out_2_B (hc0 : ¬cond0_0 i) (hc1 : cond0_1 i) : out0_B_2 c i a1 h1 a2 h2 a3 h3 a4 h4 hc0 hc1 x0 x1 xo = k0_pay2 x0 x1 := by
  unfold out0_B_2
  rw [View.read_writes_eq_canon _ _ _ (cover0_B_2 c i a1 h1 a2 h2 a3 h3 a4 h4 hc0 hc1 x0 x1 xo)]
  unfold kernelRun0_B
  dsimp only
  rw [View.canon_unit_zero zeros2]
  simp only [View.readAt_eq_ld, h1.read_unread, h2.read_unread, h4.read_unread,
    View.ld_unit_zero (S := S512x1024) zeros2, View.ld_unit_zero (S := S1x1024) zeros2]

theorem out_3_A (hc0 : cond0_0 i) (hc1 : ¬cond0_1 i) : out0_A_3 c i a1 h1 a2 h2 a3 h3 a4 h4 hc0 hc1 x0 x1 = k0_pay3 x0 x1 := by
  unfold out0_A_3
  rw [View.read_writes_eq_canon _ _ _ (cover0_A_3 c i a1 h1 a2 h2 a3 h3 a4 h4 hc0 hc1 x0 x1)]
  unfold kernelRun0_A
  dsimp only
  rw [View.canon_unit_zero zeros2]
  simp only [View.readAt_eq_ld, h1.read_unread, h2.read_unread, h4.read_unread,
    View.ld_unit_zero (S := S512x1024) zeros2, View.ld_unit_zero (S := S1x1024) zeros2]

theorem out_3_B (hc0 : ¬cond0_0 i) (hc1 : cond0_1 i) : out0_B_3 c i a1 h1 a2 h2 a3 h3 a4 h4 hc0 hc1 x0 x1 xo = k0_pay4 x0 x1 xo := by
  unfold out0_B_3
  rw [View.read_writes_eq_canon _ _ _ (cover0_B_3 c i a1 h1 a2 h2 a3 h3 a4 h4 hc0 hc1 x0 x1 xo)]
  unfold kernelRun0_B
  dsimp only
  rw [View.canon_unit_zero zeros2]
  simp only [View.readAt_eq_ld, h1.read_unread, h2.read_unread, h4.read_unread,
    View.ld_unit_zero (S := S512x1024) zeros2, View.ld_unit_zero (S := S1x1024) zeros2]

end

theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = t.val ∧ win0_2.index t 1 = 0 := by decide +kernel
theorem idx_3 : ∀ t : Fin grid0.N, win0_3.index t 0 = 0 ∧ win0_3.index t 1 = 0 := by decide +kernel

theorem block_0 (t : Fin cfg0.N) (r : Fin 512) (k : Fin 1024) :
    iblk m c 0 t (ix2 r k) = row (m (c.tc.loc main_arg0)) (512 * t.val + r.val) k := by
  obtain ⟨e0, e1⟩ := idx_0 t
  unfold iblk
  rw [View.read_apply]
  refine (congrFun (V_main_arg0 m c) _).trans ((holds_cell _ _).trans ?_)
  refine congrArg₂ (cell (m (c.tc.loc main_arg0))) ?_ ?_
  · show win0_0.index t 0 * 512 + 1 * r.val = _
    omega
  · show win0_0.index t 1 * 1024 + 1 * k.val = _
    omega

theorem block_1 (t : Fin cfg0.N) (r : Fin 512) (k : Fin 1024) :
    iblk m c 1 t (ix2 r k) = row (m (c.tc.loc main_arg1)) (512 * t.val + r.val) k := by
  obtain ⟨e0, e1⟩ := idx_1 t
  unfold iblk
  rw [View.read_apply]
  refine (congrFun (V_main_arg1 m c) _).trans ((holds_cell _ _).trans ?_)
  refine congrArg₂ (cell (m (c.tc.loc main_arg1))) ?_ ?_
  · show win0_1.index t 0 * 512 + 1 * r.val = _
    omega
  · show win0_1.index t 1 * 1024 + 1 * k.val = _
    omega

/-- What the block of the gradients holds after each point. -/
theorem rows_after (t : Fin cfg0.N) (r : Fin 512) (s : Fin 1024) :
    (outsAt0 m c t.val t.isLt).1 (ix2 r s) = (row (m (c.tc.loc main_arg0)) (512 * t.val + r.val) s - row (m (c.tc.loc main_arg1)) (512 * t.val + r.val) s)
      * Ideal.ofBits FTy.f32 0x3A800000#32 := by
  have hN : t.val < 16 := t.isLt
  have e : (outsAt0 m c t.val t.isLt).1 = k0_pay2 (iblk m c 0 t) (iblk m c 1 t) := by
    by_cases h0 : t.val % 16 = 0
    · refine (congrArg Prod.fst (outsAt0_A m c t h0 (by omega))).trans ?_
      dsimp only
      rw [out_2_A]
    · refine (congrArg Prod.fst (outsAt0_B m c t h0 (by omega))).trans ?_
      dsimp only
      rw [out_2_B]
  rw [e, pay2_at]
  simp only [block_0, block_1]

/-- What the block of the sums holds after each point: the sum over the rows so far. -/
theorem sums_after (s : Fin 1024) : ∀ (n : ℕ) (hn : n < cfg0.N), (outsAt0 m c n hn).2 (ix2 0 s)
    = ∑ i ∈ range (512 * (n + 1)), sq (row (m (c.tc.loc main_arg0)) i s) (row (m (c.tc.loc main_arg1)) i s) := by
  intro n
  induction n with
  | zero =>
    intro hn
    have e : (outsAt0 m c 0 hn).2 = _ := congrArg Prod.snd (outsAt0_A m c ⟨0, hn⟩ rfl (by dsimp only; omega))
    rw [e]
    dsimp only
    rw [out_3_A, pay3_at]
    refine sum_first 512 (fun i => sq (row (m (c.tc.loc main_arg0)) i s) (row (m (c.tc.loc main_arg1)) i s)) _ fun x => ?_
    simp only [block_0, block_1, Nat.mul_zero, Nat.zero_add]
  | succ n ih =>
    intro hn
    have hN : n + 1 < 16 := hn
    have e : (outsAt0 m c (n + 1) hn).2 = _ := congrArg Prod.snd (outsAt0_B m c ⟨n + 1, hn⟩ (by dsimp only; omega) (by dsimp only; omega))
    rw [e]
    dsimp only
    rw [out_3_B, pay4_at]
    refine (congrArg (· + _) (ih (Nat.lt_of_succ_lt hn))).trans ?_
    refine sum_block 512 (fun i => sq (row (m (c.tc.loc main_arg0)) i s) (row (m (c.tc.loc main_arg1)) i s)) (n + 1) _ fun x => ?_
    simp only [block_0, block_1]

/-- The gradients after the run. -/
theorem rows_array (r : Fin 8192) (s : Fin 1024) :
    (dats m 0 c).arrAt 2 cfg0.N (ix2 r s) = (row (m (c.tc.loc main_arg0)) r.val s - row (m (c.tc.loc main_arg1)) r.val s) * Ideal.ofBits FTy.f32 0x3A800000#32 := by
  refine Dat.arrAt_forall_of_covers (dats m 0 c) 2 (fun i x => x = (row (m (c.tc.loc main_arg0)) (i 0).val (i 1)
      - row (m (c.tc.loc main_arg1)) (i 0).val (i 1)) * Ideal.ofBits FTy.f32 0x3A800000#32) (by decide +kernel) (fun t _ y => ?_) (ix2 r s)
  obtain ⟨e0, e1⟩ := idx_2 t
  have hy : (cfg0.win 2).xinj (grid0.coords t) y = ix2 ⟨(y 0).val, (y 0).isLt⟩ ⟨(y 1).val, (y 1).isLt⟩ := by
    funext a
    match a with
    | 0 => rfl
    | 1 => rfl
  refine (congrFun (after0_2 m c t) _).trans ?_
  rw [hy]
  refine (rows_after m c t _ _).trans ?_
  have g0 : win0_2.index t 0 * 512 + 1 * (y 0).val = 512 * t.val + (y 0).val := by omega
  have g1 : win0_2.index t 1 * 1024 + 1 * (y 1).val = (y 1).val := by omega
  exact (congrArg₂ (fun (a : ℕ) (b : Fin 1024) => (row (m (c.tc.loc main_arg0)) a b - row (m (c.tc.loc main_arg1)) a b) * Ideal.ofBits FTy.f32 0x3A800000#32)
    g0 (Fin.ext g1)).symm

/-- The sums after the run. -/
theorem sums_array (r : Fin 1) (s : Fin 1024) :
    (dats m 0 c).arrAt 3 cfg0.N (ix2 r s) = ∑ k ∈ range 8192, sq (row (m (c.tc.loc main_arg0)) k s) (row (m (c.tc.loc main_arg1)) k s) := by
  refine Dat.arrAt_forall_of_covers (dats m 0 c) 3 (fun i x => x = ∑ k ∈ range 8192, sq (row (m (c.tc.loc main_arg0)) k (i 1))
      (row (m (c.tc.loc main_arg1)) k (i 1))) (by decide +kernel) (fun t hf y => ?_) (ix2 r s)
  obtain ⟨e0, e1⟩ := idx_3 t
  have hN : t.val < 16 := t.isLt
  have ht : t.val = 15 := by have := (flush0_3 t).mp hf; omega
  have hy : (cfg0.win 3).xinj (grid0.coords t) y = ix2 0 ⟨(y 1).val, (y 1).isLt⟩ := by
    funext a
    match a with
    | 0 => exact Subsingleton.elim (α := Fin 1) _ _
    | 1 => rfl
  refine (congrFun (after0_3 m c t) _).trans ?_
  rw [hy]
  refine (sums_after m c _ t.val t.isLt).trans ?_
  rw [ht]
  have g1 : win0_3.index t 1 * 1024 + 1 * (y 1).val = (y 1).val := by omega
  exact sum_congr rfl fun k _ => congrArg (fun b : Fin 1024 => sq (row (m (c.tc.loc main_arg0)) k b) (row (m (c.tc.loc main_arg1)) k b)) (Fin.ext g1.symm)

/-- The head of the loss. -/
theorem algebraic : algebraic_LossIdeal_LossRefIdeal (hLossIdeal := LossIdeal.Gen.facts) (hLossRefIdeal := LossRefIdeal.Gen.facts) := by
  intro m ρ m' ρ' _ ha
  refine ⟨fun c => (dats m 0 c).arrAt 2 cfg0.N, fun c => (dats m 0 c).arrAt 3 cfg0.N, LossIdeal.Value.run_blocks m ρ, (θ_run _ _ _).mono ?_ (LossRefIdeal.Value.run m' ρ')⟩
  intro r h c
  obtain ⟨h0, h1, hrest⟩ := h c
  obtain ⟨a0, a1⟩ := ha c
  refine ⟨h0.trans ?_, h1.trans ?_, hrest⟩
  · rw [a0, a1]
    refine funext fun i => ?_
    obtain ⟨r, s, rfl⟩ : ∃ r s, i = ix2 r s := ⟨i 0, i 1, (ix2_eta i).symm⟩
    refine Eq.trans ?_ (rows_array m c r s).symm
    pointwise
    rw [← row_fin, ← row_fin]
    exact slope _
  · rw [a0, a1]
    refine funext fun i => ?_
    obtain ⟨r, s, rfl⟩ : ∃ r s, i = ix2 r s := ⟨i 0, i 1, (ix2_eta i).symm⟩
    refine Eq.trans ?_ (sums_array m c r s).symm
    pointwise
    refine sum_first 8192 (fun i => sq (row (m (c.tc.loc main_arg0)) i s) (row (m (c.tc.loc main_arg1)) i s)) _ fun x => ?_
    rw [← row_fin, ← row_fin]
    rfl

end Cert.LossIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.RunKernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.RunKernelIdeal.Frame
public import proofs.«01_k».proof.Proof.Gen.ReferenceIdeal
public import proofs.«01_k».proof.Proof.Gen.ReferenceIdeal.Run
public import proofs.«01_k».proof.Proof.Gen.Pre_entries_finite
public import proofs.«01_k».proof.Proof.Values.Equation
public import proofs.«01_k».proof.Proof.Gen.UpGate.Frame
public import proofs.«01_k».proof.Proof.Gen.UpValue.Frame
public import proofs.«01_k».proof.Proof.Gen.UpGateT.Frame
public import proofs.«01_k».proof.Proof.Gen.UpValueT.Frame
public import proofs.«01_k».proof.Proof.Gen.UpTn.Frame
public import proofs.«01_k».proof.Proof.Gen.Down.Frame
public import proofs.«01_k».proof.Proof.Gen.DownT.Frame
public import proofs.«01_k».proof.Proof.Gen.DownTn.Frame
public import proofs.«01_k».proof.Proof.Gen.MemQ.Frame
public import proofs.«01_k».proof.Proof.Gen.MemO.Frame
public import proofs.«01_k».proof.Proof.Gen.MemT.Frame
public import proofs.«01_k».proof.Proof.Gen.MemTn.Frame
public import proofs.«01_k».proof.Proof.Gen.MixIn.Frame
public import proofs.«01_k».proof.Proof.Gen.MixInT.Frame
public import proofs.«01_k».proof.Proof.Gen.MixInTn.Frame
public import proofs.«01_k».proof.Proof.Gen.OutU.Frame
public import proofs.«01_k».proof.Proof.Gen.OutA.Frame
public import proofs.«01_k».proof.Proof.Gen.OutUT.Frame
public import proofs.«01_k».proof.Proof.Gen.OutAT.Frame
public import proofs.«01_k».proof.Proof.Gen.OutUTn.Frame
public import proofs.«01_k».proof.Proof.Gen.OutATn.Frame
public import proofs.«01_k».proof.Proof.Gen.RmsBwd.Frame
public import proofs.«01_k».proof.Proof.Gen.Rms.Frame
public import proofs.«01_k».proof.Proof.Gen.Loss.Frame
public import proofs.«01_k».proof.Proof.Products.UpGate
public import proofs.«01_k».proof.Proof.Products.UpValue
public import proofs.«01_k».proof.Proof.Products.UpGateT
public import proofs.«01_k».proof.Proof.Products.UpValueT
public import proofs.«01_k».proof.Proof.Products.UpTn
public import proofs.«01_k».proof.Proof.Products.Down
public import proofs.«01_k».proof.Proof.Products.DownT
public import proofs.«01_k».proof.Proof.Products.DownTn
public import proofs.«01_k».proof.Proof.Products.MemQ
public import proofs.«01_k».proof.Proof.Products.MemO
public import proofs.«01_k».proof.Proof.Products.MemT
public import proofs.«01_k».proof.Proof.Products.MemTn
public import proofs.«01_k».proof.Proof.Products.MixIn
public import proofs.«01_k».proof.Proof.Products.MixInT
public import proofs.«01_k».proof.Proof.Products.MixInTn
public import proofs.«01_k».proof.Proof.Products.OutU
public import proofs.«01_k».proof.Proof.Products.OutA
public import proofs.«01_k».proof.Proof.Products.OutUT
public import proofs.«01_k».proof.Proof.Products.OutAT
public import proofs.«01_k».proof.Proof.Products.OutUTn
public import proofs.«01_k».proof.Proof.Products.OutATn
public import proofs.«01_k».proof.Proof.Products.RmsBwd
public import proofs.«01_k».proof.Proof.Products.Rms
public import proofs.«01_k».proof.Proof.Products.Loss
public import Idealize.ShloMosaic.Adequacy
public import Idealize.ShloMosaic.Lib.Quiescent
public import Idealize.ShloMosaic.Init

@[expose] public section

noncomputable section

namespace Cert.Proof

open Idealize.ShloMosaic Idealize.SL.Sem

/-- The reference returns with its arguments unchanged; it uses no semaphores. -/
theorem refFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
        ∧ r.2.sem = fun _ => 0) := by
  refine (θ_run _ _ _).mono ?_ (Cert.ReferenceIdeal.Value.run m ρ)
  intro r h
  exact ⟨fun c => (h c).2.2.2.2, Idealize.ShloMosaic.sem_eq_zero_of_no_sems (by decide) r.2⟩

theorem claim : Cert.Claim := ⟨Cert.Kernel.Gen.facts, Cert.KernelIdeal.Gen.facts, Cert.ReferenceIdeal.Gen.facts,
  Cert.UpGate.Gen.facts, Cert.UpGateIdeal.Gen.facts, Cert.UpGateRefIdeal.Gen.facts,
  Cert.UpValue.Gen.facts, Cert.UpValueIdeal.Gen.facts, Cert.UpValueRefIdeal.Gen.facts,
  Cert.UpGateT.Gen.facts, Cert.UpGateTIdeal.Gen.facts, Cert.UpGateTRefIdeal.Gen.facts,
  Cert.UpValueT.Gen.facts, Cert.UpValueTIdeal.Gen.facts, Cert.UpValueTRefIdeal.Gen.facts,
  Cert.UpTn.Gen.facts, Cert.UpTnIdeal.Gen.facts, Cert.UpTnRefIdeal.Gen.facts,
  Cert.Down.Gen.facts, Cert.DownIdeal.Gen.facts, Cert.DownRefIdeal.Gen.facts,
  Cert.DownT.Gen.facts, Cert.DownTIdeal.Gen.facts, Cert.DownTRefIdeal.Gen.facts,
  Cert.DownTn.Gen.facts, Cert.DownTnIdeal.Gen.facts, Cert.DownTnRefIdeal.Gen.facts,
  Cert.MemQ.Gen.facts, Cert.MemQIdeal.Gen.facts, Cert.MemQRefIdeal.Gen.facts,
  Cert.MemO.Gen.facts, Cert.MemOIdeal.Gen.facts, Cert.MemORefIdeal.Gen.facts,
  Cert.MemT.Gen.facts, Cert.MemTIdeal.Gen.facts, Cert.MemTRefIdeal.Gen.facts,
  Cert.MemTn.Gen.facts, Cert.MemTnIdeal.Gen.facts, Cert.MemTnRefIdeal.Gen.facts,
  Cert.MixIn.Gen.facts, Cert.MixInIdeal.Gen.facts, Cert.MixInRefIdeal.Gen.facts,
  Cert.MixInT.Gen.facts, Cert.MixInTIdeal.Gen.facts, Cert.MixInTRefIdeal.Gen.facts,
  Cert.MixInTn.Gen.facts, Cert.MixInTnIdeal.Gen.facts, Cert.MixInTnRefIdeal.Gen.facts,
  Cert.OutU.Gen.facts, Cert.OutUIdeal.Gen.facts, Cert.OutURefIdeal.Gen.facts,
  Cert.OutA.Gen.facts, Cert.OutAIdeal.Gen.facts, Cert.OutARefIdeal.Gen.facts,
  Cert.OutUT.Gen.facts, Cert.OutUTIdeal.Gen.facts, Cert.OutUTRefIdeal.Gen.facts,
  Cert.OutAT.Gen.facts, Cert.OutATIdeal.Gen.facts, Cert.OutATRefIdeal.Gen.facts,
  Cert.OutUTn.Gen.facts, Cert.OutUTnIdeal.Gen.facts, Cert.OutUTnRefIdeal.Gen.facts,
  Cert.OutATn.Gen.facts, Cert.OutATnIdeal.Gen.facts, Cert.OutATnRefIdeal.Gen.facts,
  Cert.RmsBwd.Gen.facts, Cert.RmsBwdIdeal.Gen.facts, Cert.RmsBwdRefIdeal.Gen.facts,
  Cert.Rms.Gen.facts, Cert.RmsIdeal.Gen.facts, Cert.RmsRefIdeal.Gen.facts,
  Cert.Loss.Gen.facts, Cert.LossIdeal.Gen.facts, Cert.LossRefIdeal.Gen.facts,
  Cert.Pre_entries_finite.Gen.facts,
  fun m ρ _ => Cert.Kernel.Run.frame m ρ,
  fun m ρ _ => Cert.KernelIdeal.Run.frame m ρ,
  fun m ρ _ => Cert.KernelIdeal.Run.frame m ρ,
  fun m ρ _ => refFrame m ρ,
  fun m ρ _ => refFrame m ρ,
  fun m ρ _ => Cert.UpGate.Gen.frame m ρ,
  fun m ρ _ => Cert.UpGateIdeal.Gen.frame m ρ,
  fun m ρ _ => (θ_run _ _ _).mono (fun r h => ⟨fun c => (h c).2, sem_eq_zero_of_no_sems (by decide) r.2⟩)
    (Cert.UpGateRefIdeal.Value.run m ρ),
  fun m ρ _ => Cert.UpValue.Gen.frame m ρ,
  fun m ρ _ => Cert.UpValueIdeal.Gen.frame m ρ,
  fun m ρ _ => (θ_run _ _ _).mono (fun r h => ⟨fun c => (h c).2, sem_eq_zero_of_no_sems (by decide) r.2⟩)
    (Cert.UpValueRefIdeal.Value.run m ρ),
  fun m ρ _ => Cert.UpGateT.Gen.frame m ρ,
  fun m ρ _ => Cert.UpGateTIdeal.Gen.frame m ρ,
  fun m ρ _ => (θ_run _ _ _).mono (fun r h => ⟨fun c => (h c).2, sem_eq_zero_of_no_sems (by decide) r.2⟩)
    (Cert.UpGateTRefIdeal.Value.run m ρ),
  fun m ρ _ => Cert.UpValueT.Gen.frame m ρ,
  fun m ρ _ => Cert.UpValueTIdeal.Gen.frame m ρ,
  fun m ρ _ => (θ_run _ _ _).mono (fun r h => ⟨fun c => (h c).2, sem_eq_zero_of_no_sems (by decide) r.2⟩)
    (Cert.UpValueTRefIdeal.Value.run m ρ),
  fun m ρ _ => Cert.UpTn.Gen.frame m ρ,
  fun m ρ _ => Cert.UpTnIdeal.Gen.frame m ρ,
  fun m ρ _ => (θ_run _ _ _).mono (fun r h => ⟨fun c => (h c).2, sem_eq_zero_of_no_sems (by decide) r.2⟩)
    (Cert.UpTnRefIdeal.Value.run m ρ),
  fun m ρ _ => Cert.Down.Gen.frame m ρ,
  fun m ρ _ => Cert.DownIdeal.Gen.frame m ρ,
  fun m ρ _ => (θ_run _ _ _).mono (fun r h => ⟨fun c => (h c).2, sem_eq_zero_of_no_sems (by decide) r.2⟩)
    (Cert.DownRefIdeal.Value.run m ρ),
  fun m ρ _ => Cert.DownT.Gen.frame m ρ,
  fun m ρ _ => Cert.DownTIdeal.Gen.frame m ρ,
  fun m ρ _ => (θ_run _ _ _).mono (fun r h => ⟨fun c => (h c).2, sem_eq_zero_of_no_sems (by decide) r.2⟩)
    (Cert.DownTRefIdeal.Value.run m ρ),
  fun m ρ _ => Cert.DownTn.Gen.frame m ρ,
  fun m ρ _ => Cert.DownTnIdeal.Gen.frame m ρ,
  fun m ρ _ => (θ_run _ _ _).mono (fun r h => ⟨fun c => (h c).2, sem_eq_zero_of_no_sems (by decide) r.2⟩)
    (Cert.DownTnRefIdeal.Value.run m ρ),
  fun m ρ _ => Cert.MemQ.Gen.frame m ρ,
  fun m ρ _ => Cert.MemQIdeal.Gen.frame m ρ,
  fun m ρ _ => (θ_run _ _ _).mono (fun r h => ⟨fun c => (h c).2, sem_eq_zero_of_no_sems (by decide) r.2⟩)
    (Cert.MemQRefIdeal.Value.run m ρ),
  fun m ρ _ => Cert.MemO.Gen.frame m ρ,
  fun m ρ _ => Cert.MemOIdeal.Gen.frame m ρ,
  fun m ρ _ => (θ_run _ _ _).mono (fun r h => ⟨fun c => (h c).2, sem_eq_zero_of_no_sems (by decide) r.2⟩)
    (Cert.MemORefIdeal.Value.run m ρ),
  fun m ρ _ => Cert.MemT.Gen.frame m ρ,
  fun m ρ _ => Cert.MemTIdeal.Gen.frame m ρ,
  fun m ρ _ => (θ_run _ _ _).mono (fun r h => ⟨fun c => (h c).2, sem_eq_zero_of_no_sems (by decide) r.2⟩)
    (Cert.MemTRefIdeal.Value.run m ρ),
  fun m ρ _ => Cert.MemTn.Gen.frame m ρ,
  fun m ρ _ => Cert.MemTnIdeal.Gen.frame m ρ,
  fun m ρ _ => (θ_run _ _ _).mono (fun r h => ⟨fun c => (h c).2, sem_eq_zero_of_no_sems (by decide) r.2⟩)
    (Cert.MemTnRefIdeal.Value.run m ρ),
  fun m ρ _ => Cert.MixIn.Gen.frame m ρ,
  fun m ρ _ => Cert.MixInIdeal.Gen.frame m ρ,
  fun m ρ _ => (θ_run _ _ _).mono (fun r h => ⟨fun c => (h c).2, sem_eq_zero_of_no_sems (by decide) r.2⟩)
    (Cert.MixInRefIdeal.Value.run m ρ),
  fun m ρ _ => Cert.MixInT.Gen.frame m ρ,
  fun m ρ _ => Cert.MixInTIdeal.Gen.frame m ρ,
  fun m ρ _ => (θ_run _ _ _).mono (fun r h => ⟨fun c => (h c).2, sem_eq_zero_of_no_sems (by decide) r.2⟩)
    (Cert.MixInTRefIdeal.Value.run m ρ),
  fun m ρ _ => Cert.MixInTn.Gen.frame m ρ,
  fun m ρ _ => Cert.MixInTnIdeal.Gen.frame m ρ,
  fun m ρ _ => (θ_run _ _ _).mono (fun r h => ⟨fun c => (h c).2, sem_eq_zero_of_no_sems (by decide) r.2⟩)
    (Cert.MixInTnRefIdeal.Value.run m ρ),
  fun m ρ _ => Cert.OutU.Gen.frame m ρ,
  fun m ρ _ => Cert.OutUIdeal.Gen.frame m ρ,
  fun m ρ _ => (θ_run _ _ _).mono (fun r h => ⟨fun c => (h c).2, sem_eq_zero_of_no_sems (by decide) r.2⟩)
    (Cert.OutURefIdeal.Value.run m ρ),
  fun m ρ _ => Cert.OutA.Gen.frame m ρ,
  fun m ρ _ => Cert.OutAIdeal.Gen.frame m ρ,
  fun m ρ _ => (θ_run _ _ _).mono (fun r h => ⟨fun c => (h c).2, sem_eq_zero_of_no_sems (by decide) r.2⟩)
    (Cert.OutARefIdeal.Value.run m ρ),
  fun m ρ _ => Cert.OutUT.Gen.frame m ρ,
  fun m ρ _ => Cert.OutUTIdeal.Gen.frame m ρ,
  fun m ρ _ => (θ_run _ _ _).mono (fun r h => ⟨fun c => (h c).2, sem_eq_zero_of_no_sems (by decide) r.2⟩)
    (Cert.OutUTRefIdeal.Value.run m ρ),
  fun m ρ _ => Cert.OutAT.Gen.frame m ρ,
  fun m ρ _ => Cert.OutATIdeal.Gen.frame m ρ,
  fun m ρ _ => (θ_run _ _ _).mono (fun r h => ⟨fun c => (h c).2, sem_eq_zero_of_no_sems (by decide) r.2⟩)
    (Cert.OutATRefIdeal.Value.run m ρ),
  fun m ρ _ => Cert.OutUTn.Gen.frame m ρ,
  fun m ρ _ => Cert.OutUTnIdeal.Gen.frame m ρ,
  fun m ρ _ => (θ_run _ _ _).mono (fun r h => ⟨fun c => (h c).2, sem_eq_zero_of_no_sems (by decide) r.2⟩)
    (Cert.OutUTnRefIdeal.Value.run m ρ),
  fun m ρ _ => Cert.OutATn.Gen.frame m ρ,
  fun m ρ _ => Cert.OutATnIdeal.Gen.frame m ρ,
  fun m ρ _ => (θ_run _ _ _).mono (fun r h => ⟨fun c => (h c).2, sem_eq_zero_of_no_sems (by decide) r.2⟩)
    (Cert.OutATnRefIdeal.Value.run m ρ),
  fun m ρ _ => Cert.RmsBwd.Gen.frame m ρ,
  fun m ρ _ => Cert.RmsBwdIdeal.Gen.frame m ρ,
  fun m ρ _ => (θ_run _ _ _).mono (fun r h => ⟨fun c => (h c).2.2, sem_eq_zero_of_no_sems (by decide) r.2⟩)
    (Cert.RmsBwdRefIdeal.Value.run m ρ),
  fun m ρ _ => Cert.Rms.Gen.frame m ρ,
  fun m ρ _ => Cert.RmsIdeal.Gen.frame m ρ,
  fun m ρ _ => (θ_run _ _ _).mono (fun r h => ⟨fun c => (h c).2, sem_eq_zero_of_no_sems (by decide) r.2⟩)
    (Cert.RmsRefIdeal.Value.run m ρ),
  fun m ρ _ => Cert.Loss.Gen.frame m ρ,
  fun m ρ _ => Cert.LossIdeal.Gen.frame m ρ,
  fun m ρ _ => (θ_run _ _ _).mono (fun r h => ⟨fun c => (h c).2.2, sem_eq_zero_of_no_sems (by decide) r.2⟩)
    (Cert.LossRefIdeal.Value.run m ρ),
  IdealRules.named_const.statement Cert.KernelIdeal.κ "neg" .f32 0xF149F2CA#32 ⊥ rfl, Cert.Equation.algebraic,
  trivial, Cert.UpGateIdeal.Product.algebraic,
  trivial, Cert.UpValueIdeal.Product.algebraic,
  trivial, Cert.UpGateTIdeal.Product.algebraic,
  trivial, Cert.UpValueTIdeal.Product.algebraic,
  trivial, Cert.UpTnIdeal.Product.algebraic,
  trivial, Cert.DownIdeal.Product.algebraic,
  trivial, Cert.DownTIdeal.Product.algebraic,
  trivial, Cert.DownTnIdeal.Product.algebraic,
  trivial, Cert.MemQIdeal.Product.algebraic,
  trivial, Cert.MemOIdeal.Product.algebraic,
  trivial, Cert.MemTIdeal.Product.algebraic,
  trivial, Cert.MemTnIdeal.Product.algebraic,
  trivial, Cert.MixInIdeal.Product.algebraic,
  trivial, Cert.MixInTIdeal.Product.algebraic,
  trivial, Cert.MixInTnIdeal.Product.algebraic,
  trivial, Cert.OutUIdeal.Product.algebraic,
  trivial, Cert.OutAIdeal.Product.algebraic,
  trivial, Cert.OutUTIdeal.Product.algebraic,
  trivial, Cert.OutATIdeal.Product.algebraic,
  trivial, Cert.OutUTnIdeal.Product.algebraic,
  trivial, Cert.OutATnIdeal.Product.algebraic,
  trivial, Cert.RmsBwdIdeal.Product.algebraic,
  trivial, Cert.RmsIdeal.Product.algebraic,
  trivial, Cert.LossIdeal.Product.algebraic⟩

end Cert.Proof

end
